-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))).1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))).2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))).1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "c" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v136)) (v1 : (c : Dev Cert.KernelIdeal.nD) → Buf (Elt Ideal) ((c.tc : Thread Cert.KernelIdeal.nD Cert.KernelIdeal.τ).loc Cert.KernelIdeal.main_v139)) (v2 : (c : Dev Cert.KernelIdeal.nD) → Buf (Elt Ideal) ((c.tc : Thread Cert.KernelIdeal.nD Cert.KernelIdeal.τ).loc Cert.KernelIdeal.main_v142)) (v3 : (c : Dev Cert.KernelIdeal.nD) → Buf (Elt Ideal) ((c.tc : Thread Cert.KernelIdeal.nD Cert.KernelIdeal.τ).loc Cert.KernelIdeal.main_v132)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v136) = v0 c
          ∧ r.2.mem ((c.tc : Thread Cert.KernelIdeal.nD Cert.KernelIdeal.τ).loc Cert.KernelIdeal.main_v139) = v1 c
          ∧ r.2.mem ((c.tc : Thread Cert.KernelIdeal.nD Cert.KernelIdeal.τ).loc Cert.KernelIdeal.main_v142) = v2 c
          ∧ r.2.mem ((c.tc : Thread Cert.KernelIdeal.nD Cert.KernelIdeal.τ).loc Cert.KernelIdeal.main_v132) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v84) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "mask" .f32 0xF149F2CA#32 ⊥
  ∧ IdealRules.named_const.Statement Cert.Kernel2Ideal.κ "c" .f32 0x3E16C740#32 (((3424635 / 33554432) * (Real.log 2)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v90)) (v1 : (c : Dev Cert.Kernel2Ideal.nD) → Buf (Elt Ideal) ((c.tc : Thread Cert.Kernel2Ideal.nD Cert.Kernel2Ideal.τ).loc Cert.Kernel2Ideal.main_v93)) (v2 : (c : Dev Cert.Kernel2Ideal.nD) → Buf (Elt Ideal) ((c.tc : Thread Cert.Kernel2Ideal.nD Cert.Kernel2Ideal.τ).loc Cert.Kernel2Ideal.main_v97)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v90) = v0 c
          ∧ r.2.mem ((c.tc : Thread Cert.Kernel2Ideal.nD Cert.Kernel2Ideal.τ).loc Cert.Kernel2Ideal.main_v93) = v1 c
          ∧ r.2.mem ((c.tc : Thread Cert.Kernel2Ideal.nD Cert.Kernel2Ideal.τ).loc Cert.Kernel2Ideal.main_v97) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v74) = v0 c
          ∧ r.2.mem ((c.tc : Thread Cert.Reference2Ideal.nD Cert.Reference2Ideal.τ).loc Cert.Reference2Ideal.main_v72) = v1 c
          ∧ r.2.mem ((c.tc : Thread Cert.Reference2Ideal.nD Cert.Reference2Ideal.τ).loc Cert.Reference2Ideal.main_v70) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  IdealRules.named_const.Statement Cert.Kernel15Ideal.κ "mask" .f32 0xF149F2CA#32 ⊥
  ∧ IdealRules.named_const.Statement Cert.Kernel15Ideal.κ "c" .f32 0x3E16C740#32 (((3424635 / 33554432) * (Real.log 2)⁻¹ : ℝ) : EReal)

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v25)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v25) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v30) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite2 : Cert.Pre_finite2.Facts) (hPre_finite15 : Cert.Pre_finite15.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite15 (hKernel15Ideal := hKernel15Ideal) (hReference15Ideal := hReference15Ideal) (hPre_finite15 := hPre_finite15)
-- ==== Pre_finite.lean ====
abbrev S8192x512 : Shape := ⟨2, ![8192, 512]⟩
abbrev S8192x8 : Shape := ⟨2, ![8192, 8]⟩
abbrev S_ : Shape := ⟨0, ![]⟩

class Facts : Prop where
  bcast_S_S8192x512 : S_.BroadcastsInDim S8192x512 (![] : Fin 0 → Fin S8192x512.rank)
  bcast_S_S8192x8 : S_.BroadcastsInDim S8192x8 (![] : Fin 0 → Fin S8192x8.rank)

variable [Facts]

def fn {F : FTy → Type} [FloatOps F] (main_arg0 : FVec F S8192x512 .f32) (main_arg1 : FVec F S8192x512 .f32) (main_arg2 : FVec F S8192x512 .f32) (main_arg3 : FVec F S8192x8 .f32) (main_arg4 : FVec F S8192x512 .f32) : IVec S8192x512 1 × IVec S8192x512 1 × IVec S8192x512 1 × IVec S8192x8 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x8 .f32 := Host.absf main_arg3
  let main_cst_2 : FVec F S_ .f32 := constant S_ .f32 0x7F800000#32
  let main_v10 : FVec F S8192x8 .f32 := broadcastInDim S8192x8 ![] bcast_S_S8192x8 main_cst_2
  let main_v11 : IVec S8192x8 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  (main_v2, main_v5, main_v8, main_v11, main_v14)
-- ==== Pre_finite15.lean ====
abbrev S8192x768 : Shape := ⟨2, ![8192, 768]⟩
abbrev S8192x512 : Shape := ⟨2, ![8192, 512]⟩
abbrev S_ : Shape := ⟨0, ![]⟩

class Facts : Prop where
  bcast_S_S8192x768 : S_.BroadcastsInDim S8192x768 (![] : Fin 0 → Fin S8192x768.rank)

variable [Facts]

def fn {F : FTy → Type} [FloatOps F] (main_arg0 : FVec F S8192x768 .f32) (main_arg1 : FVec F S8192x768 .f32) (main_arg2 : FVec F S8192x512 .f32) : IVec S8192x768 1 × IVec S8192x768 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_v3 : FVec F S8192x768 .f32 := Host.absf main_arg1
  let main_cst_0 : FVec F S_ .f32 := constant S_ .f32 0x7F800000#32
  let main_v4 : FVec F S8192x768 .f32 := broadcastInDim S8192x768 ![] bcast_S_S8192x768 main_cst_0
  let main_v5 : IVec S8192x768 1 := cmpf .olt main_v3 main_v4
  (main_v2, main_v5)
-- ==== Pre_finite2.lean ====
abbrev S8192x768 : Shape := ⟨2, ![8192, 768]⟩
abbrev S8192x512 : Shape := ⟨2, ![8192, 512]⟩
abbrev S_ : Shape := ⟨0, ![]⟩

class Facts : Prop where
  bcast_S_S8192x768 : S_.BroadcastsInDim S8192x768 (![] : Fin 0 → Fin S8192x768.rank)
  bcast_S_S8192x512 : S_.BroadcastsInDim S8192x512 (![] : Fin 0 → Fin S8192x512.rank)

variable [Facts]

def fn {F : FTy → Type} [FloatOps F] (main_arg0 : FVec F S8192x768 .f32) (main_arg1 : FVec F S8192x768 .f32) (main_arg2 : FVec F S8192x512 .f32) (main_arg3 : FVec F S8192x512 .f32) : IVec S8192x768 1 × IVec S8192x768 1 × IVec S8192x512 1 × IVec S8192x512 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_v3 : FVec F S8192x768 .f32 := Host.absf main_arg1
  let main_cst_0 : FVec F S_ .f32 := constant S_ .f32 0x7F800000#32
  let main_v4 : FVec F S8192x768 .f32 := broadcastInDim S8192x768 ![] bcast_S_S8192x768 main_cst_0
  let main_v5 : IVec S8192x768 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  (main_v2, main_v5, main_v8, main_v11)
-- ==== Kernel.lean ====
abbrev S8192x512 : Shape := ⟨2, ![8192, 512]⟩
abbrev S8192x8 : Shape := ⟨2, ![8192, 8]⟩
abbrev S8192x8x64 : Shape := ⟨3, ![8192, 8, 64]⟩
abbrev S8x8192x64 : Shape := ⟨3, ![8, 8192, 64]⟩
abbrev S8x8192 : Shape := ⟨2, ![8, 8192]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8192x8x1 : Shape := ⟨3, ![8192, 8, 1]⟩
abbrev S8192x8x55 : Shape := ⟨3, ![8192, 8, 55]⟩
abbrev S8192x8x128 : Shape := ⟨3, ![8192, 8, 128]⟩
abbrev S8192x1024 : Shape := ⟨2, ![8192, 1024]⟩
abbrev S8192x8x61 : Shape := ⟨3, ![8192, 8, 61]⟩
abbrev S8192x128 : Shape := ⟨2, ![8192, 128]⟩
abbrev S1024x128 : Shape := ⟨2, ![1024, 128]⟩
abbrev S512x128 : Shape := ⟨2, ![512, 128]⟩
abbrev S1024x512 : Shape := ⟨2, ![1024, 512]⟩
abbrev S512x512 : Shape := ⟨2, ![512, 512]⟩
abbrev S1024x1024 : Shape := ⟨2, ![1024, 1024]⟩

abbrev nBuf : Space → Nat
  | .hbm => 165
  | .vmem => 14
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x8, .f32⟩
  | 4 => ⟨S8192x512, .f32⟩
  | 5 => ⟨S8192x8x64, .f32⟩
  | 6 => ⟨S8x8192x64, .f32⟩
  | 7 => ⟨S8192x8x64, .f32⟩
  | 8 => ⟨S8x8192x64, .f32⟩
  | 9 => ⟨S8192x8x64, .f32⟩
  | 10 => ⟨S8x8192x64, .f32⟩
  | 11 => ⟨S8x8192, .f32⟩
  | 12 => ⟨S8x8192x8192, .f32⟩
  | 13 => ⟨S_, .f32⟩
  | 14 => ⟨S8x8192x8192, .f32⟩
  | 15 => ⟨S8x8192x8192, .f32⟩
  | 16 => ⟨S8x8192x1, .f32⟩
  | 17 => ⟨S8x8192x8192, .f32⟩
  | 18 => ⟨S8x8192x8192, .f32⟩
  | 19 => ⟨S8x1x8192, .f32⟩
  | 20 => ⟨S8x8192x8192, .f32⟩
  | 21 => ⟨S8x8192x8192, .f32⟩
  | 22 => ⟨S8192, .i32⟩
  | 23 => ⟨S1x8192, .i32⟩
  | 24 => ⟨S8192x1, .i32⟩
  | 25 => ⟨S8192x8192, .i32⟩
  | 26 => ⟨S8192x8192, .i32⟩
  | 27 => ⟨S8192x8192, .i1⟩
  | 28 => ⟨S_, .f32⟩
  | 29 => ⟨S_, .f32⟩
  | 30 => ⟨S8x8192x8192, .i1⟩
  | 31 => ⟨S8x8192x8192, .f32⟩
  | 32 => ⟨S8x8192x8192, .f32⟩
  | 33 => ⟨S_, .f32⟩
  | 34 => ⟨S8x8192, .f32⟩
  | 35 => ⟨S8x8192x1, .f32⟩
  | 36 => ⟨S8x8192x8192, .f32⟩
  | 37 => ⟨S8x8192x8192, .f32⟩
  | 38 => ⟨S8x8192x8192, .f32⟩
  | 39 => ⟨S_, .f32⟩
  | 40 => ⟨S8x8192, .f32⟩
  | 41 => ⟨S8x8192x1, .f32⟩
  | 42 => ⟨S8x8192x8192, .f32⟩
  | 43 => ⟨S8x8192x8192, .f32⟩
  | 44 => ⟨S8x8192x64, .f32⟩
  | 45 => ⟨S8x8192x1, .f32⟩
  | 46 => ⟨S8x8192x1, .f32⟩
  | 47 => ⟨S8x8192, .f32⟩
  | 48 => ⟨S8192x8, .f32⟩
  | 49 => ⟨S8192x8x64, .f32⟩
  | 50 => ⟨S8192x8x64, .f32⟩
  | 51 => ⟨S8192x8x64, .f32⟩
  | 52 => ⟨S_, .f32⟩
  | 53 => ⟨S8192x8, .f32⟩
  | 54 => ⟨S_, .f32⟩
  | 55 => ⟨S8192x8, .f32⟩
  | 56 => ⟨S_, .f32⟩
  | 57 => ⟨S8192x8, .f32⟩
  | 58 => ⟨S8192x8, .f32⟩
  | 59 => ⟨S8192x8, .bf16⟩
  | 60 => ⟨S8192x8, .f32⟩
  | 61 => ⟨S8192x8, .f32⟩
  | 62 => ⟨S8192x8, .bf16⟩
  | 63 => ⟨S8192x8, .f32⟩
  | 64 => ⟨S8192x8, .f32⟩
  | 65 => ⟨S8192x8, .bf16⟩
  | 66 => ⟨S8192x8, .f32⟩
  | 67 => ⟨S_, .f32⟩
  | 68 => ⟨S8192x8, .f32⟩
  | 69 => ⟨S8192x8, .f32⟩
  | 70 => ⟨S8192x8, .f32⟩
  | 71 => ⟨S8192x8, .bf16⟩
  | 72 => ⟨S8192x8, .f32⟩
  | 73 => ⟨S8192x8, .f32⟩
  | 74 => ⟨S8192x8, .bf16⟩
  | 75 => ⟨S8192x8, .f32⟩
  | 76 => ⟨S8192x8, .f32⟩
  | 77 => ⟨S8192x8, .bf16⟩
  | 78 => ⟨S8192x8, .f32⟩
  | 79 => ⟨S8192x8x64, .f32⟩
  | 80 => ⟨S8192x8x1, .f32⟩
  | 81 => ⟨S8192x8x1, .f32⟩
  | 82 => ⟨S8192x8x1, .f32⟩
  | 83 => ⟨S8192x8x1, .f32⟩
  | 84 => ⟨S8192x8x1, .f32⟩
  | 85 => ⟨S8192x8x1, .f32⟩
  | 86 => ⟨S8192x8x1, .f32⟩
  | 87 => ⟨S8192x8x1, .f32⟩
  | 88 => ⟨S8192x8x1, .f32⟩
  | 89 => ⟨S_, .f32⟩
  | 90 => ⟨S8192x8x55, .f32⟩
  | 91 => ⟨S8192x8x128, .f32⟩
  | 92 => ⟨S8192x1024, .f32⟩
  | 93 => ⟨S8192x1024, .bf16⟩
  | 94 => ⟨S8192x8, .f32⟩
  | 95 => ⟨S8192x8, .bf16⟩
  | 96 => ⟨S8192x8, .f32⟩
  | 97 => ⟨S8192x8, .f32⟩
  | 98 => ⟨S8192x8, .bf16⟩
  | 99 => ⟨S8192x8, .f32⟩
  | 100 => ⟨S8192x8, .f32⟩
  | 101 => ⟨S8192x8, .bf16⟩
  | 102 => ⟨S8192x8, .f32⟩
  | 103 => ⟨S8192x8x64, .f32⟩
  | 104 => ⟨S8192x8x1, .f32⟩
  | 105 => ⟨S8192x8x1, .f32⟩
  | 106 => ⟨S8192x8x1, .f32⟩
  | 107 => ⟨S8192x8x1, .f32⟩
  | 108 => ⟨S8192x8x1, .f32⟩
  | 109 => ⟨S8192x8x1, .f32⟩
  | 110 => ⟨S8192x8x1, .f32⟩
  | 111 => ⟨S8192x8x1, .f32⟩
  | 112 => ⟨S8192x8x1, .f32⟩
  | 113 => ⟨S_, .f32⟩
  | 114 => ⟨S8192x8x55, .f32⟩
  | 115 => ⟨S8192x8x128, .f32⟩
  | 116 => ⟨S8192x1024, .f32⟩
  | 117 => ⟨S8192x1024, .bf16⟩
  | 118 => ⟨S8192x8x64, .f32⟩
  | 119 => ⟨S8192x8x1, .f32⟩
  | 120 => ⟨S8192x8x1, .f32⟩
  | 121 => ⟨S8192x8x1, .f32⟩
  | 122 => ⟨S_, .f32⟩
  | 123 => ⟨S8192x8x61, .f32⟩
  | 124 => ⟨S8192x8x128, .f32⟩
  | 125 => ⟨S8192x1024, .f32⟩
  | 126 => ⟨S8192x1024, .bf16⟩
  | 127 => ⟨S8192x8, .f32⟩
  | _ => ⟨S8192x512, .f32⟩

abbrev hbmTy0_1 (i : Nat) : BufTy := match i % 128 with
  | 0 => ⟨S8192x8, .bf16⟩
  | 1 => ⟨S8192x8, .f32⟩
  | 2 => ⟨S8192x8, .f32⟩
  | 3 => ⟨S8192x8, .bf16⟩
  | 4 => ⟨S8192x8, .f32⟩
  | 5 => ⟨S8192x8, .f32⟩
  | 6 => ⟨S8192x8, .bf16⟩
  | 7 => ⟨S8192x8, .f32⟩
  | 8 => ⟨S8192x8x64, .f32⟩
  | 9 => ⟨S8192x8x1, .f32⟩
  | 10 => ⟨S8192x8x1, .f32⟩
  | 11 => ⟨S8192x8x1, .f32⟩
  | 12 => ⟨S_, .f32⟩
  | 13 => ⟨S8192x8x61, .f32⟩
  | 14 => ⟨S8192x8x128, .f32⟩
  | 15 => ⟨S8192x1024, .f32⟩
  | 16 => ⟨S8192x1024, .bf16⟩
  | 17 => ⟨S8192x1024, .f32⟩
  | 18 => ⟨S8192x1024, .bf16⟩
  | 19 => ⟨S8192x1024, .f32⟩
  | 20 => ⟨S8192x8x128, .f32⟩
  | 21 => ⟨S8192x8x1, .f32⟩
  | 22 => ⟨S8192x8, .f32⟩
  | 23 => ⟨S8192x8x128, .f32⟩
  | 24 => ⟨S8192x8x1, .f32⟩
  | 25 => ⟨S8192x8, .f32⟩
  | 26 => ⟨S8192x8, .f32⟩
  | 27 => ⟨S8192x1024, .f32⟩
  | 28 => ⟨S8192x8x128, .f32⟩
  | 29 => ⟨S8192x8x64, .f32⟩
  | 30 => ⟨S8192x512, .f32⟩
  | 31 => ⟨S8192x8x128, .f32⟩
  | 32 => ⟨S8192x8x64, .f32⟩
  | 33 => ⟨S8192x512, .f32⟩
  | 34 => ⟨S8192x8x128, .f32⟩
  | 35 => ⟨S8192x8x64, .f32⟩
  | 36 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S8192x128, .bf16⟩
  | .local _ .vmem, ⟨1, _⟩ => ⟨S8192x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S8192x128, .bf16⟩
  | .local _ .vmem, ⟨7, _⟩ => ⟨S8192x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S8192x128, .f32⟩
  | .local _ .vmem, ⟨13, _⟩ => ⟨S8192x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_7 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_cst_8 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_cst_9 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_cst_10 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125_0 : Ref sig .tc := ⟨.hbm, 145, rfl⟩
abbrev main_v125_1 : Ref sig .tc := ⟨.hbm, 146, rfl⟩
abbrev main_v125_2 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v9 : BitVec 32 := Scalar.muli arg1 c1024_i32
  let c512_i32 : BitVec 32 := 512#32
  let v10 : BitVec 32 := Scalar.addi v9 c512_i32
  v10
def k0_off1 (i : grid0.Coords) : Fin 2 → Nat :=
  let arg1 : BitVec 32 := BitVec.ofNat 32 (i 1).val
  let c1024_i32 : BitVec 32 := 1024#32
  let v9 : BitVec 32 := Scalar.muli arg1 c1024_i32
  let c512_i32 : BitVec 32 := 512#32
  let v10 : BitVec 32 := Scalar.addi v9 c512_i32
  let v11 : BitVec 32 := v10
  let v12 : Index := Scalar.indexCast v11
  let c0_5 : Index := 0#32
  ![v12.toNat, 0]
def k0_mult2 (i : grid0.Coords) : BitVec 32 :=
  let arg1 : BitVec 32 := BitVec.ofNat 32 (i 1).val
  let c1024_i32_17 : BitVec 32 := 1024#32
  let v44 : BitVec 32 := Scalar.muli arg1 c1024_i32_17
  v44
def k0_off2 (i : grid0.Coords) : Fin 2 → Nat :=
  let arg1 : BitVec 32 := BitVec.ofNat 32 (i 1).val
  let c1024_i32_17 : BitVec 32 := 1024#32
  let v44 : BitVec 32 := Scalar.muli arg1 c1024_i32_17
  let v45 : BitVec 32 := v44
  let v46 : Index := Scalar.indexCast v45
  let c0_18 : Index := 0#32
  ![v46.toNat, 0]
def k0_cond2 (i : grid0.Coords) : BitVec 1 :=
  let c7_i32 : BitVec 32 := 7#32
  let arg1 : BitVec 32 := BitVec.ofNat 32 (i 1).val
  let v86 : BitVec 32 := Scalar.subi c7_i32 arg1
  let c1_i32 : BitVec 32 := 1#32
  let v87 : BitVec 32 := Scalar.andi v86 c1_i32
  let c1_i32_30 : BitVec 32 := 1#32
  let v88 : BitVec 1 := Scalar.cmpi .eq v87 c1_i32_30
  let v89 : BitVec 32 := Scalar.extui v88
  let c0_i32_31 : BitVec 32 := 0#32
  let v90 : BitVec 1 := Scalar.cmpi .ne v89 c0_i32_31
  v90

def k0_mult3 (i : grid0.Coords) : BitVec 32 :=
  let arg1 : BitVec 32 := BitVec.ofNat 32 (i 1).val
  let c1_i32_47 : BitVec 32 := 1#32
  let v116 : BitVec 32 := Scalar.addi arg1 c1_i32_47
  let c1024_i32_48 : BitVec 32 := 1024#32
  let v117 : BitVec 32 := Scalar.muli v116 c1024_i32_48
  v117
def k0_off3 (i : grid0.Coords) : Fin 2 → Nat :=
  let arg1 : BitVec 32 := BitVec.ofNat 32 (i 1).val
  let c1_i32_47 : BitVec 32 := 1#32
  let v116 : BitVec 32 := Scalar.addi arg1 c1_i32_47
  let c1024_i32_48 : BitVec 32 := 1024#32
  let v117 : BitVec 32 := Scalar.muli v116 c1024_i32_48
  let v118 : BitVec 32 := v117
  let v119 : Index := Scalar.indexCast v118
  let c0_49 : Index := 0#32
  ![v119.toNat, 0]
@[reducible] def k0_t1_loop (i : grid0.Coords) : Scf.Loop 32 :=
  let c0_i32_35 : BitVec 32 := 0#32
  let c7_i32 : BitVec 32 := 7#32
  let arg1 : BitVec 32 := BitVec.ofNat 32 (i 1).val
  let v86 : BitVec 32 := Scalar.subi c7_i32 arg1
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let c1_i32_37 : BitVec 32 := 1#32
  ⟨c0_i32_35, v100, c1_i32_37⟩
def k0_mult4 (i : grid0.Coords) (k0_t1 : Fin (k0_t1_loop i).trips) : BitVec 32 :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_37 : BitVec 32 := 1#32
  let arg9 : BitVec 32 := Scf.iv c0_i32_35 c1_i32_37 k0_t1
  let v116 : BitVec 32 := Scalar.muli c2_i32 arg9
  let v117 : BitVec 32 := Scalar.addi v94 v116
  let c1024_i32_48 : BitVec 32 := 1024#32
  let v119 : BitVec 32 := Scalar.muli v117 c1024_i32_48
  v119
def k0_off4 (i : grid0.Coords) (k0_t1 : Fin (k0_t1_loop i).trips) : Fin 2 → Nat :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_37 : BitVec 32 := 1#32
  let arg9 : BitVec 32 := Scf.iv c0_i32_35 c1_i32_37 k0_t1
  let v116 : BitVec 32 := Scalar.muli c2_i32 arg9
  let v117 : BitVec 32 := Scalar.addi v94 v116
  let c1024_i32_48 : BitVec 32 := 1024#32
  let v119 : BitVec 32 := Scalar.muli v117 c1024_i32_48
  let v120 : BitVec 32 := v119
  let v121 : Index := Scalar.indexCast v120
  let c0_49 : Index := 0#32
  ![v121.toNat, 0]
def k0_mult5 (i : grid0.Coords) (k0_t1 : Fin (k0_t1_loop i).trips) : BitVec 32 :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_37 : BitVec 32 := 1#32
  let arg9 : BitVec 32 := Scf.iv c0_i32_35 c1_i32_37 k0_t1
  let v116 : BitVec 32 := Scalar.muli c2_i32 arg9
  let v117 : BitVec 32 := Scalar.addi v94 v116
  let c1_i32_47 : BitVec 32 := 1#32
  let v118 : BitVec 32 := Scalar.addi v117 c1_i32_47
  let c1024_i32_59 : BitVec 32 := 1024#32
  let v146 : BitVec 32 := Scalar.muli v118 c1024_i32_59
  v146
def k0_off5 (i : grid0.Coords) (k0_t1 : Fin (k0_t1_loop i).trips) : Fin 2 → Nat :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_37 : BitVec 32 := 1#32
  let arg9 : BitVec 32 := Scf.iv c0_i32_35 c1_i32_37 k0_t1
  let v116 : BitVec 32 := Scalar.muli c2_i32 arg9
  let v117 : BitVec 32 := Scalar.addi v94 v116
  let c1_i32_47 : BitVec 32 := 1#32
  let v118 : BitVec 32 := Scalar.addi v117 c1_i32_47
  let c1024_i32_59 : BitVec 32 := 1024#32
  let v146 : BitVec 32 := Scalar.muli v118 c1024_i32_59
  let v147 : BitVec 32 := v146
  let v148 : Index := Scalar.indexCast v147
  let c0_60 : Index := 0#32
  ![v148.toNat, 0]
@[reducible] def k0_t2_loop (i : grid0.Coords) : Scf.Loop 32 :=
  let c0_i32_35 : BitVec 32 := 0#32
  let c7_i32 : BitVec 32 := 7#32
  let arg1 : BitVec 32 := BitVec.ofNat 32 (i 1).val
  let v86 : BitVec 32 := Scalar.subi c7_i32 arg1
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let v97 : BitVec 32 := Scalar.addi c0_i32_35 v96
  let c1_i32_38 : BitVec 32 := 1#32
  ⟨v100, v97, c1_i32_38⟩
def k0_mult6 (i : grid0.Coords) (k0_t2 : Fin (k0_t2_loop i).trips) : BitVec 32 :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let c1_i32_38 : BitVec 32 := 1#32
  let arg9 : BitVec 32 := Scf.iv v100 c1_i32_38 k0_t2
  let v116 : BitVec 32 := Scalar.muli c2_i32 arg9
  let v117 : BitVec 32 := Scalar.addi v94 v116
  let c1024_i32_48 : BitVec 32 := 1024#32
  let v119 : BitVec 32 := Scalar.muli v117 c1024_i32_48
  v119
def k0_off6 (i : grid0.Coords) (k0_t2 : Fin (k0_t2_loop i).trips) : Fin 2 → Nat :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let c1_i32_38 : BitVec 32 := 1#32
  let arg9 : BitVec 32 := Scf.iv v100 c1_i32_38 k0_t2
  let v116 : BitVec 32 := Scalar.muli c2_i32 arg9
  let v117 : BitVec 32 := Scalar.addi v94 v116
  let c1024_i32_48 : BitVec 32 := 1024#32
  let v119 : BitVec 32 := Scalar.muli v117 c1024_i32_48
  let v120 : BitVec 32 := v119
  let v121 : Index := Scalar.indexCast v120
  let c0_49 : Index := 0#32
  ![v121.toNat, 0]
def k0_mult7 (i : grid0.Coords) (k0_t2 : Fin (k0_t2_loop i).trips) : BitVec 32 :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let c1_i32_38 : BitVec 32 := 1#32
  let arg9 : BitVec 32 := Scf.iv v100 c1_i32_38 k0_t2
  let v116 : BitVec 32 := Scalar.muli c2_i32 arg9
  let v117 : BitVec 32 := Scalar.addi v94 v116
  let c1_i32_47 : BitVec 32 := 1#32
  let v118 : BitVec 32 := Scalar.addi v117 c1_i32_47
  let c1024_i32_59 : BitVec 32 := 1024#32
  let v146 : BitVec 32 := Scalar.muli v118 c1024_i32_59
  v146
def k0_off7 (i : grid0.Coords) (k0_t2 : Fin (k0_t2_loop i).trips) : Fin 2 → Nat :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let c1_i32_38 : BitVec 32 := 1#32
  let arg9 : BitVec 32 := Scf.iv v100 c1_i32_38 k0_t2
  let v116 : BitVec 32 := Scalar.muli c2_i32 arg9
  let v117 : BitVec 32 := Scalar.addi v94 v116
  let c1_i32_47 : BitVec 32 := 1#32
  let v118 : BitVec 32 := Scalar.addi v117 c1_i32_47
  let c1024_i32_59 : BitVec 32 := 1024#32
  let v146 : BitVec 32 := Scalar.muli v118 c1024_i32_59
  let v147 : BitVec 32 := v146
  let v148 : Index := Scalar.indexCast v147
  let c0_60 : Index := 0#32
  ![v148.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "c" => some (((1 / 8) * (Real.log 2)⁻¹ : ℝ) : EReal)
  | "mask" => some ⊥
  | _ => none
-- ==== ReferenceIdeal.lean ====
abbrev S8192x512 : Shape := ⟨2, ![8192, 512]⟩
abbrev S8192x8 : Shape := ⟨2, ![8192, 8]⟩
abbrev S8192x8x64 : Shape := ⟨3, ![8192, 8, 64]⟩
abbrev S8x8192x64 : Shape := ⟨3, ![8, 8192, 64]⟩
abbrev S8x8192 : Shape := ⟨2, ![8, 8192]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩

abbrev nBuf : Space → Nat
  | .hbm => 122
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x8, .f32⟩
  | .hbm, ⟨4, _⟩ => ⟨S8192x512, .f32⟩
  | .hbm, ⟨5, _⟩ => ⟨S8192x8x64, .f32⟩
  | .hbm, ⟨6, _⟩ => ⟨S8x8192x64, .f32⟩
  | .hbm, ⟨7, _⟩ => ⟨S8192x8x64, .f32⟩
  | .hbm, ⟨8, _⟩ => ⟨S8x8192x64, .f32⟩
  | .hbm, ⟨9, _⟩ => ⟨S8192x8x64, .f32⟩
  | .hbm, ⟨10, _⟩ => ⟨S8x8192x64, .f32⟩
  | .hbm, ⟨11, _⟩ => ⟨S8x8192, .f32⟩
  | .hbm, ⟨12, _⟩ => ⟨S8x8192x8192, .f32⟩
  | .hbm, ⟨13, _⟩ => ⟨S_, .f32⟩
  | .hbm, ⟨14, _⟩ => ⟨S8x8192x8192, .f32⟩
  | .hbm, ⟨15, _⟩ => ⟨S8x8192x8192, .f32⟩
  | .hbm, ⟨16, _⟩ => ⟨S8x8192x1, .f32⟩
  | .hbm, ⟨17, _⟩ => ⟨S8x8192x8192, .f32⟩
  | .hbm, ⟨18, _⟩ => ⟨S8x8192x8192, .f32⟩
  | .hbm, ⟨19, _⟩ => ⟨S8x1x8192, .f32⟩
  | .hbm, ⟨20, _⟩ => ⟨S8x8192x8192, .f32⟩
  | .hbm, ⟨21, _⟩ => ⟨S8x8192x8192, .f32⟩
  | .hbm, ⟨22, _⟩ => ⟨S8192, .i32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S8x8192x8192, .i1⟩
  | .hbm, ⟨31, _⟩ => ⟨S8x8192x8192, .f32⟩
  | .hbm, ⟨32, _⟩ => ⟨S8x8192x8192, .f32⟩
  | .hbm, ⟨33, _⟩ => ⟨S_, .f32⟩
  | .hbm, ⟨34, _⟩ => ⟨S8x8192x8192, .f32⟩
  | .hbm, ⟨35, _⟩ => ⟨S_, .f32⟩
  | .hbm, ⟨36, _⟩ => ⟨S8x8192, .f32⟩
  | .hbm, ⟨37, _⟩ => ⟨S8x8192x1, .f32⟩
  | .hbm, ⟨38, _⟩ => ⟨S8x8192x8192, .f32⟩
  | .hbm, ⟨39, _⟩ => ⟨S8x8192x8192, .i1⟩
  | .hbm, ⟨40, _⟩ => ⟨S8x8192x8192, .f32⟩
  | .hbm, ⟨41, _⟩ => ⟨S_, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S8x8192, .f32⟩
  | .hbm, ⟨46, _⟩ => ⟨S_, .f32⟩
  | .hbm, ⟨47, _⟩ => ⟨S8x8192, .f32⟩
  | .hbm, ⟨48, _⟩ => ⟨S8x8192, .i1⟩
  | .hbm, ⟨49, _⟩ => ⟨S_, .f32⟩
  | .hbm, ⟨50, _⟩ => ⟨S8x8192, .f32⟩
  | .hbm, ⟨51, _⟩ => ⟨S8x8192, .i1⟩
  | .hbm, ⟨52, _⟩ => ⟨S_, .f32⟩
  | .hbm, ⟨53, _⟩ => ⟨S8x8192, .f32⟩
  | .hbm, ⟨54, _⟩ => ⟨S_, .f32⟩
  | .hbm, ⟨55, _⟩ => ⟨S8x8192, .f32⟩
  | .hbm, ⟨56, _⟩ => ⟨S_, .f32⟩
  | .hbm, ⟨57, _⟩ => ⟨S8x8192, .f32⟩
  | .hbm, ⟨58, _⟩ => ⟨S8x8192, .f32⟩
  | .hbm, ⟨59, _⟩ => ⟨S8x8192, .f32⟩
  | .hbm, ⟨60, _⟩ => ⟨S8x8192x1, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S_, .f32⟩
  | .hbm, ⟨65, _⟩ => ⟨S8x8192, .f32⟩
  | .hbm, ⟨66, _⟩ => ⟨S8x8192x1, .f32⟩
  | .hbm, ⟨67, _⟩ => ⟨S8x8192x8192, .f32⟩
  | .hbm, ⟨68, _⟩ => ⟨S8x8192x8192, .f32⟩
  | .hbm, ⟨69, _⟩ => ⟨S8x8192x1, .f32⟩
  | .hbm, ⟨70, _⟩ => ⟨S_, .f32⟩
  | .hbm, ⟨71, _⟩ => ⟨S8x8192x1, .f32⟩
  | .hbm, ⟨72, _⟩ => ⟨S8x8192x1, .f32⟩
  | .hbm, ⟨73, _⟩ => ⟨S8x8192x64, .f32⟩
  | .hbm, ⟨74, _⟩ => ⟨S8192x8x64, .f32⟩
  | .hbm, ⟨75, _⟩ => ⟨S8192x512, .f32⟩
  | .hbm, ⟨76, _⟩ => ⟨S8192x8x64, .f32⟩
  | .hbm, ⟨77, _⟩ => ⟨S8x8192x64, .f32⟩
  | .hbm, ⟨78, _⟩ => ⟨S8x64x8192, .f32⟩
  | .hbm, ⟨79, _⟩ => ⟨S8x8192x64, .f32⟩
  | .hbm, ⟨80, _⟩ => ⟨S8x8192x8192, .f32⟩
  | .hbm, ⟨81, _⟩ => ⟨S8x8192x8192, .f32⟩
  | .hbm, ⟨82, _⟩ => ⟨S8x8192x8192, .f32⟩
  | .hbm, ⟨83, _⟩ => ⟨S8x8192x8192, .f32⟩
  | .hbm, ⟨84, _⟩ => ⟨S_, .f32⟩
  | .hbm, ⟨85, _⟩ => ⟨S8x8192, .f32⟩
  | .hbm, ⟨86, _⟩ => ⟨S8x8192x1, .f32⟩
  | .hbm, ⟨87, _⟩ => ⟨S8x8192x1, .f32⟩
  | .hbm, ⟨88, _⟩ => ⟨S8x8192x8192, .f32⟩
  | .hbm, ⟨89, _⟩ => ⟨S8x8192x8192, .f32⟩
  | .hbm, ⟨90, _⟩ => ⟨S_, .f32⟩
  | .hbm, ⟨91, _⟩ => ⟨S8x8192, .f32⟩
  | .hbm, ⟨92, _⟩ => ⟨S8x8192x8192, .f32⟩
  | .hbm, ⟨93, _⟩ => ⟨S8x8192x8192, .f32⟩
  | .hbm, ⟨94, _⟩ => ⟨S8x8192x8192, .f32⟩
  | .hbm, ⟨95, _⟩ => ⟨S_, .f32⟩
  | .hbm, ⟨96, _⟩ => ⟨S8x8192x8192, .f32⟩
  | .hbm, ⟨97, _⟩ => ⟨S8x8192x8192, .f32⟩
  | .hbm, ⟨98, _⟩ => ⟨S8x8192x8192, .f32⟩
  | .hbm, ⟨99, _⟩ => ⟨S_, .f32⟩
  | .hbm, ⟨100, _⟩ => ⟨S8x8192, .f32⟩
  | .hbm, ⟨101, _⟩ => ⟨S8x1x8192, .f32⟩
  | .hbm, ⟨102, _⟩ => ⟨S_, .f32⟩
  | .hbm, ⟨103, _⟩ => ⟨S8x8192, .f32⟩
  | .hbm, ⟨104, _⟩ => ⟨S_, .f32⟩
  | .hbm, ⟨105, _⟩ => ⟨S8x8192, .f32⟩
  | .hbm, ⟨106, _⟩ => ⟨S8x8192x1, .f32⟩
  | .hbm, ⟨107, _⟩ => ⟨S_, .f32⟩
  | .hbm, ⟨108, _⟩ => ⟨S8x8192, .f32⟩
  | .hbm, ⟨109, _⟩ => ⟨S8x8192, .f32⟩
  | .hbm, ⟨110, _⟩ => ⟨S_, .f32⟩
  | .hbm, ⟨111, _⟩ => ⟨S8x8192x8192, .f32⟩
  | .hbm, ⟨112, _⟩ => ⟨S8x8192x8192, .f32⟩
  | .hbm, ⟨113, _⟩ => ⟨S8x8192x64, .f32⟩
  | .hbm, ⟨114, _⟩ => ⟨S8x8192x64, .f32⟩
  | .hbm, ⟨115, _⟩ => ⟨S8192x8, .f32⟩
  | .hbm, ⟨116, _⟩ => ⟨S8192x8x64, .f32⟩
  | .hbm, ⟨117, _⟩ => ⟨S8192x512, .f32⟩
  | .hbm, ⟨118, _⟩ => ⟨S8192x8x64, .f32⟩
  | .hbm, ⟨119, _⟩ => ⟨S8192x512, .f32⟩
  | .hbm, ⟨120, _⟩ => ⟨S8192x8x64, .f32⟩
  | .hbm, ⟨121, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_v22_1 : Ref sig .tc := ⟨.hbm, 30, rfl⟩
abbrev main_call0_v2 : Ref sig .tc := ⟨.hbm, 31, rfl⟩
abbrev main_v22_0 : Ref sig .tc := ⟨.hbm, 32, rfl⟩
abbrev main_call0_cst : Ref sig .tc := ⟨.hbm, 33, rfl⟩
abbrev main_v22_2 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_call1_cst : Ref sig .tc := ⟨.hbm, 95, rfl⟩
abbrev main_call1_v0 : Ref sig .tc := ⟨.hbm, 96, rfl⟩
abbrev main_v71 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩

abbrev nD : Nat := 1
abbrev τ : Topo := Topo.v7x

variable {F : FTy → Type} [FloatOps F]
-- ==== Kernel2.lean ====
abbrev S8192x768 : Shape := ⟨2, ![8192, 768]⟩
abbrev S8192x512 : Shape := ⟨2, ![8192, 512]⟩
abbrev S8192x8x96 : Shape := ⟨3, ![8192, 8, 96]⟩
abbrev S8x8192x96 : Shape := ⟨3, ![8, 8192, 96]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8192x8 : Shape := ⟨2, ![8192, 8]⟩
abbrev S8192x8x1 : Shape := ⟨3, ![8192, 8, 1]⟩
abbrev S8192x8x29 : Shape := ⟨3, ![8192, 8, 29]⟩
abbrev S8192x8x128 : Shape := ⟨3, ![8192, 8, 128]⟩
abbrev S8192x1024 : Shape := ⟨2, ![8192, 1024]⟩
abbrev S8192x8x61 : Shape := ⟨3, ![8192, 8, 61]⟩
abbrev S8192x128 : Shape := ⟨2, ![8192, 128]⟩
abbrev S1024x128 : Shape := ⟨2, ![1024, 128]⟩
abbrev S512x128 : Shape := ⟨2, ![512, 128]⟩
abbrev S1024x512 : Shape := ⟨2, ![1024, 512]⟩
abbrev S512x512 : Shape := ⟨2, ![512, 512]⟩
abbrev S1024x1024 : Shape := ⟨2, ![1024, 1024]⟩

abbrev nBuf : Space → Nat
  | .hbm => 118
  | .vmem => 14
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x512, .f32⟩
  | .hbm, ⟨3, _⟩ => ⟨S8192x512, .f32⟩
  | .hbm, ⟨4, _⟩ => ⟨S8192x8x96, .f32⟩
  | .hbm, ⟨5, _⟩ => ⟨S8x8192x96, .f32⟩
  | .hbm, ⟨6, _⟩ => ⟨S8192x8x96, .f32⟩
  | .hbm, ⟨7, _⟩ => ⟨S8x8192x96, .f32⟩
  | .hbm, ⟨8, _⟩ => ⟨S8192x8x64, .f32⟩
  | .hbm, ⟨9, _⟩ => ⟨S8x8192x64, .f32⟩
  | .hbm, ⟨10, _⟩ => ⟨S8x8192x8192, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S_, .f32⟩
  | .hbm, ⟨21, _⟩ => ⟨S_, .f32⟩
  | .hbm, ⟨22, _⟩ => ⟨S8x8192x8192, .i1⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S8x8192x1, .f32⟩
  | .hbm, ⟨34, _⟩ => ⟨S8x8192x8192, .f32⟩
  | .hbm, ⟨35, _⟩ => ⟨S8x8192x8192, .f32⟩
  | .hbm, ⟨36, _⟩ => ⟨S8x8192x64, .f32⟩
  | .hbm, ⟨37, _⟩ => ⟨S8x8192x1, .f32⟩
  | .hbm, ⟨38, _⟩ => ⟨S8x8192x1, .f32⟩
  | .hbm, ⟨39, _⟩ => ⟨S8x8192, .f32⟩
  | .hbm, ⟨40, _⟩ => ⟨S8192x8, .f32⟩
  | .hbm, ⟨41, _⟩ => ⟨S8192x8x64, .f32⟩
  | .hbm, ⟨42, _⟩ => ⟨S8192x8x64, .f32⟩
  | .hbm, ⟨43, _⟩ => ⟨S8192x8x64, .f32⟩
  | .hbm, ⟨44, _⟩ => ⟨S_, .f32⟩
  | .hbm, ⟨45, _⟩ => ⟨S8192x8, .f32⟩
  | .hbm, ⟨46, _⟩ => ⟨S_, .f32⟩
  | .hbm, ⟨47, _⟩ => ⟨S8192x8, .f32⟩
  | .hbm, ⟨48, _⟩ => ⟨S_, .f32⟩
  | .hbm, ⟨49, _⟩ => ⟨S8192x8, .f32⟩
  | .hbm, ⟨50, _⟩ => ⟨S8192x8, .f32⟩
  | .hbm, ⟨51, _⟩ => ⟨S8192x8, .f32⟩
  | .hbm, ⟨52, _⟩ => ⟨S8192x8, .bf16⟩
  | .hbm, ⟨53, _⟩ => ⟨S8192x8, .f32⟩
  | .hbm, ⟨54, _⟩ => ⟨S8192x8, .f32⟩
  | .hbm, ⟨55, _⟩ => ⟨S8192x8, .bf16⟩
  | .hbm, ⟨56, _⟩ => ⟨S8192x8, .f32⟩
  | .hbm, ⟨57, _⟩ => ⟨S8192x8, .f32⟩
  | .hbm, ⟨58, _⟩ => ⟨S8192x8, .bf16⟩
  | .hbm, ⟨59, _⟩ => ⟨S8192x8, .f32⟩
  | .hbm, ⟨60, _⟩ => ⟨S8192x8x96, .f32⟩
  | .hbm, ⟨61, _⟩ => ⟨S8192x8x1, .f32⟩
  | .hbm, ⟨62, _⟩ => ⟨S8192x8x1, .f32⟩
  | .hbm, ⟨63, _⟩ => ⟨S8192x8x1, .f32⟩
  | .hbm, ⟨64, _⟩ => ⟨S_, .f32⟩
  | .hbm, ⟨65, _⟩ => ⟨S8192x8x29, .f32⟩
  | .hbm, ⟨66, _⟩ => ⟨S8192x8x128, .f32⟩
  | .hbm, ⟨67, _⟩ => ⟨S8192x1024, .f32⟩
  | .hbm, ⟨68, _⟩ => ⟨S8192x1024, .bf16⟩
  | .hbm, ⟨69, _⟩ => ⟨S8192x8x96, .f32⟩
  | .hbm, ⟨70, _⟩ => ⟨S8192x8x1, .f32⟩
  | .hbm, ⟨71, _⟩ => ⟨S8192x8x1, .f32⟩
  | .hbm, ⟨72, _⟩ => ⟨S8192x8x1, .f32⟩
  | .hbm, ⟨73, _⟩ => ⟨S_, .f32⟩
  | .hbm, ⟨74, _⟩ => ⟨S8192x8x29, .f32⟩
  | .hbm, ⟨75, _⟩ => ⟨S8192x8x128, .f32⟩
  | .hbm, ⟨76, _⟩ => ⟨S8192x1024, .f32⟩
  | .hbm, ⟨77, _⟩ => ⟨S8192x1024, .bf16⟩
  | .hbm, ⟨78, _⟩ => ⟨S8192x8x64, .f32⟩
  | .hbm, ⟨79, _⟩ => ⟨S8192x8x1, .f32⟩
  | .hbm, ⟨80, _⟩ => ⟨S8192x8x1, .f32⟩
  | .hbm, ⟨81, _⟩ => ⟨S8192x8x1, .f32⟩
  | .hbm, ⟨82, _⟩ => ⟨S_, .f32⟩
  | .hbm, ⟨83, _⟩ => ⟨S8192x8x61, .f32⟩
  | .hbm, ⟨84, _⟩ => ⟨S8192x8x128, .f32⟩
  | .hbm, ⟨85, _⟩ => ⟨S8192x1024, .f32⟩
  | .hbm, ⟨86, _⟩ => ⟨S8192x1024, .bf16⟩
  | .hbm, ⟨87, _⟩ => ⟨S8192x8, .f32⟩
  | .hbm, ⟨88, _⟩ => ⟨S8192x8, .bf16⟩
  | .hbm, ⟨89, _⟩ => ⟨S8192x8, .f32⟩
  | .hbm, ⟨90, _⟩ => ⟨S8192x8, .f32⟩
  | .hbm, ⟨91, _⟩ => ⟨S8192x8, .bf16⟩
  | .hbm, ⟨92, _⟩ => ⟨S8192x8, .f32⟩
  | .hbm, ⟨93, _⟩ => ⟨S8192x8, .f32⟩
  | .hbm, ⟨94, _⟩ => ⟨S8192x8, .bf16⟩
  | .hbm, ⟨95, _⟩ => ⟨S8192x8, .f32⟩
  | .hbm, ⟨96, _⟩ => ⟨S8192x8x64, .f32⟩
  | .hbm, ⟨97, _⟩ => ⟨S8192x8x1, .f32⟩
  | .hbm, ⟨98, _⟩ => ⟨S8192x8x1, .f32⟩
  | .hbm, ⟨99, _⟩ => ⟨S8192x8x1, .f32⟩
  | .hbm, ⟨100, _⟩ => ⟨S_, .f32⟩
  | .hbm, ⟨101, _⟩ => ⟨S8192x8x61, .f32⟩
  | .hbm, ⟨102, _⟩ => ⟨S8192x8x128, .f32⟩
  | .hbm, ⟨103, _⟩ => ⟨S8192x1024, .f32⟩
  | .hbm, ⟨104, _⟩ => ⟨S8192x1024, .bf16⟩
  | .hbm, ⟨105, _⟩ => ⟨S8192x1024, .f32⟩
  | .hbm, ⟨106, _⟩ => ⟨S8192x1024, .bf16⟩
  | .hbm, ⟨107, _⟩ => ⟨S8192x1024, .f32⟩
  | .hbm, ⟨108, _⟩ => ⟨S8192x8x128, .f32⟩
  | .hbm, ⟨109, _⟩ => ⟨S8192x8x96, .f32⟩
  | .hbm, ⟨110, _⟩ => ⟨S8192x768, .f32⟩
  | .hbm, ⟨111, _⟩ => ⟨S8192x8x128, .f32⟩
  | .hbm, ⟨112, _⟩ => ⟨S8192x8x96, .f32⟩
  | .hbm, ⟨113, _⟩ => ⟨S8192x768, .f32⟩
  | .hbm, ⟨114, _⟩ => ⟨S8192x1024, .f32⟩
  | .hbm, ⟨115, _⟩ => ⟨S8192x8x128, .f32⟩
  | .hbm, ⟨116, _⟩ => ⟨S8192x8x64, .f32⟩
  | .hbm, ⟨117, _⟩ => ⟨S8192x512, .f32⟩
  | .local _ .vmem, ⟨0, _⟩ => ⟨S8192x128, .bf16⟩
  | .local _ .vmem, ⟨1, _⟩ => ⟨S8192x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S8192x128, .bf16⟩
  | .local _ .vmem, ⟨7, _⟩ => ⟨S8192x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S8192x128, .f32⟩
  | .local _ .vmem, ⟨13, _⟩ => ⟨S8192x128, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_8 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_9 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87_0 : Ref sig .tc := ⟨.hbm, 105, rfl⟩
abbrev main_v87_1 : Ref sig .tc := ⟨.hbm, 106, rfl⟩
abbrev main_v87_2 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v9 : BitVec 32 := Scalar.muli arg1 c1024_i32
  let c512_i32 : BitVec 32 := 512#32
  let v10 : BitVec 32 := Scalar.addi v9 c512_i32
  v10
def k0_off1 (i : grid0.Coords) : Fin 2 → Nat :=
  let arg1 : BitVec 32 := BitVec.ofNat 32 (i 1).val
  let c1024_i32 : BitVec 32 := 1024#32
  let v9 : BitVec 32 := Scalar.muli arg1 c1024_i32
  let c512_i32 : BitVec 32 := 512#32
  let v10 : BitVec 32 := Scalar.addi v9 c512_i32
  let v11 : BitVec 32 := v10
  let v12 : Index := Scalar.indexCast v11
  let c0_5 : Index := 0#32
  ![v12.toNat, 0]
def k0_mult2 (i : grid0.Coords) : BitVec 32 :=
  let arg1 : BitVec 32 := BitVec.ofNat 32 (i 1).val
  let c1024_i32_17 : BitVec 32 := 1024#32
  let v44 : BitVec 32 := Scalar.muli arg1 c1024_i32_17
  v44
def k0_off2 (i : grid0.Coords) : Fin 2 → Nat :=
  let arg1 : BitVec 32 := BitVec.ofNat 32 (i 1).val
  let c1024_i32_17 : BitVec 32 := 1024#32
  let v44 : BitVec 32 := Scalar.muli arg1 c1024_i32_17
  let v45 : BitVec 32 := v44
  let v46 : Index := Scalar.indexCast v45
  let c0_18 : Index := 0#32
  ![v46.toNat, 0]
def k0_cond2 (i : grid0.Coords) : BitVec 1 :=
  let c7_i32 : BitVec 32 := 7#32
  let arg1 : BitVec 32 := BitVec.ofNat 32 (i 1).val
  let v86 : BitVec 32 := Scalar.subi c7_i32 arg1
  let c1_i32 : BitVec 32 := 1#32
  let v87 : BitVec 32 := Scalar.andi v86 c1_i32
  let c1_i32_30 : BitVec 32 := 1#32
  let v88 : BitVec 1 := Scalar.cmpi .eq v87 c1_i32_30
  let v89 : BitVec 32 := Scalar.extui v88
  let c0_i32_31 : BitVec 32 := 0#32
  let v90 : BitVec 1 := Scalar.cmpi .ne v89 c0_i32_31
  v90

def k0_mult3 (i : grid0.Coords) : BitVec 32 :=
  let arg1 : BitVec 32 := BitVec.ofNat 32 (i 1).val
  let c1_i32_47 : BitVec 32 := 1#32
  let v116 : BitVec 32 := Scalar.addi arg1 c1_i32_47
  let c1024_i32_48 : BitVec 32 := 1024#32
  let v117 : BitVec 32 := Scalar.muli v116 c1024_i32_48
  v117
def k0_off3 (i : grid0.Coords) : Fin 2 → Nat :=
  let arg1 : BitVec 32 := BitVec.ofNat 32 (i 1).val
  let c1_i32_47 : BitVec 32 := 1#32
  let v116 : BitVec 32 := Scalar.addi arg1 c1_i32_47
  let c1024_i32_48 : BitVec 32 := 1024#32
  let v117 : BitVec 32 := Scalar.muli v116 c1024_i32_48
  let v118 : BitVec 32 := v117
  let v119 : Index := Scalar.indexCast v118
  let c0_49 : Index := 0#32
  ![v119.toNat, 0]
@[reducible] def k0_t1_loop (i : grid0.Coords) : Scf.Loop 32 :=
  let c0_i32_35 : BitVec 32 := 0#32
  let c7_i32 : BitVec 32 := 7#32
  let arg1 : BitVec 32 := BitVec.ofNat 32 (i 1).val
  let v86 : BitVec 32 := Scalar.subi c7_i32 arg1
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let c1_i32_37 : BitVec 32 := 1#32
  ⟨c0_i32_35, v100, c1_i32_37⟩
def k0_mult4 (i : grid0.Coords) (k0_t1 : Fin (k0_t1_loop i).trips) : BitVec 32 :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_37 : BitVec 32 := 1#32
  let arg9 : BitVec 32 := Scf.iv c0_i32_35 c1_i32_37 k0_t1
  let v116 : BitVec 32 := Scalar.muli c2_i32 arg9
  let v117 : BitVec 32 := Scalar.addi v94 v116
  let c1024_i32_48 : BitVec 32 := 1024#32
  let v119 : BitVec 32 := Scalar.muli v117 c1024_i32_48
  v119
def k0_off4 (i : grid0.Coords) (k0_t1 : Fin (k0_t1_loop i).trips) : Fin 2 → Nat :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_37 : BitVec 32 := 1#32
  let arg9 : BitVec 32 := Scf.iv c0_i32_35 c1_i32_37 k0_t1
  let v116 : BitVec 32 := Scalar.muli c2_i32 arg9
  let v117 : BitVec 32 := Scalar.addi v94 v116
  let c1024_i32_48 : BitVec 32 := 1024#32
  let v119 : BitVec 32 := Scalar.muli v117 c1024_i32_48
  let v120 : BitVec 32 := v119
  let v121 : Index := Scalar.indexCast v120
  let c0_49 : Index := 0#32
  ![v121.toNat, 0]
def k0_mult5 (i : grid0.Coords) (k0_t1 : Fin (k0_t1_loop i).trips) : BitVec 32 :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_37 : BitVec 32 := 1#32
  let arg9 : BitVec 32 := Scf.iv c0_i32_35 c1_i32_37 k0_t1
  let v116 : BitVec 32 := Scalar.muli c2_i32 arg9
  let v117 : BitVec 32 := Scalar.addi v94 v116
  let c1_i32_47 : BitVec 32 := 1#32
  let v118 : BitVec 32 := Scalar.addi v117 c1_i32_47
  let c1024_i32_59 : BitVec 32 := 1024#32
  let v146 : BitVec 32 := Scalar.muli v118 c1024_i32_59
  v146
def k0_off5 (i : grid0.Coords) (k0_t1 : Fin (k0_t1_loop i).trips) : Fin 2 → Nat :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_37 : BitVec 32 := 1#32
  let arg9 : BitVec 32 := Scf.iv c0_i32_35 c1_i32_37 k0_t1
  let v116 : BitVec 32 := Scalar.muli c2_i32 arg9
  let v117 : BitVec 32 := Scalar.addi v94 v116
  let c1_i32_47 : BitVec 32 := 1#32
  let v118 : BitVec 32 := Scalar.addi v117 c1_i32_47
  let c1024_i32_59 : BitVec 32 := 1024#32
  let v146 : BitVec 32 := Scalar.muli v118 c1024_i32_59
  let v147 : BitVec 32 := v146
  let v148 : Index := Scalar.indexCast v147
  let c0_60 : Index := 0#32
  ![v148.toNat, 0]
@[reducible] def k0_t2_loop (i : grid0.Coords) : Scf.Loop 32 :=
  let c0_i32_35 : BitVec 32 := 0#32
  let c7_i32 : BitVec 32 := 7#32
  let arg1 : BitVec 32 := BitVec.ofNat 32 (i 1).val
  let v86 : BitVec 32 := Scalar.subi c7_i32 arg1
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let v97 : BitVec 32 := Scalar.addi c0_i32_35 v96
  let c1_i32_38 : BitVec 32 := 1#32
  ⟨v100, v97, c1_i32_38⟩
def k0_mult6 (i : grid0.Coords) (k0_t2 : Fin (k0_t2_loop i).trips) : BitVec 32 :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let c1_i32_38 : BitVec 32 := 1#32
  let arg9 : BitVec 32 := Scf.iv v100 c1_i32_38 k0_t2
  let v116 : BitVec 32 := Scalar.muli c2_i32 arg9
  let v117 : BitVec 32 := Scalar.addi v94 v116
  let c1024_i32_48 : BitVec 32 := 1024#32
  let v119 : BitVec 32 := Scalar.muli v117 c1024_i32_48
  v119
def k0_off6 (i : grid0.Coords) (k0_t2 : Fin (k0_t2_loop i).trips) : Fin 2 → Nat :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let c1_i32_38 : BitVec 32 := 1#32
  let arg9 : BitVec 32 := Scf.iv v100 c1_i32_38 k0_t2
  let v116 : BitVec 32 := Scalar.muli c2_i32 arg9
  let v117 : BitVec 32 := Scalar.addi v94 v116
  let c1024_i32_48 : BitVec 32 := 1024#32
  let v119 : BitVec 32 := Scalar.muli v117 c1024_i32_48
  let v120 : BitVec 32 := v119
  let v121 : Index := Scalar.indexCast v120
  let c0_49 : Index := 0#32
  ![v121.toNat, 0]
def k0_mult7 (i : grid0.Coords) (k0_t2 : Fin (k0_t2_loop i).trips) : BitVec 32 :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let c1_i32_38 : BitVec 32 := 1#32
  let arg9 : BitVec 32 := Scf.iv v100 c1_i32_38 k0_t2
  let v116 : BitVec 32 := Scalar.muli c2_i32 arg9
  let v117 : BitVec 32 := Scalar.addi v94 v116
  let c1_i32_47 : BitVec 32 := 1#32
  let v118 : BitVec 32 := Scalar.addi v117 c1_i32_47
  let c1024_i32_59 : BitVec 32 := 1024#32
  let v146 : BitVec 32 := Scalar.muli v118 c1024_i32_59
  v146
def k0_off7 (i : grid0.Coords) (k0_t2 : Fin (k0_t2_loop i).trips) : Fin 2 → Nat :=
  let arg1 : BitVec 32 := BitVec.ofNat 32 (i 1).val
  let c1_i32_32 : BitVec 32 := 1#32
  let v92 : BitVec 32 := Scalar.addi arg1 c1_i32_32
  let c7_i32 : BitVec 32 := 7#32
  let v86 : BitVec 32 := Scalar.subi c7_i32 arg1
  let c1_i32_33 : BitVec 32 := 1#32
  let v93 : BitVec 32 := Scalar.andi v86 c1_i32_33
  let v94 : BitVec 32 := Scalar.addi v92 v93
  let c2_i32 : BitVec 32 := 2#32
  let c0_i32_35 : BitVec 32 := 0#32
  let c1_i32_34 : BitVec 32 := 1#32
  let v95 : BitVec 32 := Scalar.shrsi v86 c1_i32_34
  let v96 : BitVec 32 := Scalar.subi v95 c0_i32_35
  let c1_i32_36 : BitVec 32 := 1#32
  let v98 : BitVec 32 := Scalar.divsi v96 c1_i32_36
  let v99 : BitVec 32 := Scalar.muli v98 c1_i32_36
  let v100 : BitVec 32 := Scalar.addi c0_i32_35 v99
  let c1_i32_38 : BitVec 32 := 1#32
  let arg9 : BitVec 32 := Scf.iv v100 c1_i32_38 k0_t2
  let v116 : BitVec 32 := Scalar.muli c2_i32 arg9
  let v117 : BitVec 32 := Scalar.addi v94 v116
  let c1_i32_47 : BitVec 32 := 1#32
  let v118 : BitVec 32 := Scalar.addi v117 c1_i32_47
  let c1024_i32_59 : BitVec 32 := 1024#32
  let v146 : BitVec 32 := Scalar.muli v118 c1024_i32_59
  let v147 : BitVec 32 := v146
  let v148 : Index := Scalar.indexCast v147
  let c0_60 : Index := 0#32
  ![v148.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel2Ideal.lean ====
variable {F : FTy → Type} [FloatOps F] [Named F]
def κ : String → Option EReal := fun
  | "c" => some (((3424635 / 33554432) * (Real.log 2)⁻¹ : ℝ) : EReal)
  | "mask" => some ⊥
  | _ => none
-- ==== Reference2Ideal.lean ====
abbrev S8192x768 : Shape := ⟨2, ![8192, 768]⟩
abbrev S8192x512 : Shape := ⟨2, ![8192, 512]⟩
abbrev S8192x8x96 : Shape := ⟨3, ![8192, 8, 96]⟩
abbrev S8x8192x96 : Shape := ⟨3, ![8, 8192, 96]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x64x8192 : Shape := ⟨3, ![8, 64, 8192]⟩

abbrev nBuf : Space → Nat
  | .hbm => 101
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x512, .f32⟩
  | .hbm, ⟨3, _⟩ => ⟨S8192x512, .f32⟩
  | .hbm, ⟨4, _⟩ => ⟨S8192x8x96, .f32⟩
  | .hbm, ⟨5, _⟩ => ⟨S8x8192x96, .f32⟩
  | .hbm, ⟨6, _⟩ => ⟨S8192x8x96, .f32⟩
  | .hbm, ⟨7, _⟩ => ⟨S8x8192x96, .f32⟩
  | .hbm, ⟨8, _⟩ => ⟨S8192x8x64, .f32⟩
  | .hbm, ⟨9, _⟩ => ⟨S8x8192x64, .f32⟩
  | .hbm, ⟨10, _⟩ => ⟨S8x8192x8192, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S_, .f32⟩
  | .hbm, ⟨21, _⟩ => ⟨S_, .f32⟩
  | .hbm, ⟨22, _⟩ => ⟨S8x8192x8192, .i1⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x8192, .f32⟩
  | .hbm, ⟨31, _⟩ => ⟨S8x8192x8192, .i1⟩
  | .hbm, ⟨32, _⟩ => ⟨S8x8192x8192, .f32⟩
  | .hbm, ⟨33, _⟩ => ⟨S_, .f32⟩
  | .hbm, ⟨34, _⟩ => ⟨S8x8192, .f32⟩
  | .hbm, ⟨35, _⟩ => ⟨S_, .f32⟩
  | .hbm, ⟨36, _⟩ => ⟨S8x8192, .f32⟩
  | .hbm, ⟨37, _⟩ => ⟨S8x8192, .f32⟩
  | .hbm, ⟨38, _⟩ => ⟨S_, .f32⟩
  | .hbm, ⟨39, _⟩ => ⟨S8x8192, .f32⟩
  | .hbm, ⟨40, _⟩ => ⟨S8x8192, .i1⟩
  | .hbm, ⟨41, _⟩ => ⟨S_, .f32⟩
  | .hbm, ⟨42, _⟩ => ⟨S8x8192, .f32⟩
  | .hbm, ⟨43, _⟩ => ⟨S8x8192, .i1⟩
  | .hbm, ⟨44, _⟩ => ⟨S_, .f32⟩
  | .hbm, ⟨45, _⟩ => ⟨S8x8192, .f32⟩
  | .hbm, ⟨46, _⟩ => ⟨S_, .f32⟩
  | .hbm, ⟨47, _⟩ => ⟨S8x8192, .f32⟩
  | .hbm, ⟨48, _⟩ => ⟨S_, .f32⟩
  | .hbm, ⟨49, _⟩ => ⟨S8x8192, .f32⟩
  | .hbm, ⟨50, _⟩ => ⟨S8x8192, .f32⟩
  | .hbm, ⟨51, _⟩ => ⟨S8x8192, .f32⟩
  | .hbm, ⟨52, _⟩ => ⟨S8x8192x1, .f32⟩
  | .hbm, ⟨53, _⟩ => ⟨S8x8192x8192, .f32⟩
  | .hbm, ⟨54, _⟩ => ⟨S8x8192x8192, .f32⟩
  | .hbm, ⟨55, _⟩ => ⟨S8x8192x8192, .f32⟩
  | .hbm, ⟨56, _⟩ => ⟨S_, .f32⟩
  | .hbm, ⟨57, _⟩ => ⟨S8x8192, .f32⟩
  | .hbm, ⟨58, _⟩ => ⟨S8x8192x1, .f32⟩
  | .hbm, ⟨59, _⟩ => ⟨S8x8192x8192, .f32⟩
  | .hbm, ⟨60, _⟩ => ⟨S8x8192x8192, .f32⟩
  | .hbm, ⟨61, _⟩ => ⟨S8x8192x1, .f32⟩
  | .hbm, ⟨62, _⟩ => ⟨S_, .f32⟩
  | .hbm, ⟨63, _⟩ => ⟨S8x8192x1, .f32⟩
  | .hbm, ⟨64, _⟩ => ⟨S8x8192x1, .f32⟩
  | .hbm, ⟨65, _⟩ => ⟨S8x8192x64, .f32⟩
  | .hbm, ⟨66, _⟩ => ⟨S8192x8x64, .f32⟩
  | .hbm, ⟨67, _⟩ => ⟨S8192x512, .f32⟩
  | .hbm, ⟨68, _⟩ => ⟨S8192x8x64, .f32⟩
  | .hbm, ⟨69, _⟩ => ⟨S8x8192x64, .f32⟩
  | .hbm, ⟨70, _⟩ => ⟨S8x64x8192, .f32⟩
  | .hbm, ⟨71, _⟩ => ⟨S8x8192x64, .f32⟩
  | .hbm, ⟨72, _⟩ => ⟨S8x8192x8192, .f32⟩
  | .hbm, ⟨73, _⟩ => ⟨S8x8192x8192, .f32⟩
  | .hbm, ⟨74, _⟩ => ⟨S8x8192x8192, .f32⟩
  | .hbm, ⟨75, _⟩ => ⟨S8x8192x8192, .f32⟩
  | .hbm, ⟨76, _⟩ => ⟨S_, .f32⟩
  | .hbm, ⟨77, _⟩ => ⟨S8x8192, .f32⟩
  | .hbm, ⟨78, _⟩ => ⟨S8x8192x1, .f32⟩
  | .hbm, ⟨79, _⟩ => ⟨S8x8192x1, .f32⟩
  | .hbm, ⟨80, _⟩ => ⟨S8x8192x8192, .f32⟩
  | .hbm, ⟨81, _⟩ => ⟨S8x8192x8192, .f32⟩
  | .hbm, ⟨82, _⟩ => ⟨S_, .f32⟩
  | .hbm, ⟨83, _⟩ => ⟨S8x8192, .f32⟩
  | .hbm, ⟨84, _⟩ => ⟨S8x8192x8192, .f32⟩
  | .hbm, ⟨85, _⟩ => ⟨S8x8192x8192, .f32⟩
  | .hbm, ⟨86, _⟩ => ⟨S8x8192x8192, .f32⟩
  | .hbm, ⟨87, _⟩ => ⟨S_, .f32⟩
  | .hbm, ⟨88, _⟩ => ⟨S8x8192x8192, .f32⟩
  | .hbm, ⟨89, _⟩ => ⟨S8x8192x8192, .f32⟩
  | .hbm, ⟨90, _⟩ => ⟨S_, .f32⟩
  | .hbm, ⟨91, _⟩ => ⟨S8x8192x8192, .f32⟩
  | .hbm, ⟨92, _⟩ => ⟨S8x8192x8192, .f32⟩
  | .hbm, ⟨93, _⟩ => ⟨S8x8192x96, .f32⟩
  | .hbm, ⟨94, _⟩ => ⟨S8x8192x96, .f32⟩
  | .hbm, ⟨95, _⟩ => ⟨S8192x8x64, .f32⟩
  | .hbm, ⟨96, _⟩ => ⟨S8192x512, .f32⟩
  | .hbm, ⟨97, _⟩ => ⟨S8192x8x96, .f32⟩
  | .hbm, ⟨98, _⟩ => ⟨S8192x768, .f32⟩
  | .hbm, ⟨99, _⟩ => ⟨S8192x8x96, .f32⟩
  | .hbm, ⟨100, _⟩ => ⟨S8192x768, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_v15_1 : Ref sig .tc := ⟨.hbm, 22, rfl⟩
abbrev main_call0_v2 : Ref sig .tc := ⟨.hbm, 23, rfl⟩
abbrev main_v15_0 : Ref sig .tc := ⟨.hbm, 24, rfl⟩
abbrev main_call0_cst : Ref sig .tc := ⟨.hbm, 25, rfl⟩
abbrev main_v15_2 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call1_cst : Ref sig .tc := ⟨.hbm, 87, rfl⟩
abbrev main_call1_v0 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== Kernel3.lean ====
abbrev S8192x1024 : Shape := ⟨2, ![8192, 1024]⟩
abbrev S4096x1024 : Shape := ⟨2, ![4096, 1024]⟩
abbrev S8192x4096 : Shape := ⟨2, ![8192, 4096]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .hbm, ⟨3, _⟩ => ⟨S8192x1024, .bf16⟩
  | .hbm, ⟨4, _⟩ => ⟨S4096x1024, .bf16⟩
  | .hbm, ⟨5, _⟩ => ⟨S8192x4096, .bf16⟩
  | .hbm, ⟨6, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel4.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S8192x1024, .bf16⟩
  | .hbm, ⟨8, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel5.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | .hbm, ⟨7, _⟩ => ⟨S1024x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x4096 : Shape := ⟨2, ![8192, 4096]⟩
abbrev S1024x4096 : Shape := ⟨2, ![1024, 4096]⟩
abbrev S8192x1024 : Shape := ⟨2, ![8192, 1024]⟩
abbrev S512x4096 : Shape := ⟨2, ![512, 4096]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x4096, .bf16⟩
  | .hbm, ⟨3, _⟩ => ⟨S1024x4096, .bf16⟩
  | .hbm, ⟨4, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x4096 : Shape := ⟨2, ![8192, 4096]⟩
abbrev S1024x4096 : Shape := ⟨2, ![1024, 4096]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S_, .f32⟩
  | .hbm, ⟨3, _⟩ => ⟨S8192x1024, .f32⟩
  | .hbm, ⟨4, _⟩ => ⟨S8192x4096, .f32⟩
  | .hbm, ⟨5, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8192x1024 : Shape := ⟨2, ![8192, 1024]⟩
abbrev S1024x4096 : Shape := ⟨2, ![1024, 4096]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .bf16⟩
  | .hbm, ⟨5, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .bf16⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel8.lean ====
abbrev S8192x4096 : Shape := ⟨2, ![8192, 4096]⟩
abbrev S4096x1024 : Shape := ⟨2, ![4096, 1024]⟩
abbrev S8192x1024 : Shape := ⟨2, ![8192, 1024]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x4096, .bf16⟩
  | .hbm, ⟨3, _⟩ => ⟨S4096x1024, .bf16⟩
  | .hbm, ⟨4, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S8192x1024 : Shape := ⟨2, ![8192, 1024]⟩
abbrev S8192x4224 : Shape := ⟨2, ![8192, 4224]⟩
abbrev S1024x4224 : Shape := ⟨2, ![1024, 4224]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4224, .f32⟩
  | .hbm, ⟨2, _⟩ => ⟨S8192x1024, .bf16⟩
  | .hbm, ⟨3, _⟩ => ⟨S8192x4224, .bf16⟩
  | .hbm, ⟨4, _⟩ => ⟨S1024x4224, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S8192x4224 : Shape := ⟨2, ![8192, 4224]⟩
abbrev S_ : Shape := ⟨0, ![]⟩
abbrev S1x4224 : Shape := ⟨2, ![1, 4224]⟩
abbrev S1024x4224 : Shape := ⟨2, ![1024, 4224]⟩
abbrev S4224 : Shape := ⟨1, ![4224]⟩
abbrev S4224x1024 : Shape := ⟨2, ![4224, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4224, .f32⟩
  | .hbm, ⟨2, _⟩ => ⟨S_, .f32⟩
  | .hbm, ⟨3, _⟩ => ⟨S1x4224, .f32⟩
  | .hbm, ⟨4, _⟩ => ⟨S_, .f32⟩
  | .hbm, ⟨5, _⟩ => ⟨S1024x4224, .f32⟩
  | .hbm, ⟨6, _⟩ => ⟨S8192x4224, .f32⟩
  | .hbm, ⟨7, _⟩ => ⟨S4224, .f32⟩
  | .hbm, ⟨8, _⟩ => ⟨S1x4224, .f32⟩
  | .hbm, ⟨9, _⟩ => ⟨S8192x4224, .f32⟩
  | .hbm, ⟨10, _⟩ => ⟨S8192x4224, .f32⟩
  | .hbm, ⟨11, _⟩ => ⟨S4224x1024, .f32⟩
  | .hbm, ⟨12, _⟩ => ⟨S1024x4224, .f32⟩
  | .hbm, ⟨13, _⟩ => ⟨S1024x4224, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel10.lean ====
abbrev S8192x4224 : Shape := ⟨2, ![8192, 4224]⟩
abbrev S1024x4224 : Shape := ⟨2, ![1024, 4224]⟩
abbrev S_ : Shape := ⟨0, ![]⟩
abbrev S1x1024 : Shape := ⟨2, ![1, 1024]⟩
abbrev S8192x1024 : Shape := ⟨2, ![8192, 1024]⟩
abbrev S512x4224 : Shape := ⟨2, ![512, 4224]⟩
abbrev S1x512 : Shape := ⟨2, ![1, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x4224, .f32⟩
  | .hbm, ⟨1, _⟩ => ⟨S1024x4224, .f32⟩
  | .hbm, ⟨2, _⟩ => ⟨S8192x4224, .bf16⟩
  | .hbm, ⟨3, _⟩ => ⟨S1024x4224, .bf16⟩
  | .hbm, ⟨4, _⟩ => ⟨S_, .f32⟩
  | .hbm, ⟨5, _⟩ => ⟨S1x1024, .f32⟩
  | .hbm, ⟨6, _⟩ => ⟨S8192x1024, .f32⟩
  | .local _ .vmem, ⟨0, _⟩ => ⟨S1024x4224, .bf16⟩
  | .local _ .vmem, ⟨1, _⟩ => ⟨S1024x4224, .bf16⟩
  | .local _ .vmem, ⟨2, _⟩ => ⟨S512x4224, .bf16⟩
  | .local _ .vmem, ⟨3, _⟩ => ⟨S512x4224, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8192x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4224 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S8192x4224 : Shape := ⟨2, ![8192, 4224]⟩
abbrev S1024x4224 : Shape := ⟨2, ![1024, 4224]⟩
abbrev S_ : Shape := ⟨0, ![]⟩
abbrev S1x4224 : Shape := ⟨2, ![1, 4224]⟩
abbrev S8192x1024 : Shape := ⟨2, ![8192, 1024]⟩
abbrev S4224 : Shape := ⟨1, ![4224]⟩

abbrev nBuf : Space → Nat
  | .hbm => 12
  | .vmem => 0
  | .smem => 0
  | _ => 0

abbrev bufTy : (tb : Table) → Fin (tcTables nBuf tb) → BufTy
  | .hbm, ⟨0, _⟩ => ⟨S8192x4224, .f32⟩
  | .hbm, ⟨1, _⟩ => ⟨S1024x4224, .f32⟩
  | .hbm, ⟨2, _⟩ => ⟨S_, .f32⟩
  | .hbm, ⟨3, _⟩ => ⟨S1x4224, .f32⟩
  | .hbm, ⟨4, _⟩ => ⟨S_, .f32⟩
  | .hbm, ⟨5, _⟩ => ⟨S8192x1024, .f32⟩
  | .hbm, ⟨6, _⟩ => ⟨S8192x4224, .f32⟩
  | .hbm, ⟨7, _⟩ => ⟨S4224, .f32⟩
  | .hbm, ⟨8, _⟩ => ⟨S1x4224, .f32⟩
  | .hbm, ⟨9, _⟩ => ⟨S8192x4224, .f32⟩
  | .hbm, ⟨10, _⟩ => ⟨S8192x4224, .f32⟩
  | .hbm, ⟨11, _⟩ => ⟨S8192x1024, .f32⟩
  | _, _ => ⟨S8192x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel11.lean ====
abbrev S8192x1024 : Shape := ⟨2, ![8192, 1024]⟩
abbrev S1024x3584 : Shape := ⟨2, ![1024, 3584]⟩
abbrev S1x3584 : Shape := ⟨2, ![1, 3584]⟩
abbrev S8192x3584 : Shape := ⟨2, ![8192, 3584]⟩
abbrev S1024x1024 : Shape := ⟨2, ![1024, 1024]⟩
abbrev S1024x1792 : Shape := ⟨2, ![1024, 1792]⟩
abbrev S1x1792 : Shape := ⟨2, ![1, 1792]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x3584, .f32⟩
  | .hbm, ⟨2, _⟩ => ⟨S1x3584, .f32⟩
  | .hbm, ⟨3, _⟩ => ⟨S8192x1024, .bf16⟩
  | .hbm, ⟨4, _⟩ => ⟨S1024x3584, .bf16⟩
  | .hbm, ⟨5, _⟩ => ⟨S8192x3584, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1x1792, .f32⟩
  | .local _ .vmem, ⟨5, _⟩ => ⟨S1x1792, .f32⟩
  | .local _ .vmem, ⟨6, _⟩ => ⟨S1024x1792, .bf16⟩
  | .local _ .vmem, ⟨7, _⟩ => ⟨S1024x1792, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S8192x1024 : Shape := ⟨2, ![8192, 1024]⟩
abbrev S1024x3584 : Shape := ⟨2, ![1024, 3584]⟩
abbrev S1x3584 : Shape := ⟨2, ![1, 3584]⟩
abbrev S8192x3584 : Shape := ⟨2, ![8192, 3584]⟩
abbrev S3584 : Shape := ⟨1, ![3584]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3584, .f32⟩
  | .hbm, ⟨2, _⟩ => ⟨S1x3584, .f32⟩
  | .hbm, ⟨3, _⟩ => ⟨S8192x3584, .f32⟩
  | .hbm, ⟨4, _⟩ => ⟨S3584, .f32⟩
  | .hbm, ⟨5, _⟩ => ⟨S1x3584, .f32⟩
  | .hbm, ⟨6, _⟩ => ⟨S8192x3584, .f32⟩
  | .hbm, ⟨7, _⟩ => ⟨S8192x3584, .f32⟩
  | .hbm, ⟨8, _⟩ => ⟨S8192x3584, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x1024 : Shape := ⟨2, ![8192, 1024]⟩
abbrev S1024x640 : Shape := ⟨2, ![1024, 640]⟩
abbrev S1x640 : Shape := ⟨2, ![1, 640]⟩
abbrev S8192x640 : Shape := ⟨2, ![8192, 640]⟩
abbrev S2048x1024 : Shape := ⟨2, ![2048, 1024]⟩
abbrev S2048x640 : Shape := ⟨2, ![2048, 640]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x640, .f32⟩
  | .hbm, ⟨2, _⟩ => ⟨S1x640, .f32⟩
  | .hbm, ⟨3, _⟩ => ⟨S8192x1024, .bf16⟩
  | .hbm, ⟨4, _⟩ => ⟨S1024x640, .bf16⟩
  | .hbm, ⟨5, _⟩ => ⟨S8192x640, .f32⟩
  | .local _ .vmem, ⟨0, _⟩ => ⟨S2048x1024, .bf16⟩
  | .local _ .vmem, ⟨1, _⟩ => ⟨S2048x1024, .bf16⟩
  | .local _ .vmem, ⟨2, _⟩ => ⟨S1024x640, .bf16⟩
  | .local _ .vmem, ⟨3, _⟩ => ⟨S1x640, .f32⟩
  | .local _ .vmem, ⟨4, _⟩ => ⟨S2048x640, .f32⟩
  | .local _ .vmem, ⟨5, _⟩ => ⟨S2048x640, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S2048x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S8192x1024 : Shape := ⟨2, ![8192, 1024]⟩
abbrev S1024x640 : Shape := ⟨2, ![1024, 640]⟩
abbrev S1x640 : Shape := ⟨2, ![1, 640]⟩
abbrev S8192x640 : Shape := ⟨2, ![8192, 640]⟩
abbrev S640 : Shape := ⟨1, ![640]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x640, .f32⟩
  | .hbm, ⟨2, _⟩ => ⟨S1x640, .f32⟩
  | .hbm, ⟨3, _⟩ => ⟨S8192x640, .f32⟩
  | .hbm, ⟨4, _⟩ => ⟨S640, .f32⟩
  | .hbm, ⟨5, _⟩ => ⟨S1x640, .f32⟩
  | .hbm, ⟨6, _⟩ => ⟨S8192x640, .f32⟩
  | .hbm, ⟨7, _⟩ => ⟨S8192x640, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel15.lean ====
abbrev S8192x768 : Shape := ⟨2, ![8192, 768]⟩
abbrev S8192x512 : Shape := ⟨2, ![8192, 512]⟩
abbrev S_ : Shape := ⟨0, ![]⟩
abbrev S8192x8 : Shape := ⟨2, ![8192, 8]⟩
abbrev S8192x8x96 : Shape := ⟨3, ![8192, 8, 96]⟩
abbrev S8192x8x32 : Shape := ⟨3, ![8192, 8, 32]⟩
abbrev S8192x8x128 : Shape := ⟨3, ![8192, 8, 128]⟩
abbrev S8192x1024 : Shape := ⟨2, ![8192, 1024]⟩
abbrev S8192x8x1 : Shape := ⟨3, ![8192, 8, 1]⟩
abbrev S8192x8x29 : Shape := ⟨3, ![8192, 8, 29]⟩
abbrev S8192x8x64 : Shape := ⟨3, ![8192, 8, 64]⟩
abbrev S8192x8x61 : Shape := ⟨3, ![8192, 8, 61]⟩
abbrev S1024x128 : Shape := ⟨2, ![1024, 128]⟩
abbrev S8192x128 : Shape := ⟨2, ![8192, 128]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 34
  | .vmem => 10
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x512, .f32⟩
  | .hbm, ⟨3, _⟩ => ⟨S_, .f32⟩
  | .hbm, ⟨4, _⟩ => ⟨S8192x8, .f32⟩
  | .hbm, ⟨5, _⟩ => ⟨S8192x8x96, .f32⟩
  | .hbm, ⟨6, _⟩ => ⟨S_, .f32⟩
  | .hbm, ⟨7, _⟩ => ⟨S8192x8x32, .f32⟩
  | .hbm, ⟨8, _⟩ => ⟨S8192x8x128, .f32⟩
  | .hbm, ⟨9, _⟩ => ⟨S8192x1024, .f32⟩
  | .hbm, ⟨10, _⟩ => ⟨S8192x1024, .bf16⟩
  | .hbm, ⟨11, _⟩ => ⟨S8192x8x96, .f32⟩
  | .hbm, ⟨12, _⟩ => ⟨S8192x8x1, .f32⟩
  | .hbm, ⟨13, _⟩ => ⟨S8192x8x1, .f32⟩
  | .hbm, ⟨14, _⟩ => ⟨S8192x8x1, .f32⟩
  | .hbm, ⟨15, _⟩ => ⟨S_, .f32⟩
  | .hbm, ⟨16, _⟩ => ⟨S8192x8x29, .f32⟩
  | .hbm, ⟨17, _⟩ => ⟨S8192x8x128, .f32⟩
  | .hbm, ⟨18, _⟩ => ⟨S8192x1024, .f32⟩
  | .hbm, ⟨19, _⟩ => ⟨S8192x1024, .bf16⟩
  | .hbm, ⟨20, _⟩ => ⟨S8192x8x64, .f32⟩
  | .hbm, ⟨21, _⟩ => ⟨S8192x8x1, .f32⟩
  | .hbm, ⟨22, _⟩ => ⟨S8192x8x1, .f32⟩
  | .hbm, ⟨23, _⟩ => ⟨S8192x8x1, .f32⟩
  | .hbm, ⟨24, _⟩ => ⟨S_, .f32⟩
  | .hbm, ⟨25, _⟩ => ⟨S8192x8x61, .f32⟩
  | .hbm, ⟨26, _⟩ => ⟨S8192x8x128, .f32⟩
  | .hbm, ⟨27, _⟩ => ⟨S8192x1024, .f32⟩
  | .hbm, ⟨28, _⟩ => ⟨S8192x1024, .bf16⟩
  | .hbm, ⟨29, _⟩ => ⟨S8192x1024, .bf16⟩
  | .hbm, ⟨30, _⟩ => ⟨S8192x1024, .bf16⟩
  | .hbm, ⟨31, _⟩ => ⟨S8192x8x128, .bf16⟩
  | .hbm, ⟨32, _⟩ => ⟨S8192x8x64, .bf16⟩
  | .hbm, ⟨33, _⟩ => ⟨S8192x512, .bf16⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22_0 : Ref sig .tc := ⟨.hbm, 29, rfl⟩
abbrev main_v22_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let c1_i32 : BitVec 32 := 1#32
  let v4 : BitVec 32 := Scalar.shrsi arg1 c1_i32
  let v5 : BitVec 32 := Scalar.subi v4 c0_i32
  let c1_i32_2 : BitVec 32 := 1#32
  let v7 : BitVec 32 := Scalar.divsi v5 c1_i32_2
  let v8 : BitVec 32 := Scalar.muli v7 c1_i32_2
  let v9 : BitVec 32 := Scalar.addi c0_i32 v8
  let c1_i32_3 : BitVec 32 := 1#32
  ⟨c0_i32, v9, c1_i32_3⟩
def k0_mult1 (i : grid0.Coords) (k0_t1 : Fin (k0_t1_loop i).trips) : BitVec 32 :=
  let c2_i32_25 : BitVec 32 := 2#32
  let c0_i32 : BitVec 32 := 0#32
  let c1_i32_3 : BitVec 32 := 1#32
  let arg7 : BitVec 32 := Scf.iv c0_i32 c1_i32_3 k0_t1
  let v96 : BitVec 32 := Scalar.muli c2_i32_25 arg7
  let c0_i32_26 : BitVec 32 := 0#32
  let v97 : BitVec 32 := Scalar.addi v96 c0_i32_26
  let c1024_i32_27 : BitVec 32 := 1024#32
  let v98 : BitVec 32 := Scalar.muli v97 c1024_i32_27
  v98
def k0_off1 (i : grid0.Coords) (k0_t1 : Fin (k0_t1_loop i).trips) (c0_i32_26 : BitVec 32) : Fin 2 → Nat :=
  let c2_i32_25 : BitVec 32 := 2#32
  let c0_i32 : BitVec 32 := 0#32
  let c1_i32_3 : BitVec 32 := 1#32
  let arg7 : BitVec 32 := Scf.iv c0_i32 c1_i32_3 k0_t1
  let v96 : BitVec 32 := Scalar.muli c2_i32_25 arg7
  let v97 : BitVec 32 := Scalar.addi v96 c0_i32_26
  let c1024_i32_27 : BitVec 32 := 1024#32
  let v98 : BitVec 32 := Scalar.muli v97 c1024_i32_27
  let v99 : BitVec 32 := v98
  let v100 : Index := Scalar.indexCast v99
  let c0_28 : Index := 0#32
  ![v100.toNat, 0]
def k0_mult2 (i : grid0.Coords) (k0_t1 : Fin (k0_t1_loop i).trips) : BitVec 32 :=
  let c2_i32_25 : BitVec 32 := 2#32
  let c0_i32 : BitVec 32 := 0#32
  let c1_i32_3 : BitVec 32 := 1#32
  let arg7 : BitVec 32 := Scf.iv c0_i32 c1_i32_3 k0_t1
  let v96 : BitVec 32 := Scalar.muli c2_i32_25 arg7
  let c0_i32_26 : BitVec 32 := 0#32
  let v97 : BitVec 32 := Scalar.addi v96 c0_i32_26
  let c1024_i32_30 : BitVec 32 := 1024#32
  let v104 : BitVec 32 := Scalar.muli v97 c1024_i32_30
  v104
def k0_mult3 (i : grid0.Coords) (k0_t1 : Fin (k0_t1_loop i).trips) : BitVec 32 :=
  let c2_i32_36 : BitVec 32 := 2#32
  let c0_i32 : BitVec 32 := 0#32
  let c1_i32_3 : BitVec 32 := 1#32
  let arg7 : BitVec 32 := Scf.iv c0_i32 c1_i32_3 k0_t1
  let v126 : BitVec 32 := Scalar.muli c2_i32_36 arg7
  let c1_i32_37 : BitVec 32 := 1#32
  let v127 : BitVec 32 := Scalar.addi v126 c1_i32_37
  let c1024_i32_38 : BitVec 32 := 1024#32
  let v128 : BitVec 32 := Scalar.muli v127 c1024_i32_38
  v128
def k0_mult4 (i : grid0.Coords) (k0_t1 : Fin (k0_t1_loop i).trips) : BitVec 32 :=
  let c2_i32_36 : BitVec 32 := 2#32
  let c0_i32 : BitVec 32 := 0#32
  let c1_i32_3 : BitVec 32 := 1#32
  let arg7 : BitVec 32 := Scf.iv c0_i32 c1_i32_3 k0_t1
  let v126 : BitVec 32 := Scalar.muli c2_i32_36 arg7
  let c1_i32_37 : BitVec 32 := 1#32
  let v127 : BitVec 32 := Scalar.addi v126 c1_i32_37
  let c1024_i32_41 : BitVec 32 := 1024#32
  let v134 : BitVec 32 := Scalar.muli v127 c1024_i32_41
  v134
@[reducible] def k0_t2_loop (i : grid0.Coords) : Scf.Loop 32 :=
  let c0_i32 : BitVec 32 := 0#32
  let arg1 : BitVec 32 := BitVec.ofNat 32 (i 1).val
  let c1_i32 : BitVec 32 := 1#32
  let v4 : BitVec 32 := Scalar.shrsi arg1 c1_i32
  let v5 : BitVec 32 := Scalar.subi v4 c0_i32
  let c1_i32_2 : BitVec 32 := 1#32
  let v7 : BitVec 32 := Scalar.divsi v5 c1_i32_2
  let v8 : BitVec 32 := Scalar.muli v7 c1_i32_2
  let v9 : BitVec 32 := Scalar.addi c0_i32 v8
  let v6 : BitVec 32 := Scalar.addi c0_i32 v5
  let c1_i32_4 : BitVec 32 := 1#32
  ⟨v9, v6, c1_i32_4⟩
def k0_mult5 (i : grid0.Coords) (k0_t2 : Fin (k0_t2_loop i).trips) : BitVec 32 :=
  let c2_i32_25 : BitVec 32 := 2#32
  let c0_i32 : BitVec 32 := 0#32
  let arg1 : BitVec 32 := BitVec.ofNat 32 (i 1).val
  let c1_i32 : BitVec 32 := 1#32
  let v4 : BitVec 32 := Scalar.shrsi arg1 c1_i32
  let v5 : BitVec 32 := Scalar.subi v4 c0_i32
  let c1_i32_2 : BitVec 32 := 1#32
  let v7 : BitVec 32 := Scalar.divsi v5 c1_i32_2
  let v8 : BitVec 32 := Scalar.muli v7 c1_i32_2
  let v9 : BitVec 32 := Scalar.addi c0_i32 v8
  let c1_i32_4 : BitVec 32 := 1#32
  let arg7 : BitVec 32 := Scf.iv v9 c1_i32_4 k0_t2
  let v96 : BitVec 32 := Scalar.muli c2_i32_25 arg7
  let c0_i32_26 : BitVec 32 := 0#32
  let v97 : BitVec 32 := Scalar.addi v96 c0_i32_26
  let c1024_i32_27 : BitVec 32 := 1024#32
  let v98 : BitVec 32 := Scalar.muli v97 c1024_i32_27
  v98
def k0_off2 (i : grid0.Coords) (k0_t2 : Fin (k0_t2_loop i).trips) (c0_i32_26 : BitVec 32) : Fin 2 → Nat :=
  let c2_i32_25 : BitVec 32 := 2#32
  let c0_i32 : BitVec 32 := 0#32
  let arg1 : BitVec 32 := BitVec.ofNat 32 (i 1).val
  let c1_i32 : BitVec 32 := 1#32
  let v4 : BitVec 32 := Scalar.shrsi arg1 c1_i32
  let v5 : BitVec 32 := Scalar.subi v4 c0_i32
  let c1_i32_2 : BitVec 32 := 1#32
  let v7 : BitVec 32 := Scalar.divsi v5 c1_i32_2
  let v8 : BitVec 32 := Scalar.muli v7 c1_i32_2
  let v9 : BitVec 32 := Scalar.addi c0_i32 v8
  let c1_i32_4 : BitVec 32 := 1#32
  let arg7 : BitVec 32 := Scf.iv v9 c1_i32_4 k0_t2
  let v96 : BitVec 32 := Scalar.muli c2_i32_25 arg7
  let v97 : BitVec 32 := Scalar.addi v96 c0_i32_26
  let c1024_i32_27 : BitVec 32 := 1024#32
  let v98 : BitVec 32 := Scalar.muli v97 c1024_i32_27
  let v99 : BitVec 32 := v98
  let v100 : Index := Scalar.indexCast v99
  let c0_28 : Index := 0#32
  ![v100.toNat, 0]
def k0_mult6 (i : grid0.Coords) (k0_t2 : Fin (k0_t2_loop i).trips) : BitVec 32 :=
  let c2_i32_25 : BitVec 32 := 2#32
  let c0_i32 : BitVec 32 := 0#32
  let arg1 : BitVec 32 := BitVec.ofNat 32 (i 1).val
  let c1_i32 : BitVec 32 := 1#32
  let v4 : BitVec 32 := Scalar.shrsi arg1 c1_i32
  let v5 : BitVec 32 := Scalar.subi v4 c0_i32
  let c1_i32_2 : BitVec 32 := 1#32
  let v7 : BitVec 32 := Scalar.divsi v5 c1_i32_2
  let v8 : BitVec 32 := Scalar.muli v7 c1_i32_2
  let v9 : BitVec 32 := Scalar.addi c0_i32 v8
  let c1_i32_4 : BitVec 32 := 1#32
  let arg7 : BitVec 32 := Scf.iv v9 c1_i32_4 k0_t2
  let v96 : BitVec 32 := Scalar.muli c2_i32_25 arg7
  let c0_i32_26 : BitVec 32 := 0#32
  let v97 : BitVec 32 := Scalar.addi v96 c0_i32_26
  let c1024_i32_30 : BitVec 32 := 1024#32
  let v104 : BitVec 32 := Scalar.muli v97 c1024_i32_30
  v104
def k0_mult7 (i : grid0.Coords) (k0_t2 : Fin (k0_t2_loop i).trips) : BitVec 32 :=
  let c2_i32_36 : BitVec 32 := 2#32
  let c0_i32 : BitVec 32 := 0#32
  let arg1 : BitVec 32 := BitVec.ofNat 32 (i 1).val
  let c1_i32 : BitVec 32 := 1#32
  let v4 : BitVec 32 := Scalar.shrsi arg1 c1_i32
  let v5 : BitVec 32 := Scalar.subi v4 c0_i32
  let c1_i32_2 : BitVec 32 := 1#32
  let v7 : BitVec 32 := Scalar.divsi v5 c1_i32_2
  let v8 : BitVec 32 := Scalar.muli v7 c1_i32_2
  let v9 : BitVec 32 := Scalar.addi c0_i32 v8
  let c1_i32_4 : BitVec 32 := 1#32
  let arg7 : BitVec 32 := Scf.iv v9 c1_i32_4 k0_t2
  let v126 : BitVec 32 := Scalar.muli c2_i32_36 arg7
  let c1_i32_37 : BitVec 32 := 1#32
  let v127 : BitVec 32 := Scalar.addi v126 c1_i32_37
  let c1024_i32_38 : BitVec 32 := 1024#32
  let v128 : BitVec 32 := Scalar.muli v127 c1024_i32_38
  v128
def k0_mult8 (i : grid0.Coords) (k0_t2 : Fin (k0_t2_loop i).trips) : BitVec 32 :=
  let c2_i32_36 : BitVec 32 := 2#32
  let c0_i32 : BitVec 32 := 0#32
  let arg1 : BitVec 32 := BitVec.ofNat 32 (i 1).val
  let c1_i32 : BitVec 32 := 1#32
  let v4 : BitVec 32 := Scalar.shrsi arg1 c1_i32
  let v5 : BitVec 32 := Scalar.subi v4 c0_i32
  let c1_i32_2 : BitVec 32 := 1#32
  let v7 : BitVec 32 := Scalar.divsi v5 c1_i32_2
  let v8 : BitVec 32 := Scalar.muli v7 c1_i32_2
  let v9 : BitVec 32 := Scalar.addi c0_i32 v8
  let c1_i32_4 : BitVec 32 := 1#32
  let arg7 : BitVec 32 := Scf.iv v9 c1_i32_4 k0_t2
  let v126 : BitVec 32 := Scalar.muli c2_i32_36 arg7
  let c1_i32_37 : BitVec 32 := 1#32
  let v127 : BitVec 32 := Scalar.addi v126 c1_i32_37
  let c1024_i32_41 : BitVec 32 := 1024#32
  let v134 : BitVec 32 := Scalar.muli v127 c1024_i32_41
  v134
@[reducible] def k0_t3_loop (i : grid0.Coords) : Scf.Loop 32 :=
  let arg1 : BitVec 32 := BitVec.ofNat 32 (i 1).val
  let c1_i32 : BitVec 32 := 1#32
  let v4 : BitVec 32 := Scalar.shrsi arg1 c1_i32
  let c2_i32 : BitVec 32 := 2#32
  let v12 : BitVec 32 := Scalar.muli v4 c2_i32
  let v13 : BitVec 32 := Scalar.subi arg1 v12
  let c1_i32_5 : BitVec 32 := 1#32
  let v15 : BitVec 32 := Scalar.divsi v13 c1_i32_5
  let v16 : BitVec 32 := Scalar.muli v15 c1_i32_5
  let v17 : BitVec 32 := Scalar.addi v12 v16
  let c1_i32_6 : BitVec 32 := 1#32
  ⟨v12, v17, c1_i32_6⟩
def k0_mult9 (i : grid0.Coords) (k0_t3 : Fin (k0_t3_loop i).trips) : BitVec 32 :=
  let arg1 : BitVec 32 := BitVec.ofNat 32 (i 1).val
  let c1_i32 : BitVec 32 := 1#32
  let v4 : BitVec 32 := Scalar.shrsi arg1 c1_i32
  let c2_i32 : BitVec 32 := 2#32
  let v12 : BitVec 32 := Scalar.muli v4 c2_i32
  let c1_i32_6 : BitVec 32 := 1#32
  let arg7 : BitVec 32 := Scf.iv v12 c1_i32_6 k0_t3
  let c1024_i32_25 : BitVec 32 := 1024#32
  let v96 : BitVec 32 := Scalar.muli arg7 c1024_i32_25
  v96
def k0_off3 (i : grid0.Coords) (k0_t3 : Fin (k0_t3_loop i).trips) : Fin 2 → Nat :=
  let arg1 : BitVec 32 := BitVec.ofNat 32 (i 1).val
  let c1_i32 : BitVec 32 := 1#32
  let v4 : BitVec 32 := Scalar.shrsi arg1 c1_i32
  let c2_i32 : BitVec 32 := 2#32
  let v12 : BitVec 32 := Scalar.muli v4 c2_i32
  let c1_i32_6 : BitVec 32 := 1#32
  let arg7 : BitVec 32 := Scf.iv v12 c1_i32_6 k0_t3
  let c1024_i32_25 : BitVec 32 := 1024#32
  let v96 : BitVec 32 := Scalar.muli arg7 c1024_i32_25
  let v97 : BitVec 32 := v96
  let v98 : Index := Scalar.indexCast v97
  let c0_26 : Index := 0#32
  ![v98.toNat, 0]
def k0_mult10 (i : grid0.Coords) (k0_t3 : Fin (k0_t3_loop i).trips) : BitVec 32 :=
  let arg1 : BitVec 32 := BitVec.ofNat 32 (i 1).val
  let c1_i32 : BitVec 32 := 1#32
  let v4 : BitVec 32 := Scalar.shrsi arg1 c1_i32
  let c2_i32 : BitVec 32 := 2#32
  let v12 : BitVec 32 := Scalar.muli v4 c2_i32
  let c1_i32_6 : BitVec 32 := 1#32
  let arg7 : BitVec 32 := Scf.iv v12 c1_i32_6 k0_t3
  let c1024_i32_28 : BitVec 32 := 1024#32
  let v102 : BitVec 32 := Scalar.muli arg7 c1024_i32_28
  v102
@[reducible] def k0_t4_loop (i : grid0.Coords) : Scf.Loop 32 :=
  let arg1 : BitVec 32 := BitVec.ofNat 32 (i 1).val
  let c1_i32 : BitVec 32 := 1#32
  let v4 : BitVec 32 := Scalar.shrsi arg1 c1_i32
  let c2_i32 : BitVec 32 := 2#32
  let v12 : BitVec 32 := Scalar.muli v4 c2_i32
  let v13 : BitVec 32 := Scalar.subi arg1 v12
  let c1_i32_5 : BitVec 32 := 1#32
  let v15 : BitVec 32 := Scalar.divsi v13 c1_i32_5
  let v16 : BitVec 32 := Scalar.muli v15 c1_i32_5
  let v17 : BitVec 32 := Scalar.addi v12 v16
  let v14 : BitVec 32 := Scalar.addi v12 v13
  let c1_i32_7 : BitVec 32 := 1#32
  ⟨v17, v14, c1_i32_7⟩
def k0_mult11 (i : grid0.Coords) (k0_t4 : Fin (k0_t4_loop i).trips) : BitVec 32 :=
  let arg1 : BitVec 32 := BitVec.ofNat 32 (i 1).val
  let c1_i32 : BitVec 32 := 1#32
  let v4 : BitVec 32 := Scalar.shrsi arg1 c1_i32
  let c2_i32 : BitVec 32 := 2#32
  let v12 : BitVec 32 := Scalar.muli v4 c2_i32
  let v13 : BitVec 32 := Scalar.subi arg1 v12
  let c1_i32_5 : BitVec 32 := 1#32
  let v15 : BitVec 32 := Scalar.divsi v13 c1_i32_5
  let v16 : BitVec 32 := Scalar.muli v15 c1_i32_5
  let v17 : BitVec 32 := Scalar.addi v12 v16
  let c1_i32_7 : BitVec 32 := 1#32
  let arg7 : BitVec 32 := Scf.iv v17 c1_i32_7 k0_t4
  let c1024_i32_25 : BitVec 32 := 1024#32
  let v96 : BitVec 32 := Scalar.muli arg7 c1024_i32_25
  v96
def k0_off4 (i : grid0.Coords) (k0_t4 : Fin (k0_t4_loop i).trips) : Fin 2 → Nat :=
  let arg1 : BitVec 32 := BitVec.ofNat 32 (i 1).val
  let c1_i32 : BitVec 32 := 1#32
  let v4 : BitVec 32 := Scalar.shrsi arg1 c1_i32
  let c2_i32 : BitVec 32 := 2#32
  let v12 : BitVec 32 := Scalar.muli v4 c2_i32
  let v13 : BitVec 32 := Scalar.subi arg1 v12
  let c1_i32_5 : BitVec 32 := 1#32
  let v15 : BitVec 32 := Scalar.divsi v13 c1_i32_5
  let v16 : BitVec 32 := Scalar.muli v15 c1_i32_5
  let v17 : BitVec 32 := Scalar.addi v12 v16
  let c1_i32_7 : BitVec 32 := 1#32
  let arg7 : BitVec 32 := Scf.iv v17 c1_i32_7 k0_t4
  let c1024_i32_25 : BitVec 32 := 1024#32
  let v96 : BitVec 32 := Scalar.muli arg7 c1024_i32_25
  let v97 : BitVec 32 := v96
  let v98 : Index := Scalar.indexCast v97
  let c0_26 : Index := 0#32
  ![v98.toNat, 0]
def k0_mult12 (i : grid0.Coords) (k0_t4 : Fin (k0_t4_loop i).trips) : BitVec 32 :=
  let arg1 : BitVec 32 := BitVec.ofNat 32 (i 1).val
  let c1_i32 : BitVec 32 := 1#32
  let v4 : BitVec 32 := Scalar.shrsi arg1 c1_i32
  let c2_i32 : BitVec 32 := 2#32
  let v12 : BitVec 32 := Scalar.muli v4 c2_i32
  let v13 : BitVec 32 := Scalar.subi arg1 v12
  let c1_i32_5 : BitVec 32 := 1#32
  let v15 : BitVec 32 := Scalar.divsi v13 c1_i32_5
  let v16 : BitVec 32 := Scalar.muli v15 c1_i32_5
  let v17 : BitVec 32 := Scalar.addi v12 v16
  let c1_i32_7 : BitVec 32 := 1#32
  let arg7 : BitVec 32 := Scf.iv v17 c1_i32_7 k0_t4
  let c1024_i32_28 : BitVec 32 := 1024#32
  let v102 : BitVec 32 := Scalar.muli arg7 c1024_i32_28
  v102
def k0_mult13 (i : grid0.Coords) : BitVec 32 :=
  let arg1 : BitVec 32 := BitVec.ofNat 32 (i 1).val
  let c1024_i32 : BitVec 32 := 1024#32
  let v20 : BitVec 32 := Scalar.muli arg1 c1024_i32
  v20
def k0_off5 (i : grid0.Coords) : Fin 2 → Nat :=
  let arg1 : BitVec 32 := BitVec.ofNat 32 (i 1).val
  let c1024_i32 : BitVec 32 := 1024#32
  let v20 : BitVec 32 := Scalar.muli arg1 c1024_i32
  let v21 : BitVec 32 := v20
  let v22 : Index := Scalar.indexCast v21
  let c0_8 : Index := 0#32
  ![v22.toNat, 0]
def k0_mult14 (i : grid0.Coords) : BitVec 32 :=
  let arg1 : BitVec 32 := BitVec.ofNat 32 (i 1).val
  let c1024_i32_11 : BitVec 32 := 1024#32
  let v31 : BitVec 32 := Scalar.muli arg1 c1024_i32_11
  v31
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel15Ideal.lean ====
variable {F : FTy → Type} [FloatOps F] [Named F]
def κ : String → Option EReal := fun
  | "c" => some (((3424635 / 33554432) * (Real.log 2)⁻¹ : ℝ) : EReal)
  | "mask" => some ⊥
  | _ => none
-- ==== Reference15Ideal.lean ====
abbrev S8192x768 : Shape := ⟨2, ![8192, 768]⟩
abbrev S8192x512 : Shape := ⟨2, ![8192, 512]⟩
abbrev S8192x8x96 : Shape := ⟨3, ![8192, 8, 96]⟩
abbrev S8x8192x96 : Shape := ⟨3, ![8, 8192, 96]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩

abbrev nBuf : Space → Nat
  | .hbm => 42
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x512, .f32⟩
  | .hbm, ⟨3, _⟩ => ⟨S8192x8x96, .f32⟩
  | .hbm, ⟨4, _⟩ => ⟨S8x8192x96, .f32⟩
  | .hbm, ⟨5, _⟩ => ⟨S8192x8x96, .f32⟩
  | .hbm, ⟨6, _⟩ => ⟨S8x8192x96, .f32⟩
  | .hbm, ⟨7, _⟩ => ⟨S8192x8x64, .f32⟩
  | .hbm, ⟨8, _⟩ => ⟨S8x8192x64, .f32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S_, .f32⟩
  | .hbm, ⟨21, _⟩ => ⟨S8x8192x8192, .i1⟩
  | .hbm, ⟨22, _⟩ => ⟨S8x8192x8192, .f32⟩
  | .hbm, ⟨23, _⟩ => ⟨S8x8192x8192, .f32⟩
  | .hbm, ⟨24, _⟩ => ⟨S_, .f32⟩
  | .hbm, ⟨25, _⟩ => ⟨S8x8192, .f32⟩
  | .hbm, ⟨26, _⟩ => ⟨S_, .f32⟩
  | .hbm, ⟨27, _⟩ => ⟨S8x8192, .f32⟩
  | .hbm, ⟨28, _⟩ => ⟨S8x8192, .f32⟩
  | .hbm, ⟨29, _⟩ => ⟨S8x8192x1, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S_, .f32⟩
  | .hbm, ⟨34, _⟩ => ⟨S8x8192, .f32⟩
  | .hbm, ⟨35, _⟩ => ⟨S8x8192x1, .f32⟩
  | .hbm, ⟨36, _⟩ => ⟨S8x8192x8192, .f32⟩
  | .hbm, ⟨37, _⟩ => ⟨S8x8192x8192, .f32⟩
  | .hbm, ⟨38, _⟩ => ⟨S8x8192x64, .f32⟩
  | .hbm, ⟨39, _⟩ => ⟨S8192x8x64, .f32⟩
  | .hbm, ⟨40, _⟩ => ⟨S8192x512, .f32⟩
  | .hbm, ⟨41, _⟩ => ⟨S8192x512, .bf16⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Rows.lean ====
/-
  Rows of a whole staging buffer. A body holds a staging buffer of 8192 rows and 128 columns at the contents that read some
  array `X`. This module says what a load of the rows `[o, o + n)` reads (`getRows`) and what the buffer holds after a store
  into those rows (`putRows`), and restates the two rules of the logic for one operation in those words.
-/
module

public import Idealize.ShloMosaic.Lib.WholeRead
public import Idealize.ShloMosaic.Lib.WritesUnit
public import Idealize.ShloMosaic.Lib.Tactic
public import Idealize.ShloMosaic.Lib.Pointwise.Index
public import Idealize.ShloMosaic.Lib.Pipeline.Kit

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Arrays of `n` rows and 128 columns. -/
abbrev Rows (n : ℕ) (α : Type) : Type := (⟨2, ![n, 128]⟩ : Shape).Idx → α

variable {α : Type}

/-- The `n` rows of `X` from row `o` on. -/
def getRows (n o : ℕ) (X : Rows 8192 α) : Rows n α :=
  fun x => X (ix2 (Fin.ofNat 8192 (o + (x 0).val)) (x 1))

/-- `X` with the `n` rows from row `o` on replaced by `w`. -/
def putRows (n o : ℕ) (w : Rows n α) (X : Rows 8192 α) : Rows 8192 α :=
  fun y => if h : o ≤ (y 0).val ∧ (y 0).val < o + n then w (ix2 ⟨(y 0).val - o, by omega⟩ (y 1)) else X y

section Memory

variable {sig : RefSig} {Val : EltTy → Type} {κ : Kind} {sp : Space} {e : EltTy}

/-- A load of whole rows reads them. -/
theorem readAt_rows {m : Memref sig κ sp ⟨2, ![8192, 128]⟩ e} (h : m.IsWhole) (X : Rows 8192 (Val e))
    {n o : ℕ} {off : Fin 2 → ℕ} (hoff : off = ![o, 0])
    (inb : ∀ a : Fin 2, off a + (![n, 128] : Fin 2 → ℕ) a ≤ (![8192, 128] : Fin 2 → ℕ) a) :
    m.view.readAt Val (Rect.unit (s := ⟨2, ![8192, 128]⟩) off ![n, 128] inb).toLoadRect (h.unread X) = getRows n o X := by
  subst hoff
  funext x
  rw [h.readAt_unread]
  refine congrArg X ?_
  have h0 : o + n ≤ 8192 := inb 0
  have hx : (x 0).val < n := (x 0).isLt
  rw [eq_ix2 (LoadRect.idx _ x)]
  congr 1
  · apply Fin.ext
    show o + 1 * (x 0).val = (o + (x 0).val) % 8192
    rw [Nat.mod_eq_of_lt (by omega)]; omega
  · apply Fin.ext
    show 0 + 1 * (x 1).val = (x 1).val
    omega

/-- A load of the whole of a buffer of `n` rows reads it. -/
theorem readAt_all {n : ℕ} {m : Memref sig κ sp ⟨2, ![n, 128]⟩ e} (h : m.IsWhole) (X : Rows n (Val e))
    (inb : ∀ a : Fin 2, (![0, 0] : Fin 2 → ℕ) a + (![n, 128] : Fin 2 → ℕ) a ≤ (![n, 128] : Fin 2 → ℕ) a) :
    m.view.readAt Val (Rect.unit (s := ⟨2, ![n, 128]⟩) ![0, 0] ![n, 128] inb).toLoadRect (h.unread X) = X := by
  funext x
  rw [h.readAt_unread]
  refine congrArg X ?_
  rw [eq_ix2 (LoadRect.idx _ x), eq_ix2 x]
  congr 1
  · apply Fin.ext; show 0 + 1 * (x 0).val = (x 0).val; omega
  · apply Fin.ext; show 0 + 1 * (x 1).val = (x 1).val; omega

/-- A store into whole rows replaces them. -/
theorem write_rows {m : Memref sig κ sp ⟨2, ![8192, 128]⟩ e} (h : m.IsWhole) (X : Rows 8192 (Val e))
    {n o : ℕ} {off : Fin 2 → ℕ} (hoff : off = ![o, 0])
    (inb : ∀ a : Fin 2, off a + (![n, 128] : Fin 2 → ℕ) a ≤ (![8192, 128] : Fin 2 → ℕ) a) (w : Rows n (Val e)) :
    (m.access (Rect.unit (s := ⟨2, ![8192, 128]⟩) off ![n, 128] inb)).write Val (h.unread X) w Finset.univ
      = h.unread (putRows n o w X) := by
  apply h.read_bijective.1
  rw [h.read_unread]
  funext y
  have := View.read_writes_cons_rows m.view (h.unread X) inb w [] y hoff (W := n) rfl rfl
  refine Eq.trans this ?_
  unfold putRows
  by_cases hy : o ≤ (y 0).val ∧ (y 0).val < o + n
  · rw [dif_pos hy, dif_pos hy]
    refine congrArg w ?_
    funext a
    match a with
    | ⟨0, _⟩ => apply Fin.ext; rw [Rect.unitLocal_val]; rfl
    | ⟨1, _⟩ => apply Fin.ext; rw [Rect.unitLocal_val]; rfl
  · rw [dif_neg hy, dif_neg hy]
    exact congrFun (h.read_unread X) y

/-- A store into the whole of a buffer of `n` rows leaves what was stored. -/
theorem write_all {n : ℕ} {m : Memref sig κ sp ⟨2, ![n, 128]⟩ e} (h : m.IsWhole) (f : m.view.ty.Contents Val)
    (inb : ∀ a : Fin 2, (![0, 0] : Fin 2 → ℕ) a + (![n, 128] : Fin 2 → ℕ) a ≤ (![n, 128] : Fin 2 → ℕ) a) (w : Rows n (Val e)) :
    (m.access (Rect.unit (s := ⟨2, ![n, 128]⟩) ![0, 0] ![n, 128] inb)).write Val f w Finset.univ = h.unread w := by
  apply h.read_bijective.1
  rw [h.read_unread]
  funext y
  have hy : 0 ≤ (y 0).val ∧ (y 0).val < 0 + n := ⟨Nat.zero_le _, by have := (y 0).isLt; simpa using this⟩
  have := View.read_writes_cons_rows m.view f inb w [] y (o := 0) rfl (W := n) rfl rfl
  refine Eq.trans this ?_
  rw [dif_pos hy]
  refine congrArg w ?_
  funext a
  match a with
  | ⟨0, _⟩ => apply Fin.ext; rw [Rect.unitLocal_val]; rfl
  | ⟨1, _⟩ => apply Fin.ext; rw [Rect.unitLocal_val]; rfl

end Memory

section Rules

variable {nD : Nat} {τ : Topo} {sig : RefSig} {Ix : Type} [DecidableEq Ix]
variable {Val : EltTy → Type} {Name : Type} [DecidableEq Name] {U : Type} [URA U] {Lvl : Type} {Λ : Labels} [Preorder Lvl]
variable {defs : Defs nD τ sig Val Λ} (𝒱 : Variants) (c : Thread nD τ) (bd : Option 𝒱.V) {Γ : PendingWaitsCtx sig Ix} (E : Set Name)
variable {β : Type} {e : EltTy}

local notation "𝕄" => MT nD τ sig Ix Val Name U Lvl

/-- Loading whole rows, the buffer held at the contents that read `X`: the program goes on at the rows of `X`. -/
theorem wp_load_rows {Q : β → sProp 𝕄} {cs : CoreSpace} {m : Memref sig c.2.kind cs ⟨2, ![8192, 128]⟩ e} (h : m.IsWhole)
    (X : Rows 8192 (Val e)) {n o : ℕ} {off : Fin 2 → ℕ} (hoff : off = ![o, 0])
    {inb : ∀ a : Fin 2, off a + (![n, 128] : Fin 2 → ℕ) a ≤ (![8192, 128] : Fin 2 → ℕ) a}
    {hl : m.view.LoadsAt (Rect.unit (s := ⟨2, ![8192, 128]⟩) off ![n, 128] inb).toLoadRect}
    {k : Rows n (Val e) → Prog (TpuEff nD τ sig Val Λ c.2) β} :
    (m.view.loc c ↦{fullShare} (h.unread X))
      ⊢ iprop(((m.view.loc c ↦{fullShare} (h.unread X)) -∗ wp frame (wpE' defs 𝒱 c bd Γ) E (k (getRows n o X)) Q)
        -∗ wp frame (wpE' defs 𝒱 c bd Γ) E (.op (.load m (Rect.unit (s := ⟨2, ![8192, 128]⟩) off ![n, 128] inb).toLoadRect hl) k) Q) := by
  have := wp_load (defs := defs) 𝒱 c bd (Γ := Γ) E (Q := Q) (hl := hl) (k := k) (q := fullShare) (f := h.unread X) (S := Finset.univ) (Finset.subset_univ _)
  rw [readAt_rows h X hoff inb] at this
  exact this

/-- Loading the whole of a buffer of `n` rows held at the contents that read `X`: the program goes on at `X`. -/
theorem wp_load_all {Q : β → sProp 𝕄} {cs : CoreSpace} {n : ℕ} {m : Memref sig c.2.kind cs ⟨2, ![n, 128]⟩ e} (h : m.IsWhole)
    (X : Rows n (Val e))
    {inb : ∀ a : Fin 2, (![0, 0] : Fin 2 → ℕ) a + (![n, 128] : Fin 2 → ℕ) a ≤ (![n, 128] : Fin 2 → ℕ) a}
    {hl : m.view.LoadsAt (Rect.unit (s := ⟨2, ![n, 128]⟩) ![0, 0] ![n, 128] inb).toLoadRect}
    {k : Rows n (Val e) → Prog (TpuEff nD τ sig Val Λ c.2) β} :
    (m.view.loc c ↦{fullShare} (h.unread X))
      ⊢ iprop(((m.view.loc c ↦{fullShare} (h.unread X)) -∗ wp frame (wpE' defs 𝒱 c bd Γ) E (k X) Q)
        -∗ wp frame (wpE' defs 𝒱 c bd Γ) E (.op (.load m (Rect.unit (s := ⟨2, ![n, 128]⟩) ![0, 0] ![n, 128] inb).toLoadRect hl) k) Q) := by
  have := wp_load (defs := defs) 𝒱 c bd (Γ := Γ) E (Q := Q) (hl := hl) (k := k) (q := fullShare) (f := h.unread X) (S := Finset.univ) (Finset.subset_univ _)
  rw [readAt_all h X inb] at this
  exact this

/-- Storing whole rows: the buffer then holds the contents with those rows replaced. -/
theorem wp_store_rows {Q : β → sProp 𝕄} {cs : CoreSpace} {m : Memref sig c.2.kind cs ⟨2, ![8192, 128]⟩ e} (h : m.IsWhole)
    (X : Rows 8192 (Val e)) {n o : ℕ} {off : Fin 2 → ℕ} (hoff : off = ![o, 0])
    {inb : ∀ a : Fin 2, off a + (![n, 128] : Fin 2 → ℕ) a ≤ (![8192, 128] : Fin 2 → ℕ) a} {w : Rows n (Val e)}
    {hx : (m.access (Rect.unit (s := ⟨2, ![8192, 128]⟩) off ![n, 128] inb)).Stores Finset.univ}
    {hm : Finset.univ = Finset.univ ∨ ∀ a, (Rect.unit (s := ⟨2, ![8192, 128]⟩) off ![n, 128] inb).stride a = 1}
    {k : PUnit → Prog (TpuEff nD τ sig Val Λ c.2) β} :
    (m.view.loc c ↦{fullShare} (h.unread X))
      ⊢ iprop(((m.view.loc c ↦{fullShare} (h.unread (putRows n o w X))) -∗ wp frame (wpE' defs 𝒱 c bd Γ) E (k ⟨⟩) Q)
        -∗ wp frame (wpE' defs 𝒱 c bd Γ) E
            (.op (.store m (Rect.unit (s := ⟨2, ![8192, 128]⟩) off ![n, 128] inb) w Finset.univ hx hm) k) Q) := by
  have := wp_store (defs := defs) 𝒱 c bd (Γ := Γ) E (Q := Q) (w := w) (hx := hx) (hm := hm) (k := k) (f := h.unread X) (S := Finset.univ) (Finset.subset_univ _)
  have e : ((m.access (Rect.unit (s := ⟨2, ![8192, 128]⟩) off ![n, 128] inb)).write Val (h.unread X) w Finset.univ :
      Buf Val ((m.access (Rect.unit (s := ⟨2, ![8192, 128]⟩) off ![n, 128] inb)).loc c)) = h.unread (putRows n o w X) :=
    write_rows h X hoff inb w
  rw [e] at this
  exact this

/-- Storing the whole of a buffer of `n` rows: the buffer then holds what was stored, whatever it held. -/
theorem wp_store_all {Q : β → sProp 𝕄} {cs : CoreSpace} {n : ℕ} {m : Memref sig c.2.kind cs ⟨2, ![n, 128]⟩ e} (h : m.IsWhole)
    (f : m.view.ty.Contents Val)
    {inb : ∀ a : Fin 2, (![0, 0] : Fin 2 → ℕ) a + (![n, 128] : Fin 2 → ℕ) a ≤ (![n, 128] : Fin 2 → ℕ) a} {w : Rows n (Val e)}
    {hx : (m.access (Rect.unit (s := ⟨2, ![n, 128]⟩) ![0, 0] ![n, 128] inb)).Stores Finset.univ}
    {hm : Finset.univ = Finset.univ ∨ ∀ a, (Rect.unit (s := ⟨2, ![n, 128]⟩) ![0, 0] ![n, 128] inb).stride a = 1}
    {k : PUnit → Prog (TpuEff nD τ sig Val Λ c.2) β} :
    (m.view.loc c ↦{fullShare} f)
      ⊢ iprop(((m.view.loc c ↦{fullShare} (h.unread w)) -∗ wp frame (wpE' defs 𝒱 c bd Γ) E (k ⟨⟩) Q)
        -∗ wp frame (wpE' defs 𝒱 c bd Γ) E
            (.op (.store m (Rect.unit (s := ⟨2, ![n, 128]⟩) ![0, 0] ![n, 128] inb) w Finset.univ hx hm) k) Q) := by
  have := wp_store (defs := defs) 𝒱 c bd (Γ := Γ) E (Q := Q) (w := w) (hx := hx) (hm := hm) (k := k) (f := f) (S := Finset.univ) (Finset.subset_univ _)
  have e : ((m.access (Rect.unit (s := ⟨2, ![n, 128]⟩) ![0, 0] ![n, 128] inb)).write Val f w Finset.univ :
      Buf Val ((m.access (Rect.unit (s := ⟨2, ![n, 128]⟩) ![0, 0] ![n, 128] inb)).loc c)) = h.unread w := write_all h f inb w
  rw [e] at this
  exact this

end Rules

end Cert.Proof

end
-- ==== Proof.K.Offsets.lean ====
/-
  The words the kernel computes, in closed form: the rows each load and store starts at, the trips of the two counted loops,
  and the two conditions, over the grid point `i` — its key block is `j = i 1`.
-/
module

public import proofs.«01_k».proof.Proof.Gen.Kernel.Loops
public import proofs.«01_k».proof.Proof.Rows

@[expose] public section

namespace Cert.Proof.Kernel

open Cert.Kernel Cert.Kernel.Gen Idealize.ShloMosaic

/-- The main loop makes one trip for every two full blocks of queries above the key block. -/
theorem t1_trips : ∀ i : grid0.Coords, (k0_t1_loop i).trips = (7 - (i 1).val) / 2 := by decide +kernel

/-- The loop after it makes none. -/
theorem t2_trips : ∀ i : grid0.Coords, (k0_t2_loop i).trips = 0 := by decide +kernel

/-- The first block of a pair starts here. -/
theorem off4_eq : ∀ (i : grid0.Coords) (t : Fin (k0_t1_loop i).trips),
    k0_off4 i t = ![1024 * (2 * ((i 1).val / 2) + 2 + 2 * t.val), 0] := by decide +kernel

/-- The second block of a pair starts here. -/
theorem off5_eq : ∀ (i : grid0.Coords) (t : Fin (k0_t1_loop i).trips),
    k0_off5 i t = ![1024 * (2 * ((i 1).val / 2) + 3 + 2 * t.val), 0] := by decide +kernel

/-- The queries' gradient is reset at the first key block. -/
theorem cond1_eq : ∀ i : grid0.Coords,
    (Scalar.cmpi .ne ((Scalar.extui (Scalar.cmpi .eq (BitVec.ofNat 32 (i 1).val) 0#32) : BitVec 32)) 0#32 = 1#1) ↔ (i 1).val = 0 := by
  decide +kernel

/-- The queries' gradient is scaled at the last key block. -/
theorem cond3_eq : ∀ i : grid0.Coords,
    (Scalar.cmpi .ne ((Scalar.extui (Scalar.cmpi .eq (BitVec.ofNat 32 (i 1).val) 7#32) : BitVec 32)) 0#32 = 1#1) ↔ (i 1).val = 7 := by
  decide +kernel

/-- The single block is taken when the number of full blocks above the key block is odd. -/
theorem cond2_eq : ∀ i : grid0.Coords, (k0_cond2 i = 1#1) ↔ (i 1).val % 2 = 0 := by decide +kernel

end Cert.Proof.Kernel
-- ==== Proof.Args.lean ====
/-
  The five arguments of the programs on one device, over the reals extended by the two infinities.
-/
module

public import Idealize.ShloMosaic.PureOps
public import Idealize.ShloMosaic.Lib.Pointwise

@[expose] public section

noncomputable section

namespace Cert.Proof

open Idealize.ShloMosaic

/-- The queries, the keys, the values, the sums of the log gates, and the cotangent of the result. -/
structure Args where
  fq : (⟨2, ![8192, 512]⟩ : Shape).Idx → EReal
  fk : (⟨2, ![8192, 512]⟩ : Shape).Idx → EReal
  fv : (⟨2, ![8192, 512]⟩ : Shape).Idx → EReal
  fcum : (⟨2, ![8192, 8]⟩ : Shape).Idx → EReal
  ct : (⟨2, ![8192, 512]⟩ : Shape).Idx → EReal

end Cert.Proof
-- ==== Proof.Model.lean ====
/-
  The gradients of one head of the attention over the real numbers: the scores, their softmax, the gradients with
  respect to the queries, the keys, the values and the gates, and the identities that join the two ways to compute them.
-/
module

public import proofs.«01_k».proof.Proof.Args
public import Mathlib.Analysis.SpecialFunctions.Pow.Real

@[expose] public section

noncomputable section

namespace Cert.Proof

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

variable (A : Args) (h : Fin 8) (t κ : Fin 8192)

/-- Lane `d` of head `h`, as a column of the 512. -/
def col (h : Fin 8) (d : Fin 64) : Fin 512 := ⟨h.val * 64 + d.val, by omega⟩

/-- The queries, the keys, the values, the cotangent and the gates as real numbers. -/
def qR (d : Fin 64) : ℝ := (A.fq (ix2 t (col h d))).toReal
def kR (d : Fin 64) : ℝ := (A.fk (ix2 t (col h d))).toReal
def vR (d : Fin 64) : ℝ := (A.fv (ix2 t (col h d))).toReal
def gR (d : Fin 64) : ℝ := (A.ct (ix2 t (col h d))).toReal
def fR : ℝ := (A.fcum (ix2 t h)).toReal

/-- Every element of the arguments is a real number. -/
structure Args.Finite : Prop where
  fq : ∀ i, A.fq i ≠ ⊤ ∧ A.fq i ≠ ⊥
  fk : ∀ i, A.fk i ≠ ⊤ ∧ A.fk i ≠ ⊥
  fv : ∀ i, A.fv i ≠ ⊤ ∧ A.fv i ≠ ⊥
  fcum : ∀ i, A.fcum i ≠ ⊤ ∧ A.fcum i ≠ ⊥
  ct : ∀ i, A.ct i ≠ ⊤ ∧ A.ct i ≠ ⊥

variable {A} in
theorem Args.Finite.q_at (H : A.Finite) (d : Fin 64) : A.fq (ix2 t (col h d)) = (qR A h t d : EReal) :=
  (EReal.coe_toReal (H.fq _).1 (H.fq _).2).symm
variable {A} in
theorem Args.Finite.k_at (H : A.Finite) (d : Fin 64) : A.fk (ix2 t (col h d)) = (kR A h t d : EReal) :=
  (EReal.coe_toReal (H.fk _).1 (H.fk _).2).symm
variable {A} in
theorem Args.Finite.v_at (H : A.Finite) (d : Fin 64) : A.fv (ix2 t (col h d)) = (vR A h t d : EReal) :=
  (EReal.coe_toReal (H.fv _).1 (H.fv _).2).symm
variable {A} in
theorem Args.Finite.g_at (H : A.Finite) (d : Fin 64) : A.ct (ix2 t (col h d)) = (gR A h t d : EReal) :=
  (EReal.coe_toReal (H.ct _).1 (H.ct _).2).symm
variable {A} in
theorem Args.Finite.f_at (H : A.Finite) : A.fcum (ix2 t h) = (fR A h t : EReal) :=
  (EReal.coe_toReal (H.fcum _).1 (H.fcum _).2).symm

/-- The score of query `t` and key `κ`. -/
def sc : ℝ := (∑ d, qR A h t d * kR A h κ d) * (1 / 8) + fR A h t - fR A h κ

/-- The score under the causal mask. -/
def msc : EReal := if κ.val ≤ t.val then (sc A h t κ : EReal) else ⊥

/-- The greatest score of query `t`. -/
def mxE : EReal := Finset.univ.fold max ⊥ fun κ => msc A h t κ
def mx : ℝ := (mxE A h t).toReal

theorem mxE_eq : mxE A h t = (mx A h t : EReal) := by
  refine (EReal.coe_toReal (ne_of_lt ?_) (ne_of_gt ?_)).symm
  · refine (Finset.fold_max_lt _).2 ⟨bot_lt_top, fun κ _ => ?_⟩
    unfold msc
    split
    · exact EReal.coe_lt_top _
    · exact bot_lt_top
  · refine (Finset.lt_fold_max _).2 (Or.inr ⟨t, Finset.mem_univ _, ?_⟩)
    unfold msc
    rw [if_pos (le_refl _)]
    exact EReal.bot_lt_coe _

/-- The weight of a pair, the sum of a query's weights, and the softmax. -/
def w : ℝ := if κ.val ≤ t.val then Real.exp (sc A h t κ - mx A h t) else 0
def Z : ℝ := ∑ κ, w A h t κ
def pr : ℝ := w A h t κ / Z A h t

theorem w_nonneg : 0 ≤ w A h t κ := by
  unfold w
  split
  · exact (Real.exp_pos _).le
  · exact le_refl _

theorem Z_pos : 0 < Z A h t := by
  refine Finset.sum_pos' (fun κ _ => w_nonneg A h t κ) ⟨t, Finset.mem_univ _, ?_⟩
  unfold w
  rw [if_pos (le_refl _)]
  exact Real.exp_pos _

/-- The gradient of a probability, the sum `δ` of the cotangent times the result, and the gradient of a score. -/
def dP : ℝ := ∑ d, gR A h t d * vR A h κ d
def de : ℝ := ∑ d, gR A h t d * ∑ κ, pr A h t κ * vR A h κ d
def ds : ℝ := pr A h t κ * (dP A h t κ - de A h t)

theorem de_eq : de A h t = ∑ κ, pr A h t κ * dP A h t κ := by
  unfold de dP
  simp only [Finset.mul_sum]
  rw [Finset.sum_comm]
  refine Finset.sum_congr rfl fun κ _ => Finset.sum_congr rfl fun d _ => ?_
  ring

/-- The gradient of a score as differentiating the quotient gives it. -/
theorem ds_quot : (if κ.val ≤ t.val then (dP A h t κ / Z A h t
      + -(∑ κ', dP A h t κ' * (1 / (Z A h t * Z A h t)) * w A h t κ')) * w A h t κ else 0) = ds A h t κ := by
  have hz := (Z_pos A h t).ne'
  have hs : (∑ κ', dP A h t κ' * (1 / (Z A h t * Z A h t)) * w A h t κ') = de A h t / Z A h t := by
    rw [de_eq, Finset.sum_div]
    refine Finset.sum_congr rfl fun κ _ => ?_
    unfold pr
    field_simp
  rw [hs]
  unfold ds pr
  split
  · field_simp
    ring
  · next hk => simp [w, hk]

/-- The gradients with respect to the queries, the keys, the values and the gates. -/
def dqR (d : Fin 64) : ℝ := ∑ κ, (ds A h t κ * (1 / 8)) * kR A h κ d
def dkR (d : Fin 64) : ℝ := ∑ y, (ds A h y κ * (1 / 8)) * qR A h y d
def dvR (d : Fin 64) : ℝ := ∑ y, gR A h y d * pr A h y κ
def dfR : ℝ := ∑ y, -(ds A h y κ) + ∑ κ', ds A h κ κ'

/-! ## The kernel's lanes -/

/-- The logarithm of the sum of the exponentials of a query's scores. -/
def lse : ℝ := mx A h t + Real.log (Z A h t)

/-- The lanes of a query: the query, eight times the gate, less eight times the logarithm, and ones. -/
def qL (l : Fin 128) : ℝ :=
  if hl : l.val < 64 then qR A h t ⟨l.val, hl⟩
  else if l.val = 64 then fR A h t * 8
  else if l.val = 67 then -(lse A h t * 8)
  else if 70 ≤ l.val ∧ l.val ≤ 72 then 1 else 0

/-- The lanes of a key: the key, ones, and less eight times the gate. -/
def kL (l : Fin 128) : ℝ :=
  if hl : l.val < 64 then kR A h t ⟨l.val, hl⟩
  else if l.val < 70 then 1
  else if l.val = 70 then -(fR A h t * 8) else 0

/-- The lanes of a value: the value and ones. -/
def vL (l : Fin 128) : ℝ :=
  if hl : l.val < 64 then vR A h t ⟨l.val, hl⟩
  else if l.val < 67 then 1 else 0

/-- The lanes of a cotangent: the cotangent and less `δ`. -/
def gL (l : Fin 128) : ℝ :=
  if hl : l.val < 64 then gR A h t ⟨l.val, hl⟩
  else if l.val = 64 then -(de A h t) else 0

theorem sum_lanes (f : Fin 128 → ℝ) : ∑ l, f l = ∑ d : Fin 64, f ⟨d.val, by omega⟩ + ∑ d : Fin 64, f ⟨64 + d.val, by omega⟩ :=
  Fin.sum_univ_two_halves 64 64 rfl f

theorem lanes_score : ∑ l, kL A h κ l * qL A h t l = 8 * (sc A h t κ - lse A h t) := by
  rw [sum_lanes]
  have h2 : ∀ d : Fin 64, kL A h κ ⟨64 + d.val, by omega⟩ * qL A h t ⟨64 + d.val, by omega⟩ =
      (if d = 0 then fR A h t * 8 else 0) + (if d = 3 then -(lse A h t * 8) else 0)
        + (if d = 6 then -(fR A h κ * 8) else 0) := by
    intro d
    fin_cases d <;> simp [kL, qL]
  have h1 : ∀ d : Fin 64, kL A h κ ⟨d.val, by omega⟩ * qL A h t ⟨d.val, by omega⟩ = qR A h t d * kR A h κ d := by
    intro d
    simp only [kL, qL, d.isLt, dif_pos]
    exact mul_comm _ _
  simp only [h1, h2, Finset.sum_add_distrib, Finset.sum_ite_eq', Finset.mem_univ, if_true]
  unfold sc
  ring

theorem lanes_dP : ∑ l, vL A h κ l * gL A h t l = dP A h t κ - de A h t := by
  rw [sum_lanes]
  have h2 : ∀ d : Fin 64, vL A h κ ⟨64 + d.val, by omega⟩ * gL A h t ⟨64 + d.val, by omega⟩ =
      (if d = 0 then -(de A h t) else 0) := by
    intro d
    fin_cases d <;> simp [vL, gL]
  have h1 : ∀ d : Fin 64, vL A h κ ⟨d.val, by omega⟩ * gL A h t ⟨d.val, by omega⟩ = gR A h t d * vR A h κ d := by
    intro d
    simp only [vL, gL, d.isLt, dif_pos]
    exact mul_comm _ _
  simp only [h1, h2, Finset.sum_ite_eq', Finset.mem_univ, if_true]
  unfold dP
  ring

/-- Two to the scaled product of the lanes is the softmax where the mask lets the pair through. -/
theorem two_pow_score (hk : κ.val ≤ t.val) :
    Real.rpow 2 ((8 * (sc A h t κ - lse A h t)) * ((1 / 8) * (Real.log 2)⁻¹)) = pr A h t κ := by
  have h2 : Real.log 2 ≠ 0 := (Real.log_pos (by norm_num)).ne'
  have e : Real.log 2 * ((8 * (sc A h t κ - lse A h t)) * ((1 / 8) * (Real.log 2)⁻¹))
      = (sc A h t κ - mx A h t) - Real.log (Z A h t) := by
    unfold lse
    field_simp
    ring
  refine (Real.rpow_def_of_pos (by norm_num) _).trans ?_
  rw [e, Real.exp_sub, Real.exp_log (Z_pos A h t)]
  unfold pr w
  rw [if_pos hk]

theorem pr_masked (hk : ¬ κ.val ≤ t.val) : pr A h t κ = 0 := by
  unfold pr w
  rw [if_neg hk, zero_div]

end Cert.Proof
-- ==== Proof.Outs.lean ====
/-
  The four results as arrays: the gradients of Model.lean, the heads side by side.
-/
module

public import proofs.«01_k».proof.Proof.Model

@[expose] public section

noncomputable section

namespace Cert.Proof

open Idealize.ShloMosaic

/-- The head and the lane of one of the 512 columns. -/
def headOf (l : Fin 512) : Fin 8 := ⟨l.val / 64, by omega⟩
def laneOf (l : Fin 512) : Fin 64 := ⟨l.val % 64, by omega⟩

variable (A : Args)

/-- The gradients of the queries, the keys, the values and the gates. -/
def outQ : (⟨2, ![8192, 512]⟩ : Shape).Idx → EReal := fun i => (dqR A (headOf (i 1)) (i 0) (laneOf (i 1)) : EReal)
def outK : (⟨2, ![8192, 512]⟩ : Shape).Idx → EReal := fun i => (dkR A (headOf (i 1)) (i 0) (laneOf (i 1)) : EReal)
def outV : (⟨2, ![8192, 512]⟩ : Shape).Idx → EReal := fun i => (dvR A (headOf (i 1)) (i 0) (laneOf (i 1)) : EReal)
def outF : (⟨2, ![8192, 8]⟩ : Shape).Idx → EReal := fun i => (dfR A (i 1) (i 0) : EReal)

end Cert.Proof
-- ==== Proof.KI.Spec.lean ====
/-
  What one grid point of the kernel computes, as functions of arrays: the payloads of the program put together, no memory.
-/
module

public import proofs.«01_k».proof.Proof.Gen.KernelIdeal.Skeleton
public import proofs.«01_k».proof.Proof.Rows

@[expose] public section

noncomputable section

namespace Cert.Proof.KernelIdeal

open Cert.Proof Cert.KernelIdeal Cert.KernelIdeal.Gen Idealize.ShloMosaic

variable {F : FTy → Type} [FloatOps F] [Named F]

/-- What a point carries: the key block's two gradients and the gradient of every query. -/
abbrev Acc (F : FTy → Type) : Type := (FVec F S1024x128 .f32 × FVec F S1024x128 .f32) × Rows 8192 (F .f32)

/-- One full block of 1024 queries from row `o` on, against the key block `v1`, `v3`. -/
def fullStep (v1 v3 : FVec F S1024x128 .bf16) (Q D : Rows 8192 (F .bf16)) (o : ℕ) (s : Acc F) : Acc F :=
  ((k0_pay7 v1 v3 s.1.1 (getRows 1024 o Q) (getRows 1024 o D), k0_pay8 v1 s.1.2 (getRows 1024 o Q) (getRows 1024 o D)),
    putRows 1024 o (k0_pay6 v1 v3 (getRows 1024 o Q) (getRows 1024 o D) (getRows 1024 o s.2)) s.2)

/-- The upper half of the diagonal block: queries `[1024 j + 512, 1024 j + 1024)`, the gradient of the queries only. -/
def diagUpper (kb vb : Rows 1024 (F .bf16)) (Q D : Rows 8192 (F .bf16)) (j : ℕ) (G : Rows 8192 (F .f32)) : Rows 8192 (F .f32) :=
  putRows 512 (1024 * j + 512)
    (k0_pay35 (k0_pay24 kb) (k0_pay33 kb vb (getRows 512 (1024 * j + 512) Q) (getRows 512 (1024 * j + 512) D))
      (getRows 512 (1024 * j + 512) G)) G

/-- Both halves of the diagonal block: the gradient of the queries. -/
def diagBoth (kb vb : Rows 1024 (F .bf16)) (Q D : Rows 8192 (F .bf16)) (j : ℕ) (G : Rows 8192 (F .f32)) : Rows 8192 (F .f32) :=
  putRows 512 (1024 * j)
    (k0_pay44 (k0_pay24 kb) (k0_pay25 vb) (getRows 512 (1024 * j) Q) (getRows 512 (1024 * j) D)
      (getRows 512 (1024 * j) (diagUpper kb vb Q D j G))) (diagUpper kb vb Q D j G)

/-- The key block's gradients after both halves of the diagonal block. -/
def diagKV (kb vb : Rows 1024 (F .bf16)) (Q D : Rows 8192 (F .bf16)) (j : ℕ) : FVec F S1024x128 .f32 × FVec F S1024x128 .f32 :=
  let q₁ := getRows 512 (1024 * j + 512) Q
  let d₁ := getRows 512 (1024 * j + 512) D
  let q₂ := getRows 512 (1024 * j) Q
  let d₂ := getRows 512 (1024 * j) D
  (k0_pay46 (k0_pay36 (k0_pay27 (F := F)) (k0_pay34 kb vb q₁ d₁))
      (k0_pay45 (k0_pay24 kb) (k0_pay25 vb) (k0_pay27 (F := F)) (k0_pay34 kb vb q₁ d₁) q₂ d₂),
    k0_pay47 (k0_pay37 (k0_pay28 (F := F)) (k0_pay32 kb q₁ d₁)) (k0_pay42 (k0_pay24 kb) q₂ d₂))

/-- The diagonal block. -/
def diagStep (kb vb : Rows 1024 (F .bf16)) (Q D : Rows 8192 (F .bf16)) (j : ℕ) (G : Rows 8192 (F .f32)) : Acc F :=
  (diagKV kb vb Q D j, diagBoth kb vb Q D j G)

/-- The single full block, taken when the number of full blocks above the key block is odd. -/
def oddStep (v1 v3 : FVec F S1024x128 .bf16) (Q D : Rows 8192 (F .bf16)) (j : ℕ) (s : Acc F) : Acc F :=
  if j % 2 = 0 then fullStep v1 v3 Q D (1024 * j + 1024) s else s

/-- One trip of the main loop: two full blocks. -/
def pairStep (v1 v3 : FVec F S1024x128 .bf16) (Q D : Rows 8192 (F .bf16)) (j t : ℕ) (s : Acc F) : Acc F :=
  fullStep v1 v3 Q D (1024 * (2 * (j / 2) + 3 + 2 * t)) (fullStep v1 v3 Q D (1024 * (2 * (j / 2) + 2 + 2 * t)) s)

/-- The first `t` trips of the main loop. -/
def pairs (v1 v3 : FVec F S1024x128 .bf16) (Q D : Rows 8192 (F .bf16)) (j : ℕ) : ℕ → Acc F → Acc F
  | 0, s => s
  | t + 1, s => pairStep v1 v3 Q D j t (pairs v1 v3 Q D j t s)

/-- A whole point, up to the final scalings. -/
def pointAcc (kb vb : Rows 1024 (F .bf16)) (Q D : Rows 8192 (F .bf16)) (j : ℕ) (G : Rows 8192 (F .f32)) : Acc F :=
  pairs (k0_pay24 kb) (k0_pay25 vb) Q D j ((7 - j) / 2)
    (oddStep (k0_pay24 kb) (k0_pay25 vb) Q D j (diagStep kb vb Q D j G))

/-- The queries' gradient as the point finds it: zero at the first key block. -/
def dqStart (j : ℕ) (G : Rows 8192 (F .f32)) : Rows 8192 (F .f32) := if j = 0 then k0_pay26 (F := F) else G

/-- The key gradient a point leaves. -/
def dkOut (kb vb : Rows 1024 (F .bf16)) (Q D : Rows 8192 (F .bf16)) (j : ℕ) : Rows 1024 (F .f32) :=
  k0_pay65 (pointAcc kb vb Q D j (k0_pay26 (F := F))).1.1

/-- The value gradient a point leaves. -/
def dvOut (kb vb : Rows 1024 (F .bf16)) (Q D : Rows 8192 (F .bf16)) (j : ℕ) : Rows 1024 (F .bf16) :=
  k0_pay66 (pointAcc kb vb Q D j (k0_pay26 (F := F))).1.2

/-- The queries' gradient a point leaves: scaled at the last key block. -/
def dqOut (kb vb : Rows 1024 (F .bf16)) (Q D : Rows 8192 (F .bf16)) (j : ℕ) (G : Rows 8192 (F .f32)) : Rows 8192 (F .f32) :=
  if j = 7 then k0_pay1 (pointAcc kb vb Q D j (dqStart j G)).2 else (pointAcc kb vb Q D j (dqStart j G)).2

/-- The pairs of two key gradients do not depend on the queries' gradient. -/
theorem fullStep_fst (v1 v3 : FVec F S1024x128 .bf16) (Q D : Rows 8192 (F .bf16)) (o : ℕ) (s s' : Acc F) (h : s.1 = s'.1) :
    (fullStep v1 v3 Q D o s).1 = (fullStep v1 v3 Q D o s').1 := by
  unfold fullStep; rw [h]

theorem pairs_fst (v1 v3 : FVec F S1024x128 .bf16) (Q D : Rows 8192 (F .bf16)) (j t : ℕ) (s s' : Acc F) (h : s.1 = s'.1) :
    (pairs v1 v3 Q D j t s).1 = (pairs v1 v3 Q D j t s').1 := by
  induction t with
  | zero => exact h
  | succ t ih => exact fullStep_fst _ _ _ _ _ _ _ (fullStep_fst _ _ _ _ _ _ _ ih)

/-- A point's key gradients do not depend on the queries' gradient it starts from. -/
theorem pointAcc_fst (kb vb : Rows 1024 (F .bf16)) (Q D : Rows 8192 (F .bf16)) (j : ℕ) (G G' : Rows 8192 (F .f32)) :
    (pointAcc kb vb Q D j G).1 = (pointAcc kb vb Q D j G').1 := by
  refine pairs_fst _ _ _ _ _ _ _ _ ?_
  unfold oddStep
  split
  · exact fullStep_fst _ _ _ _ _ _ _ rfl
  · rfl

end Cert.Proof.KernelIdeal

end
-- ==== Proof.Scalars.lean ====
/-
  The literals of the programs as real numbers, and the scalar operations at real numbers.
-/
module

public import proofs.«01_k».proof.Proof.Model
public import Idealize.ShloMosaic.Lib.Pointwise
public import Idealize.ShloMosaic.Lib.WordCmp
public import Idealize.ShloMosaic.Lib.IdealHost

@[expose] public section

noncomputable section

namespace Cert.Proof

open Idealize.ShloMosaic

theorem ofBits_eighth : Ideal.ofBits .f32 1040187392#32 = ((1 / 8 : ℝ) : EReal) := by
  simp [Ideal.ofBits, Ideal.ieee, -EReal.coe_mul]; norm_num

theorem ofBits_scale : Ideal.ofBits .f32 1037108716#32 = ((3424635 / 33554432 : ℝ) : EReal) := by
  simp [Ideal.ofBits, Ideal.ieee, -EReal.coe_mul]; norm_num

theorem ofBits_eight : Ideal.ofBits .f32 1090519040#32 = ((8 : ℝ) : EReal) := by
  simp [Ideal.ofBits, Ideal.ieee, -EReal.coe_mul]; norm_num

theorem ofBits_bot : Ideal.ofBits .f32 4286578688#32 = ⊥ := by
  simp [Ideal.ofBits, Ideal.ieee]

theorem select_ofBool {α : Type} (p : Prop) [Decidable p] (a b : α) :
    Scalar.select (BitVec.ofBool (decide p)) a b = if p then a else b := by
  unfold Scalar.select
  by_cases h : p <;> simp [h]

theorem mask_select {α : Type} (t κ : Fin 8192) (a b : α) :
    Scalar.select (IntOp.cmpi CmpIPredicate.sle (BitVec.ofNat 32 κ.val) (BitVec.ofNat 32 t.val)) a b
      = if κ.val ≤ t.val then a else b := by
  rw [WordCmp.cmpi_sle_ofNat (by omega) (by omega), select_ofBool]

theorem div_real (x : ℝ) {y : ℝ} (hy : y ≠ 0) : Ideal.div (x : EReal) (y : EReal) = ((x / y : ℝ) : EReal) := by
  rw [Ideal.div_coe hy, ← EReal.coe_mul, mul_one_div]

theorem log_real {x : ℝ} (hx : 0 < x) : Ideal.log (x : EReal) = (Real.log x : EReal) := by
  show (if x ≤ 0 then (⊥ : EReal) else (Real.log x : EReal)) = _
  rw [if_neg (not_le.2 hx)]

theorem exp_real (x : ℝ) : Ideal.exp (x : EReal) = (Real.exp x : EReal) := rfl
theorem exp_bot : Ideal.exp ⊥ = 0 := rfl

/-- The exponential of a masked score less the greatest one. -/
theorem exp_msc (A : Args) (h : Fin 8) (t κ : Fin 8192) :
    Ideal.exp (msc A h t κ - (mx A h t : EReal)) = (w A h t κ : EReal) := by
  unfold msc w
  split
  · rw [← EReal.coe_sub, exp_real]
  · rw [EReal.bot_sub, exp_bot, EReal.coe_zero]

end Cert.Proof
-- ==== Proof.KI.Pay.lean ====
/-
  The payloads of the kernel over the reals, each at an index: sums over lanes, keys and queries.
-/
module

public import proofs.«01_k».proof.Proof.KI.Spec
public import proofs.«01_k».proof.Proof.Scalars
public import Idealize.ShloMosaic.Lib.Pointwise
public import Idealize.ShloMosaic.Lib.WordCmp
public import Idealize.ShloMosaic.Lib.IdealHost

@[expose] public section

set_option maxRecDepth 16384

noncomputable section

namespace Cert.Proof.KernelIdeal

open Cert.Proof Cert.KernelIdeal Cert.KernelIdeal.Gen Idealize.ShloMosaic

/-- Row `r` of an array of 128 columns. -/
def row {n : ℕ} (X : Rows n EReal) (r : Fin n) : Fin 128 → EReal := fun l => X (ix2 r l)

/-- The product of a row of keys and a row of queries. -/
def dt (k q : Fin 128 → EReal) : EReal := ∑ x, k x * q x

/-- The factor in the exponent: an eighth, in the base of two. -/
def cst : EReal := (((1 / 8) * (Real.log 2)⁻¹ : ℝ) : EReal)

/-- The weight of a pair of rows, unmasked. -/
def ee (k q : Fin 128 → EReal) : EReal := Ideal.exp2 (dt k q * cst)

theorem masked_exp2 : Ideal.exp2 (⊥ * cst) = 0 := by
  have h : (0 : ℝ) < (1 / 8) * (Real.log 2)⁻¹ := by
    have := Real.log_pos (by norm_num : (1 : ℝ) < 2)
    positivity
  unfold cst
  rw [EReal.bot_mul_coe_of_pos h]
  rfl

variable (v1 v3 : FVec Ideal S1024x128 .bf16) (a : FVec Ideal S1024x128 .f32) (q d : FVec Ideal S1024x128 .bf16)
  (q' d' : FVec Ideal S512x128 .bf16) (b : FVec Ideal S512x128 .f32)

theorem pay7_at (r : Fin 1024) (l : Fin 128) : k0_pay7 (F := Ideal) v1 v3 a q d (ix2 r l) =
    a (ix2 r l) + ∑ x : Fin 1024, (ee (row v1 r) (row q x) * dt (row v3 r) (row d x)) * q (ix2 x l) := by
  pointwise [k0_pay7, k0_pay5, k0_pay4, k0_pay2, k0_pay3]
  rfl
theorem pay8_at (r : Fin 1024) (l : Fin 128) : k0_pay8 (F := Ideal) v1 a q d (ix2 r l) =
    a (ix2 r l) + ∑ x : Fin 1024, ee (row v1 r) (row q x) * d (ix2 x l) := by
  pointwise [k0_pay8, k0_pay5, k0_pay4, k0_pay2, k0_pay3]
  rfl
theorem pay6_at (r : Fin 1024) (l : Fin 128) : k0_pay6 (F := Ideal) v1 v3 q d a (ix2 r l) =
    a (ix2 r l) + ∑ x : Fin 1024, (ee (row v1 x) (row q r) * dt (row v3 x) (row d r)) * v1 (ix2 x l) := by
  pointwise [k0_pay6, k0_pay5, k0_pay4, k0_pay2, k0_pay3]
  rfl
theorem pay31_at (r : Fin 1024) (l : Fin 512) : k0_pay31 (F := Ideal) v1 q' (ix2 r l) =
    if r.val ≤ l.val + 512 then ee (row v1 r) (row q' l) else 0 := by
  pointwise [k0_pay31, k0_pay24, k0_pay29]
  rw [show IntOp.addi (BitVec.ofNat 32 l.val) 512#32 = BitVec.ofNat 32 (l.val + 512) from (BitVec.ofNat_add ..).symm,
    WordCmp.cmpi_sle_ofNat (by omega) (by omega), select_ofBool]
  split
  · rfl
  · exact masked_exp2
theorem pay41_at (r : Fin 512) (l : Fin 512) : k0_pay41 (F := Ideal) v1 q' (ix2 r l) =
    if r.val ≤ l.val then ee (row v1 ⟨r.val, by omega⟩) (row q' l) else 0 := by
  pointwise [k0_pay41, k0_pay40, k0_pay38]
  rw [show IntOp.addi (BitVec.ofNat 32 l.val) 0#32 = BitVec.ofNat 32 (l.val + 0) from (BitVec.ofNat_add ..).symm,
    WordCmp.cmpi_sle_ofNat (by omega) (by omega), select_ofBool]
  simp only [Nat.add_zero]
  split
  · rfl
  · exact masked_exp2
theorem pay34_at (r : Fin 1024) (l : Fin 128) : k0_pay34 (F := Ideal) v1 v3 q' d' (ix2 r l) =
    ∑ x : Fin 512, (k0_pay31 (F := Ideal) v1 q' (ix2 r x) * dt (row v3 r) (row d' x)) * q' (ix2 x l) := by
  pointwise [k0_pay34, k0_pay33, k0_pay25, k0_pay29, k0_pay30]
  rfl
theorem pay32_at (r : Fin 1024) (l : Fin 128) : k0_pay32 (F := Ideal) v1 q' d' (ix2 r l) =
    ∑ x : Fin 512, k0_pay31 (F := Ideal) v1 q' (ix2 r x) * d' (ix2 x l) := by
  pointwise [k0_pay32, k0_pay30]
  try rfl
theorem pay35_at (r : Fin 512) (l : Fin 128) : k0_pay35 (F := Ideal) (k0_pay24 v1) (k0_pay33 v1 v3 q' d') b (ix2 r l) =
    b (ix2 r l) + ∑ x : Fin 1024, (k0_pay31 (F := Ideal) v1 q' (ix2 x r) * dt (row v3 x) (row d' r)) * v1 (ix2 x l) := by
  pointwise [k0_pay35, k0_pay33, k0_pay25, k0_pay24, k0_pay30]
  try rfl
theorem pay42_at (r : Fin 512) (l : Fin 128) : k0_pay42 (F := Ideal) v1 q' d' (ix2 r l) =
    ∑ x : Fin 512, k0_pay41 (F := Ideal) v1 q' (ix2 r x) * d' (ix2 x l) := by
  pointwise [k0_pay42, k0_pay39]
  try rfl
theorem pay44_at (r : Fin 512) (l : Fin 128) : k0_pay44 (F := Ideal) v1 v3 q' d' b (ix2 r l) =
    b (ix2 r l) + ∑ x : Fin 512, (k0_pay41 (F := Ideal) v1 q' (ix2 x r) * dt (row v3 ⟨x.val, by omega⟩) (row d' r))
      * v1 (ix2 ⟨x.val, by omega⟩ l) := by
  pointwise [k0_pay44, k0_pay43, k0_pay39, k0_pay40]
  try rfl
theorem pay46_at (r : Fin 1024) (l : Fin 128) : k0_pay46 (F := Ideal) a b (ix2 r l) =
    if h : r.val < 512 then b (ix2 ⟨r.val, h⟩ l) else a (ix2 r l) := by
  pointwise [k0_pay46]
  split
  · rfl
  · refine congrArg a ?_
    refine (ix2_inj ..).2 ⟨Fin.ext ?_, rfl⟩
    dsimp only; omega
theorem pay47_at (r : Fin 1024) (l : Fin 128) : k0_pay47 (F := Ideal) a b (ix2 r l) =
    if h : r.val < 512 then a (ix2 r l) + b (ix2 ⟨r.val, h⟩ l) else a (ix2 r l) := by
  pointwise [k0_pay47]
  split
  · rfl
  · refine congrArg a ?_
    refine (ix2_inj ..).2 ⟨Fin.ext ?_, rfl⟩
    dsimp only; omega
theorem pay45_at (r : Fin 512) (l : Fin 128) (e f : FVec Ideal S1024x128 .f32) : k0_pay45 (F := Ideal) v1 v3 e f q' d' (ix2 r l) =
   (e (ix2 ⟨r.val, by omega⟩ l) + f (ix2 ⟨r.val, by omega⟩ l)) +
      ∑ x : Fin 512, (k0_pay41 (F := Ideal) v1 q' (ix2 r x) * dt (row v3 ⟨r.val, by omega⟩) (row d' x)) * q' (ix2 x l) := by
  pointwise [k0_pay45, k0_pay43, k0_pay36, k0_pay38, k0_pay39, k0_pay40]
  try rfl
theorem pay36_at (e f : FVec Ideal S1024x128 .f32) (r : Fin 1024) (l : Fin 128) :
    k0_pay36 (F := Ideal) e f (ix2 r l) = e (ix2 r l) + f (ix2 r l) := by
  pointwise [k0_pay36]
theorem pay37_at (e f : FVec Ideal S1024x128 .f32) (r : Fin 1024) (l : Fin 128) :
    k0_pay37 (F := Ideal) e f (ix2 r l) = e (ix2 r l) + f (ix2 r l) := by
  pointwise [k0_pay37]

/-- The factor a lane of the keys' or the queries' gradient ends with. -/
def laneFactor (l : Fin 128) : EReal := if l.val < 64 then ((1 / 8 : ℝ) : EReal) else 1

theorem lane_word (l : Fin 128) : (IntOp.cmpi CmpIPredicate.slt (BitVec.ofNat 32 l.val) 64#32) =
    BitVec.ofBool (decide (l.val < 64)) := by
  exact WordCmp.cmpi_slt_ofNat (by omega) (by omega)

theorem pay65_at (r : Fin 1024) (l : Fin 128) : k0_pay65 (F := Ideal) a (ix2 r l) = a (ix2 r l) * laneFactor l := by
  pointwise [k0_pay65]
  rw [lane_word, ofBits_eighth, select_ofBool]
  rfl
theorem pay1_at (G : FVec Ideal S8192x128 .f32) (r : Fin 8192) (l : Fin 128) :
    k0_pay1 (F := Ideal) G (ix2 r l) = G (ix2 r l) * laneFactor l := by
  pointwise [k0_pay1]
  rw [lane_word, ofBits_eighth, select_ofBool]
  rfl
theorem pay66_at (r : Fin 1024) (l : Fin 128) : k0_pay66 (F := Ideal) a (ix2 r l) = a (ix2 r l) := by
  pointwise [k0_pay66]
theorem pay26_at (r : Fin 8192) (l : Fin 128) : k0_pay26 (F := Ideal) (ix2 r l) = 0 := by
  pointwise [k0_pay26]
theorem pay27_at (r : Fin 1024) (l : Fin 128) : k0_pay27 (F := Ideal) (ix2 r l) = 0 := by
  pointwise [k0_pay27]
theorem pay28_at (r : Fin 1024) (l : Fin 128) : k0_pay28 (F := Ideal) (ix2 r l) = 0 := by
  pointwise [k0_pay28]
theorem pay24_at (r : Fin 1024) (l : Fin 128) : k0_pay24 (F := Ideal) v1 (ix2 r l) = v1 (ix2 r l) := by
  pointwise [k0_pay24]
theorem pay25_at (r : Fin 1024) (l : Fin 128) : k0_pay25 (F := Ideal) v1 (ix2 r l) = v1 (ix2 r l) := by
  pointwise [k0_pay25]
theorem pay24_eq : k0_pay24 (F := Ideal) v1 = v1 := by
  funext i; idx_vars i; exact pay24_at v1 _ _
theorem pay25_eq : k0_pay25 (F := Ideal) v1 = v1 := by
  funext i; idx_vars i; exact pay25_at v1 _ _

end Cert.Proof.KernelIdeal
end
-- ==== Proof.KI.Fold.lean ====
/-
  What a grid point leaves, over the reals: the sums of the masked weights over all queries, for the key block's two gradients,
  and over the key block's keys, for the gradient of the queries.
-/
module

public import proofs.«01_k».proof.Proof.KI.Pay

@[expose] public section

noncomputable section

namespace Cert.Proof.KernelIdeal

open Cert.Proof Cert.KernelIdeal Cert.KernelIdeal.Gen Idealize.ShloMosaic

/-- Row `n` of a whole buffer, `n` a natural number. -/
def rowN (X : Rows 8192 EReal) (n : ℕ) : Fin 128 → EReal := fun l => X (ix2 (Fin.ofNat 8192 n) l)

theorem row_getRows {n o : ℕ} (X : Rows 8192 EReal) (r : Fin n) : row (getRows n o X) r = rowN X (o + r.val) := rfl

theorem getRows_at {n o : ℕ} (X : Rows 8192 EReal) (r : Fin n) (l : Fin 128) :
    getRows n o X (ix2 r l) = rowN X (o + r.val) l := rfl

theorem rowN_val (X : Rows 8192 EReal) (y : Fin 8192) (l : Fin 128) : rowN X y.val l = X (ix2 y l) := by
  unfold rowN
  congr 2
  exact Fin.ext (Nat.mod_eq_of_lt y.isLt)

theorem putRows_in {n o : ℕ} (w : Rows n EReal) (X : Rows 8192 EReal) (y : Fin 8192) (l : Fin 128)
    (h : o ≤ y.val ∧ y.val < o + n) : putRows n o w X (ix2 y l) = w (ix2 ⟨y.val - o, by omega⟩ l) := by
  unfold putRows
  exact dif_pos h

theorem putRows_out {n o : ℕ} (w : Rows n EReal) (X : Rows 8192 EReal) (y : Fin 8192) (l : Fin 128)
    (h : ¬ (o ≤ y.val ∧ y.val < o + n)) : putRows n o w X (ix2 y l) = X (ix2 y l) := by
  unfold putRows
  exact dif_neg h

/-- A sum over `n` consecutive numbers from `o` on. -/
theorem sum_from (n o : ℕ) (f : ℕ → EReal) : ∑ x : Fin n, f (o + x.val) = ∑ k ∈ Finset.Ico o (o + n), f k := by
  rw [Finset.sum_Ico_eq_sum_range, Nat.add_sub_cancel_left, Finset.sum_range]

section Point

variable (kb vb : Rows 1024 EReal) (Q D : Rows 8192 EReal) (j : ℕ)

/-- The weight of a key of the block and a query: none where the key lies after the query. -/
def wt (κ : Fin 1024) (n : ℕ) : EReal := if 1024 * j + κ.val ≤ n then ee (row kb κ) (rowN Q n) else 0

/-- The weight's gradient. -/
def dw (κ : Fin 1024) (n : ℕ) : EReal := wt kb Q j κ n * dt (row vb κ) (rowN D n)

/-- The state after the queries of `[a, b)`, from the gradient `G` of the queries. -/
structure Inv (G : Rows 8192 EReal) (a b : ℕ) (s : Acc Ideal) : Prop where
  dk : ∀ (κ : Fin 1024) (l : Fin 128), s.1.1 (ix2 κ l) = ∑ n ∈ Finset.Ico a b, dw kb vb Q D j κ n * rowN Q n l
  dv : ∀ (κ : Fin 1024) (l : Fin 128), s.1.2 (ix2 κ l) = ∑ n ∈ Finset.Ico a b, wt kb Q j κ n * rowN D n l
  dq : ∀ (y : Fin 8192) (l : Fin 128), s.2 (ix2 y l) = G (ix2 y l)
    + if a ≤ y.val ∧ y.val < b then ∑ κ : Fin 1024, dw kb vb Q D j κ y.val * kb (ix2 κ l) else 0

variable {kb vb Q D j}

theorem wt_full {κ : Fin 1024} {n : ℕ} (h : 1024 * j + 1024 ≤ n) : wt kb Q j κ n = ee (row kb κ) (rowN Q n) :=
  if_pos (by omega)

/-- A full block of queries extends the state. -/
theorem Inv.full {G : Rows 8192 EReal} {a o : ℕ} {s : Acc Ideal} (hs : Inv kb vb Q D j G a o s)
    (hj : 1024 * j + 1024 ≤ o) (ha : a ≤ o) (ho : o + 1024 ≤ 8192) :
    Inv kb vb Q D j G a (o + 1024) (fullStep (F := Ideal) kb vb Q D o s) where
  dk κ l := by
    show k0_pay7 (F := Ideal) kb vb s.1.1 _ _ (ix2 κ l) = _
    rw [pay7_at, hs.dk, ← Finset.sum_Ico_consecutive _ ha (by omega : o ≤ o + 1024), ← sum_from 1024 o]
    refine congrArg _ (Finset.sum_congr rfl fun x _ => ?_)
    rw [row_getRows, row_getRows, getRows_at]
    unfold dw
    rw [wt_full (by omega)]
  dv κ l := by
    show k0_pay8 (F := Ideal) kb s.1.2 _ _ (ix2 κ l) = _
    rw [pay8_at, hs.dv, ← Finset.sum_Ico_consecutive _ ha (by omega : o ≤ o + 1024), ← sum_from 1024 o]
    refine congrArg _ (Finset.sum_congr rfl fun x _ => ?_)
    rw [row_getRows, getRows_at, wt_full (by omega)]
  dq y l := by
    show putRows 1024 o _ s.2 (ix2 y l) = _
    by_cases h : o ≤ y.val ∧ y.val < o + 1024
    · rw [putRows_in _ _ _ _ h, pay6_at, getRows_at]
      dsimp only
      rw [show o + (y.val - o) = y.val by omega, rowN_val, hs.dq, if_neg (by omega), if_pos (by omega), add_zero]
      refine congrArg _ (Finset.sum_congr rfl fun x _ => ?_)
      rw [row_getRows, row_getRows]
      dsimp only
      rw [show o + (y.val - o) = y.val by omega]
      unfold dw
      rw [wt_full (by omega)]
    · rw [putRows_out _ _ _ _ h, hs.dq]
      congr 1
      by_cases h' : a ≤ y.val ∧ y.val < o
      · rw [if_pos h', if_pos (by omega)]
      · rw [if_neg h', if_neg (by omega)]

/-- The weights of the upper half of the diagonal block. -/
theorem upper_wt (κ : Fin 1024) (x : Fin 512) :
    k0_pay31 (F := Ideal) kb (getRows 512 (1024 * j + 512) Q) (ix2 κ x) = wt kb Q j κ (1024 * j + 512 + x.val) := by
  rw [pay31_at, row_getRows]
  unfold wt
  by_cases h : κ.val ≤ x.val + 512
  · rw [if_pos h, if_pos (by omega)]
  · rw [if_neg h, if_neg (by omega)]

/-- The weights of the lower half of the diagonal block. -/
theorem lower_wt (κ : Fin 512) (x : Fin 512) :
    k0_pay41 (F := Ideal) kb (getRows 512 (1024 * j) Q) (ix2 κ x) = wt kb Q j ⟨κ.val, by omega⟩ (1024 * j + x.val) := by
  rw [pay41_at, row_getRows]
  unfold wt
  by_cases h : κ.val ≤ x.val
  · rw [if_pos h, if_pos (by dsimp only; omega)]
  · rw [if_neg h, if_neg (by dsimp only; omega)]

/-- In the lower half's queries the upper half's keys weigh nothing. -/
theorem wt_zero {κ : Fin 1024} {n : ℕ} (h : n < 1024 * j + κ.val) : wt kb Q j κ n = 0 := if_neg (by omega)

/-- The diagonal block starts the state. -/
theorem Inv.diag (hj : j < 8) (G : Rows 8192 EReal) :
    Inv kb vb Q D j G (1024 * j) (1024 * j + 1024) (diagStep (F := Ideal) kb vb Q D j G) where
  dk κ l := by
    show k0_pay46 (F := Ideal) _ _ (ix2 κ l) = _
    rw [pay24_eq, pay25_eq, pay46_at]
    rw [← Finset.sum_Ico_consecutive _ (by omega : 1024 * j ≤ 1024 * j + 512) (by omega : 1024 * j + 512 ≤ 1024 * j + 1024)]
    have up : k0_pay34 (F := Ideal) kb vb (getRows 512 (1024 * j + 512) Q) (getRows 512 (1024 * j + 512) D) (ix2 κ l)
        = ∑ n ∈ Finset.Ico (1024 * j + 512) (1024 * j + 1024), dw kb vb Q D j κ n * rowN Q n l := by
      rw [pay34_at, show 1024 * j + 1024 = 1024 * j + 512 + 512 by omega, ← sum_from 512 (1024 * j + 512)]
      refine Finset.sum_congr rfl fun x _ => ?_
      rw [upper_wt, row_getRows, getRows_at]
      rfl
    split
    · rename_i h
      rw [pay45_at]
      dsimp only
      rw [pay27_at, zero_add]
      refine Eq.trans (congrArg₂ (· + ·) up ?_) (add_comm _ _)
      rw [← sum_from 512 (1024 * j)]
      refine Finset.sum_congr rfl fun x _ => ?_
      rw [lower_wt, row_getRows, getRows_at]
      rfl
    · rename_i h
      rw [pay36_at, pay27_at, zero_add, up, Finset.sum_eq_zero (s := Finset.Ico (1024 * j) (1024 * j + 512)), zero_add]
      intro n hn
      rw [Finset.mem_Ico] at hn
      unfold dw
      rw [wt_zero (by omega), zero_mul, zero_mul]
  dv κ l := by
    show k0_pay47 (F := Ideal) _ _ (ix2 κ l) = _
    rw [pay24_eq, pay47_at]
    rw [← Finset.sum_Ico_consecutive _ (by omega : 1024 * j ≤ 1024 * j + 512) (by omega : 1024 * j + 512 ≤ 1024 * j + 1024)]
    have up : k0_pay37 (F := Ideal) k0_pay28 (k0_pay32 (F := Ideal) kb (getRows 512 (1024 * j + 512) Q) (getRows 512 (1024 * j + 512) D)) (ix2 κ l)
        = ∑ n ∈ Finset.Ico (1024 * j + 512) (1024 * j + 1024), wt kb Q j κ n * rowN D n l := by
      rw [pay37_at, pay28_at, zero_add, pay32_at, show 1024 * j + 1024 = 1024 * j + 512 + 512 by omega, ← sum_from 512 (1024 * j + 512)]
      refine Finset.sum_congr rfl fun x _ => ?_
      rw [upper_wt, getRows_at]
    split
    · rename_i h
      refine Eq.trans (congrArg₂ (· + ·) up ?_) (add_comm _ _)
      rw [pay42_at, ← sum_from 512 (1024 * j)]
      refine Finset.sum_congr rfl fun x _ => ?_
      rw [lower_wt, getRows_at]
    · rename_i h
      rw [up, Finset.sum_eq_zero (s := Finset.Ico (1024 * j) (1024 * j + 512)), zero_add]
      intro n hn
      rw [Finset.mem_Ico] at hn
      rw [wt_zero (by omega), zero_mul]
  dq y l := by
    have up : diagUpper (F := Ideal) kb vb Q D j G (ix2 y l) = G (ix2 y l) +
        if 1024 * j + 512 ≤ y.val ∧ y.val < 1024 * j + 1024 then ∑ κ : Fin 1024, dw kb vb Q D j κ y.val * kb (ix2 κ l) else 0 := by
      unfold diagUpper
      by_cases h : 1024 * j + 512 ≤ y.val ∧ y.val < 1024 * j + 512 + 512
      · rw [putRows_in _ _ _ _ h, pay35_at, getRows_at]
        dsimp only
        rw [show 1024 * j + 512 + (y.val - (1024 * j + 512)) = y.val by omega, rowN_val, if_pos (by omega)]
        refine congrArg _ (Finset.sum_congr rfl fun x _ => ?_)
        rw [upper_wt, row_getRows]
        dsimp only
        rw [show 1024 * j + 512 + (y.val - (1024 * j + 512)) = y.val by omega]
        rfl
      · rw [putRows_out _ _ _ _ h, if_neg (by omega), add_zero]
    show diagBoth (F := Ideal) kb vb Q D j G (ix2 y l) = _
    unfold diagBoth
    rw [pay24_eq, pay25_eq]
    by_cases h : 1024 * j ≤ y.val ∧ y.val < 1024 * j + 512
    · rw [putRows_in _ _ _ _ h, pay44_at, getRows_at]
      dsimp only
      rw [show 1024 * j + (y.val - 1024 * j) = y.val by omega, rowN_val, up, if_neg (by omega), add_zero, if_pos (by omega)]
      refine congrArg _ ?_
      rw [Fin.sum_univ_two_halves 512 512 rfl (fun κ : Fin 1024 => dw kb vb Q D j κ y.val * kb (ix2 κ l)),
        Finset.sum_eq_zero (f := fun x : Fin 512 => dw kb vb Q D j ⟨512 + x.val, by omega⟩ y.val * kb (ix2 ⟨512 + x.val, by omega⟩ l)),
        add_zero]
      · refine Finset.sum_congr rfl fun x _ => ?_
        rw [lower_wt, row_getRows]
        dsimp only
        rw [show 1024 * j + (y.val - 1024 * j) = y.val by omega]
        rfl
      · intro x _
        unfold dw
        rw [wt_zero (by dsimp only; omega), zero_mul, zero_mul]
    · rw [putRows_out _ _ _ _ h, up]
      congr 1
      by_cases h' : 1024 * j + 512 ≤ y.val ∧ y.val < 1024 * j + 1024
      · rw [if_pos h', if_pos (by omega)]
      · rw [if_neg h', if_neg (by omega)]

/-- The whole point: every query from the key block's first key on. -/
theorem Inv.point (hj : j < 8) (G : Rows 8192 EReal) :
    Inv kb vb Q D j G (1024 * j) 8192 (pointAcc (F := Ideal) kb vb Q D j G) := by
  have hd := Inv.diag (kb := kb) (vb := vb) (Q := Q) (D := D) hj G
  have ho : Inv kb vb Q D j G (1024 * j) (1024 * (2 * (j / 2) + 2)) (oddStep (F := Ideal) kb vb Q D j (diagStep (F := Ideal) kb vb Q D j G)) := by
    unfold oddStep
    split
    · have := hd.full (by omega) (by omega) (by omega)
      rwa [show 1024 * j + 1024 + 1024 = 1024 * (2 * (j / 2) + 2) by omega] at this
    · rwa [show 1024 * j + 1024 = 1024 * (2 * (j / 2) + 2) by omega] at hd
  have hp : ∀ t : ℕ, t ≤ (7 - j) / 2 → Inv kb vb Q D j G (1024 * j) (1024 * (2 * (j / 2) + 2 + 2 * t))
      (pairs (F := Ideal) kb vb Q D j t (oddStep (F := Ideal) kb vb Q D j (diagStep (F := Ideal) kb vb Q D j G))) := by
    intro t ht
    induction t with
    | zero => exact ho
    | succ t ih =>
      have h1 := (ih (by omega)).full (by omega) (by omega) (by omega)
      rw [show 1024 * (2 * (j / 2) + 2 + 2 * t) + 1024 = 1024 * (2 * (j / 2) + 3 + 2 * t) by omega] at h1
      have h2 := h1.full (by omega) (by omega) (by omega)
      rw [show 1024 * (2 * (j / 2) + 3 + 2 * t) + 1024 = 1024 * (2 * (j / 2) + 2 + 2 * (t + 1)) by omega] at h2
      exact h2
  have := hp _ le_rfl
  rw [show 1024 * (2 * (j / 2) + 2 + 2 * ((7 - j) / 2)) = 8192 by omega] at this
  unfold pointAcc
  rw [pay24_eq, pay25_eq]
  exact this

/-- A sum over the queries from the block on is one over all of them, where the earlier ones give nothing. -/
theorem sum_all {N : ℕ} (f : ℕ → EReal) (a : ℕ) (ha : a ≤ N) (h : ∀ n, n < a → f n = 0) :
    ∑ n ∈ Finset.Ico a N, f n = ∑ y : Fin N, f y.val := by
  rw [← Finset.sum_range f, Finset.range_eq_Ico, ← Finset.sum_Ico_consecutive _ (Nat.zero_le a) ha,
    Finset.sum_eq_zero (s := Finset.Ico 0 a), zero_add]
  intro n hn
  exact h n (Finset.mem_Ico.mp hn).2

/-- The key gradient a point leaves. -/
theorem dkOut_at (hj : j < 8) (κ : Fin 1024) (l : Fin 128) : dkOut (F := Ideal) kb vb Q D j (ix2 κ l)
    = (∑ y : Fin 8192, dw kb vb Q D j κ y.val * Q (ix2 y l)) * laneFactor l := by
  unfold dkOut
  rw [pay65_at, (Inv.point hj _).dk, sum_all _ _ (by omega)]
  · exact congrArg (· * laneFactor l) (Finset.sum_congr rfl fun y _ => by rw [rowN_val])
  · intro n hn
    unfold dw
    rw [wt_zero (by omega), zero_mul, zero_mul]

/-- The value gradient a point leaves. -/
theorem dvOut_at (hj : j < 8) (κ : Fin 1024) (l : Fin 128) : dvOut (F := Ideal) kb vb Q D j (ix2 κ l)
    = ∑ y : Fin 8192, wt kb Q j κ y.val * D (ix2 y l) := by
  unfold dvOut
  rw [pay66_at, (Inv.point hj _).dv, sum_all _ _ (by omega)]
  · exact Finset.sum_congr rfl fun y _ => by rw [rowN_val]
  · intro n hn
    rw [wt_zero (by omega), zero_mul]

/-- The queries' gradient a point leaves, before the last scaling. -/
theorem pointAcc_dq (hj : j < 8) (G : Rows 8192 EReal) (y : Fin 8192) (l : Fin 128) :
    (pointAcc (F := Ideal) kb vb Q D j G).2 (ix2 y l)
      = G (ix2 y l) + ∑ κ : Fin 1024, dw kb vb Q D j κ y.val * kb (ix2 κ l) := by
  rw [(Inv.point hj G).dq]
  by_cases h : 1024 * j ≤ y.val
  · rw [if_pos ⟨h, y.isLt⟩]
  · rw [if_neg (by omega)]
    congr 1
    refine (Finset.sum_eq_zero fun κ _ => ?_).symm
    unfold dw
    rw [wt_zero (by omega), zero_mul, zero_mul]

end Point

end Cert.Proof.KernelIdeal
end
-- ==== Proof.KI.Offsets.lean ====
/-
  The words the kernel computes, in closed form: the rows each load and store starts at, the trips of the two counted loops,
  and the two conditions, over the grid point `i` — its key block is `j = i 1`.
-/
module

public import proofs.«01_k».proof.Proof.Gen.KernelIdeal.Loops
public import proofs.«01_k».proof.Proof.Rows

@[expose] public section

namespace Cert.Proof.KernelIdeal

open Cert.KernelIdeal Cert.KernelIdeal.Gen Idealize.ShloMosaic

/-- The main loop makes one trip for every two full blocks of queries above the key block. -/
theorem t1_trips : ∀ i : grid0.Coords, (k0_t1_loop i).trips = (7 - (i 1).val) / 2 := by decide +kernel

/-- The loop after it makes none. -/
theorem t2_trips : ∀ i : grid0.Coords, (k0_t2_loop i).trips = 0 := by decide +kernel

/-- The first block of a pair starts here. -/
theorem off4_eq : ∀ (i : grid0.Coords) (t : Fin (k0_t1_loop i).trips),
    k0_off4 i t = ![1024 * (2 * ((i 1).val / 2) + 2 + 2 * t.val), 0] := by decide +kernel

/-- The second block of a pair starts here. -/
theorem off5_eq : ∀ (i : grid0.Coords) (t : Fin (k0_t1_loop i).trips),
    k0_off5 i t = ![1024 * (2 * ((i 1).val / 2) + 3 + 2 * t.val), 0] := by decide +kernel

/-- The queries' gradient is reset at the first key block. -/
theorem cond1_eq : ∀ i : grid0.Coords,
    (Scalar.cmpi .ne ((Scalar.extui (Scalar.cmpi .eq (BitVec.ofNat 32 (i 1).val) 0#32) : BitVec 32)) 0#32 = 1#1) ↔ (i 1).val = 0 := by
  decide +kernel

/-- The queries' gradient is scaled at the last key block. -/
theorem cond3_eq : ∀ i : grid0.Coords,
    (Scalar.cmpi .ne ((Scalar.extui (Scalar.cmpi .eq (BitVec.ofNat 32 (i 1).val) 7#32) : BitVec 32)) 0#32 = 1#1) ↔ (i 1).val = 7 := by
  decide +kernel

/-- The single block is taken when the number of full blocks above the key block is odd. -/
theorem cond2_eq : ∀ i : grid0.Coords, (k0_cond2 i = 1#1) ↔ (i 1).val % 2 = 0 := by decide +kernel

end Cert.Proof.KernelIdeal
-- ==== Proof.KI.Parts.lean ====
/-
  One step of the run after another: what each part of the kernel body does to the buffers it holds, stated for whole staging
  buffers held at the contents that read given arrays.
-/
module

public import proofs.«01_k».proof.Proof.KI.Offsets
public import proofs.«01_k».proof.Proof.KI.Spec
public import proofs.«01_k».proof.Proof.Gen.KernelIdeal.Frame

@[expose] public section

noncomputable section

namespace Cert.Proof.KernelIdeal

open Cert.Proof Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A whole staging buffer of the core held at the contents that read `X`. -/
abbrev Held (c : Dev nD) {sp : Space} {s : Shape} {e : EltTy} (m : Memref sig .tc sp s e) (h : m.IsWhole) (X : s.Idx → Elt F e) : sProp 𝕄 :=
  m.view.loc (c : Thread nD τ) ↦{fullShare} (h.unread (Val := Elt F) X)

variable (c : Dev nD) (i : grid0.Coords)
  (arg2 : Memref sig .tc .vmem S8192x128 .bf16) (harg2 : arg2.IsWhole) (arg3 : Memref sig .tc .vmem S1024x128 .bf16) (harg3 : arg3.IsWhole)
  (arg4 : Memref sig .tc .vmem S1024x128 .bf16) (harg4 : arg4.IsWhole) (arg5 : Memref sig .tc .vmem S8192x128 .bf16) (harg5 : arg5.IsWhole)
  (arg6 : Memref sig .tc .vmem S1024x128 .f32) (harg6 : arg6.IsWhole) (arg7 : Memref sig .tc .vmem S1024x128 .bf16) (harg7 : arg7.IsWhole)
  (arg8 : Memref sig .tc .vmem S8192x128 .f32) (harg8 : arg8.IsWhole)
  (kb vb : Rows 1024 (F .bf16)) (Q D : Rows 8192 (F .bf16))

/-- One trip of the main loop. -/
theorem wp_trip (v1 v3 : FVec F S1024x128 .bf16) (v94 : BitVec 32) (t : Fin (k0_t1_loop i).trips) (s : Acc F) :
    iprop(Held c arg2 harg2 Q ∗ Held c arg5 harg5 D ∗ Held c arg8 harg8 s.2)
      ⊢ wp frame (wpE defs₀ Variants.none (c : Thread nD τ) none) Set.univ
          (k0_t1_body (F := F) i arg2 harg2 arg3 harg3 arg4 harg4 arg5 harg5 arg6 harg6 arg7 harg7 arg8 harg8 v1 v3 v94 t s.1)
          (fun r => (iprop(Held c arg2 harg2 Q ∗ Held c arg5 harg5 D
            ∗ Held c arg8 harg8 (pairStep v1 v3 Q D (i 1).val t.val s).2
            ∗ ⌜r = (pairStep v1 v3 Q D (i 1).val t.val s).1⌝) : sProp 𝕄)) := by
  obtain ⟨⟨dk, dv⟩, G⟩ := s
  unfold k0_t1_body
  simp only []
  rw [k0_part1_eq_skeleton]
  unfold k0_part1_skel
  iintro ⟨H2, H5, H8⟩
  iapply (wp_load_rows _ _ _ _ harg2 Q (off4_eq i t)) $$ H2
  iintro H2
  iapply (wp_load_rows _ _ _ _ harg5 D (off4_eq i t)) $$ H5
  iintro H5
  iapply (wp_load_rows _ _ _ _ harg8 G (off4_eq i t)) $$ H8
  iintro H8
  iapply (wp_load_rows _ _ _ _ harg8 G (off4_eq i t)) $$ H8
  iintro H8
  iapply (wp_store_rows _ _ _ _ harg8 G (off4_eq i t)) $$ H8
  iintro H8
  iapply (wp_load_rows _ _ _ _ harg2 Q (off5_eq i t)) $$ H2
  iintro H2
  iapply (wp_load_rows _ _ _ _ harg5 D (off5_eq i t)) $$ H5
  iintro H5
  iapply (wp_load_rows _ _ _ _ harg8 _ (off5_eq i t)) $$ H8
  iintro H8
  iapply (wp_load_rows _ _ _ _ harg8 _ (off5_eq i t)) $$ H8
  iintro H8
  iapply (wp_store_rows _ _ _ _ harg8 _ (off5_eq i t)) $$ H8
  iintro H8
  iapply (le_wp_ret _ _)
  isplitl [H2]; · iexact H2
  isplitl [H5]; · iexact H5
  isplitl [H8]; · iexact H8
  ipureintro; rfl

/-- The main loop: its trips one after another. -/
theorem wp_pairs (v1 v3 : FVec F S1024x128 .bf16) (v94 : BitVec 32) (s : Acc F) {β : Type}
    (k : FVec F S1024x128 .f32 × FVec F S1024x128 .f32 → Prog (TpuEff nD τ sig (Elt F) Λ₀ .tc) β) (R : β → sProp 𝕄) :
    iprop(Held c arg2 harg2 Q ∗ Held c arg5 harg5 D ∗ Held c arg8 harg8 s.2)
      ⊢ iprop((iprop(Held c arg2 harg2 Q ∗ Held c arg5 harg5 D ∗ Held c arg8 harg8 (pairs v1 v3 Q D (i 1).val ((7 - (i 1).val) / 2) s).2)
          -∗ wp frame (wpE defs₀ Variants.none (c : Thread nD τ) none) Set.univ (k (pairs v1 v3 Q D (i 1).val ((7 - (i 1).val) / 2) s).1) R)
        -∗ wp frame (wpE defs₀ Variants.none (c : Thread nD τ) none) Set.univ
          (Scf.Loop.for (k0_t1_loop i) (k0_t1_ok i) s.1 (k0_t1_body (F := F) i arg2 harg2 arg3 harg3 arg4 harg4 arg5 harg5 arg6 harg6 arg7 harg7 arg8 harg8 v1 v3 v94) >>= k) R) := by
  have hloop := Scf.wp_for_bind Idealize.ShloMosaic.frame (wpE (defs₀ (F := F)) Variants.none (c : Thread nD τ) none) Set.univ
    (k0_t1_loop i).lb (k0_t1_loop i).ub (k0_t1_loop i).st (k0_t1_ok i) s.1
    (k0_t1_body (F := F) i arg2 harg2 arg3 harg3 arg4 harg4 arg5 harg5 arg6 harg6 arg7 harg7 arg8 harg8 v1 v3 v94)
    (fun t acc => (iprop(Held c arg2 harg2 Q ∗ Held c arg5 harg5 D ∗ Held c arg8 harg8 (pairs v1 v3 Q D (i 1).val t s).2
      ∗ ⌜acc = (pairs v1 v3 Q D (i 1).val t s).1⌝) : sProp 𝕄))
    (fun t acc => by
      iintro ⟨H2, H5, H8, %hacc⟩
      subst hacc
      iapply (wp_trip c i arg2 harg2 arg3 harg3 arg4 harg4 arg5 harg5 arg6 harg6 arg7 harg7 arg8 harg8 Q D v1 v3 v94 t (pairs v1 v3 Q D (i 1).val t.val s)) $$ [H2 H5 H8]
      isplitl [H2]; · iexact H2
      isplitl [H5]; · iexact H5
      iexact H8) (kk := k) (Q := R)
  iintro ⟨H2, H5, H8⟩ HK
  iapply hloop $$ [H2 H5 H8]
  · isplitl [H2]; · iexact H2
    isplitl [H5]; · iexact H5
    isplitl [H8]; · iexact H8
    ipureintro; rfl
  · iintro %acc ⟨H2, H5, H8, %hacc⟩
    subst hacc
    have ht : Scf.trips (k0_t1_loop i).lb (k0_t1_loop i).ub (k0_t1_loop i).st = (7 - (i 1).val) / 2 := t1_trips i
    rw [ht]
    iapply HK
    isplitl [H2]; · iexact H2
    isplitl [H5]; · iexact H5
    iexact H8

end Cert.Proof.KernelIdeal

end
-- ==== Proof.KI.Body.lean ====
/-
  The run of one grid point: the parts of the body put together.
-/
module

public import proofs.«01_k».proof.Proof.KI.Parts
public import Idealize.ShloMosaic.Lib.LoopRemainder
public import proofs.«01_k».proof.Proof.Gen.KernelIdeal.Frame

@[expose] public section

noncomputable section

namespace Cert.Proof.KernelIdeal

open Cert.Proof Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S8192x128 .bf16) (harg2 : arg2.IsWhole) (arg3 : Memref sig .tc .vmem S1024x128 .bf16) (harg3 : arg3.IsWhole)
  (arg4 : Memref sig .tc .vmem S1024x128 .bf16) (harg4 : arg4.IsWhole) (arg5 : Memref sig .tc .vmem S8192x128 .bf16) (harg5 : arg5.IsWhole)
  (arg6 : Memref sig .tc .vmem S1024x128 .f32) (harg6 : arg6.IsWhole) (arg7 : Memref sig .tc .vmem S1024x128 .bf16) (harg7 : arg7.IsWhole)
  (arg8 : Memref sig .tc .vmem S8192x128 .f32) (harg8 : arg8.IsWhole)
  (kb vb : Rows 1024 (F .bf16)) (Q D : Rows 8192 (F .bf16)) (G : Rows 8192 (F .f32))

/-- The first part: the loads of the key block, the reset of the queries' gradient at the first key block, and the upper half
of the diagonal block's products. -/
theorem wp_part3 {β : Type} (k : _ → Prog (TpuEff nD τ sig (Elt F) Λ₀ .tc) β) (R : β → sProp 𝕄) :
    iprop(Held c arg2 harg2 Q ∗ Held c arg3 harg3 kb ∗ Held c arg4 harg4 vb ∗ Held c arg5 harg5 D ∗ Held c arg8 harg8 G)
      ⊢ iprop((iprop(Held c arg2 harg2 Q ∗ Held c arg3 harg3 kb ∗ Held c arg4 harg4 vb ∗ Held c arg5 harg5 D ∗ Held c arg8 harg8 (dqStart (i 1).val G))
          -∗ wp frame (wpE defs₀ Variants.none (c : Thread nD τ) none) Set.univ
            (k ⟨BitVec.ofNat 32 (i 1).val, k0_pay24 kb, k0_pay25 vb, k0_pay27 (F := F), k0_pay28 (F := F),
              Scalar.addi (Scalar.muli (BitVec.ofNat 32 (i 1).val) 1024#32) 512#32,
              k0_pay32 kb (getRows 512 (1024 * (i 1).val + 512) Q) (getRows 512 (1024 * (i 1).val + 512) D),
              k0_pay33 kb vb (getRows 512 (1024 * (i 1).val + 512) Q) (getRows 512 (1024 * (i 1).val + 512) D),
              k0_pay34 kb vb (getRows 512 (1024 * (i 1).val + 512) Q) (getRows 512 (1024 * (i 1).val + 512) D),
              getRows 512 (1024 * (i 1).val + 512) (dqStart (i 1).val G)⟩) R)
        -∗ wp frame (wpE defs₀ Variants.none (c : Thread nD τ) none) Set.univ (k0_part3 (F := F) i arg2 harg2 arg3 harg3 arg4 harg4 arg5 harg5 arg6 harg6 arg7 harg7 arg8 harg8 >>= k) R) := by
  rw [k0_part3_eq_skeleton]
  unfold k0_part3_skel
  unfold dqStart
  by_cases h : (i 1).val = 0
  · simp only [dif_pos ((cond1_eq i).mpr h), if_pos h]
    iintro ⟨H2, H3, H4, H5, H8⟩ HK
    iapply (wp_load_all _ _ _ _ harg3 _) $$ H3
    iintro H3
    iapply (wp_load_all _ _ _ _ harg4 _) $$ H4
    iintro H4
    iapply (wp_load_all _ _ _ _ harg8 _) $$ H8
    iintro H8
    iapply (wp_store_all _ _ _ _ harg8 _) $$ H8
    iintro H8
    iapply (wp_load_rows _ _ _ _ harg2 Q (k0_off1_eq i)) $$ H2
    iintro H2
    iapply (wp_load_rows _ _ _ _ harg5 D (k0_off1_eq i)) $$ H5
    iintro H5
    iapply (wp_load_rows _ _ _ _ harg8 _ (k0_off1_eq i)) $$ H8
    iintro H8
    iapply HK
    isplitl [H2]; · iexact H2
    isplitl [H3]; · iexact H3
    isplitl [H4]; · iexact H4
    isplitl [H5]; · iexact H5
    iexact H8
  · simp only [dif_neg (fun hc => h ((cond1_eq i).mp hc)), if_neg h]
    iintro ⟨H2, H3, H4, H5, H8⟩ HK
    iapply (wp_load_all _ _ _ _ harg3 _) $$ H3
    iintro H3
    iapply (wp_load_all _ _ _ _ harg4 _) $$ H4
    iintro H4
    iapply (wp_load_rows _ _ _ _ harg2 Q (k0_off1_eq i)) $$ H2
    iintro H2
    iapply (wp_load_rows _ _ _ _ harg5 D (k0_off1_eq i)) $$ H5
    iintro H5
    iapply (wp_load_rows _ _ _ _ harg8 _ (k0_off1_eq i)) $$ H8
    iintro H8
    iapply HK
    isplitl [H2]; · iexact H2
    isplitl [H3]; · iexact H3
    isplitl [H4]; · iexact H4
    isplitl [H5]; · iexact H5
    iexact H8

/-- The second part: both halves of the diagonal block. -/
theorem wp_part4 (v11 : BitVec 32) (a1 : BitVec 32) {β : Type} (k : _ → Prog (TpuEff nD τ sig (Elt F) Λ₀ .tc) β) (R : β → sProp 𝕄) :
    iprop(Held c arg2 harg2 Q ∗ Held c arg3 harg3 kb ∗ Held c arg4 harg4 vb ∗ Held c arg5 harg5 D ∗ Held c arg8 harg8 G)
      ⊢ iprop((iprop(Held c arg2 harg2 Q ∗ Held c arg3 harg3 kb ∗ Held c arg4 harg4 vb ∗ Held c arg5 harg5 D ∗ Held c arg8 harg8 (diagBoth kb vb Q D (i 1).val G))
          -∗ wp frame (wpE defs₀ Variants.none (c : Thread nD τ) none) Set.univ
            (k ⟨k0_pay36 (k0_pay27 (F := F)) (k0_pay34 kb vb (getRows 512 (1024 * (i 1).val + 512) Q) (getRows 512 (1024 * (i 1).val + 512) D)),
              k0_pay37 (k0_pay28 (F := F)) (k0_pay32 kb (getRows 512 (1024 * (i 1).val + 512) Q) (getRows 512 (1024 * (i 1).val + 512) D)),
              k0_pay42 (k0_pay24 kb) (getRows 512 (1024 * (i 1).val) Q) (getRows 512 (1024 * (i 1).val) D),
              k0_pay45 (k0_pay24 kb) (k0_pay25 vb) (k0_pay27 (F := F))
                (k0_pay34 kb vb (getRows 512 (1024 * (i 1).val + 512) Q) (getRows 512 (1024 * (i 1).val + 512) D))
                (getRows 512 (1024 * (i 1).val) Q) (getRows 512 (1024 * (i 1).val) D)⟩) R)
        -∗ wp frame (wpE defs₀ Variants.none (c : Thread nD τ) none) Set.univ
          (k0_part4 (F := F) i arg2 harg2 arg3 harg3 arg4 harg4 arg5 harg5 arg6 harg6 arg7 harg7 arg8 harg8 a1 (k0_pay24 kb) (k0_pay25 vb) (k0_pay27 (F := F)) (k0_pay28 (F := F)) v11
              (k0_pay32 kb (getRows 512 (1024 * (i 1).val + 512) Q) (getRows 512 (1024 * (i 1).val + 512) D))
              (k0_pay33 kb vb (getRows 512 (1024 * (i 1).val + 512) Q) (getRows 512 (1024 * (i 1).val + 512) D))
              (k0_pay34 kb vb (getRows 512 (1024 * (i 1).val + 512) Q) (getRows 512 (1024 * (i 1).val + 512) D))
              (getRows 512 (1024 * (i 1).val + 512) G) >>= k) R) := by
  rw [k0_part4_eq_skeleton]
  unfold k0_part4_skel
  iintro ⟨H2, H3, H4, H5, H8⟩ HK
  iapply (wp_load_rows _ _ _ _ harg8 _ (k0_off1_eq i)) $$ H8
  iintro H8
  iapply (wp_store_rows _ _ _ _ harg8 _ (k0_off1_eq i)) $$ H8
  iintro H8
  iapply (wp_load_rows _ _ _ _ harg2 Q (k0_off2_eq i)) $$ H2
  iintro H2
  iapply (wp_load_rows _ _ _ _ harg5 D (k0_off2_eq i)) $$ H5
  iintro H5
  iapply (wp_load_rows _ _ _ _ harg8 _ (k0_off2_eq i)) $$ H8
  iintro H8
  iapply (wp_load_rows _ _ _ _ harg8 _ (k0_off2_eq i)) $$ H8
  iintro H8
  iapply (wp_store_rows _ _ _ _ harg8 _ (k0_off2_eq i)) $$ H8
  iintro H8
  iapply HK
  isplitl [H2]; · iexact H2
  isplitl [H3]; · iexact H3
  isplitl [H4]; · iexact H4
  isplitl [H5]; · iexact H5
  iexact H8

/-- No trip is left for the loop after the main one. -/
theorem wp_noTrips (v1 v3 : FVec F S1024x128 .bf16) (v94 v100 : BitVec 32) (init : FVec F S1024x128 .f32 × FVec F S1024x128 .f32) {β : Type}
    (k : FVec F S1024x128 .f32 × FVec F S1024x128 .f32 → Prog (TpuEff nD τ sig (Elt F) Λ₀ .tc) β) (R : β → sProp 𝕄) :
    wp frame (wpE defs₀ Variants.none (c : Thread nD τ) none) Set.univ (k init) R
      ⊢ wp frame (wpE defs₀ Variants.none (c : Thread nD τ) none) Set.univ
          (Scf.Loop.for (k0_t2_loop i) (k0_t2_ok i) init (k0_t2_body (F := F) i arg2 harg2 arg3 harg3 arg4 harg4 arg5 harg5 arg6 harg6 arg7 harg7 arg8 harg8 v1 v3 v94 v100) >>= k) R := by
  have h : Scf.Loop.for (k0_t2_loop i) (k0_t2_ok i) init (k0_t2_body (F := F) i arg2 harg2 arg3 harg3 arg4 harg4 arg5 harg5 arg6 harg6 arg7 harg7 arg8 harg8 v1 v3 v94 v100) = .ret init :=
    Scf.for_eq_ret _ _ _ _ init _ (t2_trips i)
  rw [h]
  exact .rfl

/-- A point's accumulators from the diagonal block's, an odd number of full blocks above. -/
theorem pointAcc_odd (j : ℕ) (h : j % 2 = 0) : pointAcc kb vb Q D j G
    = pairs (k0_pay24 kb) (k0_pay25 vb) Q D j ((7 - j) / 2)
        (fullStep (k0_pay24 kb) (k0_pay25 vb) Q D (1024 * j + 1024) (diagStep kb vb Q D j G)) := by
  unfold pointAcc oddStep; rw [if_pos h]

/-- A point's accumulators from the diagonal block's, an even number of full blocks above. -/
theorem pointAcc_even (j : ℕ) (h : ¬ j % 2 = 0) : pointAcc kb vb Q D j G
    = pairs (k0_pay24 kb) (k0_pay25 vb) Q D j ((7 - j) / 2) (diagStep kb vb Q D j G) := by
  unfold pointAcc oddStep; rw [if_neg h]

/-- The whole point but for the final scaling of the queries' gradient. -/
theorem wp_part5 (f6 : arg6.view.ty.Contents (Elt F)) (f7 : arg7.view.ty.Contents (Elt F)) (R : BitVec 1 → sProp 𝕄) :
    iprop(Held c arg2 harg2 Q ∗ Held c arg3 harg3 kb ∗ Held c arg4 harg4 vb ∗ Held c arg5 harg5 D ∗ (arg6.view.loc (c : Thread nD τ) ↦{fullShare} f6) ∗ (arg7.view.loc (c : Thread nD τ) ↦{fullShare} f7) ∗ Held c arg8 harg8 G)
      ⊢ iprop((iprop(Held c arg2 harg2 Q ∗ Held c arg3 harg3 kb ∗ Held c arg4 harg4 vb ∗ Held c arg5 harg5 D ∗ Held c arg6 harg6 (dkOut kb vb Q D (i 1).val) ∗ Held c arg7 harg7 (dvOut kb vb Q D (i 1).val) ∗ Held c arg8 harg8 (pointAcc kb vb Q D (i 1).val (dqStart (i 1).val G)).2)
          -∗ R (Scalar.cmpi .ne (Scalar.extui (Scalar.cmpi .eq (BitVec.ofNat 32 (i 1).val) 7#32) : BitVec 32) 0#32))
        -∗ wp frame (wpE defs₀ Variants.none (c : Thread nD τ) none) Set.univ (k0_part5 (F := F) i arg2 harg2 arg3 harg3 arg4 harg4 arg5 harg5 arg6 harg6 arg7 harg7 arg8 harg8) R) := by
  rw [k0_part5_eq_skeleton]
  unfold k0_part5_skel
  have e1 : (pointAcc kb vb Q D (i 1).val (k0_pay26 (F := F))).1 = (pointAcc kb vb Q D (i 1).val (dqStart (i 1).val G)).1 :=
    pointAcc_fst kb vb Q D (i 1).val _ _
  unfold dkOut dvOut
  rw [e1]
  by_cases h : k0_cond2 i = 1#1
  · rw [pointAcc_odd kb vb Q D _ _ ((cond2_eq i).mp h)]
    simp only [dif_pos h]
    iintro ⟨H2, H3, H4, H5, H6, H7, H8⟩ HK
    iapply (wp_part3 c i arg2 harg2 arg3 harg3 arg4 harg4 arg5 harg5 arg6 harg6 arg7 harg7 arg8 harg8 kb vb Q D G) $$ [H2 H3 H4 H5 H8]
    · isplitl [H2]; · iexact H2
      isplitl [H3]; · iexact H3
      isplitl [H4]; · iexact H4
      isplitl [H5]; · iexact H5
      iexact H8
    iintro ⟨H2, H3, H4, H5, H8⟩
    dsimp only
    iapply (wp_part4 c i arg2 harg2 arg3 harg3 arg4 harg4 arg5 harg5 arg6 harg6 arg7 harg7 arg8 harg8 kb vb Q D (dqStart (i 1).val G)) $$ [H2 H3 H4 H5 H8]
    · isplitl [H2]; · iexact H2
      isplitl [H3]; · iexact H3
      isplitl [H4]; · iexact H4
      isplitl [H5]; · iexact H5
      iexact H8
    iintro ⟨H2, H3, H4, H5, H8⟩
    dsimp only
    iapply (wp_load_rows _ _ _ _ harg2 Q (k0_off3_eq i)) $$ H2
    iintro H2
    iapply (wp_load_rows _ _ _ _ harg5 D (k0_off3_eq i)) $$ H5
    iintro H5
    iapply (wp_load_rows _ _ _ _ harg8 _ (k0_off3_eq i)) $$ H8
    iintro H8
    iapply (wp_load_rows _ _ _ _ harg8 _ (k0_off3_eq i)) $$ H8
    iintro H8
    iapply (wp_store_rows _ _ _ _ harg8 _ (k0_off3_eq i)) $$ H8
    iintro H8
    simp only [Prog.pure_eq_ret, Prog.bind]
    rw [show (k0_pay53 (k0_pay24 kb) (k0_pay25 vb) (k0_pay36 (k0_pay27 (F := F)) (k0_pay34 kb vb (getRows 512 (1024 * (i 1).val + 512) Q) (getRows 512 (1024 * (i 1).val + 512) D))) (k0_pay45 (k0_pay24 kb) (k0_pay25 vb) (k0_pay27 (F := F)) (k0_pay34 kb vb (getRows 512 (1024 * (i 1).val + 512) Q) (getRows 512 (1024 * (i 1).val + 512) D)) (getRows 512 (1024 * (i 1).val) Q) (getRows 512 (1024 * (i 1).val) D)) (getRows 1024 (1024 * (i 1).val + 1024) Q) (getRows 1024 (1024 * (i 1).val + 1024) D), k0_pay54 (k0_pay24 kb) (k0_pay37 (k0_pay28 (F := F)) (k0_pay32 kb (getRows 512 (1024 * (i 1).val + 512) Q) (getRows 512 (1024 * (i 1).val + 512) D))) (k0_pay42 (k0_pay24 kb) (getRows 512 (1024 * (i 1).val) Q) (getRows 512 (1024 * (i 1).val) D)) (getRows 1024 (1024 * (i 1).val + 1024) Q) (getRows 1024 (1024 * (i 1).val + 1024) D)) = (fullStep (k0_pay24 kb) (k0_pay25 vb) Q D (1024 * (i 1).val + 1024) (diagStep kb vb Q D (i 1).val (dqStart (i 1).val G))).1 from rfl]
    iapply (wp_pairs c i arg2 harg2 arg3 harg3 arg4 harg4 arg5 harg5 arg6 harg6 arg7 harg7 arg8 harg8 Q D (k0_pay24 kb) (k0_pay25 vb) _ (fullStep (k0_pay24 kb) (k0_pay25 vb) Q D (1024 * (i 1).val + 1024) (diagStep kb vb Q D (i 1).val (dqStart (i 1).val G)))) $$ [H2 H5 H8]
    · isplitl [H2]; · iexact H2
      isplitl [H5]; · iexact H5
      iexact H8
    iintro ⟨H2, H5, H8⟩
    dsimp only
    iapply (wp_noTrips c i arg2 harg2 arg3 harg3 arg4 harg4 arg5 harg5 arg6 harg6 arg7 harg7 arg8 harg8)
    dsimp only
    iapply (wp_load (S := Finset.univ) _ _ _ _ (Finset.subset_univ _)) $$ H6
    iintro H6
    iapply (wp_store_all _ _ _ _ harg6 _) $$ H6
    iintro H6
    iapply (wp_load (S := Finset.univ) _ _ _ _ (Finset.subset_univ _)) $$ H7
    iintro H7
    iapply (wp_store_all _ _ _ _ harg7 _) $$ H7
    iintro H7
    iapply (le_wp_ret _ _)
    iapply HK
    isplitl [H2]; · iexact H2
    isplitl [H3]; · iexact H3
    isplitl [H4]; · iexact H4
    isplitl [H5]; · iexact H5
    isplitl [H6]; · iexact H6
    isplitl [H7]; · iexact H7
    iexact H8

  · rw [pointAcc_even kb vb Q D _ _ (fun hc => h ((cond2_eq i).mpr hc))]
    simp only [dif_neg h]
    iintro ⟨H2, H3, H4, H5, H6, H7, H8⟩ HK
    iapply (wp_part3 c i arg2 harg2 arg3 harg3 arg4 harg4 arg5 harg5 arg6 harg6 arg7 harg7 arg8 harg8 kb vb Q D G) $$ [H2 H3 H4 H5 H8]
    · isplitl [H2]; · iexact H2
      isplitl [H3]; · iexact H3
      isplitl [H4]; · iexact H4
      isplitl [H5]; · iexact H5
      iexact H8
    iintro ⟨H2, H3, H4, H5, H8⟩
    dsimp only
    iapply (wp_part4 c i arg2 harg2 arg3 harg3 arg4 harg4 arg5 harg5 arg6 harg6 arg7 harg7 arg8 harg8 kb vb Q D (dqStart (i 1).val G)) $$ [H2 H3 H4 H5 H8]
    · isplitl [H2]; · iexact H2
      isplitl [H3]; · iexact H3
      isplitl [H4]; · iexact H4
      isplitl [H5]; · iexact H5
      iexact H8
    iintro ⟨H2, H3, H4, H5, H8⟩
    dsimp only
    simp only [Prog.pure_eq_ret, Prog.bind_ret]
    rw [show (k0_pay46 (k0_pay36 (k0_pay27 (F := F)) (k0_pay34 kb vb (getRows 512 (1024 * (i 1).val + 512) Q) (getRows 512 (1024 * (i 1).val + 512) D))) (k0_pay45 (k0_pay24 kb) (k0_pay25 vb) (k0_pay27 (F := F)) (k0_pay34 kb vb (getRows 512 (1024 * (i 1).val + 512) Q) (getRows 512 (1024 * (i 1).val + 512) D)) (getRows 512 (1024 * (i 1).val) Q) (getRows 512 (1024 * (i 1).val) D)), k0_pay47 (k0_pay37 (k0_pay28 (F := F)) (k0_pay32 kb (getRows 512 (1024 * (i 1).val + 512) Q) (getRows 512 (1024 * (i 1).val + 512) D))) (k0_pay42 (k0_pay24 kb) (getRows 512 (1024 * (i 1).val) Q) (getRows 512 (1024 * (i 1).val) D))) = (diagStep kb vb Q D (i 1).val (dqStart (i 1).val G)).1 from rfl]
    iapply (wp_pairs c i arg2 harg2 arg3 harg3 arg4 harg4 arg5 harg5 arg6 harg6 arg7 harg7 arg8 harg8 Q D (k0_pay24 kb) (k0_pay25 vb) _ (diagStep kb vb Q D (i 1).val (dqStart (i 1).val G))) $$ [H2 H5 H8]
    · isplitl [H2]; · iexact H2
      isplitl [H5]; · iexact H5
      iexact H8
    iintro ⟨H2, H5, H8⟩
    dsimp only
    iapply (wp_noTrips c i arg2 harg2 arg3 harg3 arg4 harg4 arg5 harg5 arg6 harg6 arg7 harg7 arg8 harg8)
    dsimp only
    iapply (wp_load (S := Finset.univ) _ _ _ _ (Finset.subset_univ _)) $$ H6
    iintro H6
    iapply (wp_store_all _ _ _ _ harg6 _) $$ H6
    iintro H6
    iapply (wp_load (S := Finset.univ) _ _ _ _ (Finset.subset_univ _)) $$ H7
    iintro H7
    iapply (wp_store_all _ _ _ _ harg7 _) $$ H7
    iintro H7
    iapply (le_wp_ret _ _)
    iapply HK
    isplitl [H2]; · iexact H2
    isplitl [H3]; · iexact H3
    isplitl [H4]; · iexact H4
    isplitl [H5]; · iexact H5
    isplitl [H6]; · iexact H6
    isplitl [H7]; · iexact H7
    iexact H8

/-- The whole point: the two blocks it leaves and the queries' gradient. -/
theorem wp_body (f6 : arg6.view.ty.Contents (Elt F)) (f7 : arg7.view.ty.Contents (Elt F)) :
    iprop(Held c arg2 harg2 Q ∗ Held c arg3 harg3 kb ∗ Held c arg4 harg4 vb ∗ Held c arg5 harg5 D ∗ (arg6.view.loc (c : Thread nD τ) ↦{fullShare} f6) ∗ (arg7.view.loc (c : Thread nD τ) ↦{fullShare} f7) ∗ Held c arg8 harg8 G)
      ⊢ wp frame (wpE defs₀ Variants.none (c : Thread nD τ) none) Set.univ (cc0_fox_bwd (F := F) i arg2 harg2 arg3 harg3 arg4 harg4 arg5 harg5 arg6 harg6 arg7 harg7 arg8 harg8)
          (fun _ => (iprop(Held c arg2 harg2 Q ∗ Held c arg3 harg3 kb ∗ Held c arg4 harg4 vb ∗ Held c arg5 harg5 D ∗ Held c arg6 harg6 (dkOut kb vb Q D (i 1).val) ∗ Held c arg7 harg7 (dvOut kb vb Q D (i 1).val) ∗ Held c arg8 harg8 (dqOut kb vb Q D (i 1).val G)) : sProp 𝕄)) := by
  rw [cc0_fox_bwd_eq_skeleton]
  unfold cc0_fox_bwd_skel
  rw [wp_bind]
  iintro ⟨H2, H3, H4, H5, H6, H7, H8⟩
  iapply (wp_part5 c i arg2 harg2 arg3 harg3 arg4 harg4 arg5 harg5 arg6 harg6 arg7 harg7 arg8 harg8 kb vb Q D G f6 f7) $$ [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  iintro ⟨H2, H3, H4, H5, H6, H7, H8⟩
  unfold dqOut
  by_cases h : (i 1).val = 7
  · simp only [dif_pos ((cond3_eq i).mpr h), if_pos h]
    iapply (wp_load_all _ _ _ _ harg8 _) $$ H8
    iintro H8
    iapply (wp_load_all _ _ _ _ harg8 _) $$ H8
    iintro H8
    iapply (wp_store_all _ _ _ _ harg8 _) $$ H8
    iintro H8
    iapply (le_wp_ret _ _)
    isplitl [H2]; · iexact H2
    isplitl [H3]; · iexact H3
    isplitl [H4]; · iexact H4
    isplitl [H5]; · iexact H5
    isplitl [H6]; · iexact H6
    isplitl [H7]; · iexact H7
    iexact H8
  · simp only [dif_neg (fun hc => h ((cond3_eq i).mp hc)), if_neg h]
    iapply (le_wp_ret _ _)
    isplitl [H2]; · iexact H2
    isplitl [H3]; · iexact H3
    isplitl [H4]; · iexact H4
    isplitl [H5]; · iexact H5
    isplitl [H6]; · iexact H6
    isplitl [H7]; · iexact H7
    iexact H8

end Cert.Proof.KernelIdeal

end
-- ==== Proof.KI.Run.lean ====
/-
  The run of the whole program: what each grid point leaves in the staged blocks, and the frame.
-/
module

public import proofs.«01_k».proof.Proof.KI.Body

@[expose] public section

noncomputable section

namespace Cert.Proof.KernelIdeal

open Cert.Proof Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The queries staged at a point. -/
abbrev qAt (c : Dev nD) (t : Fin cfg0.N) : Rows 8192 (F .bf16) := iblk m c 0 t
/-- The key block staged at a point. -/
abbrev kAt (c : Dev nD) (t : Fin cfg0.N) : Rows 1024 (F .bf16) := iblk m c 1 t
/-- The value block staged at a point. -/
abbrev vAt (c : Dev nD) (t : Fin cfg0.N) : Rows 1024 (F .bf16) := iblk m c 2 t
/-- The result's gradient staged at a point. -/
abbrev dAt (c : Dev nD) (t : Fin cfg0.N) : Rows 8192 (F .bf16) := iblk m c 3 t
/-- The key block's number at a point. -/
abbrev jAt (t : Fin cfg0.N) : ℕ := ((cfg0.grid.coords t) 1).val

/-- The first grid point. -/
abbrev first : Fin cfg0.N := ⟨0, by decide⟩

/-- The queries' gradient after point `n`: each point adds to what the one before left. -/
def dqAt (c : Dev nD) : ℕ → Rows 8192 (F .f32)
  | 0 => dqOut (kAt m c first) (vAt m c first) (qAt m c first) (dAt m c first) (jAt first) (k0_pay26 (F := F))
  | n + 1 => if h : n + 1 < cfg0.N then
      dqOut (kAt m c ⟨n + 1, h⟩) (vAt m c ⟨n + 1, h⟩) (qAt m c ⟨n + 1, h⟩) (dAt m c ⟨n + 1, h⟩) (jAt ⟨n + 1, h⟩) (dqAt c n)
    else dqAt c n

/-- The proof data: inputs stay in place, each output block is what the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dkOut (kAt m c t) (vAt m c t) (qAt m c t) (dAt m c t) (jAt t)
    | ⟨5, _⟩ => dvOut (kAt m c t) (vAt m c t) (qAt m c t) (dAt m c t) (jAt t)
    | ⟨6, _⟩ => dqAt m c t.val
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = dkOut (kAt m c t) (vAt m c t) (qAt m c t) (dAt m c t) (jAt t) := by dsimp only [dats]
theorem after0_5 (c : Dev nD) (t : Fin cfg0.N) :
    (dats m 0 c).after 5 t = dvOut (kAt m c t) (vAt m c t) (qAt m c t) (dAt m c t) (jAt t) := by dsimp only [dats]
theorem after0_6 (c : Dev nD) (t : Fin cfg0.N) : (dats m 0 c).after 6 t = dqAt m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The key block's number is the point's remainder by 8. -/
theorem jAt_eq : ∀ t : Fin cfg0.N, jAt t = t.val % 8 := by decide +kernel

/-- A point's gradient of the queries, from whatever its buffer held when the body ran. -/
theorem dqAt_step (c : Dev nD) (t : Fin cfg0.N) (d) :
    dqOut (kAt m c t) (vAt m c t) (qAt m c t) (dAt m c t) (jAt t) ((dats m 0 c).before 6 t d) = dqAt m c t.val := by
  obtain ⟨n, hn⟩ := t
  by_cases hj : jAt ⟨n, hn⟩ = 0
  · cases n with
    | zero =>
      rw [dqAt]
      unfold dqOut dqStart
      rw [if_pos hj, if_pos hj]
    | succ n =>
      rw [dqAt, dif_pos hn]
      unfold dqOut dqStart
      rw [if_pos hj, if_pos hj]
  · have h0 : n ≠ 0 := by
      rintro rfl; exact hj (jAt_eq _)
    obtain ⟨n, rfl⟩ := Nat.exists_eq_succ_of_ne_zero h0
    have hf : (cfg0.win 6).flush ⟨n, Nat.lt_of_succ_lt hn⟩ = false := by
      rw [Bool.eq_false_iff]; intro hf
      have h7 := (flush0_6 _).mp hf
      have := jAt_eq ⟨n + 1, hn⟩
      dsimp only at h7
      apply hj; rw [this]; dsimp only; omega
    rw [(dats m 0 c).before_out_kept 6 rfl ⟨n + 1, hn⟩ h0 hf (fun _ => rfl) (fun _ _ => rfl) d, after0_6, dqAt, dif_pos hn]
    rfl

/-- A whole memref owned at contents is its buffer held at them; -/
theorem owns_held {sp : Space} {s : Shape} {e : EltTy} (c : Dev nD) (m : Memref sig .tc sp s e) (h : m.IsWhole) (X : s.Idx → Elt F e) :
    (owns (c : Thread nD τ) m fullShare X : sProp 𝕄) ⊢ Held c m h X := by
  unfold owns
  iintro ⟨%f, %hf, H⟩
  obtain rfl := h.eq_unread hf
  obtain ⟨b, rfl, rfl, rfl, hm⟩ := h
  cases hm
  simp only [Memref.view_whole, View.set_whole]
  iexact H
/-- and the other way round. -/
theorem held_owns {sp : Space} {s : Shape} {e : EltTy} (c : Dev nD) (m : Memref sig .tc sp s e) (h : m.IsWhole) (X : s.Idx → Elt F e) :
    Held c m h X ⊢ (owns (c : Thread nD τ) m fullShare X : sProp 𝕄) := by
  have hr := h.read_unread (Val := Elt F) X
  have e1 : m.view.set = Finset.univ := by
    obtain ⟨b, rfl, rfl, rfl, hm⟩ := h
    cases hm
    simp only [Memref.view_whole, View.set_whole]
  unfold owns
  iintro H
  iexists _
  isplitr
  · ipureintro; exact hr
  · rw [e1]; iexact H

abbrev 𝒱₀ : Variants := Variants.none

/-- Every grid point runs and leaves what the proof data say. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3]
  rw [show (dats m 0 c).Φ t.succ = (dats m 0 c).Φ t.castSucc from rfl,
    show (dats m 0 c).owesAt () t.succ = (dats m 0 c).owesAt () t.castSucc from rfl, after0_0, after0_1, after0_2, after0_3,
    after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  ihave H0 := (owns_held c _ (hstage0_0 (cfg0.slots t 0)) _) $$ H0
  ihave H1 := (owns_held c _ (hstage0_1 (cfg0.slots t 1)) _) $$ H1
  ihave H2 := (owns_held c _ (hstage0_2 (cfg0.slots t 2)) _) $$ H2
  ihave H3 := (owns_held c _ (hstage0_3 (cfg0.slots t 3)) _) $$ H3
  ihave H4 := (owns_held c _ (hstage0_4 (cfg0.slots t 4)) _) $$ H4
  ihave H5 := (owns_held c _ (hstage0_5 (cfg0.slots t 5)) _) $$ H5
  ihave H6 := (owns_held c _ (hstage0_6 (cfg0.slots t 6)) _) $$ H6
  iapply (wp_wand frame _ Set.univ) $$ [H0 H1 H2 H3 H4 H5 H6]
  · iapply (wp_body c (cfg0.grid.coords t) _ (hstage0_0 (cfg0.slots t 0)) _ (hstage0_1 (cfg0.slots t 1)) _ (hstage0_2 (cfg0.slots t 2)) _
      (hstage0_3 (cfg0.slots t 3)) _ (hstage0_4 (cfg0.slots t 4)) _ (hstage0_5 (cfg0.slots t 5)) _ (hstage0_6 (cfg0.slots t 6))
      (kAt m c t) (vAt m c t) (qAt m c t) (dAt m c t) ((dats m 0 c).before 6 t d6) _ _)
    isplitl [H0]; · iexact H0
    isplitl [H1]; · iexact H1
    isplitl [H2]; · iexact H2
    isplitl [H3]; · iexact H3
    isplitl [H4]; · iexact H4
    isplitl [H5]; · iexact H5
    iexact H6
  iintro %_ ⟨H0, H1, H2, H3, H4, H5, H6⟩
  isplitl [HΦ]; · iexact HΦ
  isplitl [Ho]; · iexact Ho
  ihave H0 := (held_owns c _ (hstage0_0 (cfg0.slots t 0)) _) $$ H0
  ihave H1 := (held_owns c _ (hstage0_1 (cfg0.slots t 1)) _) $$ H1
  ihave H2 := (held_owns c _ (hstage0_2 (cfg0.slots t 2)) _) $$ H2
  ihave H3 := (held_owns c _ (hstage0_3 (cfg0.slots t 3)) _) $$ H3
  ihave H4 := (held_owns c _ (hstage0_4 (cfg0.slots t 4)) _) $$ H4
  ihave H5 := (held_owns c _ (hstage0_5 (cfg0.slots t 5)) _) $$ H5
  ihave H6 := (held_owns c _ (hstage0_6 (cfg0.slots t 6)) _) $$ H6
  rw [dqAt_step]
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
/-- From any memory with zero counters the program terminates, nothing faulting, with every staged array at what the proof data
say, every other buffer at what the host code makes of it, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- The frame: the arguments end as launched and every semaphore counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main (F := F) m ρ)

end Cert.Proof.KernelIdeal

end
-- ==== Proof.KI.Arrays.lean ====
/-
  The three result arrays of the kernel, over the reals: each element a sum over all queries or all keys of its head.
-/
module

public import proofs.«01_k».proof.Proof.KI.Fold
public import proofs.«01_k».proof.Proof.KI.Run
public import Idealize.ShloMosaic.Lib.Pipeline.ValueKit

@[expose] public section

noncomputable section

namespace Cert.Proof.KernelIdeal

open Cert.Proof Cert.KernelIdeal Cert.KernelIdeal.Gen Idealize.ShloMosaic Idealize.ShloMosaic.TcCoe
open Idealize.SL Idealize.SL.RA
open Idealize.ShloMosaic.Pipeline (Dat)

/-- Arrays of 8 heads side by side, 128 columns each. -/
abbrev Wide : Type := S8192x1024.Idx → EReal

/-- The columns of head `h`. -/
def hd (h : ℕ) (X : Wide) : Rows 8192 EReal := fun i => X (ix2 (i 0) (Fin.ofNat 1024 (h * 128 + (i 1).val)))

/-- Heads put side by side. -/
def ofHeads (f : ℕ → Rows 8192 EReal) : Wide :=
  fun i => f ((i 1).val / 128) (ix2 (i 0) ⟨(i 1).val % 128, Nat.mod_lt _ (by decide)⟩)

section Head

variable (K V Q D : Rows 8192 EReal)

/-- The weight of a key and a query: none where the key lies after the query. -/
def wtH (κ y : Fin 8192) : EReal := if κ.val ≤ y.val then ee (row K κ) (row Q y) else 0
/-- The weight's gradient. -/
def dwH (κ y : Fin 8192) : EReal := wtH K Q κ y * dt (row V κ) (row D y)
/-- A head's gradient of the keys. -/
def dkH : Rows 8192 EReal := fun i => (∑ y : Fin 8192, dwH K V Q D (i 0) y * Q (ix2 y (i 1))) * laneFactor (i 1)
/-- A head's gradient of the values. -/
def dvH : Rows 8192 EReal := fun i => ∑ y : Fin 8192, wtH K Q (i 0) y * D (ix2 y (i 1))
/-- A head's gradient of the queries. -/
def dqH : Rows 8192 EReal := fun i => (∑ κ : Fin 8192, dwH K V Q D κ (i 0) * K (ix2 κ (i 1))) * laneFactor (i 1)

variable {j : ℕ} (hj : j < 8)
include hj

theorem wt_block (κ : Fin 1024) (y : Fin 8192) :
    wt (getRows 1024 (1024 * j) K) Q j κ y.val = wtH K Q (Fin.ofNat 8192 (1024 * j + κ.val)) y := by
  unfold wt wtH
  have e : rowN Q y.val = row Q y := funext fun l => rowN_val Q y l
  have e' : (Fin.ofNat 8192 (1024 * j + κ.val)).val = 1024 * j + κ.val := Nat.mod_eq_of_lt (by omega)
  rw [e, e']
  rfl

theorem dw_block (κ : Fin 1024) (y : Fin 8192) :
    dw (getRows 1024 (1024 * j) K) (getRows 1024 (1024 * j) V) Q D j κ y.val
      = dwH K V Q D (Fin.ofNat 8192 (1024 * j + κ.val)) y := by
  unfold dw dwH
  have e : rowN D y.val = row D y := funext fun l => rowN_val D y l
  rw [wt_block K Q hj, e]
  rfl

theorem dkOut_block (κ : Fin 1024) (l : Fin 128) :
    dkOut (F := Ideal) (getRows 1024 (1024 * j) K) (getRows 1024 (1024 * j) V) Q D j (ix2 κ l)
      = dkH K V Q D (ix2 (Fin.ofNat 8192 (1024 * j + κ.val)) l) := by
  rw [dkOut_at hj]
  exact congrArg (· * laneFactor l) (Finset.sum_congr rfl fun y _ => by rw [dw_block K V Q D hj]; rfl)

theorem dvOut_block (κ : Fin 1024) (l : Fin 128) :
    dvOut (F := Ideal) (getRows 1024 (1024 * j) K) (getRows 1024 (1024 * j) V) Q D j (ix2 κ l)
      = dvH K Q D (ix2 (Fin.ofNat 8192 (1024 * j + κ.val)) l) := by
  rw [dvOut_at hj]
  exact Finset.sum_congr rfl fun y _ => by rw [wt_block K Q hj]; rfl

/-- What one point adds to a query's gradient: the keys of its block. -/
theorem acc_block (G : Rows 8192 EReal) (y : Fin 8192) (l : Fin 128) :
    (pointAcc (F := Ideal) (getRows 1024 (1024 * j) K) (getRows 1024 (1024 * j) V) Q D j G).2 (ix2 y l)
      = G (ix2 y l) + ∑ n ∈ Finset.Ico (1024 * j) (1024 * j + 1024), dwH K V Q D (Fin.ofNat 8192 n) y * K (ix2 (Fin.ofNat 8192 n) l) := by
  rw [pointAcc_dq hj, ← sum_from 1024 (1024 * j)]
  refine congrArg _ (Finset.sum_congr rfl fun κ _ => ?_)
  rw [dw_block K V Q D hj]
  rfl

end Head

variable (m : (ℓ : Loc nD τ sig) → Buf (Elt Ideal) ℓ) (c : Dev nD)

/-- The staged arrays: queries, keys, values, the result's gradient. -/
abbrev qArr : Wide := V m c main_v76
abbrev kArr : Wide := V m c main_v99
abbrev vArr : Wide := V m c main_v107
abbrev dArr : Wide := V m c main_v124

theorem idx : ∀ t : Fin cfg0.N, win0_0.index t = ![0, t.val / 8] ∧ win0_1.index t = ![t.val % 8, t.val / 8]
    ∧ win0_2.index t = ![t.val % 8, t.val / 8] ∧ win0_3.index t = ![0, t.val / 8] ∧ win0_4.index t = ![t.val % 8, t.val / 8]
    ∧ win0_5.index t = ![t.val % 8, t.val / 8] ∧ win0_6.index t = ![0, t.val / 8] ∧ t.val / 8 < 8 :=
  (by decide +kernel : ∀ t : Fin grid0.N, _)

theorem val_col {h i : ℕ} (hh : h < 8) (hi : i < 128) : (Fin.ofNat 1024 (h * 128 + i)).val = h * 128 + i :=
  Nat.mod_eq_of_lt (by omega)
theorem val_row {j i : ℕ} (hj : j < 8) (hi : i < 1024) : (Fin.ofNat 8192 (1024 * j + i)).val = 1024 * j + i :=
  Nat.mod_eq_of_lt (by omega)

/-- The staged blocks, as parts of the staged arrays. -/
theorem qAt_eq (t : Fin cfg0.N) : qAt m c t = hd (t.val / 8) (qArr m c) := by
  funext i
  idx_vars i
  unfold hd
  have h := (idx t).2.2.2.2.2.2.2
  blk_ext [iblk, idx t]
  rw [val_col h (by omega)]
theorem dAt_eq (t : Fin cfg0.N) : dAt m c t = hd (t.val / 8) (dArr m c) := by
  funext i
  idx_vars i
  unfold hd
  have h := (idx t).2.2.2.2.2.2.2
  blk_ext [iblk, idx t]
  rw [val_col h (by omega)]
theorem kAt_eq (t : Fin cfg0.N) : kAt m c t = getRows 1024 (1024 * (t.val % 8)) (hd (t.val / 8) (kArr m c)) := by
  funext i
  idx_vars i
  unfold hd getRows
  have h := (idx t).2.2.2.2.2.2.2
  blk_ext [iblk, idx t]
  · rw [val_row (by omega) (by omega)]; omega
  · rw [val_col h (by omega)]
theorem vAt_eq (t : Fin cfg0.N) : vAt m c t = getRows 1024 (1024 * (t.val % 8)) (hd (t.val / 8) (vArr m c)) := by
  funext i
  idx_vars i
  unfold hd getRows
  have h := (idx t).2.2.2.2.2.2.2
  blk_ext [iblk, idx t]
  · rw [val_row (by omega) (by omega)]; omega
  · rw [val_col h (by omega)]

theorem ofHeads_at (f : ℕ → Rows 8192 EReal) (i : S8192x1024.Idx) (h : ℕ) (r : Fin 8192) (l : Fin 128)
    (e0 : (i 0).val = r.val) (e1 : (i 1).val = h * 128 + l.val) : ofHeads f i = f h (ix2 r l) := by
  have h0 : (i 0) = r := Fin.ext e0
  have h1 : (i 1).val / 128 = h := by rw [e1]; omega
  have h2 : (⟨(i 1).val % 128, Nat.mod_lt _ (by decide)⟩ : Fin 128) = l := Fin.ext (by dsimp only; rw [e1]; omega)
  unfold ofHeads
  rw [h0, h1, h2]

/-- The array of the keys' gradients. -/
theorem dk_array : (dats m 0 c).arrAt 4 cfg0.N
    = ofHeads (fun h => dkH (hd h (kArr m c)) (hd h (vArr m c)) (hd h (qArr m c)) (hd h (dArr m c))) := by
  refine (dats m 0 c).arrAt_eq_of_covers 4 _ (by decide +kernel) fun t hf y => ?_
  blk_simp
  rw [after0_4, qAt_eq, dAt_eq, kAt_eq, vAt_eq, jAt_eq]
  idx_vars y
  refine Eq.trans ?_ (ofHeads_at _ _ (t.val / 8) (Fin.ofNat 8192 (1024 * (t.val % 8) + y0.val)) y1 ?_ ?_).symm
  · exact dkOut_block _ _ _ _ (by omega) _ _
  · have e : (Fin.ofNat 8192 (1024 * (t.val % 8) + y0.val)).val = t.val % 8 * 1024 + y0.val := by
      rw [val_row (by omega) (by omega), Nat.mul_comm]
    refine Eq.trans ?_ e.symm
    blk_simp [idx t]
  · blk_simp [idx t]

/-- The array of the values' gradients. -/
theorem dv_array : (dats m 0 c).arrAt 5 cfg0.N
    = ofHeads (fun h => dvH (hd h (kArr m c)) (hd h (qArr m c)) (hd h (dArr m c))) := by
  refine (dats m 0 c).arrAt_eq_of_covers 5 _ (by decide +kernel) fun t hf y => ?_
  blk_simp
  rw [after0_5, qAt_eq, dAt_eq, kAt_eq, vAt_eq, jAt_eq]
  idx_vars y
  refine Eq.trans ?_ (ofHeads_at _ _ (t.val / 8) (Fin.ofNat 8192 (1024 * (t.val % 8) + y0.val)) y1 ?_ ?_).symm
  · exact dvOut_block _ _ _ _ (by omega) _ _
  · have e : (Fin.ofNat 8192 (1024 * (t.val % 8) + y0.val)).val = t.val % 8 * 1024 + y0.val := by
      rw [val_row (by omega) (by omega), Nat.mul_comm]
    refine Eq.trans ?_ e.symm
    blk_simp [idx t]
  · blk_simp [idx t]

/-- The queries' gradient after a point: the keys of the blocks so far; scaled at the last. -/
theorem dqAt_val (h : ℕ) (hh : h < 8) (j : ℕ) (hj : j < 8) (y : Fin 8192) (l : Fin 128) :
    dqAt m c (8 * h + j) (ix2 y l)
      = (∑ n ∈ Finset.Ico 0 (1024 * j + 1024), dwH (hd h (kArr m c)) (hd h (vArr m c)) (hd h (qArr m c)) (hd h (dArr m c)) (Fin.ofNat 8192 n) y
          * hd h (kArr m c) (ix2 (Fin.ofNat 8192 n) l)) * (if j = 7 then laneFactor l else 1) := by
  induction j using Nat.strong_induction_on generalizing l with | _ j ih => ?_
  have hlt : 8 * h + j < cfg0.N := by show 8 * h + j < 64; omega
  have hd8 : (8 * h + j) / 8 = h := by omega
  have hm8 : (8 * h + j) % 8 = j := by omega
  have step : ∀ G : Rows 8192 EReal, (∀ l', j ≠ 0 → G (ix2 y l') = ∑ n ∈ Finset.Ico 0 (1024 * j), dwH (hd h (kArr m c)) (hd h (vArr m c)) (hd h (qArr m c)) (hd h (dArr m c)) (Fin.ofNat 8192 n) y
          * hd h (kArr m c) (ix2 (Fin.ofNat 8192 n) l')) →
      dqOut (F := Ideal) (kAt m c ⟨8 * h + j, hlt⟩) (vAt m c ⟨8 * h + j, hlt⟩) (qAt m c ⟨8 * h + j, hlt⟩) (dAt m c ⟨8 * h + j, hlt⟩)
        (jAt ⟨8 * h + j, hlt⟩) G (ix2 y l) = (∑ n ∈ Finset.Ico 0 (1024 * j + 1024), dwH (hd h (kArr m c)) (hd h (vArr m c)) (hd h (qArr m c)) (hd h (dArr m c)) (Fin.ofNat 8192 n) y
          * hd h (kArr m c) (ix2 (Fin.ofNat 8192 n) l)) * (if j = 7 then laneFactor l else 1) := by
    intro G hG
    rw [qAt_eq, dAt_eq, kAt_eq, vAt_eq, jAt_eq]
    dsimp only
    rw [hd8, hm8]
    have acc : (pointAcc (F := Ideal) (getRows 1024 (1024 * j) (hd h (kArr m c))) (getRows 1024 (1024 * j) (hd h (vArr m c)))
        (hd h (qArr m c)) (hd h (dArr m c)) j (dqStart (F := Ideal) j G)).2 (ix2 y l)
        = ∑ n ∈ Finset.Ico 0 (1024 * j + 1024), dwH (hd h (kArr m c)) (hd h (vArr m c)) (hd h (qArr m c)) (hd h (dArr m c)) (Fin.ofNat 8192 n) y
          * hd h (kArr m c) (ix2 (Fin.ofNat 8192 n) l) := by
      rw [acc_block _ _ _ _ hj]
      by_cases h0 : j = 0
      · subst h0
        rw [show dqStart (F := Ideal) 0 G = k0_pay26 (F := Ideal) from if_pos rfl, pay26_at, zero_add]
      · rw [show dqStart (F := Ideal) j G = G from if_neg h0, hG l h0,
          Finset.sum_Ico_consecutive _ (Nat.zero_le _) (Nat.le_add_right _ _)]
    unfold dqOut
    by_cases h7 : j = 7
    · rw [if_pos h7, if_pos h7, pay1_at, acc]
    · rw [if_neg h7, if_neg h7, acc, mul_one]
  cases h' : 8 * h + j with
  | zero =>
    have e := step (k0_pay26 (F := Ideal)) (fun _ hne => absurd (by omega) hne)
    simp only [h'] at e
    exact e
  | succ n =>
    have hlt' : n + 1 < cfg0.N := h' ▸ hlt
    rw [dqAt, dif_pos hlt']
    have e := step (dqAt m c n) (fun l' hne => by
      have en : n = 8 * h + (j - 1) := by omega
      rw [en, ih (j - 1) (by omega) (by omega) l', if_neg (by omega), mul_one, show 1024 * (j - 1) + 1024 = 1024 * j by omega])
    simp only [h'] at e
    exact e

/-- The array of the queries' gradients. -/
theorem dq_array : (dats m 0 c).arrAt 6 cfg0.N
    = ofHeads (fun h => dqH (hd h (kArr m c)) (hd h (vArr m c)) (hd h (qArr m c)) (hd h (dArr m c))) := by
  refine (dats m 0 c).arrAt_eq_of_covers 6 _ (by decide +kernel) fun t hf y => ?_
  have h7 := (flush0_6 t).mp hf
  have h8 := (idx t).2.2.2.2.2.2.2
  blk_simp
  rw [after0_6]
  idx_vars y
  refine Eq.trans ?_ (ofHeads_at _ _ (t.val / 8) y0 y1 ?_ ?_).symm
  · have e := dqAt_val m c (t.val / 8) h8 7 (by decide) y0 y1
    rw [show 8 * (t.val / 8) + 7 = t.val by omega, if_pos rfl] at e
    refine e.trans ?_
    refine congrArg (· * laneFactor y1) ?_
    refine (sum_all (N := 8192) _ 0 (Nat.zero_le _) (fun n hn => absurd hn (Nat.not_lt_zero n))).trans ?_
    refine Finset.sum_congr rfl fun κ _ => ?_
    rw [show Fin.ofNat 8192 κ.val = κ from Fin.ext (Nat.mod_eq_of_lt κ.isLt)]
    rfl
  · blk_simp [idx t]
  · blk_simp [idx t]

end Cert.Proof.KernelIdeal
end
-- ==== Proof.KI.Heads.lean ====
/-
  The three results of one head at the lanes the program reads: the real numbers of Model.lean.
-/
module

public import proofs.«01_k».proof.Proof.KI.Arrays
public import proofs.«01_k».proof.Proof.Model

@[expose] public section

noncomputable section

namespace Cert.Proof.KernelIdeal

open Cert.Proof Cert.KernelIdeal Cert.KernelIdeal.Gen Idealize.ShloMosaic

/-- The four arrays of head `h`, as the packing makes them. -/
structure Packed (A : Args) (h : Fin 8) (K V Q D : Rows 8192 EReal) : Prop where
  k : ∀ t l, K (ix2 t l) = (kL A h t l : EReal)
  v : ∀ t l, V (ix2 t l) = (vL A h t l : EReal)
  q : ∀ t l, Q (ix2 t l) = (qL A h t l : EReal)
  d : ∀ t l, D (ix2 t l) = (gL A h t l : EReal)

variable {A : Args} {h : Fin 8} {K V Q D : Rows 8192 EReal} (P : Packed A h K V Q D)
include P

theorem wtH_real (κ y : Fin 8192) : wtH K Q κ y = (pr A h y κ : EReal) := by
  unfold wtH
  split
  · next hk =>
    unfold ee cst dt
    simp only [row, P.k, P.q, ← EReal.coe_mul, ← coe_sum]
    rw [lanes_score]
    show ((Real.rpow 2 _ : ℝ) : EReal) = _
    rw [two_pow_score A h y κ hk]
  · next hk => rw [pr_masked A h y κ hk, EReal.coe_zero]

theorem dwH_real (κ y : Fin 8192) : dwH K V Q D κ y = (ds A h y κ : EReal) := by
  unfold dwH dt
  rw [wtH_real P]
  simp only [row, P.v, P.d, ← EReal.coe_mul, ← coe_sum]
  rw [lanes_dP]
  rfl

/-- The queries' gradient at a lane of the queries. -/
theorem dqH_real (t : Fin 8192) (l : Fin 128) (hl : l.val < 64) :
    dqH K V Q D (ix2 t l) = (dqR A h t ⟨l.val, hl⟩ : EReal) := by
  show (∑ κ : Fin 8192, dwH K V Q D κ t * K (ix2 κ l)) * laneFactor l = _
  unfold laneFactor
  rw [if_pos hl]
  simp only [dwH_real P, P.k, ← EReal.coe_mul, ← coe_sum]
  refine congrArg _ ?_
  unfold dqR
  rw [Finset.sum_mul]
  refine Finset.sum_congr rfl fun κ _ => ?_
  unfold kL
  rw [dif_pos hl]
  ring

/-- The keys' gradient at a lane of the keys. -/
theorem dkH_real (κ : Fin 8192) (l : Fin 128) (hl : l.val < 64) :
    dkH K V Q D (ix2 κ l) = (dkR A h κ ⟨l.val, hl⟩ : EReal) := by
  show (∑ y : Fin 8192, dwH K V Q D κ y * Q (ix2 y l)) * laneFactor l = _
  unfold laneFactor
  rw [if_pos hl]
  simp only [dwH_real P, P.q, ← EReal.coe_mul, ← coe_sum]
  refine congrArg _ ?_
  unfold dkR
  rw [Finset.sum_mul]
  refine Finset.sum_congr rfl fun y _ => ?_
  unfold qL
  rw [dif_pos hl]
  ring

/-- The values' gradient at a lane of the values. -/
theorem dvH_real (κ : Fin 8192) (l : Fin 128) (hl : l.val < 64) :
    dvH K Q D (ix2 κ l) = (dvR A h κ ⟨l.val, hl⟩ : EReal) := by
  show (∑ y : Fin 8192, wtH K Q κ y * D (ix2 y l)) = _
  simp only [wtH_real P, P.d, ← EReal.coe_mul, ← coe_sum]
  refine congrArg _ ?_
  unfold dvR
  refine Finset.sum_congr rfl fun y _ => ?_
  unfold gL
  rw [dif_pos hl]
  ring

/-- The queries' gradient at lane 64: what the query's gate adds to its scores. -/
theorem dqH_gate (t : Fin 8192) (l : Fin 128) (hl : l.val = 64) :
    dqH K V Q D (ix2 t l) = ((∑ κ, ds A h t κ : ℝ) : EReal) := by
  show (∑ κ : Fin 8192, dwH K V Q D κ t * K (ix2 κ l)) * laneFactor l = _
  unfold laneFactor
  rw [if_neg (by omega), mul_one]
  simp only [dwH_real P, P.k, ← EReal.coe_mul, ← coe_sum]
  refine congrArg _ (Finset.sum_congr rfl fun κ _ => ?_)
  unfold kL
  rw [dif_neg (by omega), if_pos (by omega), mul_one]

/-- The keys' gradient at lane 70: what the key's gate takes off its scores. -/
theorem dkH_gate (κ : Fin 8192) (l : Fin 128) (hl : l.val = 70) :
    dkH K V Q D (ix2 κ l) = ((∑ y, ds A h y κ : ℝ) : EReal) := by
  show (∑ y : Fin 8192, dwH K V Q D κ y * Q (ix2 y l)) * laneFactor l = _
  unfold laneFactor
  rw [if_neg (by omega), mul_one]
  simp only [dwH_real P, P.q, ← EReal.coe_mul, ← coe_sum]
  refine congrArg _ (Finset.sum_congr rfl fun y _ => ?_)
  unfold qL
  rw [dif_neg (by omega), if_neg (by omega), if_neg (by omega), if_pos (by omega), mul_one]

end Cert.Proof.KernelIdeal
-- ==== Proof.KI.Tail.lean ====
/-
  The host operations after the kernel: each result of the program is some lanes of a result of the kernel, the gates'
  gradient the difference of two.
-/
module

public import proofs.«01_k».proof.Proof.KI.Arrays
public import Idealize.ShloMosaic.Lib.StableHlo.Run
public import Idealize.ShloMosaic.Lib.Pointwise

@[expose] public section

set_option maxRecDepth 8192

noncomputable section

namespace Cert.Proof.KernelIdeal

open Cert.Proof Cert.KernelIdeal Cert.KernelIdeal.Gen Idealize.ShloMosaic Idealize.ShloMosaic.TcCoe Idealize.SL.Sem Idealize.ShloMosaic.StableHlo

/-- The first 64 lanes of every head, side by side. -/
def lanes (X : FVec Ideal S8192x1024 .f32) : FVec Ideal S8192x512 .f32 :=
  shapeCast S8192x512 (extractStridedSlice S8192x8x64 ![0, 0, 0] (shapeCast S8192x8x128 X shapeCasts_S8192x1024_S8192x8x128)
    slices_S8192x8x128_S8192x8x64_0_0_0) shapeCasts_S8192x8x64_S8192x512

/-- Lane 64 of every head of the queries' gradient less lane 70 of the keys'. -/
def gates (X Y : FVec Ideal S8192x1024 .f32) : FVec Ideal S8192x8 .f32 :=
  subf (shapeCast S8192x8 (extractStridedSlice S8192x8x1 ![0, 0, 64] (shapeCast S8192x8x128 X shapeCasts_S8192x1024_S8192x8x128)
      slices_S8192x8x128_S8192x8x1_0_0_64) shapeCasts_S8192x8x1_S8192x8)
    (shapeCast S8192x8 (extractStridedSlice S8192x8x1 ![0, 0, 70] (shapeCast S8192x8x128 Y shapeCasts_S8192x1024_S8192x8x128)
      slices_S8192x8x128_S8192x8x1_0_0_70) shapeCasts_S8192x8x1_S8192x8)

theorem lanes_at (f : ℕ → Rows 8192 EReal) (t : Fin 8192) (l : Fin 512) :
    lanes (ofHeads f) (ix2 t l) = f (l.val / 64) (ix2 t ⟨l.val % 64, by omega⟩) := by
  unfold lanes
  pointwise
  refine ofHeads_at f _ (l.val / 64) t ⟨l.val % 64, by omega⟩ ?_ ?_
  · rfl
  · rfl

theorem gates_at (f g : ℕ → Rows 8192 EReal) (t : Fin 8192) (h : Fin 8) :
    gates (ofHeads f) (ofHeads g) (ix2 t h) = f h.val (ix2 t ⟨64, by decide⟩) - g h.val (ix2 t ⟨70, by decide⟩) := by
  unfold gates
  pointwise
  refine congrArg₂ (· - ·) (ofHeads_at f _ h.val t ⟨64, by decide⟩ ?_ ?_) (ofHeads_at g _ h.val t ⟨70, by decide⟩ ?_ ?_)
  · rfl
  · rfl
  · rfl
  · rfl

variable (m : (ℓ : Loc nD τ sig) → Buf (Elt Ideal) ℓ) (c : Dev nD)

/-- The contents the kernel leaves. -/
def W : Valuation τ sig (Elt Ideal) :=
  Pipeline.withArrays (cfgs 0).spec c (V0 m c) fun w => (dats m 0 c).arrAt w (cfgs 0).N

theorem arr_inj : Function.Injective (Pipeline.arrRef (cfgs 0).spec) := by decide

theorem W_dk : W m c (Proc.devRef .tc main_v125_0) = (dats m 0 c).arrAt 4 cfg0.N :=
  Pipeline.withArrays_arr (cfgs 0).spec arr_inj c (V0 m c) _ 4
theorem W_dv : W m c (Proc.devRef .tc main_v125_1) = (dats m 0 c).arrAt 5 cfg0.N :=
  Pipeline.withArrays_arr (cfgs 0).spec arr_inj c (V0 m c) _ 5
theorem W_dq : W m c (Proc.devRef .tc main_v125_2) = (dats m 0 c).arrAt 6 cfg0.N :=
  Pipeline.withArrays_arr (cfgs 0).spec arr_inj c (V0 m c) _ 6

theorem tail_eq (b : Ref sig .tc) :
    Pipeline.afterTail₀ cfgs (dats m) 0 (V0 m) [hostOps1] c b = after hostOps1 (W m c) (Proc.devRef .tc b) := rfl

theorem tail_v136 : Pipeline.afterTail₀ cfgs (dats m) 0 (V0 m) [hostOps1] c main_v136
    = lanes (W m c (Proc.devRef .tc main_v125_2)) := by
  rw [tail_eq]
  generalize W m c = w
  after_results_simp
  rfl
theorem tail_v139 : Pipeline.afterTail₀ cfgs (dats m) 0 (V0 m) [hostOps1] c main_v139
    = lanes (W m c (Proc.devRef .tc main_v125_0)) := by
  rw [tail_eq]
  generalize W m c = w
  after_results_simp
  rfl
theorem tail_v142 : Pipeline.afterTail₀ cfgs (dats m) 0 (V0 m) [hostOps1] c main_v142
    = lanes (W m c (Proc.devRef .tc main_v125_1)) := by
  rw [tail_eq]
  generalize W m c = w
  after_results_simp
  rfl
theorem tail_v132 : Pipeline.afterTail₀ cfgs (dats m) 0 (V0 m) [hostOps1] c main_v132
    = gates (W m c (Proc.devRef .tc main_v125_2)) (W m c (Proc.devRef .tc main_v125_0)) := by
  rw [tail_eq]
  generalize W m c = w
  after_results_simp
  rfl

end Cert.Proof.KernelIdeal
-- ==== Proof.KI.Host.lean ====
/-
  The values of the operations in front of the kernel's launch, one definition per operation, named after the buffer each writes.
-/
module

public import proofs.«01_k».proof.Proof.Args
public import proofs.«01_k».proof.Proof.Gen.KernelIdeal

@[expose] public section

noncomputable section

namespace Cert.Proof.KernelIdeal

open Cert.Proof Cert.KernelIdeal Cert.KernelIdeal.Gen Idealize.ShloMosaic Idealize.ShloMosaic.TcCoe

def h_v0 (a : Args) : FVec Ideal S8192x8x64 .f32 := shapeCast S8192x8x64 a.fq shapeCasts_S8192x512_S8192x8x64
def h_v1 (a : Args) : FVec Ideal S8x8192x64 .f32 := transpose S8x8192x64 [1, 0, 2] (h_v0 a) transposes_S8192x8x64_S8x8192x64_1_0_2
def h_v2 (a : Args) : FVec Ideal S8192x8x64 .f32 := shapeCast S8192x8x64 a.fk shapeCasts_S8192x512_S8192x8x64
def h_v3 (a : Args) : FVec Ideal S8x8192x64 .f32 := transpose S8x8192x64 [1, 0, 2] (h_v2 a) transposes_S8192x8x64_S8x8192x64_1_0_2
def h_v4 (a : Args) : FVec Ideal S8192x8x64 .f32 := shapeCast S8192x8x64 a.fv shapeCasts_S8192x512_S8192x8x64
def h_v5 (a : Args) : FVec Ideal S8x8192x64 .f32 := transpose S8x8192x64 [1, 0, 2] (h_v4 a) transposes_S8192x8x64_S8x8192x64_1_0_2
def h_v6 (a : Args) : FVec Ideal S8x8192 .f32 := transpose S8x8192 [1, 0] a.fcum transposes_S8192x8_S8x8192_1_0
def h_v7 (a : Args) : FVec Ideal S8x8192x8192 .f32 := Host.dotGeneral dot_S8x8192x64_S8x8192x64_S8x8192x8192_2_2_1_1_0_0 none (h_v1 a) (h_v3 a)
def h_k (a : Args) : FVec Ideal S_ .f32 := constant S_ .f32 0x3E000000#32
def h_v8 (a : Args) : FVec Ideal S8x8192x8192 .f32 := broadcastInDim S8x8192x8192 ![] bcast_S_S8x8192x8192 (h_k a)
def h_v9 (a : Args) : FVec Ideal S8x8192x8192 .f32 := mulf (h_v7 a) (h_v8 a)
def h_v10 (a : Args) : FVec Ideal S8x8192x1 .f32 := broadcastInDim S8x8192x1 ![0, 1] bcast_S8x8192_S8x8192x1_0_1 (h_v6 a)
def h_v11 (a : Args) : FVec Ideal S8x8192x8192 .f32 := broadcastInDim S8x8192x8192 ![0, 1, 2] bcast_S8x8192x1_S8x8192x8192_0_1_2 (h_v10 a)
def h_v12 (a : Args) : FVec Ideal S8x8192x8192 .f32 := addf (h_v9 a) (h_v11 a)
def h_v13 (a : Args) : FVec Ideal S8x1x8192 .f32 := broadcastInDim S8x1x8192 ![0, 2] bcast_S8x8192_S8x1x8192_0_2 (h_v6 a)
def h_v14 (a : Args) : FVec Ideal S8x8192x8192 .f32 := broadcastInDim S8x8192x8192 ![0, 1, 2] bcast_S8x1x8192_S8x8192x8192_0_1_2 (h_v13 a)
def h_v15 (a : Args) : FVec Ideal S8x8192x8192 .f32 := subf (h_v12 a) (h_v14 a)
def h_v16 (a : Args) : IVec S8192 32 := iotaInDim S8192 32 0
def h_v17 (a : Args) : IVec S1x8192 32 := broadcastInDim S1x8192 ![1] bcast_S8192_S1x8192_1 (h_v16 a)
def h_v18 (a : Args) : IVec S8192x1 32 := broadcastInDim S8192x1 ![0] bcast_S8192_S8192x1_0 (h_v16 a)
def h_v19 (a : Args) : IVec S8192x8192 32 := broadcastInDim S8192x8192 ![0, 1] bcast_S1x8192_S8192x8192_0_1 (h_v17 a)
def h_v20 (a : Args) : IVec S8192x8192 32 := broadcastInDim S8192x8192 ![0, 1] bcast_S8192x1_S8192x8192_0_1 (h_v18 a)
def h_v21 (a : Args) : IVec S8192x8192 1 := cmpi .sle (h_v19 a) (h_v20 a)
def h_k_0 (a : Args) : FVec Ideal S_ .f32 := constant S_ .f32 0xFF800000#32
def h_c0v0 (a : Args) : FVec Ideal S_ .f32 := (h_k_0 a)
def h_c0v1 (a : Args) : IVec S8x8192x8192 1 := broadcastInDim S8x8192x8192 ![1, 2] bcast_S8192x8192_S8x8192x8192_1_2 (h_v21 a)
def h_c0v2 (a : Args) : FVec Ideal S8x8192x8192 .f32 := broadcastInDim S8x8192x8192 ![] bcast_S_S8x8192x8192 (h_c0v0 a)
def h_v22 (a : Args) : FVec Ideal S8x8192x8192 .f32 := select (h_c0v1 a) (h_v15 a) (h_c0v2 a)
def h_k_1 (a : Args) : FVec Ideal S_ .f32 := constant S_ .f32 0xFF800000#32
def h_v23 (a : Args) : FVec Ideal S8x8192 .f32 := Host.reduce FloatOps.maximumf (h_v22 a) (h_k_1 a) reducesTo_S8x8192x8192_S8x8192_d2 h_S_
def h_v24 (a : Args) : FVec Ideal S8x8192x1 .f32 := broadcastInDim S8x8192x1 ![0, 1] bcast_S8x8192_S8x8192x1_0_1 (h_v23 a)
def h_v25 (a : Args) : FVec Ideal S8x8192x8192 .f32 := broadcastInDim S8x8192x8192 ![0, 1, 2] bcast_S8x8192x1_S8x8192x8192_0_1_2 (h_v24 a)
def h_v26 (a : Args) : FVec Ideal S8x8192x8192 .f32 := subf (h_v22 a) (h_v25 a)
def h_v27 (a : Args) : FVec Ideal S8x8192x8192 .f32 := Host.exp (h_v26 a)
def h_k_2 (a : Args) : FVec Ideal S_ .f32 := constant S_ .f32 0x00000000#32
def h_v28 (a : Args) : FVec Ideal S8x8192 .f32 := Host.reduceAdd (h_v27 a) (h_k_2 a) reducesTo_S8x8192x8192_S8x8192_d2 h_S_
def h_v29 (a : Args) : FVec Ideal S8x8192x1 .f32 := broadcastInDim S8x8192x1 ![0, 1] bcast_S8x8192_S8x8192x1_0_1 (h_v28 a)
def h_v30 (a : Args) : FVec Ideal S8x8192x8192 .f32 := broadcastInDim S8x8192x8192 ![0, 1, 2] bcast_S8x8192x1_S8x8192x8192_0_1_2 (h_v29 a)
def h_v31 (a : Args) : FVec Ideal S8x8192x8192 .f32 := Host.divf (h_v27 a) (h_v30 a)
def h_v32 (a : Args) : FVec Ideal S8x8192x64 .f32 := Host.dotGeneral dot_S8x8192x8192_S8x8192x64_S8x8192x64_2_1_1_2_0_0 none (h_v31 a) (h_v5 a)
def h_v33 (a : Args) : FVec Ideal S8x8192x1 .f32 := Host.log (h_v29 a)
def h_v34 (a : Args) : FVec Ideal S8x8192x1 .f32 := addf (h_v24 a) (h_v33 a)
def h_v35 (a : Args) : FVec Ideal S8x8192 .f32 := shapeCast S8x8192 (h_v34 a) shapeCasts_S8x8192x1_S8x8192
def h_v36 (a : Args) : FVec Ideal S8192x8 .f32 := transpose S8192x8 [1, 0] (h_v35 a) transposes_S8x8192_S8192x8_1_0
def h_v37 (a : Args) : FVec Ideal S8192x8x64 .f32 := transpose S8192x8x64 [1, 0, 2] (h_v32 a) transposes_S8x8192x64_S8192x8x64_1_0_2
def h_v38 (a : Args) : FVec Ideal S8192x8x64 .f32 := shapeCast S8192x8x64 a.ct shapeCasts_S8192x512_S8192x8x64
def h_v39 (a : Args) : FVec Ideal S8192x8x64 .f32 := mulf (h_v38 a) (h_v37 a)
def h_k_3 (a : Args) : FVec Ideal S_ .f32 := constant S_ .f32 0x00000000#32
def h_v40 (a : Args) : FVec Ideal S8192x8 .f32 := Host.reduceAdd (h_v39 a) (h_k_3 a) reducesTo_S8192x8x64_S8192x8_d2 h_S_
def h_k_4 (a : Args) : FVec Ideal S_ .f32 := constant S_ .f32 0x3F800000#32
def h_v41 (a : Args) : FVec Ideal S8192x8 .f32 := broadcastInDim S8192x8 ![] bcast_S_S8192x8 (h_k_4 a)
def h_k_5 (a : Args) : FVec Ideal S_ .f32 := constant S_ .f32 0x41000000#32
def h_v42 (a : Args) : FVec Ideal S8192x8 .f32 := broadcastInDim S8192x8 ![] bcast_S_S8192x8 (h_k_5 a)
def h_v43 (a : Args) : FVec Ideal S8192x8 .f32 := mulf a.fcum (h_v42 a)
def h_v44 (a : Args) : FVec Ideal S8192x8 .bf16 := truncf .bf16 (h_v43 a) bitsLt_bf16_f32
def h_v45 (a : Args) : FVec Ideal S8192x8 .f32 := extf .f32 (h_v44 a) bitsLt_bf16_f32
def h_v46 (a : Args) : FVec Ideal S8192x8 .f32 := subf (h_v43 a) (h_v45 a)
def h_v47 (a : Args) : FVec Ideal S8192x8 .bf16 := truncf .bf16 (h_v46 a) bitsLt_bf16_f32
def h_v48 (a : Args) : FVec Ideal S8192x8 .f32 := extf .f32 (h_v47 a) bitsLt_bf16_f32
def h_v49 (a : Args) : FVec Ideal S8192x8 .f32 := subf (h_v46 a) (h_v48 a)
def h_v50 (a : Args) : FVec Ideal S8192x8 .bf16 := truncf .bf16 (h_v49 a) bitsLt_bf16_f32
def h_v51 (a : Args) : FVec Ideal S8192x8 .f32 := extf .f32 (h_v50 a) bitsLt_bf16_f32
def h_k_6 (a : Args) : FVec Ideal S_ .f32 := constant S_ .f32 0x41000000#32
def h_v52 (a : Args) : FVec Ideal S8192x8 .f32 := broadcastInDim S8192x8 ![] bcast_S_S8192x8 (h_k_6 a)
def h_v53 (a : Args) : FVec Ideal S8192x8 .f32 := mulf (h_v36 a) (h_v52 a)
def h_v54 (a : Args) : FVec Ideal S8192x8 .f32 := Host.negf (h_v53 a)
def h_v55 (a : Args) : FVec Ideal S8192x8 .bf16 := truncf .bf16 (h_v54 a) bitsLt_bf16_f32
def h_v56 (a : Args) : FVec Ideal S8192x8 .f32 := extf .f32 (h_v55 a) bitsLt_bf16_f32
def h_v57 (a : Args) : FVec Ideal S8192x8 .f32 := subf (h_v54 a) (h_v56 a)
def h_v58 (a : Args) : FVec Ideal S8192x8 .bf16 := truncf .bf16 (h_v57 a) bitsLt_bf16_f32
def h_v59 (a : Args) : FVec Ideal S8192x8 .f32 := extf .f32 (h_v58 a) bitsLt_bf16_f32
def h_v60 (a : Args) : FVec Ideal S8192x8 .f32 := subf (h_v57 a) (h_v59 a)
def h_v61 (a : Args) : FVec Ideal S8192x8 .bf16 := truncf .bf16 (h_v60 a) bitsLt_bf16_f32
def h_v62 (a : Args) : FVec Ideal S8192x8 .f32 := extf .f32 (h_v61 a) bitsLt_bf16_f32
def h_v63 (a : Args) : FVec Ideal S8192x8x64 .f32 := shapeCast S8192x8x64 a.fq shapeCasts_S8192x512_S8192x8x64
def h_v64 (a : Args) : FVec Ideal S8192x8x1 .f32 := broadcastInDim S8192x8x1 ![0, 1] bcast_S8192x8_S8192x8x1_0_1 (h_v45 a)
def h_v65 (a : Args) : FVec Ideal S8192x8x1 .f32 := broadcastInDim S8192x8x1 ![0, 1] bcast_S8192x8_S8192x8x1_0_1 (h_v48 a)
def h_v66 (a : Args) : FVec Ideal S8192x8x1 .f32 := broadcastInDim S8192x8x1 ![0, 1] bcast_S8192x8_S8192x8x1_0_1 (h_v51 a)
def h_v67 (a : Args) : FVec Ideal S8192x8x1 .f32 := broadcastInDim S8192x8x1 ![0, 1] bcast_S8192x8_S8192x8x1_0_1 (h_v56 a)
def h_v68 (a : Args) : FVec Ideal S8192x8x1 .f32 := broadcastInDim S8192x8x1 ![0, 1] bcast_S8192x8_S8192x8x1_0_1 (h_v59 a)
def h_v69 (a : Args) : FVec Ideal S8192x8x1 .f32 := broadcastInDim S8192x8x1 ![0, 1] bcast_S8192x8_S8192x8x1_0_1 (h_v62 a)
def h_v70 (a : Args) : FVec Ideal S8192x8x1 .f32 := broadcastInDim S8192x8x1 ![0, 1] bcast_S8192x8_S8192x8x1_0_1 (h_v41 a)
def h_v71 (a : Args) : FVec Ideal S8192x8x1 .f32 := broadcastInDim S8192x8x1 ![0, 1] bcast_S8192x8_S8192x8x1_0_1 (h_v41 a)
def h_v72 (a : Args) : FVec Ideal S8192x8x1 .f32 := broadcastInDim S8192x8x1 ![0, 1] bcast_S8192x8_S8192x8x1_0_1 (h_v41 a)
def h_k_7 (a : Args) : FVec Ideal S_ .f32 := constant S_ .f32 0x00000000#32
def h_v73 (a : Args) : FVec Ideal S8192x8x55 .f32 := broadcastInDim S8192x8x55 ![] bcast_S_S8192x8x55 (h_k_7 a)
def h_v74 (a : Args) : FVec Ideal S8192x8x128 .f32 := concatenate S8192x8x128 2 [⟨S8192x8x64, (h_v63 a)⟩, ⟨S8192x8x1, (h_v64 a)⟩, ⟨S8192x8x1, (h_v65 a)⟩, ⟨S8192x8x1, (h_v66 a)⟩, ⟨S8192x8x1, (h_v67 a)⟩, ⟨S8192x8x1, (h_v68 a)⟩, ⟨S8192x8x1, (h_v69 a)⟩, ⟨S8192x8x1, (h_v70 a)⟩, ⟨S8192x8x1, (h_v71 a)⟩, ⟨S8192x8x1, (h_v72 a)⟩, ⟨S8192x8x55, (h_v73 a)⟩] concatenates_S8192x8x64_S8192x8x1_S8192x8x1_S8192x8x1_S8192x8x1_S8192x8x1_S8192x8x1_S8192x8x1_S8192x8x1_S8192x8x1_S8192x8x55_S8192x8x128_d2
def h_v75 (a : Args) : FVec Ideal S8192x1024 .f32 := shapeCast S8192x1024 (h_v74 a) shapeCasts_S8192x8x128_S8192x1024
def h_v76 (a : Args) : FVec Ideal S8192x1024 .bf16 := truncf .bf16 (h_v75 a) bitsLt_bf16_f32
def h_v77 (a : Args) : FVec Ideal S8192x8 .f32 := Host.negf (h_v43 a)
def h_v78 (a : Args) : FVec Ideal S8192x8 .bf16 := truncf .bf16 (h_v77 a) bitsLt_bf16_f32
def h_v79 (a : Args) : FVec Ideal S8192x8 .f32 := extf .f32 (h_v78 a) bitsLt_bf16_f32
def h_v80 (a : Args) : FVec Ideal S8192x8 .f32 := subf (h_v77 a) (h_v79 a)
def h_v81 (a : Args) : FVec Ideal S8192x8 .bf16 := truncf .bf16 (h_v80 a) bitsLt_bf16_f32
def h_v82 (a : Args) : FVec Ideal S8192x8 .f32 := extf .f32 (h_v81 a) bitsLt_bf16_f32
def h_v83 (a : Args) : FVec Ideal S8192x8 .f32 := subf (h_v80 a) (h_v82 a)
def h_v84 (a : Args) : FVec Ideal S8192x8 .bf16 := truncf .bf16 (h_v83 a) bitsLt_bf16_f32
def h_v85 (a : Args) : FVec Ideal S8192x8 .f32 := extf .f32 (h_v84 a) bitsLt_bf16_f32
def h_v86 (a : Args) : FVec Ideal S8192x8x64 .f32 := shapeCast S8192x8x64 a.fk shapeCasts_S8192x512_S8192x8x64
def h_v87 (a : Args) : FVec Ideal S8192x8x1 .f32 := broadcastInDim S8192x8x1 ![0, 1] bcast_S8192x8_S8192x8x1_0_1 (h_v41 a)
def h_v88 (a : Args) : FVec Ideal S8192x8x1 .f32 := broadcastInDim S8192x8x1 ![0, 1] bcast_S8192x8_S8192x8x1_0_1 (h_v41 a)
def h_v89 (a : Args) : FVec Ideal S8192x8x1 .f32 := broadcastInDim S8192x8x1 ![0, 1] bcast_S8192x8_S8192x8x1_0_1 (h_v41 a)
def h_v90 (a : Args) : FVec Ideal S8192x8x1 .f32 := broadcastInDim S8192x8x1 ![0, 1] bcast_S8192x8_S8192x8x1_0_1 (h_v41 a)
def h_v91 (a : Args) : FVec Ideal S8192x8x1 .f32 := broadcastInDim S8192x8x1 ![0, 1] bcast_S8192x8_S8192x8x1_0_1 (h_v41 a)
def h_v92 (a : Args) : FVec Ideal S8192x8x1 .f32 := broadcastInDim S8192x8x1 ![0, 1] bcast_S8192x8_S8192x8x1_0_1 (h_v41 a)
def h_v93 (a : Args) : FVec Ideal S8192x8x1 .f32 := broadcastInDim S8192x8x1 ![0, 1] bcast_S8192x8_S8192x8x1_0_1 (h_v79 a)
def h_v94 (a : Args) : FVec Ideal S8192x8x1 .f32 := broadcastInDim S8192x8x1 ![0, 1] bcast_S8192x8_S8192x8x1_0_1 (h_v82 a)
def h_v95 (a : Args) : FVec Ideal S8192x8x1 .f32 := broadcastInDim S8192x8x1 ![0, 1] bcast_S8192x8_S8192x8x1_0_1 (h_v85 a)
def h_k_8 (a : Args) : FVec Ideal S_ .f32 := constant S_ .f32 0x00000000#32
def h_v96 (a : Args) : FVec Ideal S8192x8x55 .f32 := broadcastInDim S8192x8x55 ![] bcast_S_S8192x8x55 (h_k_8 a)
def h_v97 (a : Args) : FVec Ideal S8192x8x128 .f32 := concatenate S8192x8x128 2 [⟨S8192x8x64, (h_v86 a)⟩, ⟨S8192x8x1, (h_v87 a)⟩, ⟨S8192x8x1, (h_v88 a)⟩, ⟨S8192x8x1, (h_v89 a)⟩, ⟨S8192x8x1, (h_v90 a)⟩, ⟨S8192x8x1, (h_v91 a)⟩, ⟨S8192x8x1, (h_v92 a)⟩, ⟨S8192x8x1, (h_v93 a)⟩, ⟨S8192x8x1, (h_v94 a)⟩, ⟨S8192x8x1, (h_v95 a)⟩, ⟨S8192x8x55, (h_v96 a)⟩] concatenates_S8192x8x64_S8192x8x1_S8192x8x1_S8192x8x1_S8192x8x1_S8192x8x1_S8192x8x1_S8192x8x1_S8192x8x1_S8192x8x1_S8192x8x55_S8192x8x128_d2
def h_v98 (a : Args) : FVec Ideal S8192x1024 .f32 := shapeCast S8192x1024 (h_v97 a) shapeCasts_S8192x8x128_S8192x1024
def h_v99 (a : Args) : FVec Ideal S8192x1024 .bf16 := truncf .bf16 (h_v98 a) bitsLt_bf16_f32
def h_v100 (a : Args) : FVec Ideal S8192x8x64 .f32 := shapeCast S8192x8x64 a.fv shapeCasts_S8192x512_S8192x8x64
def h_v101 (a : Args) : FVec Ideal S8192x8x1 .f32 := broadcastInDim S8192x8x1 ![0, 1] bcast_S8192x8_S8192x8x1_0_1 (h_v41 a)
def h_v102 (a : Args) : FVec Ideal S8192x8x1 .f32 := broadcastInDim S8192x8x1 ![0, 1] bcast_S8192x8_S8192x8x1_0_1 (h_v41 a)
def h_v103 (a : Args) : FVec Ideal S8192x8x1 .f32 := broadcastInDim S8192x8x1 ![0, 1] bcast_S8192x8_S8192x8x1_0_1 (h_v41 a)
def h_k_9 (a : Args) : FVec Ideal S_ .f32 := constant S_ .f32 0x00000000#32
def h_v104 (a : Args) : FVec Ideal S8192x8x61 .f32 := broadcastInDim S8192x8x61 ![] bcast_S_S8192x8x61 (h_k_9 a)
def h_v105 (a : Args) : FVec Ideal S8192x8x128 .f32 := concatenate S8192x8x128 2 [⟨S8192x8x64, (h_v100 a)⟩, ⟨S8192x8x1, (h_v101 a)⟩, ⟨S8192x8x1, (h_v102 a)⟩, ⟨S8192x8x1, (h_v103 a)⟩, ⟨S8192x8x61, (h_v104 a)⟩] concatenates_S8192x8x64_S8192x8x1_S8192x8x1_S8192x8x1_S8192x8x61_S8192x8x128_d2
def h_v106 (a : Args) : FVec Ideal S8192x1024 .f32 := shapeCast S8192x1024 (h_v105 a) shapeCasts_S8192x8x128_S8192x1024
def h_v107 (a : Args) : FVec Ideal S8192x1024 .bf16 := truncf .bf16 (h_v106 a) bitsLt_bf16_f32
def h_v108 (a : Args) : FVec Ideal S8192x8 .f32 := Host.negf (h_v40 a)
def h_v109 (a : Args) : FVec Ideal S8192x8 .bf16 := truncf .bf16 (h_v108 a) bitsLt_bf16_f32
def h_v110 (a : Args) : FVec Ideal S8192x8 .f32 := extf .f32 (h_v109 a) bitsLt_bf16_f32
def h_v111 (a : Args) : FVec Ideal S8192x8 .f32 := subf (h_v108 a) (h_v110 a)
def h_v112 (a : Args) : FVec Ideal S8192x8 .bf16 := truncf .bf16 (h_v111 a) bitsLt_bf16_f32
def h_v113 (a : Args) : FVec Ideal S8192x8 .f32 := extf .f32 (h_v112 a) bitsLt_bf16_f32
def h_v114 (a : Args) : FVec Ideal S8192x8 .f32 := subf (h_v111 a) (h_v113 a)
def h_v115 (a : Args) : FVec Ideal S8192x8 .bf16 := truncf .bf16 (h_v114 a) bitsLt_bf16_f32
def h_v116 (a : Args) : FVec Ideal S8192x8 .f32 := extf .f32 (h_v115 a) bitsLt_bf16_f32
def h_v117 (a : Args) : FVec Ideal S8192x8x64 .f32 := shapeCast S8192x8x64 a.ct shapeCasts_S8192x512_S8192x8x64
def h_v118 (a : Args) : FVec Ideal S8192x8x1 .f32 := broadcastInDim S8192x8x1 ![0, 1] bcast_S8192x8_S8192x8x1_0_1 (h_v110 a)
def h_v119 (a : Args) : FVec Ideal S8192x8x1 .f32 := broadcastInDim S8192x8x1 ![0, 1] bcast_S8192x8_S8192x8x1_0_1 (h_v113 a)
def h_v120 (a : Args) : FVec Ideal S8192x8x1 .f32 := broadcastInDim S8192x8x1 ![0, 1] bcast_S8192x8_S8192x8x1_0_1 (h_v116 a)
def h_k_10 (a : Args) : FVec Ideal S_ .f32 := constant S_ .f32 0x00000000#32
def h_v121 (a : Args) : FVec Ideal S8192x8x61 .f32 := broadcastInDim S8192x8x61 ![] bcast_S_S8192x8x61 (h_k_10 a)
def h_v122 (a : Args) : FVec Ideal S8192x8x128 .f32 := concatenate S8192x8x128 2 [⟨S8192x8x64, (h_v117 a)⟩, ⟨S8192x8x1, (h_v118 a)⟩, ⟨S8192x8x1, (h_v119 a)⟩, ⟨S8192x8x1, (h_v120 a)⟩, ⟨S8192x8x61, (h_v121 a)⟩] concatenates_S8192x8x64_S8192x8x1_S8192x8x1_S8192x8x1_S8192x8x61_S8192x8x128_d2
def h_v123 (a : Args) : FVec Ideal S8192x1024 .f32 := shapeCast S8192x1024 (h_v122 a) shapeCasts_S8192x8x128_S8192x1024
def h_v124 (a : Args) : FVec Ideal S8192x1024 .bf16 := truncf .bf16 (h_v123 a) bitsLt_bf16_f32

end Cert.Proof.KernelIdeal
-- ==== Proof.KI.Entry.lean ====
/-
  The four arrays the kernel is launched on are the terms of Host.lean at the launch's arguments.
-/
module

public import proofs.«01_k».proof.Proof.KI.Host
public import proofs.«01_k».proof.Proof.Gen.KernelIdeal.Frame
public import Idealize.ShloMosaic.Lib.StableHlo.Run

@[expose] public section

set_option maxRecDepth 8192

noncomputable section

namespace Cert.Proof.KernelIdeal

open Cert.Proof Cert.KernelIdeal Cert.KernelIdeal.Gen Idealize.ShloMosaic Idealize.ShloMosaic.TcCoe Idealize.SL.Sem Idealize.ShloMosaic.StableHlo

/-- The arguments of one device. -/
def argsOf (m : (ℓ : Loc nD τ sig) → Buf (Elt Ideal) ℓ) (c : Dev nD) : Args where
  fq := m ((c.tc : Thread nD τ).loc main_arg0)
  fk := m ((c.tc : Thread nD τ).loc main_arg1)
  fv := m ((c.tc : Thread nD τ).loc main_arg2)
  fcum := m ((c.tc : Thread nD τ).loc main_arg3)
  ct := m ((c.tc : Thread nD τ).loc main_arg4)

variable (m : (ℓ : Loc nD τ sig) → Buf (Elt Ideal) ℓ) (c : Dev nD)

/-- The contents after the scores' operations, up to the mask. -/
def U (c : Dev nD) : Valuation τ sig (Elt Ideal) := after (hostOps0 ++ hostOps0_1) (fun b => m (c, b))

theorem V0_eq : V0 m c = after hostOps0_2 (U m c) := by
  show after (hostOps0 ++ (hostOps0_1 ++ (hostOps0_2 ++ []))) _ = _
  rw [List.append_nil, ← List.append_assoc]
  exact StableHlo.after_append _ _ _

theorem U_v22 : U m c (Proc.devRef .tc main_v22) = h_v22 (argsOf m c) := by
  simp only [U, hostOps0, hostOps0_1, List.append_nil, List.cons_append,
    List.nil_append, TRef.nullary, TRef.ternary, TRef.unary, TRef.toBuf, TRef.ofBuf, cast_eq]
  after_results_simp
  rfl
theorem U_v5 : U m c (Proc.devRef .tc main_v5) = h_v5 (argsOf m c) := by
  simp only [U, hostOps0, hostOps0_1, List.append_nil, List.cons_append,
    List.nil_append, TRef.nullary, TRef.ternary, TRef.unary, TRef.toBuf, TRef.ofBuf, cast_eq]
  after_results_simp
  rfl
theorem U_arg0 : U m c (Proc.devRef .tc main_arg0) = (argsOf m c).fq := by
  simp only [U, hostOps0, hostOps0_1, List.append_nil, List.cons_append,
    List.nil_append, TRef.nullary, TRef.ternary, TRef.unary, TRef.toBuf, TRef.ofBuf, cast_eq]
  after_results_simp
  rfl
theorem U_arg1 : U m c (Proc.devRef .tc main_arg1) = (argsOf m c).fk := by
  simp only [U, hostOps0, hostOps0_1, List.append_nil, List.cons_append,
    List.nil_append, TRef.nullary, TRef.ternary, TRef.unary, TRef.toBuf, TRef.ofBuf, cast_eq]
  after_results_simp
  rfl
theorem U_arg2 : U m c (Proc.devRef .tc main_arg2) = (argsOf m c).fv := by
  simp only [U, hostOps0, hostOps0_1, List.append_nil, List.cons_append,
    List.nil_append, TRef.nullary, TRef.ternary, TRef.unary, TRef.toBuf, TRef.ofBuf, cast_eq]
  after_results_simp
  rfl
theorem U_arg3 : U m c (Proc.devRef .tc main_arg3) = (argsOf m c).fcum := by
  simp only [U, hostOps0, hostOps0_1, List.append_nil, List.cons_append,
    List.nil_append, TRef.nullary, TRef.ternary, TRef.unary, TRef.toBuf, TRef.ofBuf, cast_eq]
  after_results_simp
  rfl
theorem U_arg4 : U m c (Proc.devRef .tc main_arg4) = (argsOf m c).ct := by
  simp only [U, hostOps0, hostOps0_1, List.append_nil, List.cons_append,
    List.nil_append, TRef.nullary, TRef.ternary, TRef.unary, TRef.toBuf, TRef.ofBuf, cast_eq]
  after_results_simp
  rfl

/-- A row of lanes from equal pieces. -/
theorem pieces11 {x0 y0 : FVec Ideal S8192x8x64 .f32} {x1 y1 : FVec Ideal S8192x8x1 .f32} {x2 y2 : FVec Ideal S8192x8x1 .f32} {x3 y3 : FVec Ideal S8192x8x1 .f32} {x4 y4 : FVec Ideal S8192x8x1 .f32} {x5 y5 : FVec Ideal S8192x8x1 .f32} {x6 y6 : FVec Ideal S8192x8x1 .f32} {x7 y7 : FVec Ideal S8192x8x1 .f32} {x8 y8 : FVec Ideal S8192x8x1 .f32} {x9 y9 : FVec Ideal S8192x8x1 .f32} {x10 y10 : FVec Ideal S8192x8x55 .f32}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) :
    concatenate (α := Elt Ideal .f32) S8192x8x128 2 [⟨S8192x8x64, x0⟩, ⟨S8192x8x1, x1⟩, ⟨S8192x8x1, x2⟩, ⟨S8192x8x1, x3⟩, ⟨S8192x8x1, x4⟩, ⟨S8192x8x1, x5⟩, ⟨S8192x8x1, x6⟩, ⟨S8192x8x1, x7⟩, ⟨S8192x8x1, x8⟩, ⟨S8192x8x1, x9⟩, ⟨S8192x8x55, x10⟩] concatenates_S8192x8x64_S8192x8x1_S8192x8x1_S8192x8x1_S8192x8x1_S8192x8x1_S8192x8x1_S8192x8x1_S8192x8x1_S8192x8x1_S8192x8x55_S8192x8x128_d2
      = concatenate (α := Elt Ideal .f32) S8192x8x128 2 [⟨S8192x8x64, y0⟩, ⟨S8192x8x1, y1⟩, ⟨S8192x8x1, y2⟩, ⟨S8192x8x1, y3⟩, ⟨S8192x8x1, y4⟩, ⟨S8192x8x1, y5⟩, ⟨S8192x8x1, y6⟩, ⟨S8192x8x1, y7⟩, ⟨S8192x8x1, y8⟩, ⟨S8192x8x1, y9⟩, ⟨S8192x8x55, y10⟩] concatenates_S8192x8x64_S8192x8x1_S8192x8x1_S8192x8x1_S8192x8x1_S8192x8x1_S8192x8x1_S8192x8x1_S8192x8x1_S8192x8x1_S8192x8x55_S8192x8x128_d2 := by
  subst e0 e1 e2 e3 e4 e5 e6 e7 e8 e9 e10
  rfl

/-- A row of lanes from equal pieces. -/
theorem pieces5 {x0 y0 : FVec Ideal S8192x8x64 .f32} {x1 y1 : FVec Ideal S8192x8x1 .f32} {x2 y2 : FVec Ideal S8192x8x1 .f32} {x3 y3 : FVec Ideal S8192x8x1 .f32} {x4 y4 : FVec Ideal S8192x8x61 .f32}
    (e0 : x0 = y0) (e1 : x1 = y1) (e2 : x2 = y2) (e3 : x3 = y3) (e4 : x4 = y4) :
    concatenate (α := Elt Ideal .f32) S8192x8x128 2 [⟨S8192x8x64, x0⟩, ⟨S8192x8x1, x1⟩, ⟨S8192x8x1, x2⟩, ⟨S8192x8x1, x3⟩, ⟨S8192x8x61, x4⟩] concatenates_S8192x8x64_S8192x8x1_S8192x8x1_S8192x8x1_S8192x8x61_S8192x8x128_d2
      = concatenate (α := Elt Ideal .f32) S8192x8x128 2 [⟨S8192x8x64, y0⟩, ⟨S8192x8x1, y1⟩, ⟨S8192x8x1, y2⟩, ⟨S8192x8x1, y3⟩, ⟨S8192x8x61, y4⟩] concatenates_S8192x8x64_S8192x8x1_S8192x8x1_S8192x8x1_S8192x8x61_S8192x8x128_d2 := by
  subst e0 e1 e2 e3 e4
  rfl

theorem entry_v76 : V m c main_v76 = h_v76 (argsOf m c) := by
  show V0 m c (Proc.devRef .tc main_v76) = _
  rw [V0_eq]
  have e := U_v22 m c
  have e5 := U_v5 m c
  have a0 := U_arg0 m c
  have a1 := U_arg1 m c
  have a2 := U_arg2 m c
  have a3 := U_arg3 m c
  have a4 := U_arg4 m c
  generalize U m c = W at e e5 a0 a1 a2 a3 a4
  simp only [hostOps0_2]
  after_results_simp
  refine congrArg (fun z : FVec Ideal S8192x8x128 .f32 => truncf (F := Ideal) .bf16 (shapeCast S8192x1024 z shapeCasts_S8192x8x128_S8192x1024) bitsLt_bf16_f32)
    (pieces11 ?_ ?_ ?_ ?_ ?_ ?_ ?_ ?_ ?_ ?_ ?_)
  all_goals dsimp only [Matrix.cons_val]
  all_goals after_results_simp
  all_goals (try rw [e]) <;> (try rw [e5]) <;> (try rw [a0]) <;> (try rw [a1]) <;> (try rw [a2]) <;> (try rw [a3]) <;> (try rw [a4])
  all_goals rfl

theorem entry_v99 : V m c main_v99 = h_v99 (argsOf m c) := by
  show V0 m c (Proc.devRef .tc main_v99) = _
  rw [V0_eq]
  have e := U_v22 m c
  have e5 := U_v5 m c
  have a0 := U_arg0 m c
  have a1 := U_arg1 m c
  have a2 := U_arg2 m c
  have a3 := U_arg3 m c
  have a4 := U_arg4 m c
  generalize U m c = W at e e5 a0 a1 a2 a3 a4
  simp only [hostOps0_2]
  after_results_simp
  refine congrArg (fun z : FVec Ideal S8192x8x128 .f32 => truncf (F := Ideal) .bf16 (shapeCast S8192x1024 z shapeCasts_S8192x8x128_S8192x1024) bitsLt_bf16_f32)
    (pieces11 ?_ ?_ ?_ ?_ ?_ ?_ ?_ ?_ ?_ ?_ ?_)
  all_goals dsimp only [Matrix.cons_val]
  all_goals after_results_simp
  all_goals (try rw [e]) <;> (try rw [e5]) <;> (try rw [a0]) <;> (try rw [a1]) <;> (try rw [a2]) <;> (try rw [a3]) <;> (try rw [a4])
  all_goals rfl

theorem entry_v107 : V m c main_v107 = h_v107 (argsOf m c) := by
  show V0 m c (Proc.devRef .tc main_v107) = _
  rw [V0_eq]
  have e := U_v22 m c
  have e5 := U_v5 m c
  have a0 := U_arg0 m c
  have a1 := U_arg1 m c
  have a2 := U_arg2 m c
  have a3 := U_arg3 m c
  have a4 := U_arg4 m c
  generalize U m c = W at e e5 a0 a1 a2 a3 a4
  simp only [hostOps0_2]
  after_results_simp
  refine congrArg (fun z : FVec Ideal S8192x8x128 .f32 => truncf (F := Ideal) .bf16 (shapeCast S8192x1024 z shapeCasts_S8192x8x128_S8192x1024) bitsLt_bf16_f32)
    (pieces5 ?_ ?_ ?_ ?_ ?_)
  all_goals dsimp only [Matrix.cons_val]
  all_goals after_results_simp
  all_goals (try rw [e]) <;> (try rw [e5]) <;> (try rw [a0]) <;> (try rw [a1]) <;> (try rw [a2]) <;> (try rw [a3]) <;> (try rw [a4])
  all_goals rfl

theorem entry_v124 : V m c main_v124 = h_v124 (argsOf m c) := by
  show V0 m c (Proc.devRef .tc main_v124) = _
  rw [V0_eq]
  have e := U_v22 m c
  have e5 := U_v5 m c
  have a0 := U_arg0 m c
  have a1 := U_arg1 m c
  have a2 := U_arg2 m c
  have a3 := U_arg3 m c
  have a4 := U_arg4 m c
  generalize U m c = W at e e5 a0 a1 a2 a3 a4
  simp only [hostOps0_2]
  after_results_simp
  refine congrArg (fun z : FVec Ideal S8192x8x128 .f32 => truncf (F := Ideal) .bf16 (shapeCast S8192x1024 z shapeCasts_S8192x8x128_S8192x1024) bitsLt_bf16_f32)
    (pieces5 ?_ ?_ ?_ ?_ ?_)
  all_goals dsimp only [Matrix.cons_val]
  all_goals after_results_simp
  all_goals (try rw [e]) <;> (try rw [e5]) <;> (try rw [a0]) <;> (try rw [a1]) <;> (try rw [a2]) <;> (try rw [a3]) <;> (try rw [a4])
  all_goals rfl

end Cert.Proof.KernelIdeal
-- ==== Proof.KI.Prefix.lean ====
/-
  The four arrays the kernel is launched on, over real arguments: each head's lanes.
-/
module

public import proofs.«01_k».proof.Proof.KI.Host
public import proofs.«01_k».proof.Proof.Scalars

@[expose] public section

set_option maxRecDepth 16384

noncomputable section

namespace Cert.Proof.KernelIdeal

open Cert.Proof Cert.KernelIdeal Cert.KernelIdeal.Gen Idealize.ShloMosaic

variable {A : Args} (H : A.Finite) (h : Fin 8) (t κ : Fin 8192) (d : Fin 64)
include H

theorem v1_at : h_v1 A (ix3 h t d) = (qR A h t d : EReal) := by
  pointwise [h_v1, h_v0]
  exact H.q_at h t d
theorem v3_at : h_v3 A (ix3 h t d) = (kR A h t d : EReal) := by
  pointwise [h_v3, h_v2]
  exact H.k_at h t d
theorem v5_at : h_v5 A (ix3 h t d) = (vR A h t d : EReal) := by
  pointwise [h_v5, h_v4]
  exact H.v_at h t d

/-- The scores. -/
theorem v15_at : h_v15 A (ix3 h t κ) = (sc A h t κ : EReal) := by
  pointwise [h_v15, h_v14, h_v13, h_v12, h_v11, h_v10, h_v9, h_v8, h_k, h_v7, h_v6]
  simp only [v1_at H, v3_at H, H.f_at, ofBits_eighth, sc, EReal.coe_sub, EReal.coe_add, EReal.coe_mul, coe_sum]

/-- The scores under the mask. -/
theorem v22_at : h_v22 A (ix3 h t κ) = msc A h t κ := by
  pointwise [h_v22, h_c0v1, h_v21, h_v20, h_v19, h_v18, h_v17, h_v16, h_c0v2, h_c0v0, h_k_0]
  rw [mask_select, v15_at H, ofBits_bot]
  rfl

/-- The greatest score. -/
theorem v23_at : h_v23 A (ix2 h t) = (mx A h t : EReal) := by
  pointwise [h_v23, h_k_1]
  simp only [v22_at H, ofBits_bot]
  exact mxE_eq A h t

/-- The weights. -/
theorem v27_at : h_v27 A (ix3 h t κ) = (w A h t κ : EReal) := by
  pointwise [h_v27, h_v26, h_v25, h_v24]
  rw [v22_at H, v23_at H]
  exact exp_msc A h t κ

/-- Their sum. -/
theorem v28_at : h_v28 A (ix2 h t) = (Z A h t : EReal) := by
  pointwise [h_v28, h_k_2]
  simp only [v27_at H, Z, coe_sum]

/-- The softmax. -/
theorem v31_at : h_v31 A (ix3 h t κ) = (pr A h t κ : EReal) := by
  pointwise [h_v31, h_v30, h_v29]
  rw [v27_at H, v28_at H]
  exact div_real _ (Z_pos A h t).ne'

/-- The result of the attention. -/
theorem v32_at : h_v32 A (ix3 h t d) = ((∑ κ, pr A h t κ * vR A h κ d : ℝ) : EReal) := by
  pointwise [h_v32]
  simp only [v31_at H, v5_at H, EReal.coe_mul, coe_sum]

omit H in
theorem lse_form (x y : FVec Ideal S8x8192 .f32) :
    transpose S8192x8 [1, 0] (shapeCast S8x8192 (addf (broadcastInDim S8x8192x1 ![0, 1] bcast_S8x8192_S8x8192x1_0_1 x)
      (Host.log (broadcastInDim S8x8192x1 ![0, 1] bcast_S8x8192_S8x8192x1_0_1 y))) shapeCasts_S8x8192x1_S8x8192)
      transposes_S8x8192_S8192x8_1_0 (ix2 t h) = x (ix2 h t) + Ideal.log (y (ix2 h t)) := by
  pointwise

/-- The logarithm of the sum of the exponentials of the scores. -/
theorem v36_at : h_v36 A (ix2 t h) = (lse A h t : EReal) := by
  unfold h_v36 h_v35 h_v34 h_v33 h_v29 h_v24
  rw [lse_form, v23_at H, v28_at H, log_real (Z_pos A h t), ← EReal.coe_add, lse]

/-- The cotangent times the result, summed. -/
theorem v40_at : h_v40 A (ix2 t h) = (de A h t : EReal) := by
  pointwise [h_v40, h_k_3, h_v39, h_v38, h_v37]
  simp only [v32_at H, de, EReal.coe_mul, coe_sum]
  exact Finset.sum_congr rfl fun d _ => congrArg (· * _) (H.g_at h t d)

/-! ## The parts of the split numbers -/

theorem v43_at : h_v43 A (ix2 t h) = ((fR A h t * 8 : ℝ) : EReal) := by
  pointwise [h_v43, h_v42, h_k_5]
  rw [H.f_at, ofBits_eight, EReal.coe_mul]
omit H in
theorem neg_form (x : FVec Ideal S8192x8 .f32) :
    Host.negf (mulf x (broadcastInDim S8192x8 ![] bcast_S_S8192x8 (constant S_ .f32 0x41000000#32))) (ix2 t h)
      = -(x (ix2 t h) * ((8 : ℝ) : EReal)) := by
  pointwise
  rw [ofBits_eight]
theorem v54_at : h_v54 A (ix2 t h) = ((-(lse A h t * 8) : ℝ) : EReal) := by
  unfold h_v54 h_v53 h_v52 h_k_6
  rw [neg_form, v36_at H, EReal.coe_neg, EReal.coe_mul]
theorem v77_at : h_v77 A (ix2 t h) = ((-(fR A h t * 8) : ℝ) : EReal) := by
  pointwise [h_v77]
  rw [v43_at H, EReal.coe_neg]
theorem v108_at : h_v108 A (ix2 t h) = ((-(de A h t) : ℝ) : EReal) := by
  pointwise [h_v108]
  rw [v40_at H, EReal.coe_neg]

omit H in
theorem sub_self_real (x : ℝ) : (x : EReal) - (x : EReal) = 0 := by
  rw [← EReal.coe_sub, sub_self, EReal.coe_zero]
omit H in
theorem sub_zero_real (x : ℝ) : (x : EReal) - 0 = (x : EReal) := by
  rw [← EReal.coe_zero, ← EReal.coe_sub, sub_zero]

end Cert.Proof.KernelIdeal
-- ==== Proof.KI.Lanes.lean ====
/-
  The four arrays the kernel is launched on, lane by lane, over real arguments.
-/
module

public import proofs.«01_k».proof.Proof.KI.Prefix

@[expose] public section

set_option maxRecDepth 16384

noncomputable section

namespace Cert.Proof.KernelIdeal

open Cert.Proof Cert.KernelIdeal Cert.KernelIdeal.Gen Idealize.ShloMosaic

variable (h : Fin 8) (t : Fin 8192) (l : Fin 128)

/-- The heads side by side, read at a lane of a head. -/
theorem flat_form (X : FVec Ideal S8192x8x128 .f32) (c : Fin 1024) (hc : c.val = h.val * 128 + l.val) :
    truncf (F := Ideal) .bf16 (shapeCast S8192x1024 X shapeCasts_S8192x8x128_S8192x1024) bitsLt_bf16_f32 (ix2 t c) = X (ix3 t h l) := by
  pointwise
  refine congrArg X ((ix3_inj ..).2 ⟨rfl, Fin.ext ?_, Fin.ext ?_⟩)
  · show c.val / 128 = h.val
    omega
  · show c.val % 128 = l.val
    omega

/-- The first of the three parts of a number is the number; the other two are zero. -/
theorem part1 (x : FVec Ideal S8192x8 .f32) (i : S8192x8.Idx) :
    extf (F := Ideal) .f32 (truncf .bf16 x bitsLt_bf16_f32) bitsLt_bf16_f32 i = x i := rfl
theorem part2 (x : FVec Ideal S8192x8 .f32) (i : S8192x8.Idx) (r : ℝ) (hx : x i = (r : EReal)) :
    extf (F := Ideal) .f32 (truncf .bf16 (subf x (extf .f32 (truncf .bf16 x bitsLt_bf16_f32) bitsLt_bf16_f32))
      bitsLt_bf16_f32) bitsLt_bf16_f32 i = 0 := by
  show x i - x i = 0
  rw [hx, sub_self_real]
theorem sub_parts (x y : FVec Ideal S8192x8 .f32) (i : S8192x8.Idx) (hx : x i = 0) (hy : y i = 0) :
    extf (F := Ideal) .f32 (truncf .bf16 (subf x y) bitsLt_bf16_f32) bitsLt_bf16_f32 i = 0 := by
  show x i - y i = 0
  rw [hx, hy]
  exact sub_zero 0
theorem sub_part (x : FVec Ideal S8192x8 .f32) (i : S8192x8.Idx) (r : ℝ) (hx : x i = (r : EReal)) :
    subf x (extf (F := Ideal) .f32 (truncf .bf16 x bitsLt_bf16_f32) bitsLt_bf16_f32) i = 0 := by
  show x i - x i = 0
  rw [hx, sub_self_real]

set_option maxHeartbeats 1600000 in
/-- The lanes of a query as joined. -/
theorem q_form (x : FVec Ideal S8192x8x64 .f32) (a b c d e f o : FVec Ideal S8192x8 .f32) :
    concatenate (α := Elt Ideal .f32) S8192x8x128 2 [⟨S8192x8x64, x⟩,
      ⟨S8192x8x1, broadcastInDim S8192x8x1 ![0, 1] bcast_S8192x8_S8192x8x1_0_1 a⟩,
      ⟨S8192x8x1, broadcastInDim S8192x8x1 ![0, 1] bcast_S8192x8_S8192x8x1_0_1 b⟩,
      ⟨S8192x8x1, broadcastInDim S8192x8x1 ![0, 1] bcast_S8192x8_S8192x8x1_0_1 c⟩,
      ⟨S8192x8x1, broadcastInDim S8192x8x1 ![0, 1] bcast_S8192x8_S8192x8x1_0_1 d⟩,
      ⟨S8192x8x1, broadcastInDim S8192x8x1 ![0, 1] bcast_S8192x8_S8192x8x1_0_1 e⟩,
      ⟨S8192x8x1, broadcastInDim S8192x8x1 ![0, 1] bcast_S8192x8_S8192x8x1_0_1 f⟩,
      ⟨S8192x8x1, broadcastInDim S8192x8x1 ![0, 1] bcast_S8192x8_S8192x8x1_0_1 o⟩,
      ⟨S8192x8x1, broadcastInDim S8192x8x1 ![0, 1] bcast_S8192x8_S8192x8x1_0_1 o⟩,
      ⟨S8192x8x1, broadcastInDim S8192x8x1 ![0, 1] bcast_S8192x8_S8192x8x1_0_1 o⟩,
      ⟨S8192x8x55, broadcastInDim S8192x8x55 ![] bcast_S_S8192x8x55 (constant (F := Ideal) S_ .f32 0x00000000#32)⟩]
      concatenates_S8192x8x64_S8192x8x1_S8192x8x1_S8192x8x1_S8192x8x1_S8192x8x1_S8192x8x1_S8192x8x1_S8192x8x1_S8192x8x1_S8192x8x55_S8192x8x128_d2
      (ix3 t h l)
    = if hl : l.val < 64 then x (ix3 t h ⟨l.val, hl⟩) else if l.val = 64 then a (ix2 t h) else if l.val = 65 then b (ix2 t h)
      else if l.val = 66 then c (ix2 t h) else if l.val = 67 then d (ix2 t h) else if l.val = 68 then e (ix2 t h)
      else if l.val = 69 then f (ix2 t h) else if l.val ≤ 72 then o (ix2 t h) else 0 := by
  pointwise
  split_ifs <;> first | rfl | omega

set_option maxHeartbeats 1600000 in
/-- The lanes of a key as joined. -/
theorem k_form (x : FVec Ideal S8192x8x64 .f32) (a b c o : FVec Ideal S8192x8 .f32) :
    concatenate (α := Elt Ideal .f32) S8192x8x128 2 [⟨S8192x8x64, x⟩,
      ⟨S8192x8x1, broadcastInDim S8192x8x1 ![0, 1] bcast_S8192x8_S8192x8x1_0_1 o⟩,
      ⟨S8192x8x1, broadcastInDim S8192x8x1 ![0, 1] bcast_S8192x8_S8192x8x1_0_1 o⟩,
      ⟨S8192x8x1, broadcastInDim S8192x8x1 ![0, 1] bcast_S8192x8_S8192x8x1_0_1 o⟩,
      ⟨S8192x8x1, broadcastInDim S8192x8x1 ![0, 1] bcast_S8192x8_S8192x8x1_0_1 o⟩,
      ⟨S8192x8x1, broadcastInDim S8192x8x1 ![0, 1] bcast_S8192x8_S8192x8x1_0_1 o⟩,
      ⟨S8192x8x1, broadcastInDim S8192x8x1 ![0, 1] bcast_S8192x8_S8192x8x1_0_1 o⟩,
      ⟨S8192x8x1, broadcastInDim S8192x8x1 ![0, 1] bcast_S8192x8_S8192x8x1_0_1 a⟩,
      ⟨S8192x8x1, broadcastInDim S8192x8x1 ![0, 1] bcast_S8192x8_S8192x8x1_0_1 b⟩,
      ⟨S8192x8x1, broadcastInDim S8192x8x1 ![0, 1] bcast_S8192x8_S8192x8x1_0_1 c⟩,
      ⟨S8192x8x55, broadcastInDim S8192x8x55 ![] bcast_S_S8192x8x55 (constant (F := Ideal) S_ .f32 0x00000000#32)⟩]
      concatenates_S8192x8x64_S8192x8x1_S8192x8x1_S8192x8x1_S8192x8x1_S8192x8x1_S8192x8x1_S8192x8x1_S8192x8x1_S8192x8x1_S8192x8x55_S8192x8x128_d2
      (ix3 t h l)
    = if hl : l.val < 64 then x (ix3 t h ⟨l.val, hl⟩) else if l.val < 70 then o (ix2 t h) else if l.val = 70 then a (ix2 t h)
      else if l.val = 71 then b (ix2 t h) else if l.val = 72 then c (ix2 t h) else 0 := by
  pointwise
  split_ifs <;> first | rfl | omega

/-- The lanes of a value or of a cotangent as joined. -/
theorem v_form (x : FVec Ideal S8192x8x64 .f32) (a b c : FVec Ideal S8192x8 .f32) :
    concatenate (α := Elt Ideal .f32) S8192x8x128 2 [⟨S8192x8x64, x⟩,
      ⟨S8192x8x1, broadcastInDim S8192x8x1 ![0, 1] bcast_S8192x8_S8192x8x1_0_1 a⟩,
      ⟨S8192x8x1, broadcastInDim S8192x8x1 ![0, 1] bcast_S8192x8_S8192x8x1_0_1 b⟩,
      ⟨S8192x8x1, broadcastInDim S8192x8x1 ![0, 1] bcast_S8192x8_S8192x8x1_0_1 c⟩,
      ⟨S8192x8x61, broadcastInDim S8192x8x61 ![] bcast_S_S8192x8x61 (constant (F := Ideal) S_ .f32 0x00000000#32)⟩]
      concatenates_S8192x8x64_S8192x8x1_S8192x8x1_S8192x8x1_S8192x8x61_S8192x8x128_d2
      (ix3 t h l)
    = if hl : l.val < 64 then x (ix3 t h ⟨l.val, hl⟩) else if l.val = 64 then a (ix2 t h) else if l.val = 65 then b (ix2 t h)
      else if l.val = 66 then c (ix2 t h) else 0 := by
  pointwise
  split_ifs <;> first | rfl | omega

variable {A : Args}

theorem one_at : h_v41 A (ix2 t h) = 1 := by
  pointwise [h_v41, h_k_4]

variable (H : A.Finite)
include H

theorem v63_at (d : Fin 64) : h_v63 A (ix3 t h d) = (qR A h t d : EReal) := by
  pointwise [h_v63]
  exact H.q_at h t d
theorem v86_at (d : Fin 64) : h_v86 A (ix3 t h d) = (kR A h t d : EReal) := by
  pointwise [h_v86]
  exact H.k_at h t d
theorem v100_at (d : Fin 64) : h_v100 A (ix3 t h d) = (vR A h t d : EReal) := by
  pointwise [h_v100]
  exact H.v_at h t d
theorem v117_at (d : Fin 64) : h_v117 A (ix3 t h d) = (gR A h t d : EReal) := by
  pointwise [h_v117]
  exact H.g_at h t d

theorem v45_at : h_v45 A (ix2 t h) = ((fR A h t * 8 : ℝ) : EReal) := by
  unfold h_v45 h_v44
  rw [part1, v43_at H]
theorem v48_at : h_v48 A (ix2 t h) = 0 := by
  unfold h_v48 h_v47 h_v46 h_v45 h_v44
  exact part2 _ _ _ (v43_at H h t)
theorem v51_at : h_v51 A (ix2 t h) = 0 := by
  unfold h_v51 h_v50 h_v49
  refine sub_parts _ _ _ ?_ (v48_at h t H)
  unfold h_v46 h_v45 h_v44
  exact sub_part _ _ _ (v43_at H h t)
theorem v56_at : h_v56 A (ix2 t h) = ((-(lse A h t * 8) : ℝ) : EReal) := by
  unfold h_v56 h_v55
  rw [part1, v54_at H]
theorem v59_at : h_v59 A (ix2 t h) = 0 := by
  unfold h_v59 h_v58 h_v57 h_v56 h_v55
  exact part2 _ _ _ (v54_at H h t)
theorem v62_at : h_v62 A (ix2 t h) = 0 := by
  unfold h_v62 h_v61 h_v60
  refine sub_parts _ _ _ ?_ (v59_at h t H)
  unfold h_v57 h_v56 h_v55
  exact sub_part _ _ _ (v54_at H h t)
theorem v79_at : h_v79 A (ix2 t h) = ((-(fR A h t * 8) : ℝ) : EReal) := by
  unfold h_v79 h_v78
  rw [part1, v77_at H]
theorem v82_at : h_v82 A (ix2 t h) = 0 := by
  unfold h_v82 h_v81 h_v80 h_v79 h_v78
  exact part2 _ _ _ (v77_at H h t)
theorem v85_at : h_v85 A (ix2 t h) = 0 := by
  unfold h_v85 h_v84 h_v83
  refine sub_parts _ _ _ ?_ (v82_at h t H)
  unfold h_v80 h_v79 h_v78
  exact sub_part _ _ _ (v77_at H h t)
theorem v110_at : h_v110 A (ix2 t h) = ((-(de A h t) : ℝ) : EReal) := by
  unfold h_v110 h_v109
  rw [part1, v108_at H]
theorem v113_at : h_v113 A (ix2 t h) = 0 := by
  unfold h_v113 h_v112 h_v111 h_v110 h_v109
  exact part2 _ _ _ (v108_at H h t)
theorem v116_at : h_v116 A (ix2 t h) = 0 := by
  unfold h_v116 h_v115 h_v114
  refine sub_parts _ _ _ ?_ (v113_at h t H)
  unfold h_v111 h_v110 h_v109
  exact sub_part _ _ _ (v108_at H h t)

/-- The queries' array. -/
theorem v76_at (c : Fin 1024) (hc : c.val = h.val * 128 + l.val) : h_v76 A (ix2 t c) = (qL A h t l : EReal) := by
  unfold h_v76 h_v75
  rw [flat_form h t l _ c hc]
  unfold h_v74 h_v64 h_v65 h_v66 h_v67 h_v68 h_v69 h_v70 h_v71 h_v72 h_v73 h_k_7
  rw [q_form, v45_at h t H, v48_at h t H, v51_at h t H, v56_at h t H, v59_at h t H, v62_at h t H, one_at]
  simp only [v63_at h t H]
  unfold qL
  split_ifs <;> first | rfl | omega

/-- The keys' array. -/
theorem v99_at (c : Fin 1024) (hc : c.val = h.val * 128 + l.val) : h_v99 A (ix2 t c) = (kL A h t l : EReal) := by
  unfold h_v99 h_v98
  rw [flat_form h t l _ c hc]
  unfold h_v97 h_v87 h_v88 h_v89 h_v90 h_v91 h_v92 h_v93 h_v94 h_v95 h_v96 h_k_8
  rw [k_form, v79_at h t H, v82_at h t H, v85_at h t H, one_at]
  simp only [v86_at h t H]
  unfold kL
  split_ifs <;> first | rfl | omega

/-- The values' array. -/
theorem v107_at (c : Fin 1024) (hc : c.val = h.val * 128 + l.val) : h_v107 A (ix2 t c) = (vL A h t l : EReal) := by
  unfold h_v107 h_v106
  rw [flat_form h t l _ c hc]
  unfold h_v105 h_v101 h_v102 h_v103 h_v104 h_k_9
  rw [v_form, one_at]
  simp only [v100_at h t H]
  unfold vL
  split_ifs <;> first | rfl | omega

/-- The cotangent's array. -/
theorem v124_at (c : Fin 1024) (hc : c.val = h.val * 128 + l.val) : h_v124 A (ix2 t c) = (gL A h t l : EReal) := by
  unfold h_v124 h_v123
  rw [flat_form h t l _ c hc]
  unfold h_v122 h_v118 h_v119 h_v120 h_v121 h_k_10
  rw [v_form, v110_at h t H, v113_at h t H, v116_at h t H]
  simp only [v117_at h t H]
  unfold gL
  split_ifs <;> first | rfl | omega

end Cert.Proof.KernelIdeal
-- ==== Proof.KI.Outs.lean ====
/-
  The kernel program's four results are the arrays of Outs.lean.
-/
module

public import proofs.«01_k».proof.Proof.Outs
public import proofs.«01_k».proof.Proof.KI.Heads
public import proofs.«01_k».proof.Proof.KI.Tail
public import proofs.«01_k».proof.Proof.KI.Entry
public import proofs.«01_k».proof.Proof.KI.Lanes

@[expose] public section

noncomputable section

namespace Cert.Proof.KernelIdeal

open Cert.Proof Cert.KernelIdeal Cert.KernelIdeal.Gen Idealize.ShloMosaic Idealize.ShloMosaic.TcCoe Idealize.SL.Sem

variable (m : (ℓ : Loc nD τ sig) → Buf (Elt Ideal) ℓ) (c : Dev nD) (H : (argsOf m c).Finite)
include H

/-- The arrays the kernel is launched on are packed from the arguments. -/
theorem packed (h : Fin 8) : Packed (argsOf m c) h (hd h.val (kArr m c)) (hd h.val (vArr m c)) (hd h.val (qArr m c))
    (hd h.val (dArr m c)) where
  k := fun t l => (congrFun (entry_v99 m c) _).trans (v99_at h t l H _ (val_col h.isLt l.isLt))
  v := fun t l => (congrFun (entry_v107 m c) _).trans (v107_at h t l H _ (val_col h.isLt l.isLt))
  q := fun t l => (congrFun (entry_v76 m c) _).trans (v76_at h t l H _ (val_col h.isLt l.isLt))
  d := fun t l => (congrFun (entry_v124 m c) _).trans (v124_at h t l H _ (val_col h.isLt l.isLt))

theorem res_q : Pipeline.afterTail₀ cfgs (dats m) 0 (V0 m) [hostOps1] c main_v136 = outQ (argsOf m c) := by
  rw [tail_v136, W_dq, dq_array]
  funext i
  idx_vars i
  exact (lanes_at _ _ _).trans (dqH_real (packed m c H (headOf _)) _ _ _)
theorem res_k : Pipeline.afterTail₀ cfgs (dats m) 0 (V0 m) [hostOps1] c main_v139 = outK (argsOf m c) := by
  rw [tail_v139, W_dk, dk_array]
  funext i
  idx_vars i
  exact (lanes_at _ _ _).trans (dkH_real (packed m c H (headOf _)) _ _ _)
theorem res_v : Pipeline.afterTail₀ cfgs (dats m) 0 (V0 m) [hostOps1] c main_v142 = outV (argsOf m c) := by
  rw [tail_v142, W_dv, dv_array]
  funext i
  idx_vars i
  exact (lanes_at _ _ _).trans (dvH_real (packed m c H (headOf _)) _ _ _)

omit H in
theorem gate_real (A : Args) (h : Fin 8) (t : Fin 8192) :
    ((∑ κ, ds A h t κ : ℝ) : EReal) - ((∑ y, ds A h y t : ℝ) : EReal) = (dfR A h t : EReal) := by
  rw [← EReal.coe_sub]
  refine congrArg _ ?_
  unfold dfR
  rw [Finset.sum_neg_distrib]
  ring

theorem gates_real (t : Fin 8192) (h : Fin 8) :
    gates (ofHeads fun h => dqH (hd h (kArr m c)) (hd h (vArr m c)) (hd h (qArr m c)) (hd h (dArr m c)))
      (ofHeads fun h => dkH (hd h (kArr m c)) (hd h (vArr m c)) (hd h (qArr m c)) (hd h (dArr m c))) (ix2 t h)
      = (dfR (argsOf m c) h t : EReal) := by
  rw [gates_at, dqH_gate (packed m c H h) t _ rfl, dkH_gate (packed m c H h) t _ rfl]
  exact gate_real _ h t

theorem res_f : Pipeline.afterTail₀ cfgs (dats m) 0 (V0 m) [hostOps1] c main_v132 = outF (argsOf m c) := by
  rw [tail_v132, W_dq, W_dk, dq_array, dk_array]
  funext i
  idx_vars i
  exact gates_real m c H _ _

omit H in
/-- The program ends with those four results, the arguments as launched. -/
theorem value (ρ : Dev nD → PrngReg) (H : ∀ c, (argsOf m c).Finite) :
    θ_run defs (onTc (τ := τ) (main (F := Ideal))) ⟨m, fun _ => 0, ρ⟩ (fun r => ∀ c : Dev nD,
      r.2.mem ((c.tc : Thread nD τ).loc main_v136) = outQ (argsOf m c)
      ∧ r.2.mem ((c.tc : Thread nD τ).loc main_v139) = outK (argsOf m c)
      ∧ r.2.mem ((c.tc : Thread nD τ).loc main_v142) = outV (argsOf m c)
      ∧ r.2.mem ((c.tc : Thread nD τ).loc main_v132) = outF (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h.1 c).2 main_v136 (Pipeline.mem_restRefs_of main_v136 (by decide) (by decide))).trans (res_q m c (H c)),
      ((h.1 c).2 main_v139 (Pipeline.mem_restRefs_of main_v139 (by decide) (by decide))).trans (res_k m c (H c)),
      ((h.1 c).2 main_v142 (Pipeline.mem_restRefs_of main_v142 (by decide) (by decide))).trans (res_v m c (H c)),
      ((h.1 c).2 main_v132 (Pipeline.mem_restRefs_of main_v132 (by decide) (by decide))).trans (res_f m c (H c)),
      ((h.1 c).2 main_arg0 (Pipeline.mem_restRefs_of main_arg0 (by decide) (by decide))).trans (W_main_arg0 m _ c),
      ((h.1 c).2 main_arg1 (Pipeline.mem_restRefs_of main_arg1 (by decide) (by decide))).trans (W_main_arg1 m _ c),
      ((h.1 c).2 main_arg2 (Pipeline.mem_restRefs_of main_arg2 (by decide) (by decide))).trans (W_main_arg2 m _ c),
      ((h.1 c).2 main_arg3 (Pipeline.mem_restRefs_of main_arg3 (by decide) (by decide))).trans (W_main_arg3 m _ c),
      ((h.1 c).2 main_arg4 (Pipeline.mem_restRefs_of main_arg4 (by decide) (by decide))).trans (W_main_arg4 m _ c)⟩)
    (run_main (F := Ideal) m ρ)

end Cert.Proof.KernelIdeal
-- ==== Proof.K2.Offsets.lean ====
/-
  The words the kernel computes, in closed form: the rows each load and store starts at, the trips of the two counted loops,
  and the two conditions, over the grid point `i` — its key block is `j = i 1`.
-/
module

public import proofs.«01_k».proof.Proof.Gen.Kernel2.Loops
public import proofs.«01_k».proof.Proof.Rows

@[expose] public section

namespace Cert.Proof.Kernel2

open Cert.Kernel2 Cert.Kernel2.Gen Idealize.ShloMosaic

/-- The main loop makes one trip for every two full blocks of queries above the key block. -/
theorem t1_trips : ∀ i : grid0.Coords, (k0_t1_loop i).trips = (7 - (i 1).val) / 2 := by decide +kernel

/-- The loop after it makes none. -/
theorem t2_trips : ∀ i : grid0.Coords, (k0_t2_loop i).trips = 0 := by decide +kernel

/-- The first block of a pair starts here. -/
theorem off4_eq : ∀ (i : grid0.Coords) (t : Fin (k0_t1_loop i).trips),
    k0_off4 i t = ![1024 * (2 * ((i 1).val / 2) + 2 + 2 * t.val), 0] := by decide +kernel

/-- The second block of a pair starts here. -/
theorem off5_eq : ∀ (i : grid0.Coords) (t : Fin (k0_t1_loop i).trips),
    k0_off5 i t = ![1024 * (2 * ((i 1).val / 2) + 3 + 2 * t.val), 0] := by decide +kernel

/-- The queries' gradient is reset at the first key block. -/
theorem cond1_eq : ∀ i : grid0.Coords,
    (Scalar.cmpi .ne ((Scalar.extui (Scalar.cmpi .eq (BitVec.ofNat 32 (i 1).val) 0#32) : BitVec 32)) 0#32 = 1#1) ↔ (i 1).val = 0 := by
  decide +kernel

/-- The queries' gradient is scaled at the last key block. -/
theorem cond3_eq : ∀ i : grid0.Coords,
    (Scalar.cmpi .ne ((Scalar.extui (Scalar.cmpi .eq (BitVec.ofNat 32 (i 1).val) 7#32) : BitVec 32)) 0#32 = 1#1) ↔ (i 1).val = 7 := by
  decide +kernel

/-- The single block is taken when the number of full blocks above the key block is odd. -/
theorem cond2_eq : ∀ i : grid0.Coords, (k0_cond2 i = 1#1) ↔ (i 1).val % 2 = 0 := by decide +kernel

end Cert.Proof.Kernel2
-- ==== Proof.Args2.lean ====
/-
  The four arguments of the second pair of programs on one device, over the reals extended by the two infinities.
-/
module

public import Idealize.ShloMosaic.PureOps
public import Idealize.ShloMosaic.Lib.Pointwise

@[expose] public section

noncomputable section

namespace Cert.Proof

open Idealize.ShloMosaic

/-- The queries, the keys, the values and the cotangent of the result of the latent attention. -/
structure Args2 where
  q : (⟨2, ![8192, 768]⟩ : Shape).Idx → EReal
  k : (⟨2, ![8192, 768]⟩ : Shape).Idx → EReal
  v : (⟨2, ![8192, 512]⟩ : Shape).Idx → EReal
  ct : (⟨2, ![8192, 512]⟩ : Shape).Idx → EReal

end Cert.Proof
-- ==== Proof.Model2.lean ====
/-
  The gradients of one head of the latent attention over the real numbers: the scores of 96 lanes without gates, their
  softmax, the gradients, and the identities that join the two ways to compute them.
-/
module

public import proofs.«01_k».proof.Proof.Args2
public import proofs.«01_k».proof.Proof.Scalars

@[expose] public section

noncomputable section

namespace Cert.Proof

open Idealize.ShloMosaic

variable (A : Args2) (h : Fin 8) (t κ : Fin 8192)

/-- Lane `d` of head `h`, as a column of the 768. -/
def col2 (h : Fin 8) (d : Fin 96) : Fin 768 := ⟨h.val * 96 + d.val, by omega⟩

/-- The queries, the keys, the values and the cotangent as real numbers. -/
def qR2 (d : Fin 96) : ℝ := (A.q (ix2 t (col2 h d))).toReal
def kR2 (d : Fin 96) : ℝ := (A.k (ix2 t (col2 h d))).toReal
def vR2 (d : Fin 64) : ℝ := (A.v (ix2 t (col h d))).toReal
def gR2 (d : Fin 64) : ℝ := (A.ct (ix2 t (col h d))).toReal

/-- Every element of the arguments is a real number. -/
structure Args2.Finite : Prop where
  q : ∀ i, A.q i ≠ ⊤ ∧ A.q i ≠ ⊥
  k : ∀ i, A.k i ≠ ⊤ ∧ A.k i ≠ ⊥
  v : ∀ i, A.v i ≠ ⊤ ∧ A.v i ≠ ⊥
  ct : ∀ i, A.ct i ≠ ⊤ ∧ A.ct i ≠ ⊥

variable {A} in
theorem Args2.Finite.q_at (H : A.Finite) (d : Fin 96) : A.q (ix2 t (col2 h d)) = (qR2 A h t d : EReal) :=
  (EReal.coe_toReal (H.q _).1 (H.q _).2).symm
variable {A} in
theorem Args2.Finite.k_at (H : A.Finite) (d : Fin 96) : A.k (ix2 t (col2 h d)) = (kR2 A h t d : EReal) :=
  (EReal.coe_toReal (H.k _).1 (H.k _).2).symm
variable {A} in
theorem Args2.Finite.v_at (H : A.Finite) (d : Fin 64) : A.v (ix2 t (col h d)) = (vR2 A h t d : EReal) :=
  (EReal.coe_toReal (H.v _).1 (H.v _).2).symm
variable {A} in
theorem Args2.Finite.g_at (H : A.Finite) (d : Fin 64) : A.ct (ix2 t (col h d)) = (gR2 A h t d : EReal) :=
  (EReal.coe_toReal (H.ct _).1 (H.ct _).2).symm

/-- The score of query `t` and key `κ`: the programs' float32 scale times the product. -/
def sc2 : ℝ := (∑ d, qR2 A h t d * kR2 A h κ d) * (3424635 / 33554432)

/-- The score under the causal mask. -/
def msc2 : EReal := if κ.val ≤ t.val then (sc2 A h t κ : EReal) else ⊥

/-- The greatest score of query `t`. -/
def mxE2 : EReal := Finset.univ.fold max ⊥ fun κ => msc2 A h t κ
def mx2 : ℝ := (mxE2 A h t).toReal

theorem mxE_eq2 : mxE2 A h t = (mx2 A h t : EReal) := by
  refine (EReal.coe_toReal (ne_of_lt ?_) (ne_of_gt ?_)).symm
  · refine (Finset.fold_max_lt _).2 ⟨bot_lt_top, fun κ _ => ?_⟩
    unfold msc2
    split
    · exact EReal.coe_lt_top _
    · exact bot_lt_top
  · refine (Finset.lt_fold_max _).2 (Or.inr ⟨t, Finset.mem_univ _, ?_⟩)
    unfold msc2
    rw [if_pos (le_refl _)]
    exact EReal.bot_lt_coe _

/-- The weight of a pair, the sum of a query's weights, and the softmax. -/
def w2 : ℝ := if κ.val ≤ t.val then Real.exp (sc2 A h t κ - mx2 A h t) else 0
def Z2 : ℝ := ∑ κ, w2 A h t κ
def pr2 : ℝ := w2 A h t κ / Z2 A h t

theorem w_nonneg2 : 0 ≤ w2 A h t κ := by
  unfold w2
  split
  · exact (Real.exp_pos _).le
  · exact le_refl _

theorem Z_pos2 : 0 < Z2 A h t := by
  refine Finset.sum_pos' (fun κ _ => w_nonneg2 A h t κ) ⟨t, Finset.mem_univ _, ?_⟩
  unfold w2
  rw [if_pos (le_refl _)]
  exact Real.exp_pos _

/-- The gradient of a probability, the sum `δ` of the cotangent times the result, and the gradient of a score. -/
def dP2 : ℝ := ∑ d, gR2 A h t d * vR2 A h κ d
def de2 : ℝ := ∑ d, gR2 A h t d * ∑ κ, pr2 A h t κ * vR2 A h κ d
def ds2 : ℝ := pr2 A h t κ * (dP2 A h t κ - de2 A h t)

theorem de_eq2 : de2 A h t = ∑ κ, pr2 A h t κ * dP2 A h t κ := by
  unfold de2 dP2
  simp only [Finset.mul_sum]
  rw [Finset.sum_comm]
  refine Finset.sum_congr rfl fun κ _ => Finset.sum_congr rfl fun d _ => ?_
  ring

/-- The gradient of a score as differentiating the quotient gives it. -/
theorem ds_quot2 : (if κ.val ≤ t.val then (dP2 A h t κ / Z2 A h t
      + -(∑ κ', dP2 A h t κ' * (1 / (Z2 A h t * Z2 A h t)) * w2 A h t κ')) * w2 A h t κ else 0) = ds2 A h t κ := by
  have hz := (Z_pos2 A h t).ne'
  have hs : (∑ κ', dP2 A h t κ' * (1 / (Z2 A h t * Z2 A h t)) * w2 A h t κ') = de2 A h t / Z2 A h t := by
    rw [de_eq2, Finset.sum_div]
    refine Finset.sum_congr rfl fun κ _ => ?_
    unfold pr2
    field_simp
  rw [hs]
  unfold ds2 pr2
  split
  · field_simp
    ring
  · next hk => simp [w2, hk]

/-- The gradients with respect to the queries, the keys and the values. -/
def dqR2 (d : Fin 96) : ℝ := ∑ κ, (ds2 A h t κ * (3424635 / 33554432)) * kR2 A h κ d
def dkR2 (d : Fin 96) : ℝ := ∑ y, (ds2 A h y κ * (3424635 / 33554432)) * qR2 A h y d
def dvR2 (d : Fin 64) : ℝ := ∑ y, gR2 A h y d * pr2 A h y κ

/-! ## The kernel's lanes -/

/-- The logarithm of the sum of the exponentials of a query's scores. -/
def lse2 : ℝ := mx2 A h t + Real.log (Z2 A h t)

/-- The lanes of a query: the query and less the logarithm over the scale. -/
def qL2 (l : Fin 128) : ℝ :=
  if hl : l.val < 96 then qR2 A h t ⟨l.val, hl⟩
  else if l.val = 96 then -(lse2 A h t / (3424635 / 33554432)) else 0

/-- The lanes of a key: the key and ones. -/
def kL2 (l : Fin 128) : ℝ :=
  if hl : l.val < 96 then kR2 A h t ⟨l.val, hl⟩
  else if l.val < 99 then 1 else 0

/-- The lanes of a value: the value and ones. -/
def vL2 (l : Fin 128) : ℝ :=
  if hl : l.val < 64 then vR2 A h t ⟨l.val, hl⟩
  else if l.val < 67 then 1 else 0

/-- The lanes of a cotangent: the cotangent and less `δ`. -/
def gL2 (l : Fin 128) : ℝ :=
  if hl : l.val < 64 then gR2 A h t ⟨l.val, hl⟩
  else if l.val = 64 then -(de2 A h t) else 0

theorem sum_lanes2 (f : Fin 128 → ℝ) : ∑ l, f l = ∑ d : Fin 96, f ⟨d.val, by omega⟩ + ∑ d : Fin 32, f ⟨96 + d.val, by omega⟩ :=
  Fin.sum_univ_add (a := 96) (b := 32) f

theorem lanes_score2 : ∑ l, kL2 A h κ l * qL2 A h t l
    = (∑ d, qR2 A h t d * kR2 A h κ d) - lse2 A h t / (3424635 / 33554432) := by
  rw [sum_lanes2]
  have h2 : ∀ d : Fin 32, kL2 A h κ ⟨96 + d.val, by omega⟩ * qL2 A h t ⟨96 + d.val, by omega⟩ =
      (if d = 0 then -(lse2 A h t / (3424635 / 33554432)) else 0) := by
    intro d
    fin_cases d <;> simp [kL2, qL2]
  have h1 : ∀ d : Fin 96, kL2 A h κ ⟨d.val, by omega⟩ * qL2 A h t ⟨d.val, by omega⟩ = qR2 A h t d * kR2 A h κ d := by
    intro d
    simp only [kL2, qL2, d.isLt, dif_pos]
    exact mul_comm _ _
  simp only [h1, h2, Finset.sum_ite_eq', Finset.mem_univ, if_true]
  ring

theorem lanes_dP2 : ∑ l, vL2 A h κ l * gL2 A h t l = dP2 A h t κ - de2 A h t := by
  rw [sum_lanes]
  have h2 : ∀ d : Fin 64, vL2 A h κ ⟨64 + d.val, by omega⟩ * gL2 A h t ⟨64 + d.val, by omega⟩ =
      (if d = 0 then -(de2 A h t) else 0) := by
    intro d
    fin_cases d <;> simp [vL2, gL2]
  have h1 : ∀ d : Fin 64, vL2 A h κ ⟨d.val, by omega⟩ * gL2 A h t ⟨d.val, by omega⟩ = gR2 A h t d * vR2 A h κ d := by
    intro d
    simp only [vL2, gL2, d.isLt, dif_pos]
    exact mul_comm _ _
  simp only [h1, h2, Finset.sum_ite_eq', Finset.mem_univ, if_true]
  unfold dP2
  ring

/-- Two to the scaled product of the lanes is the softmax where the mask lets the pair through. -/
theorem two_pow_score2 (hk : κ.val ≤ t.val) :
    Real.rpow 2 (((∑ d, qR2 A h t d * kR2 A h κ d) - lse2 A h t / (3424635 / 33554432))
      * ((3424635 / 33554432) * (Real.log 2)⁻¹)) = pr2 A h t κ := by
  have h2 : Real.log 2 ≠ 0 := (Real.log_pos (by norm_num)).ne'
  have e : Real.log 2 * (((∑ d, qR2 A h t d * kR2 A h κ d) - lse2 A h t / (3424635 / 33554432))
      * ((3424635 / 33554432) * (Real.log 2)⁻¹)) = (sc2 A h t κ - mx2 A h t) - Real.log (Z2 A h t) := by
    unfold lse2 sc2
    field_simp
    ring
  refine (Real.rpow_def_of_pos (by norm_num) _).trans ?_
  rw [e, Real.exp_sub, Real.exp_log (Z_pos2 A h t)]
  unfold pr2 w2
  rw [if_pos hk]

theorem pr_masked2 (hk : ¬ κ.val ≤ t.val) : pr2 A h t κ = 0 := by
  unfold pr2 w2
  rw [if_neg hk, zero_div]

/-- The exponential of a masked score less the greatest one. -/
theorem exp_msc2 : Ideal.exp (msc2 A h t κ - (mx2 A h t : EReal)) = (w2 A h t κ : EReal) := by
  unfold msc2 w2
  split
  · rw [← EReal.coe_sub, exp_real]
  · rw [EReal.bot_sub, exp_bot, EReal.coe_zero]

end Cert.Proof
-- ==== Proof.Outs2.lean ====
/-
  The three results of the second pair of programs as arrays: the gradients of Model2.lean, the heads side by side.
-/
module

public import proofs.«01_k».proof.Proof.Model2
public import proofs.«01_k».proof.Proof.Outs

@[expose] public section

noncomputable section

namespace Cert.Proof

open Idealize.ShloMosaic

/-- The head and the lane of one of the 768 columns. -/
def headOf2 (l : Fin 768) : Fin 8 := ⟨l.val / 96, by omega⟩
def laneOf2 (l : Fin 768) : Fin 96 := ⟨l.val % 96, by omega⟩

variable (A : Args2)

/-- The gradients of the queries, the keys and the values. -/
def outQ2 : (⟨2, ![8192, 768]⟩ : Shape).Idx → EReal := fun i => (dqR2 A (headOf2 (i 1)) (i 0) (laneOf2 (i 1)) : EReal)
def outK2 : (⟨2, ![8192, 768]⟩ : Shape).Idx → EReal := fun i => (dkR2 A (headOf2 (i 1)) (i 0) (laneOf2 (i 1)) : EReal)
def outV2 : (⟨2, ![8192, 512]⟩ : Shape).Idx → EReal := fun i => (dvR2 A (headOf (i 1)) (i 0) (laneOf (i 1)) : EReal)

end Cert.Proof
-- ==== Proof.KI2.Spec.lean ====
/-
  What one grid point of the kernel computes, as functions of arrays: the payloads of the program put together, no memory.
-/
module

public import proofs.«01_k».proof.Proof.Gen.Kernel2Ideal.Skeleton
public import proofs.«01_k».proof.Proof.Rows

@[expose] public section

noncomputable section

namespace Cert.Proof.Kernel2Ideal

open Cert.Proof Cert.Kernel2Ideal Cert.Kernel2Ideal.Gen Idealize.ShloMosaic

variable {F : FTy → Type} [FloatOps F] [Named F]

/-- What a point carries: the key block's two gradients and the gradient of every query. -/
abbrev Acc (F : FTy → Type) : Type := (FVec F S1024x128 .f32 × FVec F S1024x128 .f32) × Rows 8192 (F .f32)

/-- One full block of 1024 queries from row `o` on, against the key block `v1`, `v3`. -/
def fullStep (v1 v3 : FVec F S1024x128 .bf16) (Q D : Rows 8192 (F .bf16)) (o : ℕ) (s : Acc F) : Acc F :=
  ((k0_pay7 v1 v3 s.1.1 (getRows 1024 o Q) (getRows 1024 o D), k0_pay8 v1 s.1.2 (getRows 1024 o Q) (getRows 1024 o D)),
    putRows 1024 o (k0_pay6 v1 v3 (getRows 1024 o Q) (getRows 1024 o D) (getRows 1024 o s.2)) s.2)

/-- The upper half of the diagonal block: queries `[1024 j + 512, 1024 j + 1024)`, the gradient of the queries only. -/
def diagUpper (kb vb : Rows 1024 (F .bf16)) (Q D : Rows 8192 (F .bf16)) (j : ℕ) (G : Rows 8192 (F .f32)) : Rows 8192 (F .f32) :=
  putRows 512 (1024 * j + 512)
    (k0_pay35 (k0_pay24 kb) (k0_pay33 kb vb (getRows 512 (1024 * j + 512) Q) (getRows 512 (1024 * j + 512) D))
      (getRows 512 (1024 * j + 512) G)) G

/-- Both halves of the diagonal block: the gradient of the queries. -/
def diagBoth (kb vb : Rows 1024 (F .bf16)) (Q D : Rows 8192 (F .bf16)) (j : ℕ) (G : Rows 8192 (F .f32)) : Rows 8192 (F .f32) :=
  putRows 512 (1024 * j)
    (k0_pay44 (k0_pay24 kb) (k0_pay25 vb) (getRows 512 (1024 * j) Q) (getRows 512 (1024 * j) D)
      (getRows 512 (1024 * j) (diagUpper kb vb Q D j G))) (diagUpper kb vb Q D j G)

/-- The key block's gradients after both halves of the diagonal block. -/
def diagKV (kb vb : Rows 1024 (F .bf16)) (Q D : Rows 8192 (F .bf16)) (j : ℕ) : FVec F S1024x128 .f32 × FVec F S1024x128 .f32 :=
  let q₁ := getRows 512 (1024 * j + 512) Q
  let d₁ := getRows 512 (1024 * j + 512) D
  let q₂ := getRows 512 (1024 * j) Q
  let d₂ := getRows 512 (1024 * j) D
  (k0_pay46 (k0_pay36 (k0_pay27 (F := F)) (k0_pay34 kb vb q₁ d₁))
      (k0_pay45 (k0_pay24 kb) (k0_pay25 vb) (k0_pay27 (F := F)) (k0_pay34 kb vb q₁ d₁) q₂ d₂),
    k0_pay47 (k0_pay37 (k0_pay28 (F := F)) (k0_pay32 kb q₁ d₁)) (k0_pay42 (k0_pay24 kb) q₂ d₂))

/-- The diagonal block. -/
def diagStep (kb vb : Rows 1024 (F .bf16)) (Q D : Rows 8192 (F .bf16)) (j : ℕ) (G : Rows 8192 (F .f32)) : Acc F :=
  (diagKV kb vb Q D j, diagBoth kb vb Q D j G)

/-- The single full block, taken when the number of full blocks above the key block is odd. -/
def oddStep (v1 v3 : FVec F S1024x128 .bf16) (Q D : Rows 8192 (F .bf16)) (j : ℕ) (s : Acc F) : Acc F :=
  if j % 2 = 0 then fullStep v1 v3 Q D (1024 * j + 1024) s else s

/-- One trip of the main loop: two full blocks. -/
def pairStep (v1 v3 : FVec F S1024x128 .bf16) (Q D : Rows 8192 (F .bf16)) (j t : ℕ) (s : Acc F) : Acc F :=
  fullStep v1 v3 Q D (1024 * (2 * (j / 2) + 3 + 2 * t)) (fullStep v1 v3 Q D (1024 * (2 * (j / 2) + 2 + 2 * t)) s)

/-- The first `t` trips of the main loop. -/
def pairs (v1 v3 : FVec F S1024x128 .bf16) (Q D : Rows 8192 (F .bf16)) (j : ℕ) : ℕ → Acc F → Acc F
  | 0, s => s
  | t + 1, s => pairStep v1 v3 Q D j t (pairs v1 v3 Q D j t s)

/-- A whole point, up to the final scalings. -/
def pointAcc (kb vb : Rows 1024 (F .bf16)) (Q D : Rows 8192 (F .bf16)) (j : ℕ) (G : Rows 8192 (F .f32)) : Acc F :=
  pairs (k0_pay24 kb) (k0_pay25 vb) Q D j ((7 - j) / 2)
    (oddStep (k0_pay24 kb) (k0_pay25 vb) Q D j (diagStep kb vb Q D j G))

/-- The queries' gradient as the point finds it: zero at the first key block. -/
def dqStart (j : ℕ) (G : Rows 8192 (F .f32)) : Rows 8192 (F .f32) := if j = 0 then k0_pay26 (F := F) else G

/-- The key gradient a point leaves. -/
def dkOut (kb vb : Rows 1024 (F .bf16)) (Q D : Rows 8192 (F .bf16)) (j : ℕ) : Rows 1024 (F .f32) :=
  k0_pay65 (pointAcc kb vb Q D j (k0_pay26 (F := F))).1.1

/-- The value gradient a point leaves. -/
def dvOut (kb vb : Rows 1024 (F .bf16)) (Q D : Rows 8192 (F .bf16)) (j : ℕ) : Rows 1024 (F .bf16) :=
  k0_pay66 (pointAcc kb vb Q D j (k0_pay26 (F := F))).1.2

/-- The queries' gradient a point leaves: scaled at the last key block. -/
def dqOut (kb vb : Rows 1024 (F .bf16)) (Q D : Rows 8192 (F .bf16)) (j : ℕ) (G : Rows 8192 (F .f32)) : Rows 8192 (F .f32) :=
  if j = 7 then k0_pay1 (pointAcc kb vb Q D j (dqStart j G)).2 else (pointAcc kb vb Q D j (dqStart j G)).2

/-- The pairs of two key gradients do not depend on the queries' gradient. -/
theorem fullStep_fst (v1 v3 : FVec F S1024x128 .bf16) (Q D : Rows 8192 (F .bf16)) (o : ℕ) (s s' : Acc F) (h : s.1 = s'.1) :
    (fullStep v1 v3 Q D o s).1 = (fullStep v1 v3 Q D o s').1 := by
  unfold fullStep; rw [h]

theorem pairs_fst (v1 v3 : FVec F S1024x128 .bf16) (Q D : Rows 8192 (F .bf16)) (j t : ℕ) (s s' : Acc F) (h : s.1 = s'.1) :
    (pairs v1 v3 Q D j t s).1 = (pairs v1 v3 Q D j t s').1 := by
  induction t with
  | zero => exact h
  | succ t ih => exact fullStep_fst _ _ _ _ _ _ _ (fullStep_fst _ _ _ _ _ _ _ ih)

/-- A point's key gradients do not depend on the queries' gradient it starts from. -/
theorem pointAcc_fst (kb vb : Rows 1024 (F .bf16)) (Q D : Rows 8192 (F .bf16)) (j : ℕ) (G G' : Rows 8192 (F .f32)) :
    (pointAcc kb vb Q D j G).1 = (pointAcc kb vb Q D j G').1 := by
  refine pairs_fst _ _ _ _ _ _ _ _ ?_
  unfold oddStep
  split
  · exact fullStep_fst _ _ _ _ _ _ _ rfl
  · rfl

end Cert.Proof.Kernel2Ideal

end
-- ==== Proof.KI2.Pay.lean ====
/-
  The payloads of the kernel over the reals, each at an index: sums over lanes, keys and queries.
-/
module

public import proofs.«01_k».proof.Proof.KI2.Spec
public import proofs.«01_k».proof.Proof.Scalars
public import Idealize.ShloMosaic.Lib.Pointwise
public import Idealize.ShloMosaic.Lib.WordCmp
public import Idealize.ShloMosaic.Lib.IdealHost

@[expose] public section

set_option maxRecDepth 16384

noncomputable section

namespace Cert.Proof.Kernel2Ideal

open Cert.Proof Cert.Kernel2Ideal Cert.Kernel2Ideal.Gen Idealize.ShloMosaic

/-- Row `r` of an array of 128 columns. -/
def row {n : ℕ} (X : Rows n EReal) (r : Fin n) : Fin 128 → EReal := fun l => X (ix2 r l)

/-- The product of a row of keys and a row of queries. -/
def dt (k q : Fin 128 → EReal) : EReal := ∑ x, k x * q x

/-- The factor in the exponent: the scale of the scores, in the base of two. -/
def cst : EReal := (((3424635 / 33554432) * (Real.log 2)⁻¹ : ℝ) : EReal)

/-- The weight of a pair of rows, unmasked. -/
def ee (k q : Fin 128 → EReal) : EReal := Ideal.exp2 (dt k q * cst)

theorem masked_exp2 : Ideal.exp2 (⊥ * cst) = 0 := by
  have h : (0 : ℝ) < (3424635 / 33554432) * (Real.log 2)⁻¹ := by
    have := Real.log_pos (by norm_num : (1 : ℝ) < 2)
    positivity
  unfold cst
  rw [EReal.bot_mul_coe_of_pos h]
  rfl

variable (v1 v3 : FVec Ideal S1024x128 .bf16) (a : FVec Ideal S1024x128 .f32) (q d : FVec Ideal S1024x128 .bf16)
  (q' d' : FVec Ideal S512x128 .bf16) (b : FVec Ideal S512x128 .f32)

theorem pay7_at (r : Fin 1024) (l : Fin 128) : k0_pay7 (F := Ideal) v1 v3 a q d (ix2 r l) =
    a (ix2 r l) + ∑ x : Fin 1024, (ee (row v1 r) (row q x) * dt (row v3 r) (row d x)) * q (ix2 x l) := by
  pointwise [k0_pay7, k0_pay5, k0_pay4, k0_pay2, k0_pay3]
  rfl
theorem pay8_at (r : Fin 1024) (l : Fin 128) : k0_pay8 (F := Ideal) v1 a q d (ix2 r l) =
    a (ix2 r l) + ∑ x : Fin 1024, ee (row v1 r) (row q x) * d (ix2 x l) := by
  pointwise [k0_pay8, k0_pay5, k0_pay4, k0_pay2, k0_pay3]
  rfl
theorem pay6_at (r : Fin 1024) (l : Fin 128) : k0_pay6 (F := Ideal) v1 v3 q d a (ix2 r l) =
    a (ix2 r l) + ∑ x : Fin 1024, (ee (row v1 x) (row q r) * dt (row v3 x) (row d r)) * v1 (ix2 x l) := by
  pointwise [k0_pay6, k0_pay5, k0_pay4, k0_pay2, k0_pay3]
  rfl
theorem pay31_at (r : Fin 1024) (l : Fin 512) : k0_pay31 (F := Ideal) v1 q' (ix2 r l) =
    if r.val ≤ l.val + 512 then ee (row v1 r) (row q' l) else 0 := by
  pointwise [k0_pay31, k0_pay24, k0_pay29]
  rw [show IntOp.addi (BitVec.ofNat 32 l.val) 512#32 = BitVec.ofNat 32 (l.val + 512) from (BitVec.ofNat_add ..).symm,
    WordCmp.cmpi_sle_ofNat (by omega) (by omega), select_ofBool]
  split
  · rfl
  · exact masked_exp2
theorem pay41_at (r : Fin 512) (l : Fin 512) : k0_pay41 (F := Ideal) v1 q' (ix2 r l) =
    if r.val ≤ l.val then ee (row v1 ⟨r.val, by omega⟩) (row q' l) else 0 := by
  pointwise [k0_pay41, k0_pay40, k0_pay38]
  rw [show IntOp.addi (BitVec.ofNat 32 l.val) 0#32 = BitVec.ofNat 32 (l.val + 0) from (BitVec.ofNat_add ..).symm,
    WordCmp.cmpi_sle_ofNat (by omega) (by omega), select_ofBool]
  simp only [Nat.add_zero]
  split
  · rfl
  · exact masked_exp2
theorem pay34_at (r : Fin 1024) (l : Fin 128) : k0_pay34 (F := Ideal) v1 v3 q' d' (ix2 r l) =
    ∑ x : Fin 512, (k0_pay31 (F := Ideal) v1 q' (ix2 r x) * dt (row v3 r) (row d' x)) * q' (ix2 x l) := by
  pointwise [k0_pay34, k0_pay33, k0_pay25, k0_pay29, k0_pay30]
  rfl
theorem pay32_at (r : Fin 1024) (l : Fin 128) : k0_pay32 (F := Ideal) v1 q' d' (ix2 r l) =
    ∑ x : Fin 512, k0_pay31 (F := Ideal) v1 q' (ix2 r x) * d' (ix2 x l) := by
  pointwise [k0_pay32, k0_pay30]
  try rfl
theorem pay35_at (r : Fin 512) (l : Fin 128) : k0_pay35 (F := Ideal) (k0_pay24 v1) (k0_pay33 v1 v3 q' d') b (ix2 r l) =
    b (ix2 r l) + ∑ x : Fin 1024, (k0_pay31 (F := Ideal) v1 q' (ix2 x r) * dt (row v3 x) (row d' r)) * v1 (ix2 x l) := by
  pointwise [k0_pay35, k0_pay33, k0_pay25, k0_pay24, k0_pay30]
  try rfl
theorem pay42_at (r : Fin 512) (l : Fin 128) : k0_pay42 (F := Ideal) v1 q' d' (ix2 r l) =
    ∑ x : Fin 512, k0_pay41 (F := Ideal) v1 q' (ix2 r x) * d' (ix2 x l) := by
  pointwise [k0_pay42, k0_pay39]
  try rfl
theorem pay44_at (r : Fin 512) (l : Fin 128) : k0_pay44 (F := Ideal) v1 v3 q' d' b (ix2 r l) =
    b (ix2 r l) + ∑ x : Fin 512, (k0_pay41 (F := Ideal) v1 q' (ix2 x r) * dt (row v3 ⟨x.val, by omega⟩) (row d' r))
      * v1 (ix2 ⟨x.val, by omega⟩ l) := by
  pointwise [k0_pay44, k0_pay43, k0_pay39, k0_pay40]
  try rfl
theorem pay46_at (r : Fin 1024) (l : Fin 128) : k0_pay46 (F := Ideal) a b (ix2 r l) =
    if h : r.val < 512 then b (ix2 ⟨r.val, h⟩ l) else a (ix2 r l) := by
  pointwise [k0_pay46]
  split
  · rfl
  · refine congrArg a ?_
    refine (ix2_inj ..).2 ⟨Fin.ext ?_, rfl⟩
    dsimp only; omega
theorem pay47_at (r : Fin 1024) (l : Fin 128) : k0_pay47 (F := Ideal) a b (ix2 r l) =
    if h : r.val < 512 then a (ix2 r l) + b (ix2 ⟨r.val, h⟩ l) else a (ix2 r l) := by
  pointwise [k0_pay47]
  split
  · rfl
  · refine congrArg a ?_
    refine (ix2_inj ..).2 ⟨Fin.ext ?_, rfl⟩
    dsimp only; omega
theorem pay45_at (r : Fin 512) (l : Fin 128) (e f : FVec Ideal S1024x128 .f32) : k0_pay45 (F := Ideal) v1 v3 e f q' d' (ix2 r l) =
   (e (ix2 ⟨r.val, by omega⟩ l) + f (ix2 ⟨r.val, by omega⟩ l)) +
      ∑ x : Fin 512, (k0_pay41 (F := Ideal) v1 q' (ix2 r x) * dt (row v3 ⟨r.val, by omega⟩) (row d' x)) * q' (ix2 x l) := by
  pointwise [k0_pay45, k0_pay43, k0_pay36, k0_pay38, k0_pay39, k0_pay40]
  try rfl
theorem pay36_at (e f : FVec Ideal S1024x128 .f32) (r : Fin 1024) (l : Fin 128) :
    k0_pay36 (F := Ideal) e f (ix2 r l) = e (ix2 r l) + f (ix2 r l) := by
  pointwise [k0_pay36]
theorem pay37_at (e f : FVec Ideal S1024x128 .f32) (r : Fin 1024) (l : Fin 128) :
    k0_pay37 (F := Ideal) e f (ix2 r l) = e (ix2 r l) + f (ix2 r l) := by
  pointwise [k0_pay37]

/-- The factor a lane of the keys' or the queries' gradient ends with. -/
def laneFactor (l : Fin 128) : EReal := if l.val < 96 then ((3424635 / 33554432 : ℝ) : EReal) else 1

theorem lane_word (l : Fin 128) : (IntOp.cmpi CmpIPredicate.slt (BitVec.ofNat 32 l.val) 96#32) =
    BitVec.ofBool (decide (l.val < 96)) := by
  exact WordCmp.cmpi_slt_ofNat (by omega) (by omega)

theorem pay65_at (r : Fin 1024) (l : Fin 128) : k0_pay65 (F := Ideal) a (ix2 r l) = a (ix2 r l) * laneFactor l := by
  pointwise [k0_pay65]
  rw [lane_word, ofBits_scale, select_ofBool]
  rfl
theorem pay1_at (G : FVec Ideal S8192x128 .f32) (r : Fin 8192) (l : Fin 128) :
    k0_pay1 (F := Ideal) G (ix2 r l) = G (ix2 r l) * laneFactor l := by
  pointwise [k0_pay1]
  rw [lane_word, ofBits_scale, select_ofBool]
  rfl
theorem pay66_at (r : Fin 1024) (l : Fin 128) : k0_pay66 (F := Ideal) a (ix2 r l) = a (ix2 r l) := by
  pointwise [k0_pay66]
theorem pay26_at (r : Fin 8192) (l : Fin 128) : k0_pay26 (F := Ideal) (ix2 r l) = 0 := by
  pointwise [k0_pay26]
theorem pay27_at (r : Fin 1024) (l : Fin 128) : k0_pay27 (F := Ideal) (ix2 r l) = 0 := by
  pointwise [k0_pay27]
theorem pay28_at (r : Fin 1024) (l : Fin 128) : k0_pay28 (F := Ideal) (ix2 r l) = 0 := by
  pointwise [k0_pay28]
theorem pay24_at (r : Fin 1024) (l : Fin 128) : k0_pay24 (F := Ideal) v1 (ix2 r l) = v1 (ix2 r l) := by
  pointwise [k0_pay24]
theorem pay25_at (r : Fin 1024) (l : Fin 128) : k0_pay25 (F := Ideal) v1 (ix2 r l) = v1 (ix2 r l) := by
  pointwise [k0_pay25]
theorem pay24_eq : k0_pay24 (F := Ideal) v1 = v1 := by
  funext i; idx_vars i; exact pay24_at v1 _ _
theorem pay25_eq : k0_pay25 (F := Ideal) v1 = v1 := by
  funext i; idx_vars i; exact pay25_at v1 _ _

end Cert.Proof.Kernel2Ideal
end
-- ==== Proof.KI2.Fold.lean ====
/-
  What a grid point leaves, over the reals: the sums of the masked weights over all queries, for the key block's two gradients,
  and over the key block's keys, for the gradient of the queries.
-/
module

public import proofs.«01_k».proof.Proof.KI2.Pay

@[expose] public section

noncomputable section

namespace Cert.Proof.Kernel2Ideal

open Cert.Proof Cert.Kernel2Ideal Cert.Kernel2Ideal.Gen Idealize.ShloMosaic

/-- Row `n` of a whole buffer, `n` a natural number. -/
def rowN (X : Rows 8192 EReal) (n : ℕ) : Fin 128 → EReal := fun l => X (ix2 (Fin.ofNat 8192 n) l)

theorem row_getRows {n o : ℕ} (X : Rows 8192 EReal) (r : Fin n) : row (getRows n o X) r = rowN X (o + r.val) := rfl

theorem getRows_at {n o : ℕ} (X : Rows 8192 EReal) (r : Fin n) (l : Fin 128) :
    getRows n o X (ix2 r l) = rowN X (o + r.val) l := rfl

theorem rowN_val (X : Rows 8192 EReal) (y : Fin 8192) (l : Fin 128) : rowN X y.val l = X (ix2 y l) := by
  unfold rowN
  congr 2
  exact Fin.ext (Nat.mod_eq_of_lt y.isLt)

theorem putRows_in {n o : ℕ} (w : Rows n EReal) (X : Rows 8192 EReal) (y : Fin 8192) (l : Fin 128)
    (h : o ≤ y.val ∧ y.val < o + n) : putRows n o w X (ix2 y l) = w (ix2 ⟨y.val - o, by omega⟩ l) := by
  unfold putRows
  exact dif_pos h

theorem putRows_out {n o : ℕ} (w : Rows n EReal) (X : Rows 8192 EReal) (y : Fin 8192) (l : Fin 128)
    (h : ¬ (o ≤ y.val ∧ y.val < o + n)) : putRows n o w X (ix2 y l) = X (ix2 y l) := by
  unfold putRows
  exact dif_neg h

/-- A sum over `n` consecutive numbers from `o` on. -/
theorem sum_from (n o : ℕ) (f : ℕ → EReal) : ∑ x : Fin n, f (o + x.val) = ∑ k ∈ Finset.Ico o (o + n), f k := by
  rw [Finset.sum_Ico_eq_sum_range, Nat.add_sub_cancel_left, Finset.sum_range]

section Point

variable (kb vb : Rows 1024 EReal) (Q D : Rows 8192 EReal) (j : ℕ)

/-- The weight of a key of the block and a query: none where the key lies after the query. -/
def wt (κ : Fin 1024) (n : ℕ) : EReal := if 1024 * j + κ.val ≤ n then ee (row kb κ) (rowN Q n) else 0

/-- The weight's gradient. -/
def dw (κ : Fin 1024) (n : ℕ) : EReal := wt kb Q j κ n * dt (row vb κ) (rowN D n)

/-- The state after the queries of `[a, b)`, from the gradient `G` of the queries. -/
structure Inv (G : Rows 8192 EReal) (a b : ℕ) (s : Acc Ideal) : Prop where
  dk : ∀ (κ : Fin 1024) (l : Fin 128), s.1.1 (ix2 κ l) = ∑ n ∈ Finset.Ico a b, dw kb vb Q D j κ n * rowN Q n l
  dv : ∀ (κ : Fin 1024) (l : Fin 128), s.1.2 (ix2 κ l) = ∑ n ∈ Finset.Ico a b, wt kb Q j κ n * rowN D n l
  dq : ∀ (y : Fin 8192) (l : Fin 128), s.2 (ix2 y l) = G (ix2 y l)
    + if a ≤ y.val ∧ y.val < b then ∑ κ : Fin 1024, dw kb vb Q D j κ y.val * kb (ix2 κ l) else 0

variable {kb vb Q D j}

theorem wt_full {κ : Fin 1024} {n : ℕ} (h : 1024 * j + 1024 ≤ n) : wt kb Q j κ n = ee (row kb κ) (rowN Q n) :=
  if_pos (by omega)

/-- A full block of queries extends the state. -/
theorem Inv.full {G : Rows 8192 EReal} {a o : ℕ} {s : Acc Ideal} (hs : Inv kb vb Q D j G a o s)
    (hj : 1024 * j + 1024 ≤ o) (ha : a ≤ o) (ho : o + 1024 ≤ 8192) :
    Inv kb vb Q D j G a (o + 1024) (fullStep (F := Ideal) kb vb Q D o s) where
  dk κ l := by
    show k0_pay7 (F := Ideal) kb vb s.1.1 _ _ (ix2 κ l) = _
    rw [pay7_at, hs.dk, ← Finset.sum_Ico_consecutive _ ha (by omega : o ≤ o + 1024), ← sum_from 1024 o]
    refine congrArg _ (Finset.sum_congr rfl fun x _ => ?_)
    rw [row_getRows, row_getRows, getRows_at]
    unfold dw
    rw [wt_full (by omega)]
  dv κ l := by
    show k0_pay8 (F := Ideal) kb s.1.2 _ _ (ix2 κ l) = _
    rw [pay8_at, hs.dv, ← Finset.sum_Ico_consecutive _ ha (by omega : o ≤ o + 1024), ← sum_from 1024 o]
    refine congrArg _ (Finset.sum_congr rfl fun x _ => ?_)
    rw [row_getRows, getRows_at, wt_full (by omega)]
  dq y l := by
    show putRows 1024 o _ s.2 (ix2 y l) = _
    by_cases h : o ≤ y.val ∧ y.val < o + 1024
    · rw [putRows_in _ _ _ _ h, pay6_at, getRows_at]
      dsimp only
      rw [show o + (y.val - o) = y.val by omega, rowN_val, hs.dq, if_neg (by omega), if_pos (by omega), add_zero]
      refine congrArg _ (Finset.sum_congr rfl fun x _ => ?_)
      rw [row_getRows, row_getRows]
      dsimp only
      rw [show o + (y.val - o) = y.val by omega]
      unfold dw
      rw [wt_full (by omega)]
    · rw [putRows_out _ _ _ _ h, hs.dq]
      congr 1
      by_cases h' : a ≤ y.val ∧ y.val < o
      · rw [if_pos h', if_pos (by omega)]
      · rw [if_neg h', if_neg (by omega)]

/-- The weights of the upper half of the diagonal block. -/
theorem upper_wt (κ : Fin 1024) (x : Fin 512) :
    k0_pay31 (F := Ideal) kb (getRows 512 (1024 * j + 512) Q) (ix2 κ x) = wt kb Q j κ (1024 * j + 512 + x.val) := by
  rw [pay31_at, row_getRows]
  unfold wt
  by_cases h : κ.val ≤ x.val + 512
  · rw [if_pos h, if_pos (by omega)]
  · rw [if_neg h, if_neg (by omega)]

/-- The weights of the lower half of the diagonal block. -/
theorem lower_wt (κ : Fin 512) (x : Fin 512) :
    k0_pay41 (F := Ideal) kb (getRows 512 (1024 * j) Q) (ix2 κ x) = wt kb Q j ⟨κ.val, by omega⟩ (1024 * j + x.val) := by
  rw [pay41_at, row_getRows]
  unfold wt
  by_cases h : κ.val ≤ x.val
  · rw [if_pos h, if_pos (by dsimp only; omega)]
  · rw [if_neg h, if_neg (by dsimp only; omega)]

/-- In the lower half's queries the upper half's keys weigh nothing. -/
theorem wt_zero {κ : Fin 1024} {n : ℕ} (h : n < 1024 * j + κ.val) : wt kb Q j κ n = 0 := if_neg (by omega)

/-- The diagonal block starts the state. -/
theorem Inv.diag (hj : j < 8) (G : Rows 8192 EReal) :
    Inv kb vb Q D j G (1024 * j) (1024 * j + 1024) (diagStep (F := Ideal) kb vb Q D j G) where
  dk κ l := by
    show k0_pay46 (F := Ideal) _ _ (ix2 κ l) = _
    rw [pay24_eq, pay25_eq, pay46_at]
    rw [← Finset.sum_Ico_consecutive _ (by omega : 1024 * j ≤ 1024 * j + 512) (by omega : 1024 * j + 512 ≤ 1024 * j + 1024)]
    have up : k0_pay34 (F := Ideal) kb vb (getRows 512 (1024 * j + 512) Q) (getRows 512 (1024 * j + 512) D) (ix2 κ l)
        = ∑ n ∈ Finset.Ico (1024 * j + 512) (1024 * j + 1024), dw kb vb Q D j κ n * rowN Q n l := by
      rw [pay34_at, show 1024 * j + 1024 = 1024 * j + 512 + 512 by omega, ← sum_from 512 (1024 * j + 512)]
      refine Finset.sum_congr rfl fun x _ => ?_
      rw [upper_wt, row_getRows, getRows_at]
      rfl
    split
    · rename_i h
      rw [pay45_at]
      dsimp only
      rw [pay27_at, zero_add]
      refine Eq.trans (congrArg₂ (· + ·) up ?_) (add_comm _ _)
      rw [← sum_from 512 (1024 * j)]
      refine Finset.sum_congr rfl fun x _ => ?_
      rw [lower_wt, row_getRows, getRows_at]
      rfl
    · rename_i h
      rw [pay36_at, pay27_at, zero_add, up, Finset.sum_eq_zero (s := Finset.Ico (1024 * j) (1024 * j + 512)), zero_add]
      intro n hn
      rw [Finset.mem_Ico] at hn
      unfold dw
      rw [wt_zero (by omega), zero_mul, zero_mul]
  dv κ l := by
    show k0_pay47 (F := Ideal) _ _ (ix2 κ l) = _
    rw [pay24_eq, pay47_at]
    rw [← Finset.sum_Ico_consecutive _ (by omega : 1024 * j ≤ 1024 * j + 512) (by omega : 1024 * j + 512 ≤ 1024 * j + 1024)]
    have up : k0_pay37 (F := Ideal) k0_pay28 (k0_pay32 (F := Ideal) kb (getRows 512 (1024 * j + 512) Q) (getRows 512 (1024 * j + 512) D)) (ix2 κ l)
        = ∑ n ∈ Finset.Ico (1024 * j + 512) (1024 * j + 1024), wt kb Q j κ n * rowN D n l := by
      rw [pay37_at, pay28_at, zero_add, pay32_at, show 1024 * j + 1024 = 1024 * j + 512 + 512 by omega, ← sum_from 512 (1024 * j + 512)]
      refine Finset.sum_congr rfl fun x _ => ?_
      rw [upper_wt, getRows_at]
    split
    · rename_i h
      refine Eq.trans (congrArg₂ (· + ·) up ?_) (add_comm _ _)
      rw [pay42_at, ← sum_from 512 (1024 * j)]
      refine Finset.sum_congr rfl fun x _ => ?_
      rw [lower_wt, getRows_at]
    · rename_i h
      rw [up, Finset.sum_eq_zero (s := Finset.Ico (1024 * j) (1024 * j + 512)), zero_add]
      intro n hn
      rw [Finset.mem_Ico] at hn
      rw [wt_zero (by omega), zero_mul]
  dq y l := by
    have up : diagUpper (F := Ideal) kb vb Q D j G (ix2 y l) = G (ix2 y l) +
        if 1024 * j + 512 ≤ y.val ∧ y.val < 1024 * j + 1024 then ∑ κ : Fin 1024, dw kb vb Q D j κ y.val * kb (ix2 κ l) else 0 := by
      unfold diagUpper
      by_cases h : 1024 * j + 512 ≤ y.val ∧ y.val < 1024 * j + 512 + 512
      · rw [putRows_in _ _ _ _ h, pay35_at, getRows_at]
        dsimp only
        rw [show 1024 * j + 512 + (y.val - (1024 * j + 512)) = y.val by omega, rowN_val, if_pos (by omega)]
        refine congrArg _ (Finset.sum_congr rfl fun x _ => ?_)
        rw [upper_wt, row_getRows]
        dsimp only
        rw [show 1024 * j + 512 + (y.val - (1024 * j + 512)) = y.val by omega]
        rfl
      · rw [putRows_out _ _ _ _ h, if_neg (by omega), add_zero]
    show diagBoth (F := Ideal) kb vb Q D j G (ix2 y l) = _
    unfold diagBoth
    rw [pay24_eq, pay25_eq]
    by_cases h : 1024 * j ≤ y.val ∧ y.val < 1024 * j + 512
    · rw [putRows_in _ _ _ _ h, pay44_at, getRows_at]
      dsimp only
      rw [show 1024 * j + (y.val - 1024 * j) = y.val by omega, rowN_val, up, if_neg (by omega), add_zero, if_pos (by omega)]
      refine congrArg _ ?_
      rw [Fin.sum_univ_two_halves 512 512 rfl (fun κ : Fin 1024 => dw kb vb Q D j κ y.val * kb (ix2 κ l)),
        Finset.sum_eq_zero (f := fun x : Fin 512 => dw kb vb Q D j ⟨512 + x.val, by omega⟩ y.val * kb (ix2 ⟨512 + x.val, by omega⟩ l)),
        add_zero]
      · refine Finset.sum_congr rfl fun x _ => ?_
        rw [lower_wt, row_getRows]
        dsimp only
        rw [show 1024 * j + (y.val - 1024 * j) = y.val by omega]
        rfl
      · intro x _
        unfold dw
        rw [wt_zero (by dsimp only; omega), zero_mul, zero_mul]
    · rw [putRows_out _ _ _ _ h, up]
      congr 1
      by_cases h' : 1024 * j + 512 ≤ y.val ∧ y.val < 1024 * j + 1024
      · rw [if_pos h', if_pos (by omega)]
      · rw [if_neg h', if_neg (by omega)]

/-- The whole point: every query from the key block's first key on. -/
theorem Inv.point (hj : j < 8) (G : Rows 8192 EReal) :
    Inv kb vb Q D j G (1024 * j) 8192 (pointAcc (F := Ideal) kb vb Q D j G) := by
  have hd := Inv.diag (kb := kb) (vb := vb) (Q := Q) (D := D) hj G
  have ho : Inv kb vb Q D j G (1024 * j) (1024 * (2 * (j / 2) + 2)) (oddStep (F := Ideal) kb vb Q D j (diagStep (F := Ideal) kb vb Q D j G)) := by
    unfold oddStep
    split
    · have := hd.full (by omega) (by omega) (by omega)
      rwa [show 1024 * j + 1024 + 1024 = 1024 * (2 * (j / 2) + 2) by omega] at this
    · rwa [show 1024 * j + 1024 = 1024 * (2 * (j / 2) + 2) by omega] at hd
  have hp : ∀ t : ℕ, t ≤ (7 - j) / 2 → Inv kb vb Q D j G (1024 * j) (1024 * (2 * (j / 2) + 2 + 2 * t))
      (pairs (F := Ideal) kb vb Q D j t (oddStep (F := Ideal) kb vb Q D j (diagStep (F := Ideal) kb vb Q D j G))) := by
    intro t ht
    induction t with
    | zero => exact ho
    | succ t ih =>
      have h1 := (ih (by omega)).full (by omega) (by omega) (by omega)
      rw [show 1024 * (2 * (j / 2) + 2 + 2 * t) + 1024 = 1024 * (2 * (j / 2) + 3 + 2 * t) by omega] at h1
      have h2 := h1.full (by omega) (by omega) (by omega)
      rw [show 1024 * (2 * (j / 2) + 3 + 2 * t) + 1024 = 1024 * (2 * (j / 2) + 2 + 2 * (t + 1)) by omega] at h2
      exact h2
  have := hp _ le_rfl
  rw [show 1024 * (2 * (j / 2) + 2 + 2 * ((7 - j) / 2)) = 8192 by omega] at this
  unfold pointAcc
  rw [pay24_eq, pay25_eq]
  exact this

/-- A sum over the queries from the block on is one over all of them, where the earlier ones give nothing. -/
theorem sum_all {N : ℕ} (f : ℕ → EReal) (a : ℕ) (ha : a ≤ N) (h : ∀ n, n < a → f n = 0) :
    ∑ n ∈ Finset.Ico a N, f n = ∑ y : Fin N, f y.val := by
  rw [← Finset.sum_range f, Finset.range_eq_Ico, ← Finset.sum_Ico_consecutive _ (Nat.zero_le a) ha,
    Finset.sum_eq_zero (s := Finset.Ico 0 a), zero_add]
  intro n hn
  exact h n (Finset.mem_Ico.mp hn).2

/-- The key gradient a point leaves. -/
theorem dkOut_at (hj : j < 8) (κ : Fin 1024) (l : Fin 128) : dkOut (F := Ideal) kb vb Q D j (ix2 κ l)
    = (∑ y : Fin 8192, dw kb vb Q D j κ y.val * Q (ix2 y l)) * laneFactor l := by
  unfold dkOut
  rw [pay65_at, (Inv.point hj _).dk, sum_all _ _ (by omega)]
  · exact congrArg (· * laneFactor l) (Finset.sum_congr rfl fun y _ => by rw [rowN_val])
  · intro n hn
    unfold dw
    rw [wt_zero (by omega), zero_mul, zero_mul]

/-- The value gradient a point leaves. -/
theorem dvOut_at (hj : j < 8) (κ : Fin 1024) (l : Fin 128) : dvOut (F := Ideal) kb vb Q D j (ix2 κ l)
    = ∑ y : Fin 8192, wt kb Q j κ y.val * D (ix2 y l) := by
  unfold dvOut
  rw [pay66_at, (Inv.point hj _).dv, sum_all _ _ (by omega)]
  · exact Finset.sum_congr rfl fun y _ => by rw [rowN_val]
  · intro n hn
    rw [wt_zero (by omega), zero_mul]

/-- The queries' gradient a point leaves, before the last scaling. -/
theorem pointAcc_dq (hj : j < 8) (G : Rows 8192 EReal) (y : Fin 8192) (l : Fin 128) :
    (pointAcc (F := Ideal) kb vb Q D j G).2 (ix2 y l)
      = G (ix2 y l) + ∑ κ : Fin 1024, dw kb vb Q D j κ y.val * kb (ix2 κ l) := by
  rw [(Inv.point hj G).dq]
  by_cases h : 1024 * j ≤ y.val
  · rw [if_pos ⟨h, y.isLt⟩]
  · rw [if_neg (by omega)]
    congr 1
    refine (Finset.sum_eq_zero fun κ _ => ?_).symm
    unfold dw
    rw [wt_zero (by omega), zero_mul, zero_mul]

end Point

end Cert.Proof.Kernel2Ideal
end
-- ==== Proof.KI2.Offsets.lean ====
/-
  The words the kernel computes, in closed form: the rows each load and store starts at, the trips of the two counted loops,
  and the two conditions, over the grid point `i` — its key block is `j = i 1`.
-/
module

public import proofs.«01_k».proof.Proof.Gen.Kernel2Ideal.Loops
public import proofs.«01_k».proof.Proof.Rows

@[expose] public section

namespace Cert.Proof.Kernel2Ideal

open Cert.Kernel2Ideal Cert.Kernel2Ideal.Gen Idealize.ShloMosaic

/-- The main loop makes one trip for every two full blocks of queries above the key block. -/
theorem t1_trips : ∀ i : grid0.Coords, (k0_t1_loop i).trips = (7 - (i 1).val) / 2 := by decide +kernel

/-- The loop after it makes none. -/
theorem t2_trips : ∀ i : grid0.Coords, (k0_t2_loop i).trips = 0 := by decide +kernel

/-- The first block of a pair starts here. -/
theorem off4_eq : ∀ (i : grid0.Coords) (t : Fin (k0_t1_loop i).trips),
    k0_off4 i t = ![1024 * (2 * ((i 1).val / 2) + 2 + 2 * t.val), 0] := by decide +kernel

/-- The second block of a pair starts here. -/
theorem off5_eq : ∀ (i : grid0.Coords) (t : Fin (k0_t1_loop i).trips),
    k0_off5 i t = ![1024 * (2 * ((i 1).val / 2) + 3 + 2 * t.val), 0] := by decide +kernel

/-- The queries' gradient is reset at the first key block. -/
theorem cond1_eq : ∀ i : grid0.Coords,
    (Scalar.cmpi .ne ((Scalar.extui (Scalar.cmpi .eq (BitVec.ofNat 32 (i 1).val) 0#32) : BitVec 32)) 0#32 = 1#1) ↔ (i 1).val = 0 := by
  decide +kernel

/-- The queries' gradient is scaled at the last key block. -/
theorem cond3_eq : ∀ i : grid0.Coords,
    (Scalar.cmpi .ne ((Scalar.extui (Scalar.cmpi .eq (BitVec.ofNat 32 (i 1).val) 7#32) : BitVec 32)) 0#32 = 1#1) ↔ (i 1).val = 7 := by
  decide +kernel

/-- The single block is taken when the number of full blocks above the key block is odd. -/
theorem cond2_eq : ∀ i : grid0.Coords, (k0_cond2 i = 1#1) ↔ (i 1).val % 2 = 0 := by decide +kernel

end Cert.Proof.Kernel2Ideal
-- ==== Proof.KI2.Parts.lean ====
/-
  One step of the run after another: what each part of the kernel body does to the buffers it holds, stated for whole staging
  buffers held at the contents that read given arrays.
-/
module

public import proofs.«01_k».proof.Proof.KI2.Offsets
public import proofs.«01_k».proof.Proof.KI2.Spec
public import proofs.«01_k».proof.Proof.Gen.Kernel2Ideal.Frame

@[expose] public section

noncomputable section

namespace Cert.Proof.Kernel2Ideal

open Cert.Proof Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A whole staging buffer of the core held at the contents that read `X`. -/
abbrev Held (c : Dev nD) {sp : Space} {s : Shape} {e : EltTy} (m : Memref sig .tc sp s e) (h : m.IsWhole) (X : s.Idx → Elt F e) : sProp 𝕄 :=
  m.view.loc (c : Thread nD τ) ↦{fullShare} (h.unread (Val := Elt F) X)

variable (c : Dev nD) (i : grid0.Coords)
  (arg2 : Memref sig .tc .vmem S8192x128 .bf16) (harg2 : arg2.IsWhole) (arg3 : Memref sig .tc .vmem S1024x128 .bf16) (harg3 : arg3.IsWhole)
  (arg4 : Memref sig .tc .vmem S1024x128 .bf16) (harg4 : arg4.IsWhole) (arg5 : Memref sig .tc .vmem S8192x128 .bf16) (harg5 : arg5.IsWhole)
  (arg6 : Memref sig .tc .vmem S1024x128 .f32) (harg6 : arg6.IsWhole) (arg7 : Memref sig .tc .vmem S1024x128 .bf16) (harg7 : arg7.IsWhole)
  (arg8 : Memref sig .tc .vmem S8192x128 .f32) (harg8 : arg8.IsWhole)
  (kb vb : Rows 1024 (F .bf16)) (Q D : Rows 8192 (F .bf16))

/-- One trip of the main loop. -/
theorem wp_trip (v1 v3 : FVec F S1024x128 .bf16) (v94 : BitVec 32) (t : Fin (k0_t1_loop i).trips) (s : Acc F) :
    iprop(Held c arg2 harg2 Q ∗ Held c arg5 harg5 D ∗ Held c arg8 harg8 s.2)
      ⊢ wp frame (wpE defs₀ Variants.none (c : Thread nD τ) none) Set.univ
          (k0_t1_body (F := F) i arg2 harg2 arg3 harg3 arg4 harg4 arg5 harg5 arg6 harg6 arg7 harg7 arg8 harg8 v1 v3 v94 t s.1)
          (fun r => (iprop(Held c arg2 harg2 Q ∗ Held c arg5 harg5 D
            ∗ Held c arg8 harg8 (pairStep v1 v3 Q D (i 1).val t.val s).2
            ∗ ⌜r = (pairStep v1 v3 Q D (i 1).val t.val s).1⌝) : sProp 𝕄)) := by
  obtain ⟨⟨dk, dv⟩, G⟩ := s
  unfold k0_t1_body
  simp only []
  rw [k0_part1_eq_skeleton]
  unfold k0_part1_skel
  iintro ⟨H2, H5, H8⟩
  iapply (wp_load_rows _ _ _ _ harg2 Q (off4_eq i t)) $$ H2
  iintro H2
  iapply (wp_load_rows _ _ _ _ harg5 D (off4_eq i t)) $$ H5
  iintro H5
  iapply (wp_load_rows _ _ _ _ harg8 G (off4_eq i t)) $$ H8
  iintro H8
  iapply (wp_load_rows _ _ _ _ harg8 G (off4_eq i t)) $$ H8
  iintro H8
  iapply (wp_store_rows _ _ _ _ harg8 G (off4_eq i t)) $$ H8
  iintro H8
  iapply (wp_load_rows _ _ _ _ harg2 Q (off5_eq i t)) $$ H2
  iintro H2
  iapply (wp_load_rows _ _ _ _ harg5 D (off5_eq i t)) $$ H5
  iintro H5
  iapply (wp_load_rows _ _ _ _ harg8 _ (off5_eq i t)) $$ H8
  iintro H8
  iapply (wp_load_rows _ _ _ _ harg8 _ (off5_eq i t)) $$ H8
  iintro H8
  iapply (wp_store_rows _ _ _ _ harg8 _ (off5_eq i t)) $$ H8
  iintro H8
  iapply (le_wp_ret _ _)
  isplitl [H2]; · iexact H2
  isplitl [H5]; · iexact H5
  isplitl [H8]; · iexact H8
  ipureintro; rfl

/-- The main loop: its trips one after another. -/
theorem wp_pairs (v1 v3 : FVec F S1024x128 .bf16) (v94 : BitVec 32) (s : Acc F) {β : Type}
    (k : FVec F S1024x128 .f32 × FVec F S1024x128 .f32 → Prog (TpuEff nD τ sig (Elt F) Λ₀ .tc) β) (R : β → sProp 𝕄) :
    iprop(Held c arg2 harg2 Q ∗ Held c arg5 harg5 D ∗ Held c arg8 harg8 s.2)
      ⊢ iprop((iprop(Held c arg2 harg2 Q ∗ Held c arg5 harg5 D ∗ Held c arg8 harg8 (pairs v1 v3 Q D (i 1).val ((7 - (i 1).val) / 2) s).2)
          -∗ wp frame (wpE defs₀ Variants.none (c : Thread nD τ) none) Set.univ (k (pairs v1 v3 Q D (i 1).val ((7 - (i 1).val) / 2) s).1) R)
        -∗ wp frame (wpE defs₀ Variants.none (c : Thread nD τ) none) Set.univ
          (Scf.Loop.for (k0_t1_loop i) (k0_t1_ok i) s.1 (k0_t1_body (F := F) i arg2 harg2 arg3 harg3 arg4 harg4 arg5 harg5 arg6 harg6 arg7 harg7 arg8 harg8 v1 v3 v94) >>= k) R) := by
  have hloop := Scf.wp_for_bind Idealize.ShloMosaic.frame (wpE (defs₀ (F := F)) Variants.none (c : Thread nD τ) none) Set.univ
    (k0_t1_loop i).lb (k0_t1_loop i).ub (k0_t1_loop i).st (k0_t1_ok i) s.1
    (k0_t1_body (F := F) i arg2 harg2 arg3 harg3 arg4 harg4 arg5 harg5 arg6 harg6 arg7 harg7 arg8 harg8 v1 v3 v94)
    (fun t acc => (iprop(Held c arg2 harg2 Q ∗ Held c arg5 harg5 D ∗ Held c arg8 harg8 (pairs v1 v3 Q D (i 1).val t s).2
      ∗ ⌜acc = (pairs v1 v3 Q D (i 1).val t s).1⌝) : sProp 𝕄))
    (fun t acc => by
      iintro ⟨H2, H5, H8, %hacc⟩
      subst hacc
      iapply (wp_trip c i arg2 harg2 arg3 harg3 arg4 harg4 arg5 harg5 arg6 harg6 arg7 harg7 arg8 harg8 Q D v1 v3 v94 t (pairs v1 v3 Q D (i 1).val t.val s)) $$ [H2 H5 H8]
      isplitl [H2]; · iexact H2
      isplitl [H5]; · iexact H5
      iexact H8) (kk := k) (Q := R)
  iintro ⟨H2, H5, H8⟩ HK
  iapply hloop $$ [H2 H5 H8]
  · isplitl [H2]; · iexact H2
    isplitl [H5]; · iexact H5
    isplitl [H8]; · iexact H8
    ipureintro; rfl
  · iintro %acc ⟨H2, H5, H8, %hacc⟩
    subst hacc
    have ht : Scf.trips (k0_t1_loop i).lb (k0_t1_loop i).ub (k0_t1_loop i).st = (7 - (i 1).val) / 2 := t1_trips i
    rw [ht]
    iapply HK
    isplitl [H2]; · iexact H2
    isplitl [H5]; · iexact H5
    iexact H8

end Cert.Proof.Kernel2Ideal

end
-- ==== Proof.KI2.Body.lean ====
/-
  The run of one grid point: the parts of the body put together.
-/
module

public import proofs.«01_k».proof.Proof.KI2.Parts
public import Idealize.ShloMosaic.Lib.LoopRemainder
public import proofs.«01_k».proof.Proof.Gen.Kernel2Ideal.Frame

@[expose] public section

noncomputable section

namespace Cert.Proof.Kernel2Ideal

open Cert.Proof Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S8192x128 .bf16) (harg2 : arg2.IsWhole) (arg3 : Memref sig .tc .vmem S1024x128 .bf16) (harg3 : arg3.IsWhole)
  (arg4 : Memref sig .tc .vmem S1024x128 .bf16) (harg4 : arg4.IsWhole) (arg5 : Memref sig .tc .vmem S8192x128 .bf16) (harg5 : arg5.IsWhole)
  (arg6 : Memref sig .tc .vmem S1024x128 .f32) (harg6 : arg6.IsWhole) (arg7 : Memref sig .tc .vmem S1024x128 .bf16) (harg7 : arg7.IsWhole)
  (arg8 : Memref sig .tc .vmem S8192x128 .f32) (harg8 : arg8.IsWhole)
  (kb vb : Rows 1024 (F .bf16)) (Q D : Rows 8192 (F .bf16)) (G : Rows 8192 (F .f32))

/-- The first part: the loads of the key block, the reset of the queries' gradient at the first key block, and the upper half
of the diagonal block's products. -/
theorem wp_part3 {β : Type} (k : _ → Prog (TpuEff nD τ sig (Elt F) Λ₀ .tc) β) (R : β → sProp 𝕄) :
    iprop(Held c arg2 harg2 Q ∗ Held c arg3 harg3 kb ∗ Held c arg4 harg4 vb ∗ Held c arg5 harg5 D ∗ Held c arg8 harg8 G)
      ⊢ iprop((iprop(Held c arg2 harg2 Q ∗ Held c arg3 harg3 kb ∗ Held c arg4 harg4 vb ∗ Held c arg5 harg5 D ∗ Held c arg8 harg8 (dqStart (i 1).val G))
          -∗ wp frame (wpE defs₀ Variants.none (c : Thread nD τ) none) Set.univ
            (k ⟨BitVec.ofNat 32 (i 1).val, k0_pay24 kb, k0_pay25 vb, k0_pay27 (F := F), k0_pay28 (F := F),
              Scalar.addi (Scalar.muli (BitVec.ofNat 32 (i 1).val) 1024#32) 512#32,
              k0_pay32 kb (getRows 512 (1024 * (i 1).val + 512) Q) (getRows 512 (1024 * (i 1).val + 512) D),
              k0_pay33 kb vb (getRows 512 (1024 * (i 1).val + 512) Q) (getRows 512 (1024 * (i 1).val + 512) D),
              k0_pay34 kb vb (getRows 512 (1024 * (i 1).val + 512) Q) (getRows 512 (1024 * (i 1).val + 512) D),
              getRows 512 (1024 * (i 1).val + 512) (dqStart (i 1).val G)⟩) R)
        -∗ wp frame (wpE defs₀ Variants.none (c : Thread nD τ) none) Set.univ (k0_part3 (F := F) i arg2 harg2 arg3 harg3 arg4 harg4 arg5 harg5 arg6 harg6 arg7 harg7 arg8 harg8 >>= k) R) := by
  rw [k0_part3_eq_skeleton]
  unfold k0_part3_skel
  unfold dqStart
  by_cases h : (i 1).val = 0
  · simp only [dif_pos ((cond1_eq i).mpr h), if_pos h]
    iintro ⟨H2, H3, H4, H5, H8⟩ HK
    iapply (wp_load_all _ _ _ _ harg3 _) $$ H3
    iintro H3
    iapply (wp_load_all _ _ _ _ harg4 _) $$ H4
    iintro H4
    iapply (wp_load_all _ _ _ _ harg8 _) $$ H8
    iintro H8
    iapply (wp_store_all _ _ _ _ harg8 _) $$ H8
    iintro H8
    iapply (wp_load_rows _ _ _ _ harg2 Q (k0_off1_eq i)) $$ H2
    iintro H2
    iapply (wp_load_rows _ _ _ _ harg5 D (k0_off1_eq i)) $$ H5
    iintro H5
    iapply (wp_load_rows _ _ _ _ harg8 _ (k0_off1_eq i)) $$ H8
    iintro H8
    iapply HK
    isplitl [H2]; · iexact H2
    isplitl [H3]; · iexact H3
    isplitl [H4]; · iexact H4
    isplitl [H5]; · iexact H5
    iexact H8
  · simp only [dif_neg (fun hc => h ((cond1_eq i).mp hc)), if_neg h]
    iintro ⟨H2, H3, H4, H5, H8⟩ HK
    iapply (wp_load_all _ _ _ _ harg3 _) $$ H3
    iintro H3
    iapply (wp_load_all _ _ _ _ harg4 _) $$ H4
    iintro H4
    iapply (wp_load_rows _ _ _ _ harg2 Q (k0_off1_eq i)) $$ H2
    iintro H2
    iapply (wp_load_rows _ _ _ _ harg5 D (k0_off1_eq i)) $$ H5
    iintro H5
    iapply (wp_load_rows _ _ _ _ harg8 _ (k0_off1_eq i)) $$ H8
    iintro H8
    iapply HK
    isplitl [H2]; · iexact H2
    isplitl [H3]; · iexact H3
    isplitl [H4]; · iexact H4
    isplitl [H5]; · iexact H5
    iexact H8

/-- The second part: both halves of the diagonal block. -/
theorem wp_part4 (v11 : BitVec 32) (a1 : BitVec 32) {β : Type} (k : _ → Prog (TpuEff nD τ sig (Elt F) Λ₀ .tc) β) (R : β → sProp 𝕄) :
    iprop(Held c arg2 harg2 Q ∗ Held c arg3 harg3 kb ∗ Held c arg4 harg4 vb ∗ Held c arg5 harg5 D ∗ Held c arg8 harg8 G)
      ⊢ iprop((iprop(Held c arg2 harg2 Q ∗ Held c arg3 harg3 kb ∗ Held c arg4 harg4 vb ∗ Held c arg5 harg5 D ∗ Held c arg8 harg8 (diagBoth kb vb Q D (i 1).val G))
          -∗ wp frame (wpE defs₀ Variants.none (c : Thread nD τ) none) Set.univ
            (k ⟨k0_pay36 (k0_pay27 (F := F)) (k0_pay34 kb vb (getRows 512 (1024 * (i 1).val + 512) Q) (getRows 512 (1024 * (i 1).val + 512) D)),
              k0_pay37 (k0_pay28 (F := F)) (k0_pay32 kb (getRows 512 (1024 * (i 1).val + 512) Q) (getRows 512 (1024 * (i 1).val + 512) D)),
              k0_pay42 (k0_pay24 kb) (getRows 512 (1024 * (i 1).val) Q) (getRows 512 (1024 * (i 1).val) D),
              k0_pay45 (k0_pay24 kb) (k0_pay25 vb) (k0_pay27 (F := F))
                (k0_pay34 kb vb (getRows 512 (1024 * (i 1).val + 512) Q) (getRows 512 (1024 * (i 1).val + 512) D))
                (getRows 512 (1024 * (i 1).val) Q) (getRows 512 (1024 * (i 1).val) D)⟩) R)
        -∗ wp frame (wpE defs₀ Variants.none (c : Thread nD τ) none) Set.univ
          (k0_part4 (F := F) i arg2 harg2 arg3 harg3 arg4 harg4 arg5 harg5 arg6 harg6 arg7 harg7 arg8 harg8 a1 (k0_pay24 kb) (k0_pay25 vb) (k0_pay27 (F := F)) (k0_pay28 (F := F)) v11
              (k0_pay32 kb (getRows 512 (1024 * (i 1).val + 512) Q) (getRows 512 (1024 * (i 1).val + 512) D))
              (k0_pay33 kb vb (getRows 512 (1024 * (i 1).val + 512) Q) (getRows 512 (1024 * (i 1).val + 512) D))
              (k0_pay34 kb vb (getRows 512 (1024 * (i 1).val + 512) Q) (getRows 512 (1024 * (i 1).val + 512) D))
              (getRows 512 (1024 * (i 1).val + 512) G) >>= k) R) := by
  rw [k0_part4_eq_skeleton]
  unfold k0_part4_skel
  iintro ⟨H2, H3, H4, H5, H8⟩ HK
  iapply (wp_load_rows _ _ _ _ harg8 _ (k0_off1_eq i)) $$ H8
  iintro H8
  iapply (wp_store_rows _ _ _ _ harg8 _ (k0_off1_eq i)) $$ H8
  iintro H8
  iapply (wp_load_rows _ _ _ _ harg2 Q (k0_off2_eq i)) $$ H2
  iintro H2
  iapply (wp_load_rows _ _ _ _ harg5 D (k0_off2_eq i)) $$ H5
  iintro H5
  iapply (wp_load_rows _ _ _ _ harg8 _ (k0_off2_eq i)) $$ H8
  iintro H8
  iapply (wp_load_rows _ _ _ _ harg8 _ (k0_off2_eq i)) $$ H8
  iintro H8
  iapply (wp_store_rows _ _ _ _ harg8 _ (k0_off2_eq i)) $$ H8
  iintro H8
  iapply HK
  isplitl [H2]; · iexact H2
  isplitl [H3]; · iexact H3
  isplitl [H4]; · iexact H4
  isplitl [H5]; · iexact H5
  iexact H8

/-- No trip is left for the loop after the main one. -/
theorem wp_noTrips (v1 v3 : FVec F S1024x128 .bf16) (v94 v100 : BitVec 32) (init : FVec F S1024x128 .f32 × FVec F S1024x128 .f32) {β : Type}
    (k : FVec F S1024x128 .f32 × FVec F S1024x128 .f32 → Prog (TpuEff nD τ sig (Elt F) Λ₀ .tc) β) (R : β → sProp 𝕄) :
    wp frame (wpE defs₀ Variants.none (c : Thread nD τ) none) Set.univ (k init) R
      ⊢ wp frame (wpE defs₀ Variants.none (c : Thread nD τ) none) Set.univ
          (Scf.Loop.for (k0_t2_loop i) (k0_t2_ok i) init (k0_t2_body (F := F) i arg2 harg2 arg3 harg3 arg4 harg4 arg5 harg5 arg6 harg6 arg7 harg7 arg8 harg8 v1 v3 v94 v100) >>= k) R := by
  have h : Scf.Loop.for (k0_t2_loop i) (k0_t2_ok i) init (k0_t2_body (F := F) i arg2 harg2 arg3 harg3 arg4 harg4 arg5 harg5 arg6 harg6 arg7 harg7 arg8 harg8 v1 v3 v94 v100) = .ret init :=
    Scf.for_eq_ret _ _ _ _ init _ (t2_trips i)
  rw [h]
  exact .rfl

/-- A point's accumulators from the diagonal block's, an odd number of full blocks above. -/
theorem pointAcc_odd (j : ℕ) (h : j % 2 = 0) : pointAcc kb vb Q D j G
    = pairs (k0_pay24 kb) (k0_pay25 vb) Q D j ((7 - j) / 2)
        (fullStep (k0_pay24 kb) (k0_pay25 vb) Q D (1024 * j + 1024) (diagStep kb vb Q D j G)) := by
  unfold pointAcc oddStep; rw [if_pos h]

/-- A point's accumulators from the diagonal block's, an even number of full blocks above. -/
theorem pointAcc_even (j : ℕ) (h : ¬ j % 2 = 0) : pointAcc kb vb Q D j G
    = pairs (k0_pay24 kb) (k0_pay25 vb) Q D j ((7 - j) / 2) (diagStep kb vb Q D j G) := by
  unfold pointAcc oddStep; rw [if_neg h]

/-- The whole point but for the final scaling of the queries' gradient. -/
theorem wp_part5 (f6 : arg6.view.ty.Contents (Elt F)) (f7 : arg7.view.ty.Contents (Elt F)) (R : BitVec 1 → sProp 𝕄) :
    iprop(Held c arg2 harg2 Q ∗ Held c arg3 harg3 kb ∗ Held c arg4 harg4 vb ∗ Held c arg5 harg5 D ∗ (arg6.view.loc (c : Thread nD τ) ↦{fullShare} f6) ∗ (arg7.view.loc (c : Thread nD τ) ↦{fullShare} f7) ∗ Held c arg8 harg8 G)
      ⊢ iprop((iprop(Held c arg2 harg2 Q ∗ Held c arg3 harg3 kb ∗ Held c arg4 harg4 vb ∗ Held c arg5 harg5 D ∗ Held c arg6 harg6 (dkOut kb vb Q D (i 1).val) ∗ Held c arg7 harg7 (dvOut kb vb Q D (i 1).val) ∗ Held c arg8 harg8 (pointAcc kb vb Q D (i 1).val (dqStart (i 1).val G)).2)
          -∗ R (Scalar.cmpi .ne (Scalar.extui (Scalar.cmpi .eq (BitVec.ofNat 32 (i 1).val) 7#32) : BitVec 32) 0#32))
        -∗ wp frame (wpE defs₀ Variants.none (c : Thread nD τ) none) Set.univ (k0_part5 (F := F) i arg2 harg2 arg3 harg3 arg4 harg4 arg5 harg5 arg6 harg6 arg7 harg7 arg8 harg8) R) := by
  rw [k0_part5_eq_skeleton]
  unfold k0_part5_skel
  have e1 : (pointAcc kb vb Q D (i 1).val (k0_pay26 (F := F))).1 = (pointAcc kb vb Q D (i 1).val (dqStart (i 1).val G)).1 :=
    pointAcc_fst kb vb Q D (i 1).val _ _
  unfold dkOut dvOut
  rw [e1]
  by_cases h : k0_cond2 i = 1#1
  · rw [pointAcc_odd kb vb Q D _ _ ((cond2_eq i).mp h)]
    simp only [dif_pos h]
    iintro ⟨H2, H3, H4, H5, H6, H7, H8⟩ HK
    iapply (wp_part3 c i arg2 harg2 arg3 harg3 arg4 harg4 arg5 harg5 arg6 harg6 arg7 harg7 arg8 harg8 kb vb Q D G) $$ [H2 H3 H4 H5 H8]
    · isplitl [H2]; · iexact H2
      isplitl [H3]; · iexact H3
      isplitl [H4]; · iexact H4
      isplitl [H5]; · iexact H5
      iexact H8
    iintro ⟨H2, H3, H4, H5, H8⟩
    dsimp only
    iapply (wp_part4 c i arg2 harg2 arg3 harg3 arg4 harg4 arg5 harg5 arg6 harg6 arg7 harg7 arg8 harg8 kb vb Q D (dqStart (i 1).val G)) $$ [H2 H3 H4 H5 H8]
    · isplitl [H2]; · iexact H2
      isplitl [H3]; · iexact H3
      isplitl [H4]; · iexact H4
      isplitl [H5]; · iexact H5
      iexact H8
    iintro ⟨H2, H3, H4, H5, H8⟩
    dsimp only
    iapply (wp_load_rows _ _ _ _ harg2 Q (k0_off3_eq i)) $$ H2
    iintro H2
    iapply (wp_load_rows _ _ _ _ harg5 D (k0_off3_eq i)) $$ H5
    iintro H5
    iapply (wp_load_rows _ _ _ _ harg8 _ (k0_off3_eq i)) $$ H8
    iintro H8
    iapply (wp_load_rows _ _ _ _ harg8 _ (k0_off3_eq i)) $$ H8
    iintro H8
    iapply (wp_store_rows _ _ _ _ harg8 _ (k0_off3_eq i)) $$ H8
    iintro H8
    simp only [Prog.pure_eq_ret, Prog.bind]
    rw [show (k0_pay53 (k0_pay24 kb) (k0_pay25 vb) (k0_pay36 (k0_pay27 (F := F)) (k0_pay34 kb vb (getRows 512 (1024 * (i 1).val + 512) Q) (getRows 512 (1024 * (i 1).val + 512) D))) (k0_pay45 (k0_pay24 kb) (k0_pay25 vb) (k0_pay27 (F := F)) (k0_pay34 kb vb (getRows 512 (1024 * (i 1).val + 512) Q) (getRows 512 (1024 * (i 1).val + 512) D)) (getRows 512 (1024 * (i 1).val) Q) (getRows 512 (1024 * (i 1).val) D)) (getRows 1024 (1024 * (i 1).val + 1024) Q) (getRows 1024 (1024 * (i 1).val + 1024) D), k0_pay54 (k0_pay24 kb) (k0_pay37 (k0_pay28 (F := F)) (k0_pay32 kb (getRows 512 (1024 * (i 1).val + 512) Q) (getRows 512 (1024 * (i 1).val + 512) D))) (k0_pay42 (k0_pay24 kb) (getRows 512 (1024 * (i 1).val) Q) (getRows 512 (1024 * (i 1).val) D)) (getRows 1024 (1024 * (i 1).val + 1024) Q) (getRows 1024 (1024 * (i 1).val + 1024) D)) = (fullStep (k0_pay24 kb) (k0_pay25 vb) Q D (1024 * (i 1).val + 1024) (diagStep kb vb Q D (i 1).val (dqStart (i 1).val G))).1 from rfl]
    iapply (wp_pairs c i arg2 harg2 arg3 harg3 arg4 harg4 arg5 harg5 arg6 harg6 arg7 harg7 arg8 harg8 Q D (k0_pay24 kb) (k0_pay25 vb) _ (fullStep (k0_pay24 kb) (k0_pay25 vb) Q D (1024 * (i 1).val + 1024) (diagStep kb vb Q D (i 1).val (dqStart (i 1).val G)))) $$ [H2 H5 H8]
    · isplitl [H2]; · iexact H2
      isplitl [H5]; · iexact H5
      iexact H8
    iintro ⟨H2, H5, H8⟩
    dsimp only
    iapply (wp_noTrips c i arg2 harg2 arg3 harg3 arg4 harg4 arg5 harg5 arg6 harg6 arg7 harg7 arg8 harg8)
    dsimp only
    iapply (wp_load (S := Finset.univ) _ _ _ _ (Finset.subset_univ _)) $$ H6
    iintro H6
    iapply (wp_store_all _ _ _ _ harg6 _) $$ H6
    iintro H6
    iapply (wp_load (S := Finset.univ) _ _ _ _ (Finset.subset_univ _)) $$ H7
    iintro H7
    iapply (wp_store_all _ _ _ _ harg7 _) $$ H7
    iintro H7
    iapply (le_wp_ret _ _)
    iapply HK
    isplitl [H2]; · iexact H2
    isplitl [H3]; · iexact H3
    isplitl [H4]; · iexact H4
    isplitl [H5]; · iexact H5
    isplitl [H6]; · iexact H6
    isplitl [H7]; · iexact H7
    iexact H8

  · rw [pointAcc_even kb vb Q D _ _ (fun hc => h ((cond2_eq i).mpr hc))]
    simp only [dif_neg h]
    iintro ⟨H2, H3, H4, H5, H6, H7, H8⟩ HK
    iapply (wp_part3 c i arg2 harg2 arg3 harg3 arg4 harg4 arg5 harg5 arg6 harg6 arg7 harg7 arg8 harg8 kb vb Q D G) $$ [H2 H3 H4 H5 H8]
    · isplitl [H2]; · iexact H2
      isplitl [H3]; · iexact H3
      isplitl [H4]; · iexact H4
      isplitl [H5]; · iexact H5
      iexact H8
    iintro ⟨H2, H3, H4, H5, H8⟩
    dsimp only
    iapply (wp_part4 c i arg2 harg2 arg3 harg3 arg4 harg4 arg5 harg5 arg6 harg6 arg7 harg7 arg8 harg8 kb vb Q D (dqStart (i 1).val G)) $$ [H2 H3 H4 H5 H8]
    · isplitl [H2]; · iexact H2
      isplitl [H3]; · iexact H3
      isplitl [H4]; · iexact H4
      isplitl [H5]; · iexact H5
      iexact H8
    iintro ⟨H2, H3, H4, H5, H8⟩
    dsimp only
    simp only [Prog.pure_eq_ret, Prog.bind_ret]
    rw [show (k0_pay46 (k0_pay36 (k0_pay27 (F := F)) (k0_pay34 kb vb (getRows 512 (1024 * (i 1).val + 512) Q) (getRows 512 (1024 * (i 1).val + 512) D))) (k0_pay45 (k0_pay24 kb) (k0_pay25 vb) (k0_pay27 (F := F)) (k0_pay34 kb vb (getRows 512 (1024 * (i 1).val + 512) Q) (getRows 512 (1024 * (i 1).val + 512) D)) (getRows 512 (1024 * (i 1).val) Q) (getRows 512 (1024 * (i 1).val) D)), k0_pay47 (k0_pay37 (k0_pay28 (F := F)) (k0_pay32 kb (getRows 512 (1024 * (i 1).val + 512) Q) (getRows 512 (1024 * (i 1).val + 512) D))) (k0_pay42 (k0_pay24 kb) (getRows 512 (1024 * (i 1).val) Q) (getRows 512 (1024 * (i 1).val) D))) = (diagStep kb vb Q D (i 1).val (dqStart (i 1).val G)).1 from rfl]
    iapply (wp_pairs c i arg2 harg2 arg3 harg3 arg4 harg4 arg5 harg5 arg6 harg6 arg7 harg7 arg8 harg8 Q D (k0_pay24 kb) (k0_pay25 vb) _ (diagStep kb vb Q D (i 1).val (dqStart (i 1).val G))) $$ [H2 H5 H8]
    · isplitl [H2]; · iexact H2
      isplitl [H5]; · iexact H5
      iexact H8
    iintro ⟨H2, H5, H8⟩
    dsimp only
    iapply (wp_noTrips c i arg2 harg2 arg3 harg3 arg4 harg4 arg5 harg5 arg6 harg6 arg7 harg7 arg8 harg8)
    dsimp only
    iapply (wp_load (S := Finset.univ) _ _ _ _ (Finset.subset_univ _)) $$ H6
    iintro H6
    iapply (wp_store_all _ _ _ _ harg6 _) $$ H6
    iintro H6
    iapply (wp_load (S := Finset.univ) _ _ _ _ (Finset.subset_univ _)) $$ H7
    iintro H7
    iapply (wp_store_all _ _ _ _ harg7 _) $$ H7
    iintro H7
    iapply (le_wp_ret _ _)
    iapply HK
    isplitl [H2]; · iexact H2
    isplitl [H3]; · iexact H3
    isplitl [H4]; · iexact H4
    isplitl [H5]; · iexact H5
    isplitl [H6]; · iexact H6
    isplitl [H7]; · iexact H7
    iexact H8

/-- The whole point: the two blocks it leaves and the queries' gradient. -/
theorem wp_body (f6 : arg6.view.ty.Contents (Elt F)) (f7 : arg7.view.ty.Contents (Elt F)) :
    iprop(Held c arg2 harg2 Q ∗ Held c arg3 harg3 kb ∗ Held c arg4 harg4 vb ∗ Held c arg5 harg5 D ∗ (arg6.view.loc (c : Thread nD τ) ↦{fullShare} f6) ∗ (arg7.view.loc (c : Thread nD τ) ↦{fullShare} f7) ∗ Held c arg8 harg8 G)
      ⊢ wp frame (wpE defs₀ Variants.none (c : Thread nD τ) none) Set.univ (cc0_mla_bwd (F := F) i arg2 harg2 arg3 harg3 arg4 harg4 arg5 harg5 arg6 harg6 arg7 harg7 arg8 harg8)
          (fun _ => (iprop(Held c arg2 harg2 Q ∗ Held c arg3 harg3 kb ∗ Held c arg4 harg4 vb ∗ Held c arg5 harg5 D ∗ Held c arg6 harg6 (dkOut kb vb Q D (i 1).val) ∗ Held c arg7 harg7 (dvOut kb vb Q D (i 1).val) ∗ Held c arg8 harg8 (dqOut kb vb Q D (i 1).val G)) : sProp 𝕄)) := by
  rw [cc0_mla_bwd_eq_skeleton]
  unfold cc0_mla_bwd_skel
  rw [wp_bind]
  iintro ⟨H2, H3, H4, H5, H6, H7, H8⟩
  iapply (wp_part5 c i arg2 harg2 arg3 harg3 arg4 harg4 arg5 harg5 arg6 harg6 arg7 harg7 arg8 harg8 kb vb Q D G f6 f7) $$ [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  iintro ⟨H2, H3, H4, H5, H6, H7, H8⟩
  unfold dqOut
  by_cases h : (i 1).val = 7
  · simp only [dif_pos ((cond3_eq i).mpr h), if_pos h]
    iapply (wp_load_all _ _ _ _ harg8 _) $$ H8
    iintro H8
    iapply (wp_load_all _ _ _ _ harg8 _) $$ H8
    iintro H8
    iapply (wp_store_all _ _ _ _ harg8 _) $$ H8
    iintro H8
    iapply (le_wp_ret _ _)
    isplitl [H2]; · iexact H2
    isplitl [H3]; · iexact H3
    isplitl [H4]; · iexact H4
    isplitl [H5]; · iexact H5
    isplitl [H6]; · iexact H6
    isplitl [H7]; · iexact H7
    iexact H8
  · simp only [dif_neg (fun hc => h ((cond3_eq i).mp hc)), if_neg h]
    iapply (le_wp_ret _ _)
    isplitl [H2]; · iexact H2
    isplitl [H3]; · iexact H3
    isplitl [H4]; · iexact H4
    isplitl [H5]; · iexact H5
    isplitl [H6]; · iexact H6
    isplitl [H7]; · iexact H7
    iexact H8

end Cert.Proof.Kernel2Ideal

end
-- ==== Proof.KI2.Run.lean ====
/-
  The run of the whole program: what each grid point leaves in the staged blocks, and the frame.
-/
module

public import proofs.«01_k».proof.Proof.KI2.Body

@[expose] public section

noncomputable section

namespace Cert.Proof.Kernel2Ideal

open Cert.Proof Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The queries staged at a point. -/
abbrev qAt (c : Dev nD) (t : Fin cfg0.N) : Rows 8192 (F .bf16) := iblk m c 0 t
/-- The key block staged at a point. -/
abbrev kAt (c : Dev nD) (t : Fin cfg0.N) : Rows 1024 (F .bf16) := iblk m c 1 t
/-- The value block staged at a point. -/
abbrev vAt (c : Dev nD) (t : Fin cfg0.N) : Rows 1024 (F .bf16) := iblk m c 2 t
/-- The result's gradient staged at a point. -/
abbrev dAt (c : Dev nD) (t : Fin cfg0.N) : Rows 8192 (F .bf16) := iblk m c 3 t
/-- The key block's number at a point. -/
abbrev jAt (t : Fin cfg0.N) : ℕ := ((cfg0.grid.coords t) 1).val

/-- The first grid point. -/
abbrev first : Fin cfg0.N := ⟨0, by decide⟩

/-- The queries' gradient after point `n`: each point adds to what the one before left. -/
def dqAt (c : Dev nD) : ℕ → Rows 8192 (F .f32)
  | 0 => dqOut (kAt m c first) (vAt m c first) (qAt m c first) (dAt m c first) (jAt first) (k0_pay26 (F := F))
  | n + 1 => if h : n + 1 < cfg0.N then
      dqOut (kAt m c ⟨n + 1, h⟩) (vAt m c ⟨n + 1, h⟩) (qAt m c ⟨n + 1, h⟩) (dAt m c ⟨n + 1, h⟩) (jAt ⟨n + 1, h⟩) (dqAt c n)
    else dqAt c n

/-- The proof data: inputs stay in place, each output block is what the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dkOut (kAt m c t) (vAt m c t) (qAt m c t) (dAt m c t) (jAt t)
    | ⟨5, _⟩ => dvOut (kAt m c t) (vAt m c t) (qAt m c t) (dAt m c t) (jAt t)
    | ⟨6, _⟩ => dqAt m c t.val
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = dkOut (kAt m c t) (vAt m c t) (qAt m c t) (dAt m c t) (jAt t) := by dsimp only [dats]
theorem after0_5 (c : Dev nD) (t : Fin cfg0.N) :
    (dats m 0 c).after 5 t = dvOut (kAt m c t) (vAt m c t) (qAt m c t) (dAt m c t) (jAt t) := by dsimp only [dats]
theorem after0_6 (c : Dev nD) (t : Fin cfg0.N) : (dats m 0 c).after 6 t = dqAt m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The key block's number is the point's remainder by 8. -/
theorem jAt_eq : ∀ t : Fin cfg0.N, jAt t = t.val % 8 := by decide +kernel

/-- A point's gradient of the queries, from whatever its buffer held when the body ran. -/
theorem dqAt_step (c : Dev nD) (t : Fin cfg0.N) (d) :
    dqOut (kAt m c t) (vAt m c t) (qAt m c t) (dAt m c t) (jAt t) ((dats m 0 c).before 6 t d) = dqAt m c t.val := by
  obtain ⟨n, hn⟩ := t
  by_cases hj : jAt ⟨n, hn⟩ = 0
  · cases n with
    | zero =>
      rw [dqAt]
      unfold dqOut dqStart
      rw [if_pos hj, if_pos hj]
    | succ n =>
      rw [dqAt, dif_pos hn]
      unfold dqOut dqStart
      rw [if_pos hj, if_pos hj]
  · have h0 : n ≠ 0 := by
      rintro rfl; exact hj (jAt_eq _)
    obtain ⟨n, rfl⟩ := Nat.exists_eq_succ_of_ne_zero h0
    have hf : (cfg0.win 6).flush ⟨n, Nat.lt_of_succ_lt hn⟩ = false := by
      rw [Bool.eq_false_iff]; intro hf
      have h7 := (flush0_6 _).mp hf
      have := jAt_eq ⟨n + 1, hn⟩
      dsimp only at h7
      apply hj; rw [this]; dsimp only; omega
    rw [(dats m 0 c).before_out_kept 6 rfl ⟨n + 1, hn⟩ h0 hf (fun _ => rfl) (fun _ _ => rfl) d, after0_6, dqAt, dif_pos hn]
    rfl

/-- A whole memref owned at contents is its buffer held at them; -/
theorem owns_held {sp : Space} {s : Shape} {e : EltTy} (c : Dev nD) (m : Memref sig .tc sp s e) (h : m.IsWhole) (X : s.Idx → Elt F e) :
    (owns (c : Thread nD τ) m fullShare X : sProp 𝕄) ⊢ Held c m h X := by
  unfold owns
  iintro ⟨%f, %hf, H⟩
  obtain rfl := h.eq_unread hf
  obtain ⟨b, rfl, rfl, rfl, hm⟩ := h
  cases hm
  simp only [Memref.view_whole, View.set_whole]
  iexact H
/-- and the other way round. -/
theorem held_owns {sp : Space} {s : Shape} {e : EltTy} (c : Dev nD) (m : Memref sig .tc sp s e) (h : m.IsWhole) (X : s.Idx → Elt F e) :
    Held c m h X ⊢ (owns (c : Thread nD τ) m fullShare X : sProp 𝕄) := by
  have hr := h.read_unread (Val := Elt F) X
  have e1 : m.view.set = Finset.univ := by
    obtain ⟨b, rfl, rfl, rfl, hm⟩ := h
    cases hm
    simp only [Memref.view_whole, View.set_whole]
  unfold owns
  iintro H
  iexists _
  isplitr
  · ipureintro; exact hr
  · rw [e1]; iexact H

abbrev 𝒱₀ : Variants := Variants.none

/-- Every grid point runs and leaves what the proof data say. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3]
  rw [show (dats m 0 c).Φ t.succ = (dats m 0 c).Φ t.castSucc from rfl,
    show (dats m 0 c).owesAt () t.succ = (dats m 0 c).owesAt () t.castSucc from rfl, after0_0, after0_1, after0_2, after0_3,
    after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  ihave H0 := (owns_held c _ (hstage0_0 (cfg0.slots t 0)) _) $$ H0
  ihave H1 := (owns_held c _ (hstage0_1 (cfg0.slots t 1)) _) $$ H1
  ihave H2 := (owns_held c _ (hstage0_2 (cfg0.slots t 2)) _) $$ H2
  ihave H3 := (owns_held c _ (hstage0_3 (cfg0.slots t 3)) _) $$ H3
  ihave H4 := (owns_held c _ (hstage0_4 (cfg0.slots t 4)) _) $$ H4
  ihave H5 := (owns_held c _ (hstage0_5 (cfg0.slots t 5)) _) $$ H5
  ihave H6 := (owns_held c _ (hstage0_6 (cfg0.slots t 6)) _) $$ H6
  iapply (wp_wand frame _ Set.univ) $$ [H0 H1 H2 H3 H4 H5 H6]
  · iapply (wp_body c (cfg0.grid.coords t) _ (hstage0_0 (cfg0.slots t 0)) _ (hstage0_1 (cfg0.slots t 1)) _ (hstage0_2 (cfg0.slots t 2)) _
      (hstage0_3 (cfg0.slots t 3)) _ (hstage0_4 (cfg0.slots t 4)) _ (hstage0_5 (cfg0.slots t 5)) _ (hstage0_6 (cfg0.slots t 6))
      (kAt m c t) (vAt m c t) (qAt m c t) (dAt m c t) ((dats m 0 c).before 6 t d6) _ _)
    isplitl [H0]; · iexact H0
    isplitl [H1]; · iexact H1
    isplitl [H2]; · iexact H2
    isplitl [H3]; · iexact H3
    isplitl [H4]; · iexact H4
    isplitl [H5]; · iexact H5
    iexact H6
  iintro %_ ⟨H0, H1, H2, H3, H4, H5, H6⟩
  isplitl [HΦ]; · iexact HΦ
  isplitl [Ho]; · iexact Ho
  ihave H0 := (held_owns c _ (hstage0_0 (cfg0.slots t 0)) _) $$ H0
  ihave H1 := (held_owns c _ (hstage0_1 (cfg0.slots t 1)) _) $$ H1
  ihave H2 := (held_owns c _ (hstage0_2 (cfg0.slots t 2)) _) $$ H2
  ihave H3 := (held_owns c _ (hstage0_3 (cfg0.slots t 3)) _) $$ H3
  ihave H4 := (held_owns c _ (hstage0_4 (cfg0.slots t 4)) _) $$ H4
  ihave H5 := (held_owns c _ (hstage0_5 (cfg0.slots t 5)) _) $$ H5
  ihave H6 := (held_owns c _ (hstage0_6 (cfg0.slots t 6)) _) $$ H6
  rw [dqAt_step]
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
/-- From any memory with zero counters the program terminates, nothing faulting, with every staged array at what the proof data
say, every other buffer at what the host code makes of it, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- The frame: the arguments end as launched and every semaphore counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main (F := F) m ρ)

end Cert.Proof.Kernel2Ideal

end
-- ==== Proof.KI2.Arrays.lean ====
/-
  The three result arrays of the kernel, over the reals: each element a sum over all queries or all keys of its head.
-/
module

public import proofs.«01_k».proof.Proof.KI2.Fold
public import proofs.«01_k».proof.Proof.KI2.Run
public import Idealize.ShloMosaic.Lib.Pipeline.ValueKit

@[expose] public section

noncomputable section

namespace Cert.Proof.Kernel2Ideal

open Cert.Proof Cert.Kernel2Ideal Cert.Kernel2Ideal.Gen Idealize.ShloMosaic Idealize.ShloMosaic.TcCoe
open Idealize.SL Idealize.SL.RA
open Idealize.ShloMosaic.Pipeline (Dat)

/-- Arrays of 8 heads side by side, 128 columns each. -/
abbrev Wide : Type := S8192x1024.Idx → EReal

/-- The columns of head `h`. -/
def hd (h : ℕ) (X : Wide) : Rows 8192 EReal := fun i => X (ix2 (i 0) (Fin.ofNat 1024 (h * 128 + (i 1).val)))

/-- Heads put side by side. -/
def ofHeads (f : ℕ → Rows 8192 EReal) : Wide :=
  fun i => f ((i 1).val / 128) (ix2 (i 0) ⟨(i 1).val % 128, Nat.mod_lt _ (by decide)⟩)

section Head

variable (K V Q D : Rows 8192 EReal)

/-- The weight of a key and a query: none where the key lies after the query. -/
def wtH (κ y : Fin 8192) : EReal := if κ.val ≤ y.val then ee (row K κ) (row Q y) else 0
/-- The weight's gradient. -/
def dwH (κ y : Fin 8192) : EReal := wtH K Q κ y * dt (row V κ) (row D y)
/-- A head's gradient of the keys. -/
def dkH : Rows 8192 EReal := fun i => (∑ y : Fin 8192, dwH K V Q D (i 0) y * Q (ix2 y (i 1))) * laneFactor (i 1)
/-- A head's gradient of the values. -/
def dvH : Rows 8192 EReal := fun i => ∑ y : Fin 8192, wtH K Q (i 0) y * D (ix2 y (i 1))
/-- A head's gradient of the queries. -/
def dqH : Rows 8192 EReal := fun i => (∑ κ : Fin 8192, dwH K V Q D κ (i 0) * K (ix2 κ (i 1))) * laneFactor (i 1)

variable {j : ℕ} (hj : j < 8)
include hj

theorem wt_block (κ : Fin 1024) (y : Fin 8192) :
    wt (getRows 1024 (1024 * j) K) Q j κ y.val = wtH K Q (Fin.ofNat 8192 (1024 * j + κ.val)) y := by
  unfold wt wtH
  have e : rowN Q y.val = row Q y := funext fun l => rowN_val Q y l
  have e' : (Fin.ofNat 8192 (1024 * j + κ.val)).val = 1024 * j + κ.val := Nat.mod_eq_of_lt (by omega)
  rw [e, e']
  rfl

theorem dw_block (κ : Fin 1024) (y : Fin 8192) :
    dw (getRows 1024 (1024 * j) K) (getRows 1024 (1024 * j) V) Q D j κ y.val
      = dwH K V Q D (Fin.ofNat 8192 (1024 * j + κ.val)) y := by
  unfold dw dwH
  have e : rowN D y.val = row D y := funext fun l => rowN_val D y l
  rw [wt_block K Q hj, e]
  rfl

theorem dkOut_block (κ : Fin 1024) (l : Fin 128) :
    dkOut (F := Ideal) (getRows 1024 (1024 * j) K) (getRows 1024 (1024 * j) V) Q D j (ix2 κ l)
      = dkH K V Q D (ix2 (Fin.ofNat 8192 (1024 * j + κ.val)) l) := by
  rw [dkOut_at hj]
  exact congrArg (· * laneFactor l) (Finset.sum_congr rfl fun y _ => by rw [dw_block K V Q D hj]; rfl)

theorem dvOut_block (κ : Fin 1024) (l : Fin 128) :
    dvOut (F := Ideal) (getRows 1024 (1024 * j) K) (getRows 1024 (1024 * j) V) Q D j (ix2 κ l)
      = dvH K Q D (ix2 (Fin.ofNat 8192 (1024 * j + κ.val)) l) := by
  rw [dvOut_at hj]
  exact Finset.sum_congr rfl fun y _ => by rw [wt_block K Q hj]; rfl

/-- What one point adds to a query's gradient: the keys of its block. -/
theorem acc_block (G : Rows 8192 EReal) (y : Fin 8192) (l : Fin 128) :
    (pointAcc (F := Ideal) (getRows 1024 (1024 * j) K) (getRows 1024 (1024 * j) V) Q D j G).2 (ix2 y l)
      = G (ix2 y l) + ∑ n ∈ Finset.Ico (1024 * j) (1024 * j + 1024), dwH K V Q D (Fin.ofNat 8192 n) y * K (ix2 (Fin.ofNat 8192 n) l) := by
  rw [pointAcc_dq hj, ← sum_from 1024 (1024 * j)]
  refine congrArg _ (Finset.sum_congr rfl fun κ _ => ?_)
  rw [dw_block K V Q D hj]
  rfl

end Head

variable (m : (ℓ : Loc nD τ sig) → Buf (Elt Ideal) ℓ) (c : Dev nD)

/-- The staged arrays: queries, keys, values, the result's gradient. -/
abbrev qArr : Wide := V m c main_v53
abbrev kArr : Wide := V m c main_v61
abbrev vArr : Wide := V m c main_v69
abbrev dArr : Wide := V m c main_v86

theorem idx : ∀ t : Fin cfg0.N, win0_0.index t = ![0, t.val / 8] ∧ win0_1.index t = ![t.val % 8, t.val / 8]
    ∧ win0_2.index t = ![t.val % 8, t.val / 8] ∧ win0_3.index t = ![0, t.val / 8] ∧ win0_4.index t = ![t.val % 8, t.val / 8]
    ∧ win0_5.index t = ![t.val % 8, t.val / 8] ∧ win0_6.index t = ![0, t.val / 8] ∧ t.val / 8 < 8 :=
  (by decide +kernel : ∀ t : Fin grid0.N, _)

theorem val_col {h i : ℕ} (hh : h < 8) (hi : i < 128) : (Fin.ofNat 1024 (h * 128 + i)).val = h * 128 + i :=
  Nat.mod_eq_of_lt (by omega)
theorem val_row {j i : ℕ} (hj : j < 8) (hi : i < 1024) : (Fin.ofNat 8192 (1024 * j + i)).val = 1024 * j + i :=
  Nat.mod_eq_of_lt (by omega)

/-- The staged blocks, as parts of the staged arrays. -/
theorem qAt_eq (t : Fin cfg0.N) : qAt m c t = hd (t.val / 8) (qArr m c) := by
  funext i
  idx_vars i
  unfold hd
  have h := (idx t).2.2.2.2.2.2.2
  blk_ext [iblk, idx t]
  rw [val_col h (by omega)]
theorem dAt_eq (t : Fin cfg0.N) : dAt m c t = hd (t.val / 8) (dArr m c) := by
  funext i
  idx_vars i
  unfold hd
  have h := (idx t).2.2.2.2.2.2.2
  blk_ext [iblk, idx t]
  rw [val_col h (by omega)]
theorem kAt_eq (t : Fin cfg0.N) : kAt m c t = getRows 1024 (1024 * (t.val % 8)) (hd (t.val / 8) (kArr m c)) := by
  funext i
  idx_vars i
  unfold hd getRows
  have h := (idx t).2.2.2.2.2.2.2
  blk_ext [iblk, idx t]
  · rw [val_row (by omega) (by omega)]; omega
  · rw [val_col h (by omega)]
theorem vAt_eq (t : Fin cfg0.N) : vAt m c t = getRows 1024 (1024 * (t.val % 8)) (hd (t.val / 8) (vArr m c)) := by
  funext i
  idx_vars i
  unfold hd getRows
  have h := (idx t).2.2.2.2.2.2.2
  blk_ext [iblk, idx t]
  · rw [val_row (by omega) (by omega)]; omega
  · rw [val_col h (by omega)]

theorem ofHeads_at (f : ℕ → Rows 8192 EReal) (i : S8192x1024.Idx) (h : ℕ) (r : Fin 8192) (l : Fin 128)
    (e0 : (i 0).val = r.val) (e1 : (i 1).val = h * 128 + l.val) : ofHeads f i = f h (ix2 r l) := by
  have h0 : (i 0) = r := Fin.ext e0
  have h1 : (i 1).val / 128 = h := by rw [e1]; omega
  have h2 : (⟨(i 1).val % 128, Nat.mod_lt _ (by decide)⟩ : Fin 128) = l := Fin.ext (by dsimp only; rw [e1]; omega)
  unfold ofHeads
  rw [h0, h1, h2]

/-- The array of the keys' gradients. -/
theorem dk_array : (dats m 0 c).arrAt 4 cfg0.N
    = ofHeads (fun h => dkH (hd h (kArr m c)) (hd h (vArr m c)) (hd h (qArr m c)) (hd h (dArr m c))) := by
  refine (dats m 0 c).arrAt_eq_of_covers 4 _ (by decide +kernel) fun t hf y => ?_
  blk_simp
  rw [after0_4, qAt_eq, dAt_eq, kAt_eq, vAt_eq, jAt_eq]
  idx_vars y
  refine Eq.trans ?_ (ofHeads_at _ _ (t.val / 8) (Fin.ofNat 8192 (1024 * (t.val % 8) + y0.val)) y1 ?_ ?_).symm
  · exact dkOut_block _ _ _ _ (by omega) _ _
  · have e : (Fin.ofNat 8192 (1024 * (t.val % 8) + y0.val)).val = t.val % 8 * 1024 + y0.val := by
      rw [val_row (by omega) (by omega), Nat.mul_comm]
    refine Eq.trans ?_ e.symm
    blk_simp [idx t]
  · blk_simp [idx t]

/-- The array of the values' gradients. -/
theorem dv_array : (dats m 0 c).arrAt 5 cfg0.N
    = ofHeads (fun h => dvH (hd h (kArr m c)) (hd h (qArr m c)) (hd h (dArr m c))) := by
  refine (dats m 0 c).arrAt_eq_of_covers 5 _ (by decide +kernel) fun t hf y => ?_
  blk_simp
  rw [after0_5, qAt_eq, dAt_eq, kAt_eq, vAt_eq, jAt_eq]
  idx_vars y
  refine Eq.trans ?_ (ofHeads_at _ _ (t.val / 8) (Fin.ofNat 8192 (1024 * (t.val % 8) + y0.val)) y1 ?_ ?_).symm
  · exact dvOut_block _ _ _ _ (by omega) _ _
  · have e : (Fin.ofNat 8192 (1024 * (t.val % 8) + y0.val)).val = t.val % 8 * 1024 + y0.val := by
      rw [val_row (by omega) (by omega), Nat.mul_comm]
    refine Eq.trans ?_ e.symm
    blk_simp [idx t]
  · blk_simp [idx t]

/-- The queries' gradient after a point: the keys of the blocks so far; scaled at the last. -/
theorem dqAt_val (h : ℕ) (hh : h < 8) (j : ℕ) (hj : j < 8) (y : Fin 8192) (l : Fin 128) :
    dqAt m c (8 * h + j) (ix2 y l)
      = (∑ n ∈ Finset.Ico 0 (1024 * j + 1024), dwH (hd h (kArr m c)) (hd h (vArr m c)) (hd h (qArr m c)) (hd h (dArr m c)) (Fin.ofNat 8192 n) y
          * hd h (kArr m c) (ix2 (Fin.ofNat 8192 n) l)) * (if j = 7 then laneFactor l else 1) := by
  induction j using Nat.strong_induction_on generalizing l with | _ j ih => ?_
  have hlt : 8 * h + j < cfg0.N := by show 8 * h + j < 64; omega
  have hd8 : (8 * h + j) / 8 = h := by omega
  have hm8 : (8 * h + j) % 8 = j := by omega
  have step : ∀ G : Rows 8192 EReal, (∀ l', j ≠ 0 → G (ix2 y l') = ∑ n ∈ Finset.Ico 0 (1024 * j), dwH (hd h (kArr m c)) (hd h (vArr m c)) (hd h (qArr m c)) (hd h (dArr m c)) (Fin.ofNat 8192 n) y
          * hd h (kArr m c) (ix2 (Fin.ofNat 8192 n) l')) →
      dqOut (F := Ideal) (kAt m c ⟨8 * h + j, hlt⟩) (vAt m c ⟨8 * h + j, hlt⟩) (qAt m c ⟨8 * h + j, hlt⟩) (dAt m c ⟨8 * h + j, hlt⟩)
        (jAt ⟨8 * h + j, hlt⟩) G (ix2 y l) = (∑ n ∈ Finset.Ico 0 (1024 * j + 1024), dwH (hd h (kArr m c)) (hd h (vArr m c)) (hd h (qArr m c)) (hd h (dArr m c)) (Fin.ofNat 8192 n) y
          * hd h (kArr m c) (ix2 (Fin.ofNat 8192 n) l)) * (if j = 7 then laneFactor l else 1) := by
    intro G hG
    rw [qAt_eq, dAt_eq, kAt_eq, vAt_eq, jAt_eq]
    dsimp only
    rw [hd8, hm8]
    have acc : (pointAcc (F := Ideal) (getRows 1024 (1024 * j) (hd h (kArr m c))) (getRows 1024 (1024 * j) (hd h (vArr m c)))
        (hd h (qArr m c)) (hd h (dArr m c)) j (dqStart (F := Ideal) j G)).2 (ix2 y l)
        = ∑ n ∈ Finset.Ico 0 (1024 * j + 1024), dwH (hd h (kArr m c)) (hd h (vArr m c)) (hd h (qArr m c)) (hd h (dArr m c)) (Fin.ofNat 8192 n) y
          * hd h (kArr m c) (ix2 (Fin.ofNat 8192 n) l) := by
      rw [acc_block _ _ _ _ hj]
      by_cases h0 : j = 0
      · subst h0
        rw [show dqStart (F := Ideal) 0 G = k0_pay26 (F := Ideal) from if_pos rfl, pay26_at, zero_add]
      · rw [show dqStart (F := Ideal) j G = G from if_neg h0, hG l h0,
          Finset.sum_Ico_consecutive _ (Nat.zero_le _) (Nat.le_add_right _ _)]
    unfold dqOut
    by_cases h7 : j = 7
    · rw [if_pos h7, if_pos h7, pay1_at, acc]
    · rw [if_neg h7, if_neg h7, acc, mul_one]
  cases h' : 8 * h + j with
  | zero =>
    have e := step (k0_pay26 (F := Ideal)) (fun _ hne => absurd (by omega) hne)
    simp only [h'] at e
    exact e
  | succ n =>
    have hlt' : n + 1 < cfg0.N := h' ▸ hlt
    rw [dqAt, dif_pos hlt']
    have e := step (dqAt m c n) (fun l' hne => by
      have en : n = 8 * h + (j - 1) := by omega
      rw [en, ih (j - 1) (by omega) (by omega) l', if_neg (by omega), mul_one, show 1024 * (j - 1) + 1024 = 1024 * j by omega])
    simp only [h'] at e
    exact e

/-- The array of the queries' gradients. -/
theorem dq_array : (dats m 0 c).arrAt 6 cfg0.N
    = ofHeads (fun h => dqH (hd h (kArr m c)) (hd h (vArr m c)) (hd h (qArr m c)) (hd h (dArr m c))) := by
  refine (dats m 0 c).arrAt_eq_of_covers 6 _ (by decide +kernel) fun t hf y => ?_
  have h7 := (flush0_6 t).mp hf
  have h8 := (idx t).2.2.2.2.2.2.2
  blk_simp
  rw [after0_6]
  idx_vars y
  refine Eq.trans ?_ (ofHeads_at _ _ (t.val / 8) y0 y1 ?_ ?_).symm
  · have e := dqAt_val m c (t.val / 8) h8 7 (by decide) y0 y1
    rw [show 8 * (t.val / 8) + 7 = t.val by omega, if_pos rfl] at e
    refine e.trans ?_
    refine congrArg (· * laneFactor y1) ?_
    refine (sum_all (N := 8192) _ 0 (Nat.zero_le _) (fun n hn => absurd hn (Nat.not_lt_zero n))).trans ?_
    refine Finset.sum_congr rfl fun κ _ => ?_
    rw [show Fin.ofNat 8192 κ.val = κ from Fin.ext (Nat.mod_eq_of_lt κ.isLt)]
    rfl
  · blk_simp [idx t]
  · blk_simp [idx t]

end Cert.Proof.Kernel2Ideal
end
-- ==== Proof.KI2.Heads.lean ====
/-
  The three results of one head at the lanes the program reads: the real numbers of Model2.lean.
-/
module

public import proofs.«01_k».proof.Proof.KI2.Arrays
public import proofs.«01_k».proof.Proof.Model2

@[expose] public section

noncomputable section

namespace Cert.Proof.Kernel2Ideal

open Cert.Proof Cert.Kernel2Ideal Cert.Kernel2Ideal.Gen Idealize.ShloMosaic

/-- The four arrays of head `h`, as the packing makes them. -/
structure Packed (A : Args2) (h : Fin 8) (K V Q D : Rows 8192 EReal) : Prop where
  k : ∀ t l, K (ix2 t l) = (kL2 A h t l : EReal)
  v : ∀ t l, V (ix2 t l) = (vL2 A h t l : EReal)
  q : ∀ t l, Q (ix2 t l) = (qL2 A h t l : EReal)
  d : ∀ t l, D (ix2 t l) = (gL2 A h t l : EReal)

variable {A : Args2} {h : Fin 8} {K V Q D : Rows 8192 EReal} (P : Packed A h K V Q D)
include P

theorem wtH_real (κ y : Fin 8192) : wtH K Q κ y = (pr2 A h y κ : EReal) := by
  unfold wtH
  split
  · next hk =>
    unfold ee cst dt
    simp only [row, P.k, P.q, ← EReal.coe_mul, ← coe_sum]
    rw [lanes_score2]
    show ((Real.rpow 2 _ : ℝ) : EReal) = _
    rw [two_pow_score2 A h y κ hk]
  · next hk => rw [pr_masked2 A h y κ hk, EReal.coe_zero]

theorem dwH_real (κ y : Fin 8192) : dwH K V Q D κ y = (ds2 A h y κ : EReal) := by
  unfold dwH dt
  rw [wtH_real P]
  simp only [row, P.v, P.d, ← EReal.coe_mul, ← coe_sum]
  rw [lanes_dP2]
  rfl

/-- The queries' gradient at a lane of the queries. -/
theorem dqH_real (t : Fin 8192) (l : Fin 128) (hl : l.val < 96) :
    dqH K V Q D (ix2 t l) = (dqR2 A h t ⟨l.val, hl⟩ : EReal) := by
  show (∑ κ : Fin 8192, dwH K V Q D κ t * K (ix2 κ l)) * laneFactor l = _
  unfold laneFactor
  rw [if_pos hl]
  simp only [dwH_real P, P.k, ← EReal.coe_mul, ← coe_sum]
  refine congrArg _ ?_
  unfold dqR2
  rw [Finset.sum_mul]
  refine Finset.sum_congr rfl fun κ _ => ?_
  unfold kL2
  rw [dif_pos hl]
  ring

/-- The keys' gradient at a lane of the keys. -/
theorem dkH_real (κ : Fin 8192) (l : Fin 128) (hl : l.val < 96) :
    dkH K V Q D (ix2 κ l) = (dkR2 A h κ ⟨l.val, hl⟩ : EReal) := by
  show (∑ y : Fin 8192, dwH K V Q D κ y * Q (ix2 y l)) * laneFactor l = _
  unfold laneFactor
  rw [if_pos hl]
  simp only [dwH_real P, P.q, ← EReal.coe_mul, ← coe_sum]
  refine congrArg _ ?_
  unfold dkR2
  rw [Finset.sum_mul]
  refine Finset.sum_congr rfl fun y _ => ?_
  unfold qL2
  rw [dif_pos hl]
  ring

/-- The values' gradient at a lane of the values. -/
theorem dvH_real (κ : Fin 8192) (l : Fin 128) (hl : l.val < 64) :
    dvH K Q D (ix2 κ l) = (dvR2 A h κ ⟨l.val, hl⟩ : EReal) := by
  show (∑ y : Fin 8192, wtH K Q κ y * D (ix2 y l)) = _
  simp only [wtH_real P, P.d, ← EReal.coe_mul, ← coe_sum]
  refine congrArg _ ?_
  unfold dvR2
  refine Finset.sum_congr rfl fun y _ => ?_
  unfold gL2
  rw [dif_pos hl]
  ring

end Cert.Proof.Kernel2Ideal
-- ==== Proof.KI2.Tail.lean ====
/-
  The host operations after the kernel: each result of the program is some lanes of a result of the kernel.
-/
module

public import proofs.«01_k».proof.Proof.KI2.Arrays
public import Idealize.ShloMosaic.Lib.StableHlo.Run
public import Idealize.ShloMosaic.Lib.Pointwise

@[expose] public section

set_option maxRecDepth 8192

noncomputable section

namespace Cert.Proof.Kernel2Ideal

open Cert.Proof Cert.Kernel2Ideal Cert.Kernel2Ideal.Gen Idealize.ShloMosaic Idealize.ShloMosaic.TcCoe Idealize.SL.Sem Idealize.ShloMosaic.StableHlo

/-- The first 64 lanes of every head, side by side. -/
def lanes (X : FVec Ideal S8192x1024 .f32) : FVec Ideal S8192x512 .f32 :=
  shapeCast S8192x512 (extractStridedSlice S8192x8x64 ![0, 0, 0] (shapeCast S8192x8x128 X shapeCasts_S8192x1024_S8192x8x128)
    slices_S8192x8x128_S8192x8x64_0_0_0) shapeCasts_S8192x8x64_S8192x512

/-- The first 96 lanes of every head, side by side. -/
def lanes96 (X : FVec Ideal S8192x1024 .f32) : FVec Ideal S8192x768 .f32 :=
  shapeCast S8192x768 (extractStridedSlice S8192x8x96 ![0, 0, 0] (shapeCast S8192x8x128 X shapeCasts_S8192x1024_S8192x8x128)
    slices_S8192x8x128_S8192x8x96_0_0_0) shapeCasts_S8192x8x96_S8192x768

theorem lanes_at (f : ℕ → Rows 8192 EReal) (t : Fin 8192) (l : Fin 512) :
    lanes (ofHeads f) (ix2 t l) = f (l.val / 64) (ix2 t ⟨l.val % 64, by omega⟩) := by
  unfold lanes
  pointwise
  refine ofHeads_at f _ (l.val / 64) t ⟨l.val % 64, by omega⟩ ?_ ?_
  · rfl
  · rfl

theorem lanes96_at (f : ℕ → Rows 8192 EReal) (t : Fin 8192) (l : Fin 768) :
    lanes96 (ofHeads f) (ix2 t l) = f (l.val / 96) (ix2 t ⟨l.val % 96, by omega⟩) := by
  unfold lanes96
  pointwise
  refine ofHeads_at f _ (l.val / 96) t ⟨l.val % 96, by omega⟩ ?_ ?_
  · rfl
  · rfl

variable (m : (ℓ : Loc nD τ sig) → Buf (Elt Ideal) ℓ) (c : Dev nD)

/-- The contents the kernel leaves. -/
def W : Valuation τ sig (Elt Ideal) :=
  Pipeline.withArrays (cfgs 0).spec c (V0 m c) fun w => (dats m 0 c).arrAt w (cfgs 0).N

theorem arr_inj : Function.Injective (Pipeline.arrRef (cfgs 0).spec) := by decide

theorem W_dk : W m c (Proc.devRef .tc main_v87_0) = (dats m 0 c).arrAt 4 cfg0.N :=
  Pipeline.withArrays_arr (cfgs 0).spec arr_inj c (V0 m c) _ 4
theorem W_dv : W m c (Proc.devRef .tc main_v87_1) = (dats m 0 c).arrAt 5 cfg0.N :=
  Pipeline.withArrays_arr (cfgs 0).spec arr_inj c (V0 m c) _ 5
theorem W_dq : W m c (Proc.devRef .tc main_v87_2) = (dats m 0 c).arrAt 6 cfg0.N :=
  Pipeline.withArrays_arr (cfgs 0).spec arr_inj c (V0 m c) _ 6

theorem tail_eq (b : Ref sig .tc) :
    Pipeline.afterTail₀ cfgs (dats m) 0 (V0 m) [hostOps1] c b = after hostOps1 (W m c) (Proc.devRef .tc b) := rfl

theorem tail_v90 : Pipeline.afterTail₀ cfgs (dats m) 0 (V0 m) [hostOps1] c main_v90
    = lanes96 (W m c (Proc.devRef .tc main_v87_2)) := by
  rw [tail_eq]
  generalize W m c = w
  after_results_simp
  rfl
theorem tail_v93 : Pipeline.afterTail₀ cfgs (dats m) 0 (V0 m) [hostOps1] c main_v93
    = lanes96 (W m c (Proc.devRef .tc main_v87_0)) := by
  rw [tail_eq]
  generalize W m c = w
  after_results_simp
  rfl
theorem tail_v97 : Pipeline.afterTail₀ cfgs (dats m) 0 (V0 m) [hostOps1] c main_v97
    = lanes (W m c (Proc.devRef .tc main_v87_1)) := by
  rw [tail_eq]
  generalize W m c = w
  after_results_simp
  rfl

end Cert.Proof.Kernel2Ideal
-- ==== Proof.KI2.Host.lean ====
/-
  The values of the operations in front of the second kernel's launch, one definition per operation, named after the buffer each writes.
-/
module

public import proofs.«01_k».proof.Proof.Args2
public import proofs.«01_k».proof.Proof.Gen.Kernel2Ideal

@[expose] public section

noncomputable section

namespace Cert.Proof.Kernel2Ideal

open Cert.Proof Cert.Kernel2Ideal Cert.Kernel2Ideal.Gen Idealize.ShloMosaic Idealize.ShloMosaic.TcCoe

def h_v0 (a : Args2) : FVec Ideal S8192x8x96 .f32 := shapeCast S8192x8x96 a.q shapeCasts_S8192x768_S8192x8x96
def h_v1 (a : Args2) : FVec Ideal S8x8192x96 .f32 := transpose S8x8192x96 [1, 0, 2] (h_v0 a) transposes_S8192x8x96_S8x8192x96_1_0_2
def h_v2 (a : Args2) : FVec Ideal S8192x8x96 .f32 := shapeCast S8192x8x96 a.k shapeCasts_S8192x768_S8192x8x96
def h_v3 (a : Args2) : FVec Ideal S8x8192x96 .f32 := transpose S8x8192x96 [1, 0, 2] (h_v2 a) transposes_S8192x8x96_S8x8192x96_1_0_2
def h_v4 (a : Args2) : FVec Ideal S8192x8x64 .f32 := shapeCast S8192x8x64 a.v shapeCasts_S8192x512_S8192x8x64
def h_v5 (a : Args2) : FVec Ideal S8x8192x64 .f32 := transpose S8x8192x64 [1, 0, 2] (h_v4 a) transposes_S8192x8x64_S8x8192x64_1_0_2
def h_v6 (a : Args2) : FVec Ideal S8x8192x8192 .f32 := Host.dotGeneral dot_S8x8192x96_S8x8192x96_S8x8192x8192_2_2_1_1_0_0 none (h_v1 a) (h_v3 a)
def h_k (a : Args2) : FVec Ideal S_ .f32 := constant S_ .f32 0x3DD105EC#32
def h_v7 (a : Args2) : FVec Ideal S8x8192x8192 .f32 := broadcastInDim S8x8192x8192 ![] bcast_S_S8x8192x8192 (h_k a)
def h_v8 (a : Args2) : FVec Ideal S8x8192x8192 .f32 := mulf (h_v6 a) (h_v7 a)
def h_v9 (a : Args2) : IVec S8192 32 := iotaInDim S8192 32 0
def h_v10 (a : Args2) : IVec S1x8192 32 := broadcastInDim S1x8192 ![1] bcast_S8192_S1x8192_1 (h_v9 a)
def h_v11 (a : Args2) : IVec S8192x1 32 := broadcastInDim S8192x1 ![0] bcast_S8192_S8192x1_0 (h_v9 a)
def h_v12 (a : Args2) : IVec S8192x8192 32 := broadcastInDim S8192x8192 ![0, 1] bcast_S1x8192_S8192x8192_0_1 (h_v10 a)
def h_v13 (a : Args2) : IVec S8192x8192 32 := broadcastInDim S8192x8192 ![0, 1] bcast_S8192x1_S8192x8192_0_1 (h_v11 a)
def h_v14 (a : Args2) : IVec S8192x8192 1 := cmpi .sle (h_v12 a) (h_v13 a)
def h_k_0 (a : Args2) : FVec Ideal S_ .f32 := constant S_ .f32 0xFF800000#32
def h_c0v0 (a : Args2) : FVec Ideal S_ .f32 := (h_k_0 a)
def h_c0v1 (a : Args2) : IVec S8x8192x8192 1 := broadcastInDim S8x8192x8192 ![1, 2] bcast_S8192x8192_S8x8192x8192_1_2 (h_v14 a)
def h_c0v2 (a : Args2) : FVec Ideal S8x8192x8192 .f32 := broadcastInDim S8x8192x8192 ![] bcast_S_S8x8192x8192 (h_c0v0 a)
def h_v15 (a : Args2) : FVec Ideal S8x8192x8192 .f32 := select (h_c0v1 a) (h_v8 a) (h_c0v2 a)
def h_k_1 (a : Args2) : FVec Ideal S_ .f32 := constant S_ .f32 0xFF800000#32
def h_v16 (a : Args2) : FVec Ideal S8x8192 .f32 := Host.reduce FloatOps.maximumf (h_v15 a) (h_k_1 a) reducesTo_S8x8192x8192_S8x8192_d2 h_S_
def h_v17 (a : Args2) : FVec Ideal S8x8192x1 .f32 := broadcastInDim S8x8192x1 ![0, 1] bcast_S8x8192_S8x8192x1_0_1 (h_v16 a)
def h_v18 (a : Args2) : FVec Ideal S8x8192x8192 .f32 := broadcastInDim S8x8192x8192 ![0, 1, 2] bcast_S8x8192x1_S8x8192x8192_0_1_2 (h_v17 a)
def h_v19 (a : Args2) : FVec Ideal S8x8192x8192 .f32 := subf (h_v15 a) (h_v18 a)
def h_v20 (a : Args2) : FVec Ideal S8x8192x8192 .f32 := Host.exp (h_v19 a)
def h_k_2 (a : Args2) : FVec Ideal S_ .f32 := constant S_ .f32 0x00000000#32
def h_v21 (a : Args2) : FVec Ideal S8x8192 .f32 := Host.reduceAdd (h_v20 a) (h_k_2 a) reducesTo_S8x8192x8192_S8x8192_d2 h_S_
def h_v22 (a : Args2) : FVec Ideal S8x8192x1 .f32 := broadcastInDim S8x8192x1 ![0, 1] bcast_S8x8192_S8x8192x1_0_1 (h_v21 a)
def h_v23 (a : Args2) : FVec Ideal S8x8192x8192 .f32 := broadcastInDim S8x8192x8192 ![0, 1, 2] bcast_S8x8192x1_S8x8192x8192_0_1_2 (h_v22 a)
def h_v24 (a : Args2) : FVec Ideal S8x8192x8192 .f32 := Host.divf (h_v20 a) (h_v23 a)
def h_v25 (a : Args2) : FVec Ideal S8x8192x64 .f32 := Host.dotGeneral dot_S8x8192x8192_S8x8192x64_S8x8192x64_2_1_1_2_0_0 none (h_v24 a) (h_v5 a)
def h_v26 (a : Args2) : FVec Ideal S8x8192x1 .f32 := Host.log (h_v22 a)
def h_v27 (a : Args2) : FVec Ideal S8x8192x1 .f32 := addf (h_v17 a) (h_v26 a)
def h_v28 (a : Args2) : FVec Ideal S8x8192 .f32 := shapeCast S8x8192 (h_v27 a) shapeCasts_S8x8192x1_S8x8192
def h_v29 (a : Args2) : FVec Ideal S8192x8 .f32 := transpose S8192x8 [1, 0] (h_v28 a) transposes_S8x8192_S8192x8_1_0
def h_v30 (a : Args2) : FVec Ideal S8192x8x64 .f32 := transpose S8192x8x64 [1, 0, 2] (h_v25 a) transposes_S8x8192x64_S8192x8x64_1_0_2
def h_v31 (a : Args2) : FVec Ideal S8192x8x64 .f32 := shapeCast S8192x8x64 a.ct shapeCasts_S8192x512_S8192x8x64
def h_v32 (a : Args2) : FVec Ideal S8192x8x64 .f32 := mulf (h_v31 a) (h_v30 a)
def h_k_3 (a : Args2) : FVec Ideal S_ .f32 := constant S_ .f32 0x00000000#32
def h_v33 (a : Args2) : FVec Ideal S8192x8 .f32 := Host.reduceAdd (h_v32 a) (h_k_3 a) reducesTo_S8192x8x64_S8192x8_d2 h_S_
def h_k_4 (a : Args2) : FVec Ideal S_ .f32 := constant S_ .f32 0x3F800000#32
def h_v34 (a : Args2) : FVec Ideal S8192x8 .f32 := broadcastInDim S8192x8 ![] bcast_S_S8192x8 (h_k_4 a)
def h_k_5 (a : Args2) : FVec Ideal S_ .f32 := constant S_ .f32 0x3DD105EC#32
def h_v35 (a : Args2) : FVec Ideal S8192x8 .f32 := broadcastInDim S8192x8 ![] bcast_S_S8192x8 (h_k_5 a)
def h_v36 (a : Args2) : FVec Ideal S8192x8 .f32 := Host.divf (h_v29 a) (h_v35 a)
def h_v37 (a : Args2) : FVec Ideal S8192x8 .f32 := Host.negf (h_v36 a)
def h_v38 (a : Args2) : FVec Ideal S8192x8 .bf16 := truncf .bf16 (h_v37 a) bitsLt_bf16_f32
def h_v39 (a : Args2) : FVec Ideal S8192x8 .f32 := extf .f32 (h_v38 a) bitsLt_bf16_f32
def h_v40 (a : Args2) : FVec Ideal S8192x8 .f32 := subf (h_v37 a) (h_v39 a)
def h_v41 (a : Args2) : FVec Ideal S8192x8 .bf16 := truncf .bf16 (h_v40 a) bitsLt_bf16_f32
def h_v42 (a : Args2) : FVec Ideal S8192x8 .f32 := extf .f32 (h_v41 a) bitsLt_bf16_f32
def h_v43 (a : Args2) : FVec Ideal S8192x8 .f32 := subf (h_v40 a) (h_v42 a)
def h_v44 (a : Args2) : FVec Ideal S8192x8 .bf16 := truncf .bf16 (h_v43 a) bitsLt_bf16_f32
def h_v45 (a : Args2) : FVec Ideal S8192x8 .f32 := extf .f32 (h_v44 a) bitsLt_bf16_f32
def h_v46 (a : Args2) : FVec Ideal S8192x8x96 .f32 := shapeCast S8192x8x96 a.q shapeCasts_S8192x768_S8192x8x96
def h_v47 (a : Args2) : FVec Ideal S8192x8x1 .f32 := broadcastInDim S8192x8x1 ![0, 1] bcast_S8192x8_S8192x8x1_0_1 (h_v39 a)
def h_v48 (a : Args2) : FVec Ideal S8192x8x1 .f32 := broadcastInDim S8192x8x1 ![0, 1] bcast_S8192x8_S8192x8x1_0_1 (h_v42 a)
def h_v49 (a : Args2) : FVec Ideal S8192x8x1 .f32 := broadcastInDim S8192x8x1 ![0, 1] bcast_S8192x8_S8192x8x1_0_1 (h_v45 a)
def h_k_6 (a : Args2) : FVec Ideal S_ .f32 := constant S_ .f32 0x00000000#32
def h_v50 (a : Args2) : FVec Ideal S8192x8x29 .f32 := broadcastInDim S8192x8x29 ![] bcast_S_S8192x8x29 (h_k_6 a)
def h_v51 (a : Args2) : FVec Ideal S8192x8x128 .f32 := concatenate S8192x8x128 2 [⟨S8192x8x96, (h_v46 a)⟩, ⟨S8192x8x1, (h_v47 a)⟩, ⟨S8192x8x1, (h_v48 a)⟩, ⟨S8192x8x1, (h_v49 a)⟩, ⟨S8192x8x29, (h_v50 a)⟩] concatenates_S8192x8x96_S8192x8x1_S8192x8x1_S8192x8x1_S8192x8x29_S8192x8x128_d2
def h_v52 (a : Args2) : FVec Ideal S8192x1024 .f32 := shapeCast S8192x1024 (h_v51 a) shapeCasts_S8192x8x128_S8192x1024
def h_v53 (a : Args2) : FVec Ideal S8192x1024 .bf16 := truncf .bf16 (h_v52 a) bitsLt_bf16_f32
def h_v54 (a : Args2) : FVec Ideal S8192x8x96 .f32 := shapeCast S8192x8x96 a.k shapeCasts_S8192x768_S8192x8x96
def h_v55 (a : Args2) : FVec Ideal S8192x8x1 .f32 := broadcastInDim S8192x8x1 ![0, 1] bcast_S8192x8_S8192x8x1_0_1 (h_v34 a)
def h_v56 (a : Args2) : FVec Ideal S8192x8x1 .f32 := broadcastInDim S8192x8x1 ![0, 1] bcast_S8192x8_S8192x8x1_0_1 (h_v34 a)
def h_v57 (a : Args2) : FVec Ideal S8192x8x1 .f32 := broadcastInDim S8192x8x1 ![0, 1] bcast_S8192x8_S8192x8x1_0_1 (h_v34 a)
def h_k_7 (a : Args2) : FVec Ideal S_ .f32 := constant S_ .f32 0x00000000#32
def h_v58 (a : Args2) : FVec Ideal S8192x8x29 .f32 := broadcastInDim S8192x8x29 ![] bcast_S_S8192x8x29 (h_k_7 a)
def h_v59 (a : Args2) : FVec Ideal S8192x8x128 .f32 := concatenate S8192x8x128 2 [⟨S8192x8x96, (h_v54 a)⟩, ⟨S8192x8x1, (h_v55 a)⟩, ⟨S8192x8x1, (h_v56 a)⟩, ⟨S8192x8x1, (h_v57 a)⟩, ⟨S8192x8x29, (h_v58 a)⟩] concatenates_S8192x8x96_S8192x8x1_S8192x8x1_S8192x8x1_S8192x8x29_S8192x8x128_d2
def h_v60 (a : Args2) : FVec Ideal S8192x1024 .f32 := shapeCast S8192x1024 (h_v59 a) shapeCasts_S8192x8x128_S8192x1024
def h_v61 (a : Args2) : FVec Ideal S8192x1024 .bf16 := truncf .bf16 (h_v60 a) bitsLt_bf16_f32
def h_v62 (a : Args2) : FVec Ideal S8192x8x64 .f32 := shapeCast S8192x8x64 a.v shapeCasts_S8192x512_S8192x8x64
def h_v63 (a : Args2) : FVec Ideal S8192x8x1 .f32 := broadcastInDim S8192x8x1 ![0, 1] bcast_S8192x8_S8192x8x1_0_1 (h_v34 a)
def h_v64 (a : Args2) : FVec Ideal S8192x8x1 .f32 := broadcastInDim S8192x8x1 ![0, 1] bcast_S8192x8_S8192x8x1_0_1 (h_v34 a)
def h_v65 (a : Args2) : FVec Ideal S8192x8x1 .f32 := broadcastInDim S8192x8x1 ![0, 1] bcast_S8192x8_S8192x8x1_0_1 (h_v34 a)
def h_k_8 (a : Args2) : FVec Ideal S_ .f32 := constant S_ .f32 0x00000000#32
def h_v66 (a : Args2) : FVec Ideal S8192x8x61 .f32 := broadcastInDim S8192x8x61 ![] bcast_S_S8192x8x61 (h_k_8 a)
def h_v67 (a : Args2) : FVec Ideal S8192x8x128 .f32 := concatenate S8192x8x128 2 [⟨S8192x8x64, (h_v62 a)⟩, ⟨S8192x8x1, (h_v63 a)⟩, ⟨S8192x8x1, (h_v64 a)⟩, ⟨S8192x8x1, (h_v65 a)⟩, ⟨S8192x8x61, (h_v66 a)⟩] concatenates_S8192x8x64_S8192x8x1_S8192x8x1_S8192x8x1_S8192x8x61_S8192x8x128_d2
def h_v68 (a : Args2) : FVec Ideal S8192x1024 .f32 := shapeCast S8192x1024 (h_v67 a) shapeCasts_S8192x8x128_S8192x1024
def h_v69 (a : Args2) : FVec Ideal S8192x1024 .bf16 := truncf .bf16 (h_v68 a) bitsLt_bf16_f32
def h_v70 (a : Args2) : FVec Ideal S8192x8 .f32 := Host.negf (h_v33 a)
def h_v71 (a : Args2) : FVec Ideal S8192x8 .bf16 := truncf .bf16 (h_v70 a) bitsLt_bf16_f32
def h_v72 (a : Args2) : FVec Ideal S8192x8 .f32 := extf .f32 (h_v71 a) bitsLt_bf16_f32
def h_v73 (a : Args2) : FVec Ideal S8192x8 .f32 := subf (h_v70 a) (h_v72 a)
def h_v74 (a : Args2) : FVec Ideal S8192x8 .bf16 := truncf .bf16 (h_v73 a) bitsLt_bf16_f32
def h_v75 (a : Args2) : FVec Ideal S8192x8 .f32 := extf .f32 (h_v74 a) bitsLt_bf16_f32
def h_v76 (a : Args2) : FVec Ideal S8192x8 .f32 := subf (h_v73 a) (h_v75 a)
def h_v77 (a : Args2) : FVec Ideal S8192x8 .bf16 := truncf .bf16 (h_v76 a) bitsLt_bf16_f32
def h_v78 (a : Args2) : FVec Ideal S8192x8 .f32 := extf .f32 (h_v77 a) bitsLt_bf16_f32
def h_v79 (a : Args2) : FVec Ideal S8192x8x64 .f32 := shapeCast S8192x8x64 a.ct shapeCasts_S8192x512_S8192x8x64
def h_v80 (a : Args2) : FVec Ideal S8192x8x1 .f32 := broadcastInDim S8192x8x1 ![0, 1] bcast_S8192x8_S8192x8x1_0_1 (h_v72 a)
def h_v81 (a : Args2) : FVec Ideal S8192x8x1 .f32 := broadcastInDim S8192x8x1 ![0, 1] bcast_S8192x8_S8192x8x1_0_1 (h_v75 a)
def h_v82 (a : Args2) : FVec Ideal S8192x8x1 .f32 := broadcastInDim S8192x8x1 ![0, 1] bcast_S8192x8_S8192x8x1_0_1 (h_v78 a)
def h_k_9 (a : Args2) : FVec Ideal S_ .f32 := constant S_ .f32 0x00000000#32
def h_v83 (a : Args2) : FVec Ideal S8192x8x61 .f32 := broadcastInDim S8192x8x61 ![] bcast_S_S8192x8x61 (h_k_9 a)
def h_v84 (a : Args2) : FVec Ideal S8192x8x128 .f32 := concatenate S8192x8x128 2 [⟨S8192x8x64, (h_v79 a)⟩, ⟨S8192x8x1, (h_v80 a)⟩, ⟨S8192x8x1, (h_v81 a)⟩, ⟨S8192x8x1, (h_v82 a)⟩, ⟨S8192x8x61, (h_v83 a)⟩] concatenates_S8192x8x64_S8192x8x1_S8192x8x1_S8192x8x1_S8192x8x61_S8192x8x128_d2
def h_v85 (a : Args2) : FVec Ideal S8192x1024 .f32 := shapeCast S8192x1024 (h_v84 a) shapeCasts_S8192x8x128_S8192x1024
def h_v86 (a : Args2) : FVec Ideal S8192x1024 .bf16 := truncf .bf16 (h_v85 a) bitsLt_bf16_f32

end Cert.Proof.Kernel2Ideal
-- ==== Proof.KI2.Entry.lean ====
/-
  The four arrays the second kernel is launched on are the terms of Host.lean at the launch's arguments.
-/
module

public import proofs.«01_k».proof.Proof.KI2.Host
public import proofs.«01_k».proof.Proof.Gen.Kernel2Ideal.Frame
public import Idealize.ShloMosaic.Lib.StableHlo.Run

@[expose] public section

set_option maxRecDepth 8192

noncomputable section

namespace Cert.Proof.Kernel2Ideal

open Cert.Proof Cert.Kernel2Ideal Cert.Kernel2Ideal.Gen Idealize.ShloMosaic Idealize.ShloMosaic.TcCoe Idealize.SL.Sem Idealize.ShloMosaic.StableHlo

/-- The arguments of one device. -/
def argsOf (m : (ℓ : Loc nD τ sig) → Buf (Elt Ideal) ℓ) (c : Dev nD) : Args2 where
  q := m ((c.tc : Thread nD τ).loc main_arg0)
  k := m ((c.tc : Thread nD τ).loc main_arg1)
  v := m ((c.tc : Thread nD τ).loc main_arg2)
  ct := m ((c.tc : Thread nD τ).loc main_arg3)

variable (m : (ℓ : Loc nD τ sig) → Buf (Elt Ideal) ℓ) (c : Dev nD)

/-- The contents after the scores' operations, up to the mask. -/
def U (c : Dev nD) : Valuation τ sig (Elt Ideal) := after (hostOps0 ++ hostOps0_1) (fun b => m (c, b))

theorem V0_eq : V0 m c = after hostOps0_2 (U m c) := by
  show after (hostOps0 ++ (hostOps0_1 ++ (hostOps0_2 ++ []))) _ = _
  rw [List.append_nil, ← List.append_assoc]
  exact StableHlo.after_append _ _ _

theorem U_v15 : U m c (Proc.devRef .tc main_v15) = h_v15 (argsOf m c) := by
  simp only [U, hostOps0, hostOps0_1, List.append_nil, List.cons_append,
    List.nil_append, TRef.nullary, TRef.ternary, TRef.unary, TRef.toBuf, TRef.ofBuf, cast_eq]
  after_results_simp
  rfl
theorem U_v5 : U m c (Proc.devRef .tc main_v5) = h_v5 (argsOf m c) := by
  simp only [U, hostOps0, hostOps0_1, List.append_nil, List.cons_append,
    List.nil_append, TRef.nullary, TRef.ternary, TRef.unary, TRef.toBuf, TRef.ofBuf, cast_eq]
  after_results_simp
  rfl
theorem U_arg0 : U m c (Proc.devRef .tc main_arg0) = (argsOf m c).q := by
  simp only [U, hostOps0, hostOps0_1, List.append_nil, List.cons_append,
    List.nil_append, TRef.nullary, TRef.ternary, TRef.unary, TRef.toBuf, TRef.ofBuf, cast_eq]
  after_results_simp
  rfl
theorem U_arg1 : U m c (Proc.devRef .tc main_arg1) = (argsOf m c).k := by
  simp only [U, hostOps0, hostOps0_1, List.append_nil, List.cons_append,
    List.nil_append, TRef.nullary, TRef.ternary, TRef.unary, TRef.toBuf, TRef.ofBuf, cast_eq]
  after_results_simp
  rfl
theorem U_arg2 : U m c (Proc.devRef .tc main_arg2) = (argsOf m c).v := by
  simp only [U, hostOps0, hostOps0_1, List.append_nil, List.cons_append,
    List.nil_append, TRef.nullary, TRef.ternary, TRef.unary, TRef.toBuf, TRef.ofBuf, cast_eq]
  after_results_simp
  rfl
theorem U_arg3 : U m c (Proc.devRef .tc main_arg3) = (argsOf m c).ct := by
  simp only [U, hostOps0, hostOps0_1, List.append_nil, List.cons_append,
    List.nil_append, TRef.nullary, TRef.ternary, TRef.unary, TRef.toBuf, TRef.ofBuf, cast_eq]
  after_results_simp
  rfl
/-- A row of lanes from equal pieces. -/
theorem pieces96 {x0 y0 : FVec Ideal S8192x8x96 .f32} {x1 y1 : FVec Ideal S8192x8x1 .f32} {x2 y2 : FVec Ideal S8192x8x1 .f32} {x3 y3 : FVec Ideal S8192x8x1 .f32} {x4 y4 : FVec Ideal S8192x8x29 .f32}
    (e0 : x0 = y0) (e1 : x1 = y1) (e2 : x2 = y2) (e3 : x3 = y3) (e4 : x4 = y4) :
    concatenate (α := Elt Ideal .f32) S8192x8x128 2 [⟨S8192x8x96, x0⟩, ⟨S8192x8x1, x1⟩, ⟨S8192x8x1, x2⟩, ⟨S8192x8x1, x3⟩, ⟨S8192x8x29, x4⟩] concatenates_S8192x8x96_S8192x8x1_S8192x8x1_S8192x8x1_S8192x8x29_S8192x8x128_d2
      = concatenate (α := Elt Ideal .f32) S8192x8x128 2 [⟨S8192x8x96, y0⟩, ⟨S8192x8x1, y1⟩, ⟨S8192x8x1, y2⟩, ⟨S8192x8x1, y3⟩, ⟨S8192x8x29, y4⟩] concatenates_S8192x8x96_S8192x8x1_S8192x8x1_S8192x8x1_S8192x8x29_S8192x8x128_d2 := by
  subst e0 e1 e2 e3 e4
  rfl

/-- A row of lanes from equal pieces. -/
theorem pieces5 {x0 y0 : FVec Ideal S8192x8x64 .f32} {x1 y1 : FVec Ideal S8192x8x1 .f32} {x2 y2 : FVec Ideal S8192x8x1 .f32} {x3 y3 : FVec Ideal S8192x8x1 .f32} {x4 y4 : FVec Ideal S8192x8x61 .f32}
    (e0 : x0 = y0) (e1 : x1 = y1) (e2 : x2 = y2) (e3 : x3 = y3) (e4 : x4 = y4) :
    concatenate (α := Elt Ideal .f32) S8192x8x128 2 [⟨S8192x8x64, x0⟩, ⟨S8192x8x1, x1⟩, ⟨S8192x8x1, x2⟩, ⟨S8192x8x1, x3⟩, ⟨S8192x8x61, x4⟩] concatenates_S8192x8x64_S8192x8x1_S8192x8x1_S8192x8x1_S8192x8x61_S8192x8x128_d2
      = concatenate (α := Elt Ideal .f32) S8192x8x128 2 [⟨S8192x8x64, y0⟩, ⟨S8192x8x1, y1⟩, ⟨S8192x8x1, y2⟩, ⟨S8192x8x1, y3⟩, ⟨S8192x8x61, y4⟩] concatenates_S8192x8x64_S8192x8x1_S8192x8x1_S8192x8x1_S8192x8x61_S8192x8x128_d2 := by
  subst e0 e1 e2 e3 e4
  rfl

theorem entry_v53 : V m c main_v53 = h_v53 (argsOf m c) := by
  show V0 m c (Proc.devRef .tc main_v53) = _
  rw [V0_eq]
  have e := U_v15 m c
  have e5 := U_v5 m c
  have a0 := U_arg0 m c
  have a1 := U_arg1 m c
  have a2 := U_arg2 m c
  have a3 := U_arg3 m c
  generalize U m c = W at e e5 a0 a1 a2 a3
  simp only [hostOps0_2]
  after_results_simp
  refine congrArg (fun z : FVec Ideal S8192x8x128 .f32 => truncf (F := Ideal) .bf16 (shapeCast S8192x1024 z shapeCasts_S8192x8x128_S8192x1024) bitsLt_bf16_f32)
    (pieces96 ?_ ?_ ?_ ?_ ?_)
  all_goals dsimp only [Matrix.cons_val]
  all_goals after_results_simp
  all_goals (try rw [e]) <;> (try rw [e5]) <;> (try rw [a0]) <;> (try rw [a1]) <;> (try rw [a2]) <;> (try rw [a3])
  all_goals rfl

theorem entry_v61 : V m c main_v61 = h_v61 (argsOf m c) := by
  show V0 m c (Proc.devRef .tc main_v61) = _
  rw [V0_eq]
  have e := U_v15 m c
  have e5 := U_v5 m c
  have a0 := U_arg0 m c
  have a1 := U_arg1 m c
  have a2 := U_arg2 m c
  have a3 := U_arg3 m c
  generalize U m c = W at e e5 a0 a1 a2 a3
  simp only [hostOps0_2]
  after_results_simp
  refine congrArg (fun z : FVec Ideal S8192x8x128 .f32 => truncf (F := Ideal) .bf16 (shapeCast S8192x1024 z shapeCasts_S8192x8x128_S8192x1024) bitsLt_bf16_f32)
    (pieces96 ?_ ?_ ?_ ?_ ?_)
  all_goals dsimp only [Matrix.cons_val]
  all_goals after_results_simp
  all_goals (try rw [e]) <;> (try rw [e5]) <;> (try rw [a0]) <;> (try rw [a1]) <;> (try rw [a2]) <;> (try rw [a3])
  all_goals rfl

theorem entry_v69 : V m c main_v69 = h_v69 (argsOf m c) := by
  show V0 m c (Proc.devRef .tc main_v69) = _
  rw [V0_eq]
  have e := U_v15 m c
  have e5 := U_v5 m c
  have a0 := U_arg0 m c
  have a1 := U_arg1 m c
  have a2 := U_arg2 m c
  have a3 := U_arg3 m c
  generalize U m c = W at e e5 a0 a1 a2 a3
  simp only [hostOps0_2]
  after_results_simp
  refine congrArg (fun z : FVec Ideal S8192x8x128 .f32 => truncf (F := Ideal) .bf16 (shapeCast S8192x1024 z shapeCasts_S8192x8x128_S8192x1024) bitsLt_bf16_f32)
    (pieces5 ?_ ?_ ?_ ?_ ?_)
  all_goals dsimp only [Matrix.cons_val]
  all_goals after_results_simp
  all_goals (try rw [e]) <;> (try rw [e5]) <;> (try rw [a0]) <;> (try rw [a1]) <;> (try rw [a2]) <;> (try rw [a3])
  all_goals rfl

theorem entry_v86 : V m c main_v86 = h_v86 (argsOf m c) := by
  show V0 m c (Proc.devRef .tc main_v86) = _
  rw [V0_eq]
  have e := U_v15 m c
  have e5 := U_v5 m c
  have a0 := U_arg0 m c
  have a1 := U_arg1 m c
  have a2 := U_arg2 m c
  have a3 := U_arg3 m c
  generalize U m c = W at e e5 a0 a1 a2 a3
  simp only [hostOps0_2]
  after_results_simp
  refine congrArg (fun z : FVec Ideal S8192x8x128 .f32 => truncf (F := Ideal) .bf16 (shapeCast S8192x1024 z shapeCasts_S8192x8x128_S8192x1024) bitsLt_bf16_f32)
    (pieces5 ?_ ?_ ?_ ?_ ?_)
  all_goals dsimp only [Matrix.cons_val]
  all_goals after_results_simp
  all_goals (try rw [e]) <;> (try rw [e5]) <;> (try rw [a0]) <;> (try rw [a1]) <;> (try rw [a2]) <;> (try rw [a3])
  all_goals rfl

end Cert.Proof.Kernel2Ideal
-- ==== Proof.KI2.Prefix.lean ====
/-
  The four arrays the kernel is launched on, over real arguments: each head's lanes.
-/
module

public import proofs.«01_k».proof.Proof.KI2.Host
public import proofs.«01_k».proof.Proof.Model2

@[expose] public section

set_option maxRecDepth 16384

noncomputable section

namespace Cert.Proof.Kernel2Ideal

open Cert.Proof Cert.Kernel2Ideal Cert.Kernel2Ideal.Gen Idealize.ShloMosaic

variable {A : Args2} (H : A.Finite) (h : Fin 8) (t κ : Fin 8192) (d : Fin 64) (e : Fin 96)
include H

theorem v1_at : h_v1 A (ix3 h t e) = (qR2 A h t e : EReal) := by
  pointwise [h_v1, h_v0]
  exact H.q_at h t e
theorem v3_at : h_v3 A (ix3 h t e) = (kR2 A h t e : EReal) := by
  pointwise [h_v3, h_v2]
  exact H.k_at h t e
theorem v5_at : h_v5 A (ix3 h t d) = (vR2 A h t d : EReal) := by
  pointwise [h_v5, h_v4]
  exact H.v_at h t d

/-- The scores. -/
theorem v8_at : h_v8 A (ix3 h t κ) = (sc2 A h t κ : EReal) := by
  pointwise [h_v8, h_v7, h_k, h_v6]
  simp only [v1_at H, v3_at H, ofBits_scale, sc2, EReal.coe_mul, coe_sum]

/-- The scores under the mask. -/
theorem v15_at : h_v15 A (ix3 h t κ) = msc2 A h t κ := by
  pointwise [h_v15, h_c0v1, h_v14, h_v13, h_v12, h_v11, h_v10, h_v9, h_c0v2, h_c0v0, h_k_0]
  rw [mask_select, v8_at H, ofBits_bot]
  rfl

/-- The greatest score. -/
theorem v16_at : h_v16 A (ix2 h t) = (mx2 A h t : EReal) := by
  pointwise [h_v16, h_k_1]
  simp only [v15_at H, ofBits_bot]
  exact mxE_eq2 A h t

/-- The weights. -/
theorem v20_at : h_v20 A (ix3 h t κ) = (w2 A h t κ : EReal) := by
  pointwise [h_v20, h_v19, h_v18, h_v17]
  rw [v15_at H, v16_at H]
  exact exp_msc2 A h t κ

/-- Their sum. -/
theorem v21_at : h_v21 A (ix2 h t) = (Z2 A h t : EReal) := by
  pointwise [h_v21, h_k_2]
  simp only [v20_at H, Z2, coe_sum]

/-- The softmax. -/
theorem v24_at : h_v24 A (ix3 h t κ) = (pr2 A h t κ : EReal) := by
  pointwise [h_v24, h_v23, h_v22]
  rw [v20_at H, v21_at H]
  exact div_real _ (Z_pos2 A h t).ne'

/-- The result of the attention. -/
theorem v25_at : h_v25 A (ix3 h t d) = ((∑ κ, pr2 A h t κ * vR2 A h κ d : ℝ) : EReal) := by
  pointwise [h_v25]
  simp only [v24_at H, v5_at H, EReal.coe_mul, coe_sum]

omit H in
theorem lse_form (x y : FVec Ideal S8x8192 .f32) :
    transpose S8192x8 [1, 0] (shapeCast S8x8192 (addf (broadcastInDim S8x8192x1 ![0, 1] bcast_S8x8192_S8x8192x1_0_1 x)
      (Host.log (broadcastInDim S8x8192x1 ![0, 1] bcast_S8x8192_S8x8192x1_0_1 y))) shapeCasts_S8x8192x1_S8x8192)
      transposes_S8x8192_S8192x8_1_0 (ix2 t h) = x (ix2 h t) + Ideal.log (y (ix2 h t)) := by
  pointwise

/-- The logarithm of the sum of the exponentials of the scores. -/
theorem v29_at : h_v29 A (ix2 t h) = (lse2 A h t : EReal) := by
  unfold h_v29 h_v28 h_v27 h_v26 h_v22 h_v17
  rw [lse_form, v16_at H, v21_at H, log_real (Z_pos2 A h t), ← EReal.coe_add, lse2]

/-- The cotangent times the result, summed. -/
theorem v33_at : h_v33 A (ix2 t h) = (de2 A h t : EReal) := by
  pointwise [h_v33, h_k_3, h_v32, h_v31, h_v30]
  simp only [v25_at H, de2, EReal.coe_mul, coe_sum]
  exact Finset.sum_congr rfl fun d _ => congrArg (· * _) (H.g_at h t d)

/-! ## The parts of the split numbers -/

omit H in
theorem neg_form (x : FVec Ideal S8192x8 .f32) :
    Host.negf (Host.divf x (broadcastInDim S8192x8 ![] bcast_S_S8192x8 (constant S_ .f32 0x3DD105EC#32))) (ix2 t h)
      = -(Ideal.div (x (ix2 t h)) ((3424635 / 33554432 : ℝ) : EReal)) := by
  pointwise
  rw [ofBits_scale]
theorem v37_at : h_v37 A (ix2 t h) = ((-(lse2 A h t / (3424635 / 33554432)) : ℝ) : EReal) := by
  unfold h_v37 h_v36 h_v35 h_k_5
  rw [neg_form, v29_at H, div_real _ (by norm_num), EReal.coe_neg]
theorem v70_at : h_v70 A (ix2 t h) = ((-(de2 A h t) : ℝ) : EReal) := by
  pointwise [h_v70]
  rw [v33_at H, EReal.coe_neg]

omit H in
theorem sub_self_real (x : ℝ) : (x : EReal) - (x : EReal) = 0 := by
  rw [← EReal.coe_sub, sub_self, EReal.coe_zero]
omit H in
theorem sub_zero_real (x : ℝ) : (x : EReal) - 0 = (x : EReal) := by
  rw [← EReal.coe_zero, ← EReal.coe_sub, sub_zero]

end Cert.Proof.Kernel2Ideal
-- ==== Proof.KI2.Lanes.lean ====
/-
  The four arrays the kernel is launched on, lane by lane, over real arguments.
-/
module

public import proofs.«01_k».proof.Proof.KI2.Prefix

@[expose] public section

set_option maxRecDepth 16384

noncomputable section

namespace Cert.Proof.Kernel2Ideal

open Cert.Proof Cert.Kernel2Ideal Cert.Kernel2Ideal.Gen Idealize.ShloMosaic

variable (h : Fin 8) (t : Fin 8192) (l : Fin 128)

/-- The heads side by side, read at a lane of a head. -/
theorem flat_form (X : FVec Ideal S8192x8x128 .f32) (c : Fin 1024) (hc : c.val = h.val * 128 + l.val) :
    truncf (F := Ideal) .bf16 (shapeCast S8192x1024 X shapeCasts_S8192x8x128_S8192x1024) bitsLt_bf16_f32 (ix2 t c) = X (ix3 t h l) := by
  pointwise
  refine congrArg X ((ix3_inj ..).2 ⟨rfl, Fin.ext ?_, Fin.ext ?_⟩)
  · show c.val / 128 = h.val
    omega
  · show c.val % 128 = l.val
    omega

/-- The first of the three parts of a number is the number; the other two are zero. -/
theorem part1 (x : FVec Ideal S8192x8 .f32) (i : S8192x8.Idx) :
    extf (F := Ideal) .f32 (truncf .bf16 x bitsLt_bf16_f32) bitsLt_bf16_f32 i = x i := rfl
theorem part2 (x : FVec Ideal S8192x8 .f32) (i : S8192x8.Idx) (r : ℝ) (hx : x i = (r : EReal)) :
    extf (F := Ideal) .f32 (truncf .bf16 (subf x (extf .f32 (truncf .bf16 x bitsLt_bf16_f32) bitsLt_bf16_f32))
      bitsLt_bf16_f32) bitsLt_bf16_f32 i = 0 := by
  show x i - x i = 0
  rw [hx, sub_self_real]
theorem sub_parts (x y : FVec Ideal S8192x8 .f32) (i : S8192x8.Idx) (hx : x i = 0) (hy : y i = 0) :
    extf (F := Ideal) .f32 (truncf .bf16 (subf x y) bitsLt_bf16_f32) bitsLt_bf16_f32 i = 0 := by
  show x i - y i = 0
  rw [hx, hy]
  exact sub_zero 0
theorem sub_part (x : FVec Ideal S8192x8 .f32) (i : S8192x8.Idx) (r : ℝ) (hx : x i = (r : EReal)) :
    subf x (extf (F := Ideal) .f32 (truncf .bf16 x bitsLt_bf16_f32) bitsLt_bf16_f32) i = 0 := by
  show x i - x i = 0
  rw [hx, sub_self_real]

/-- The lanes of a query or of a key as joined. -/
theorem q_form (x : FVec Ideal S8192x8x96 .f32) (a b c : FVec Ideal S8192x8 .f32) :
    concatenate (α := Elt Ideal .f32) S8192x8x128 2 [⟨S8192x8x96, x⟩,
      ⟨S8192x8x1, broadcastInDim S8192x8x1 ![0, 1] bcast_S8192x8_S8192x8x1_0_1 a⟩,
      ⟨S8192x8x1, broadcastInDim S8192x8x1 ![0, 1] bcast_S8192x8_S8192x8x1_0_1 b⟩,
      ⟨S8192x8x1, broadcastInDim S8192x8x1 ![0, 1] bcast_S8192x8_S8192x8x1_0_1 c⟩,
      ⟨S8192x8x29, broadcastInDim S8192x8x29 ![] bcast_S_S8192x8x29 (constant (F := Ideal) S_ .f32 0x00000000#32)⟩]
      concatenates_S8192x8x96_S8192x8x1_S8192x8x1_S8192x8x1_S8192x8x29_S8192x8x128_d2
      (ix3 t h l)
    = if hl : l.val < 96 then x (ix3 t h ⟨l.val, hl⟩) else if l.val = 96 then a (ix2 t h) else if l.val = 97 then b (ix2 t h)
      else if l.val = 98 then c (ix2 t h) else 0 := by
  pointwise
  split_ifs <;> first | rfl | omega

/-- The lanes of a value or of a cotangent as joined. -/
theorem v_form (x : FVec Ideal S8192x8x64 .f32) (a b c : FVec Ideal S8192x8 .f32) :
    concatenate (α := Elt Ideal .f32) S8192x8x128 2 [⟨S8192x8x64, x⟩,
      ⟨S8192x8x1, broadcastInDim S8192x8x1 ![0, 1] bcast_S8192x8_S8192x8x1_0_1 a⟩,
      ⟨S8192x8x1, broadcastInDim S8192x8x1 ![0, 1] bcast_S8192x8_S8192x8x1_0_1 b⟩,
      ⟨S8192x8x1, broadcastInDim S8192x8x1 ![0, 1] bcast_S8192x8_S8192x8x1_0_1 c⟩,
      ⟨S8192x8x61, broadcastInDim S8192x8x61 ![] bcast_S_S8192x8x61 (constant (F := Ideal) S_ .f32 0x00000000#32)⟩]
      concatenates_S8192x8x64_S8192x8x1_S8192x8x1_S8192x8x1_S8192x8x61_S8192x8x128_d2
      (ix3 t h l)
    = if hl : l.val < 64 then x (ix3 t h ⟨l.val, hl⟩) else if l.val = 64 then a (ix2 t h) else if l.val = 65 then b (ix2 t h)
      else if l.val = 66 then c (ix2 t h) else 0 := by
  pointwise
  split_ifs <;> first | rfl | omega

variable {A : Args2}

theorem one_at : h_v34 A (ix2 t h) = 1 := by
  pointwise [h_v34, h_k_4]

variable (H : A.Finite)
include H

theorem v46_at (d : Fin 96) : h_v46 A (ix3 t h d) = (qR2 A h t d : EReal) := by
  pointwise [h_v46]
  exact H.q_at h t d
theorem v54_at (d : Fin 96) : h_v54 A (ix3 t h d) = (kR2 A h t d : EReal) := by
  pointwise [h_v54]
  exact H.k_at h t d
theorem v62_at (d : Fin 64) : h_v62 A (ix3 t h d) = (vR2 A h t d : EReal) := by
  pointwise [h_v62]
  exact H.v_at h t d
theorem v79_at (d : Fin 64) : h_v79 A (ix3 t h d) = (gR2 A h t d : EReal) := by
  pointwise [h_v79]
  exact H.g_at h t d

theorem v39_at : h_v39 A (ix2 t h) = ((-(lse2 A h t / (3424635 / 33554432)) : ℝ) : EReal) := by
  unfold h_v39 h_v38
  rw [part1, v37_at H]
theorem v42_at : h_v42 A (ix2 t h) = 0 := by
  unfold h_v42 h_v41 h_v40 h_v39 h_v38
  exact part2 _ _ _ (v37_at H h t)
theorem v45_at : h_v45 A (ix2 t h) = 0 := by
  unfold h_v45 h_v44 h_v43
  refine sub_parts _ _ _ ?_ (v42_at h t H)
  unfold h_v40 h_v39 h_v38
  exact sub_part _ _ _ (v37_at H h t)
theorem v72_at : h_v72 A (ix2 t h) = ((-(de2 A h t) : ℝ) : EReal) := by
  unfold h_v72 h_v71
  rw [part1, v70_at H]
theorem v75_at : h_v75 A (ix2 t h) = 0 := by
  unfold h_v75 h_v74 h_v73 h_v72 h_v71
  exact part2 _ _ _ (v70_at H h t)
theorem v78_at : h_v78 A (ix2 t h) = 0 := by
  unfold h_v78 h_v77 h_v76
  refine sub_parts _ _ _ ?_ (v75_at h t H)
  unfold h_v73 h_v72 h_v71
  exact sub_part _ _ _ (v70_at H h t)

/-- The queries' array. -/
theorem v53_at (c : Fin 1024) (hc : c.val = h.val * 128 + l.val) : h_v53 A (ix2 t c) = (qL2 A h t l : EReal) := by
  unfold h_v53 h_v52
  rw [flat_form h t l _ c hc]
  unfold h_v51 h_v47 h_v48 h_v49 h_v50 h_k_6
  rw [q_form, v39_at h t H, v42_at h t H, v45_at h t H]
  simp only [v46_at h t H]
  unfold qL2
  split_ifs <;> first | rfl | omega

/-- The keys' array. -/
theorem v61_at (c : Fin 1024) (hc : c.val = h.val * 128 + l.val) : h_v61 A (ix2 t c) = (kL2 A h t l : EReal) := by
  unfold h_v61 h_v60
  rw [flat_form h t l _ c hc]
  unfold h_v59 h_v55 h_v56 h_v57 h_v58 h_k_7
  rw [q_form, one_at]
  simp only [v54_at h t H]
  unfold kL2
  split_ifs <;> first | rfl | omega

/-- The values' array. -/
theorem v69_at (c : Fin 1024) (hc : c.val = h.val * 128 + l.val) : h_v69 A (ix2 t c) = (vL2 A h t l : EReal) := by
  unfold h_v69 h_v68
  rw [flat_form h t l _ c hc]
  unfold h_v67 h_v63 h_v64 h_v65 h_v66 h_k_8
  rw [v_form, one_at]
  simp only [v62_at h t H]
  unfold vL2
  split_ifs <;> first | rfl | omega

/-- The cotangent's array. -/
theorem v86_at (c : Fin 1024) (hc : c.val = h.val * 128 + l.val) : h_v86 A (ix2 t c) = (gL2 A h t l : EReal) := by
  unfold h_v86 h_v85
  rw [flat_form h t l _ c hc]
  unfold h_v84 h_v80 h_v81 h_v82 h_v83 h_k_9
  rw [v_form, v72_at h t H, v75_at h t H, v78_at h t H]
  simp only [v79_at h t H]
  unfold gL2
  split_ifs <;> first | rfl | omega

end Cert.Proof.Kernel2Ideal
-- ==== Proof.KI2.Outs.lean ====
/-
  The second kernel program's three results are the arrays of Outs2.lean.
-/
module

public import proofs.«01_k».proof.Proof.Outs2
public import proofs.«01_k».proof.Proof.KI2.Heads
public import proofs.«01_k».proof.Proof.KI2.Tail
public import proofs.«01_k».proof.Proof.KI2.Entry
public import proofs.«01_k».proof.Proof.KI2.Lanes

@[expose] public section

noncomputable section

namespace Cert.Proof.Kernel2Ideal

open Cert.Proof Cert.Kernel2Ideal Cert.Kernel2Ideal.Gen Idealize.ShloMosaic Idealize.ShloMosaic.TcCoe Idealize.SL.Sem

variable (m : (ℓ : Loc nD τ sig) → Buf (Elt Ideal) ℓ) (c : Dev nD) (H : (argsOf m c).Finite)
include H

set_option maxHeartbeats 1600000 in
/-- The arrays the kernel is launched on are packed from the arguments. -/
theorem packed (h : Fin 8) : Packed (argsOf m c) h (hd h.val (kArr m c)) (hd h.val (vArr m c)) (hd h.val (qArr m c))
    (hd h.val (dArr m c)) where
  k := fun t l => (congrFun (entry_v61 m c) _).trans (v61_at h t l H _ (val_col h.isLt l.isLt))
  v := fun t l => (congrFun (entry_v69 m c) _).trans (v69_at h t l H _ (val_col h.isLt l.isLt))
  q := fun t l => (congrFun (entry_v53 m c) _).trans (v53_at h t l H _ (val_col h.isLt l.isLt))
  d := fun t l => (congrFun (entry_v86 m c) _).trans (v86_at h t l H _ (val_col h.isLt l.isLt))

theorem res_q : Pipeline.afterTail₀ cfgs (dats m) 0 (V0 m) [hostOps1] c main_v90 = outQ2 (argsOf m c) := by
  rw [tail_v90, W_dq, dq_array]
  funext i
  idx_vars i
  exact (lanes96_at _ _ _).trans (dqH_real (packed m c H (headOf2 _)) _ _ _)
theorem res_k : Pipeline.afterTail₀ cfgs (dats m) 0 (V0 m) [hostOps1] c main_v93 = outK2 (argsOf m c) := by
  rw [tail_v93, W_dk, dk_array]
  funext i
  idx_vars i
  exact (lanes96_at _ _ _).trans (dkH_real (packed m c H (headOf2 _)) _ _ _)
theorem res_v : Pipeline.afterTail₀ cfgs (dats m) 0 (V0 m) [hostOps1] c main_v97 = outV2 (argsOf m c) := by
  rw [tail_v97, W_dv, dv_array]
  funext i
  idx_vars i
  exact (lanes_at _ _ _).trans (dvH_real (packed m c H (headOf _)) _ _ _)

omit H in
/-- The program ends with those three results, the arguments as launched. -/
theorem value (ρ : Dev nD → PrngReg) (H : ∀ c, (argsOf m c).Finite) :
    θ_run defs (onTc (τ := τ) (main (F := Ideal))) ⟨m, fun _ => 0, ρ⟩ (fun r => ∀ c : Dev nD,
      r.2.mem ((c.tc : Thread nD τ).loc main_v90) = outQ2 (argsOf m c)
      ∧ r.2.mem ((c.tc : Thread nD τ).loc main_v93) = outK2 (argsOf m c)
      ∧ r.2.mem ((c.tc : Thread nD τ).loc main_v97) = outV2 (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h.1 c).2 main_v90 (Pipeline.mem_restRefs_of main_v90 (by decide) (by decide))).trans (res_q m c (H c)),
      ((h.1 c).2 main_v93 (Pipeline.mem_restRefs_of main_v93 (by decide) (by decide))).trans (res_k m c (H c)),
      ((h.1 c).2 main_v97 (Pipeline.mem_restRefs_of main_v97 (by decide) (by decide))).trans (res_v m c (H c)),
      ((h.1 c).2 main_arg0 (Pipeline.mem_restRefs_of main_arg0 (by decide) (by decide))).trans (W_main_arg0 m _ c),
      ((h.1 c).2 main_arg1 (Pipeline.mem_restRefs_of main_arg1 (by decide) (by decide))).trans (W_main_arg1 m _ c),
      ((h.1 c).2 main_arg2 (Pipeline.mem_restRefs_of main_arg2 (by decide) (by decide))).trans (W_main_arg2 m _ c),
      ((h.1 c).2 main_arg3 (Pipeline.mem_restRefs_of main_arg3 (by decide) (by decide))).trans (W_main_arg3 m _ c)⟩)
    (run_main (F := Ideal) m ρ)

end Cert.Proof.Kernel2Ideal
-- ==== Proof.Ref.Terms.lean ====
/-
  The values of the reference's operations, one definition per operation, named after the buffer each writes.
-/
module

public import proofs.«01_k».proof.Proof.Args
public import proofs.«01_k».proof.Proof.Gen.ReferenceIdeal

@[expose] public section

noncomputable section

namespace Cert.Proof.ReferenceIdeal

open Cert.Proof Cert.ReferenceIdeal Cert.ReferenceIdeal.Gen Idealize.ShloMosaic Idealize.ShloMosaic.TcCoe

def r_v0 (a : Args) : FVec Ideal S8192x8x64 .f32 := shapeCast S8192x8x64 a.fq shapeCasts_S8192x512_S8192x8x64
def r_v1 (a : Args) : FVec Ideal S8x8192x64 .f32 := transpose S8x8192x64 [1, 0, 2] (r_v0 a) transposes_S8192x8x64_S8x8192x64_1_0_2
def r_v2 (a : Args) : FVec Ideal S8192x8x64 .f32 := shapeCast S8192x8x64 a.fk shapeCasts_S8192x512_S8192x8x64
def r_v3 (a : Args) : FVec Ideal S8x8192x64 .f32 := transpose S8x8192x64 [1, 0, 2] (r_v2 a) transposes_S8192x8x64_S8x8192x64_1_0_2
def r_v4 (a : Args) : FVec Ideal S8192x8x64 .f32 := shapeCast S8192x8x64 a.fv shapeCasts_S8192x512_S8192x8x64
def r_v5 (a : Args) : FVec Ideal S8x8192x64 .f32 := transpose S8x8192x64 [1, 0, 2] (r_v4 a) transposes_S8192x8x64_S8x8192x64_1_0_2
def r_v6 (a : Args) : FVec Ideal S8x8192 .f32 := transpose S8x8192 [1, 0] a.fcum transposes_S8192x8_S8x8192_1_0
def r_v7 (a : Args) : FVec Ideal S8x8192x8192 .f32 := Host.dotGeneral dot_S8x8192x64_S8x8192x64_S8x8192x8192_2_2_1_1_0_0 none (r_v1 a) (r_v3 a)
def r_k (a : Args) : FVec Ideal S_ .f32 := constant S_ .f32 0x3E000000#32
def r_v8 (a : Args) : FVec Ideal S8x8192x8192 .f32 := broadcastInDim S8x8192x8192 ![] bcast_S_S8x8192x8192 (r_k a)
def r_v9 (a : Args) : FVec Ideal S8x8192x8192 .f32 := mulf (r_v7 a) (r_v8 a)
def r_v10 (a : Args) : FVec Ideal S8x8192x1 .f32 := broadcastInDim S8x8192x1 ![0, 1] bcast_S8x8192_S8x8192x1_0_1 (r_v6 a)
def r_v11 (a : Args) : FVec Ideal S8x8192x8192 .f32 := broadcastInDim S8x8192x8192 ![0, 1, 2] bcast_S8x8192x1_S8x8192x8192_0_1_2 (r_v10 a)
def r_v12 (a : Args) : FVec Ideal S8x8192x8192 .f32 := addf (r_v9 a) (r_v11 a)
def r_v13 (a : Args) : FVec Ideal S8x1x8192 .f32 := broadcastInDim S8x1x8192 ![0, 2] bcast_S8x8192_S8x1x8192_0_2 (r_v6 a)
def r_v14 (a : Args) : FVec Ideal S8x8192x8192 .f32 := broadcastInDim S8x8192x8192 ![0, 1, 2] bcast_S8x1x8192_S8x8192x8192_0_1_2 (r_v13 a)
def r_v15 (a : Args) : FVec Ideal S8x8192x8192 .f32 := subf (r_v12 a) (r_v14 a)
def r_v16 (a : Args) : IVec S8192 32 := iotaInDim S8192 32 0
def r_v17 (a : Args) : IVec S1x8192 32 := broadcastInDim S1x8192 ![1] bcast_S8192_S1x8192_1 (r_v16 a)
def r_v18 (a : Args) : IVec S8192x1 32 := broadcastInDim S8192x1 ![0] bcast_S8192_S8192x1_0 (r_v16 a)
def r_v19 (a : Args) : IVec S8192x8192 32 := broadcastInDim S8192x8192 ![0, 1] bcast_S1x8192_S8192x8192_0_1 (r_v17 a)
def r_v20 (a : Args) : IVec S8192x8192 32 := broadcastInDim S8192x8192 ![0, 1] bcast_S8192x1_S8192x8192_0_1 (r_v18 a)
def r_v21 (a : Args) : IVec S8192x8192 1 := cmpi .sle (r_v19 a) (r_v20 a)
def r_k_0 (a : Args) : FVec Ideal S_ .f32 := constant S_ .f32 0xFF800000#32
def r_c0v0 (a : Args) : FVec Ideal S_ .f32 := (r_k_0 a)
def r_v22_1 (a : Args) : IVec S8x8192x8192 1 := broadcastInDim S8x8192x8192 ![1, 2] bcast_S8192x8192_S8x8192x8192_1_2 (r_v21 a)
def r_c0v2 (a : Args) : FVec Ideal S8x8192x8192 .f32 := broadcastInDim S8x8192x8192 ![] bcast_S_S8x8192x8192 (r_c0v0 a)
def r_v22_0 (a : Args) : FVec Ideal S8x8192x8192 .f32 := select (r_v22_1 a) (r_v15 a) (r_c0v2 a)
def r_k_1 (a : Args) : FVec Ideal S_ .f32 := constant S_ .f32 0xFF800000#32
def r_v23 (a : Args) : FVec Ideal S8x8192 .f32 := Host.reduce FloatOps.maximumf (r_v22_0 a) (r_k_1 a) reducesTo_S8x8192x8192_S8x8192_d2 h_S_
def r_k_3 (a : Args) : FVec Ideal S_ .f32 := constant S_ .f32 0xFF800000#32
def r_v29 (a : Args) : FVec Ideal S8x8192 .f32 := broadcastInDim S8x8192 ![] bcast_S_S8x8192 (r_k_3 a)
def r_v30 (a : Args) : FVec Ideal S8x8192 .f32 := maximumf (r_v29 a) (r_v23 a)
def r_v40 (a : Args) : FVec Ideal S8x8192x1 .f32 := broadcastInDim S8x8192x1 ![0, 1] bcast_S8x8192_S8x8192x1_0_1 (r_v30 a)
def r_v41 (a : Args) : FVec Ideal S8x8192x8192 .f32 := broadcastInDim S8x8192x8192 ![0, 1, 2] bcast_S8x8192x1_S8x8192x8192_0_1_2 (r_v40 a)
def r_v42 (a : Args) : FVec Ideal S8x8192x8192 .f32 := subf (r_v22_0 a) (r_v41 a)
def r_v43 (a : Args) : FVec Ideal S8x8192x8192 .f32 := Host.exp (r_v42 a)
def r_k_9 (a : Args) : FVec Ideal S_ .f32 := constant S_ .f32 0x00000000#32
def r_v44 (a : Args) : FVec Ideal S8x8192 .f32 := Host.reduceAdd (r_v43 a) (r_k_9 a) reducesTo_S8x8192x8192_S8x8192_d2 h_S_
def r_v45 (a : Args) : FVec Ideal S8x8192x1 .f32 := broadcastInDim S8x8192x1 ![0, 1] bcast_S8x8192_S8x8192x1_0_1 (r_v44 a)
def r_v46 (a : Args) : FVec Ideal S8x8192x8192 .f32 := broadcastInDim S8x8192x8192 ![0, 1, 2] bcast_S8x8192x1_S8x8192x8192_0_1_2 (r_v45 a)
def r_v47 (a : Args) : FVec Ideal S8x8192x8192 .f32 := Host.divf (r_v43 a) (r_v46 a)
def r_v48 (a : Args) : FVec Ideal S8x8192x1 .f32 := mulf (r_v45 a) (r_v45 a)
def r_k_10 (a : Args) : FVec Ideal S_ .f32 := constant S_ .f32 0x3F800000#32
def r_v49 (a : Args) : FVec Ideal S8x8192x1 .f32 := broadcastInDim S8x8192x1 ![] bcast_S_S8x8192x1 (r_k_10 a)
def r_v50 (a : Args) : FVec Ideal S8x8192x1 .f32 := Host.divf (r_v49 a) (r_v48 a)
def r_v54 (a : Args) : FVec Ideal S8192x8x64 .f32 := shapeCast S8192x8x64 a.ct shapeCasts_S8192x512_S8192x8x64
def r_v55 (a : Args) : FVec Ideal S8x8192x64 .f32 := transpose S8x8192x64 [1, 0, 2] (r_v54 a) transposes_S8192x8x64_S8x8192x64_1_0_2
def r_v56 (a : Args) : FVec Ideal S8x64x8192 .f32 := Host.dotGeneral dot_S8x8192x64_S8x8192x8192_S8x64x8192_1_1_2_2_0_0 none (r_v55 a) (r_v47 a)
def r_v57 (a : Args) : FVec Ideal S8x8192x64 .f32 := transpose S8x8192x64 [0, 2, 1] (r_v56 a) transposes_S8x64x8192_S8x8192x64_0_2_1
def r_v58 (a : Args) : FVec Ideal S8x8192x8192 .f32 := Host.dotGeneral dot_S8x8192x64_S8x8192x64_S8x8192x8192_2_2_1_1_0_0 none (r_v55 a) (r_v5 a)
def r_v59 (a : Args) : FVec Ideal S8x8192x8192 .f32 := broadcastInDim S8x8192x8192 ![0, 1, 2] bcast_S8x8192x1_S8x8192x8192_0_1_2 (r_v50 a)
def r_v60 (a : Args) : FVec Ideal S8x8192x8192 .f32 := mulf (r_v58 a) (r_v59 a)
def r_v61 (a : Args) : FVec Ideal S8x8192x8192 .f32 := mulf (r_v60 a) (r_v43 a)
def r_k_11 (a : Args) : FVec Ideal S_ .f32 := constant S_ .f32 0x00000000#32
def r_v62 (a : Args) : FVec Ideal S8x8192 .f32 := Host.reduceAdd (r_v61 a) (r_k_11 a) reducesTo_S8x8192x8192_S8x8192_d2 h_S_
def r_v63 (a : Args) : FVec Ideal S8x8192x1 .f32 := shapeCast S8x8192x1 (r_v62 a) shapeCasts_S8x8192_S8x8192x1
def r_v64 (a : Args) : FVec Ideal S8x8192x1 .f32 := Host.negf (r_v63 a)
def r_v65 (a : Args) : FVec Ideal S8x8192x8192 .f32 := broadcastInDim S8x8192x8192 ![0, 1, 2] bcast_S8x8192x1_S8x8192x8192_0_1_2 (r_v45 a)
def r_v66 (a : Args) : FVec Ideal S8x8192x8192 .f32 := Host.divf (r_v58 a) (r_v65 a)
def r_k_12 (a : Args) : FVec Ideal S_ .f32 := constant S_ .f32 0x00000000#32
def r_v67 (a : Args) : FVec Ideal S8x8192 .f32 := Host.reduceAdd (r_v64 a) (r_k_12 a) reducesTo_S8x8192x1_S8x8192_d2 h_S_
def r_v68 (a : Args) : FVec Ideal S8x8192x8192 .f32 := broadcastInDim S8x8192x8192 ![0, 1] bcast_S8x8192_S8x8192x8192_0_1 (r_v67 a)
def r_v69 (a : Args) : FVec Ideal S8x8192x8192 .f32 := addf (r_v66 a) (r_v68 a)
def r_v70 (a : Args) : FVec Ideal S8x8192x8192 .f32 := mulf (r_v69 a) (r_v43 a)
def r_c1k (a : Args) : FVec Ideal S_ .f32 := constant S_ .f32 0x00000000#32
def r_c1v0 (a : Args) : FVec Ideal S8x8192x8192 .f32 := broadcastInDim S8x8192x8192 ![] bcast_S_S8x8192x8192 (r_c1k a)
def r_v71 (a : Args) : FVec Ideal S8x8192x8192 .f32 := select (r_v22_1 a) (r_v70 a) (r_c1v0 a)
def r_v72 (a : Args) : FVec Ideal S8x8192x8192 .f32 := Host.negf (r_v71 a)
def r_k_13 (a : Args) : FVec Ideal S_ .f32 := constant S_ .f32 0x00000000#32
def r_v73 (a : Args) : FVec Ideal S8x8192 .f32 := Host.reduceAdd (r_v72 a) (r_k_13 a) reducesTo_S8x8192x8192_S8x8192_d1 h_S_
def r_v74 (a : Args) : FVec Ideal S8x1x8192 .f32 := shapeCast S8x1x8192 (r_v73 a) shapeCasts_S8x8192_S8x1x8192
def r_k_14 (a : Args) : FVec Ideal S_ .f32 := constant S_ .f32 0x00000000#32
def r_v75 (a : Args) : FVec Ideal S8x8192 .f32 := Host.reduceAdd (r_v74 a) (r_k_14 a) reducesTo_S8x1x8192_S8x8192_d1 h_S_
def r_k_15 (a : Args) : FVec Ideal S_ .f32 := constant S_ .f32 0x00000000#32
def r_v76 (a : Args) : FVec Ideal S8x8192 .f32 := Host.reduceAdd (r_v71 a) (r_k_15 a) reducesTo_S8x8192x8192_S8x8192_d2 h_S_
def r_v77 (a : Args) : FVec Ideal S8x8192x1 .f32 := shapeCast S8x8192x1 (r_v76 a) shapeCasts_S8x8192_S8x8192x1
def r_k_16 (a : Args) : FVec Ideal S_ .f32 := constant S_ .f32 0x00000000#32
def r_v78 (a : Args) : FVec Ideal S8x8192 .f32 := Host.reduceAdd (r_v77 a) (r_k_16 a) reducesTo_S8x8192x1_S8x8192_d2 h_S_
def r_v79 (a : Args) : FVec Ideal S8x8192 .f32 := addf (r_v75 a) (r_v78 a)
def r_k_17 (a : Args) : FVec Ideal S_ .f32 := constant S_ .f32 0x3E000000#32
def r_v80 (a : Args) : FVec Ideal S8x8192x8192 .f32 := broadcastInDim S8x8192x8192 ![] bcast_S_S8x8192x8192 (r_k_17 a)
def r_v81 (a : Args) : FVec Ideal S8x8192x8192 .f32 := mulf (r_v71 a) (r_v80 a)
def r_v82 (a : Args) : FVec Ideal S8x8192x64 .f32 := Host.dotGeneral dot_S8x8192x8192_S8x8192x64_S8x8192x64_1_1_2_2_0_0 none (r_v81 a) (r_v1 a)
def r_v83 (a : Args) : FVec Ideal S8x8192x64 .f32 := Host.dotGeneral dot_S8x8192x8192_S8x8192x64_S8x8192x64_2_1_1_2_0_0 none (r_v81 a) (r_v3 a)
def r_v84 (a : Args) : FVec Ideal S8192x8 .f32 := transpose S8192x8 [1, 0] (r_v79 a) transposes_S8x8192_S8192x8_1_0
def r_v85 (a : Args) : FVec Ideal S8192x8x64 .f32 := transpose S8192x8x64 [1, 0, 2] (r_v57 a) transposes_S8x8192x64_S8192x8x64_1_0_2
def r_v86 (a : Args) : FVec Ideal S8192x512 .f32 := shapeCast S8192x512 (r_v85 a) shapeCasts_S8192x8x64_S8192x512
def r_v87 (a : Args) : FVec Ideal S8192x8x64 .f32 := transpose S8192x8x64 [1, 0, 2] (r_v82 a) transposes_S8x8192x64_S8192x8x64_1_0_2
def r_v88 (a : Args) : FVec Ideal S8192x512 .f32 := shapeCast S8192x512 (r_v87 a) shapeCasts_S8192x8x64_S8192x512
def r_v89 (a : Args) : FVec Ideal S8192x8x64 .f32 := transpose S8192x8x64 [1, 0, 2] (r_v83 a) transposes_S8x8192x64_S8192x8x64_1_0_2
def r_v90 (a : Args) : FVec Ideal S8192x512 .f32 := shapeCast S8192x512 (r_v89 a) shapeCasts_S8192x8x64_S8192x512

end Cert.Proof.ReferenceIdeal
-- ==== Proof.Ref.Result.lean ====
/-
  The four results of the reference are the terms of Terms.lean at the launch's arguments.
-/
module

public import proofs.«01_k».proof.Proof.Ref.Terms
public import proofs.«01_k».proof.Proof.Gen.ReferenceIdeal.Run

@[expose] public section

set_option maxRecDepth 8192

noncomputable section

namespace Cert.Proof.ReferenceIdeal

open Cert.Proof Cert.ReferenceIdeal Cert.ReferenceIdeal.Gen Idealize.ShloMosaic Idealize.ShloMosaic.TcCoe Idealize.SL.Sem

/-- The arguments of one device. -/
def argsOf (m : (ℓ : Loc nD τ sig) → Buf (Elt Ideal) ℓ) (c : Dev nD) : Args where
  fq := m ((c.tc : Thread nD τ).loc main_arg0)
  fk := m ((c.tc : Thread nD τ).loc main_arg1)
  fv := m ((c.tc : Thread nD τ).loc main_arg2)
  fcum := m ((c.tc : Thread nD τ).loc main_arg3)
  ct := m ((c.tc : Thread nD τ).loc main_arg4)

variable (m : (ℓ : Loc nD τ sig) → Buf (Elt Ideal) ℓ) (c : Dev nD)

theorem res_v84 : Cert.ReferenceIdeal.Value.res_main_v84 m c = r_v84 (argsOf m c) := rfl
theorem res_v86 : Cert.ReferenceIdeal.Value.res_main_v86 m c = r_v86 (argsOf m c) := rfl
theorem res_v88 : Cert.ReferenceIdeal.Value.res_main_v88 m c = r_v88 (argsOf m c) := rfl
theorem res_v90 : Cert.ReferenceIdeal.Value.res_main_v90 m c = r_v90 (argsOf m c) := rfl

end Cert.Proof.ReferenceIdeal
-- ==== Proof.Ref.Scores.lean ====
/-
  The reference's scores, weights and their sums over real arguments.
-/
module

public import proofs.«01_k».proof.Proof.Ref.Terms
public import proofs.«01_k».proof.Proof.Scalars

@[expose] public section

set_option maxRecDepth 16384

noncomputable section

namespace Cert.Proof.ReferenceIdeal

open Cert.Proof Cert.ReferenceIdeal Cert.ReferenceIdeal.Gen Idealize.ShloMosaic

variable {A : Args} (H : A.Finite) (h : Fin 8) (t κ : Fin 8192) (d : Fin 64)
include H

theorem v1_at : r_v1 A (ix3 h t d) = (qR A h t d : EReal) := by
  pointwise [r_v1, r_v0]
  exact H.q_at h t d
theorem v3_at : r_v3 A (ix3 h t d) = (kR A h t d : EReal) := by
  pointwise [r_v3, r_v2]
  exact H.k_at h t d
theorem v5_at : r_v5 A (ix3 h t d) = (vR A h t d : EReal) := by
  pointwise [r_v5, r_v4]
  exact H.v_at h t d
theorem v55_at : r_v55 A (ix3 h t d) = (gR A h t d : EReal) := by
  pointwise [r_v55, r_v54]
  exact H.g_at h t d

/-- The scores. -/
theorem v15_at : r_v15 A (ix3 h t κ) = (sc A h t κ : EReal) := by
  pointwise [r_v15, r_v14, r_v13, r_v12, r_v11, r_v10, r_v9, r_v8, r_k, r_v7, r_v6]
  simp only [v1_at H, v3_at H, H.f_at, ofBits_eighth, sc, EReal.coe_sub, EReal.coe_add, EReal.coe_mul, coe_sum]

/-- The scores under the mask. -/
theorem v22_at : r_v22_0 A (ix3 h t κ) = msc A h t κ := by
  pointwise [r_v22_0, r_v22_1, r_v21, r_v20, r_v19, r_v18, r_v17, r_v16, r_c0v2, r_c0v0, r_k_0]
  rw [mask_select, v15_at H, ofBits_bot]
  rfl

/-- The greatest score. -/
theorem v23_at : r_v23 A (ix2 h t) = (mx A h t : EReal) := by
  pointwise [r_v23, r_k_1]
  simp only [v22_at H, ofBits_bot]
  exact mxE_eq A h t
omit H in
theorem maximum_at {s : Shape} (a b : FVec Ideal s .f32) (i : s.Idx) : maximumf a b i = max (a i) (b i) := rfl
omit H in
theorem v29_at : r_v29 A (ix2 h t) = ⊥ := by
  pointwise [r_v29, r_k_3]
  exact ofBits_bot
theorem v30_at : r_v30 A (ix2 h t) = (mx A h t : EReal) := by
  unfold r_v30
  rw [maximum_at, v29_at, v23_at H]
  exact max_eq_right bot_le

/-- The weights. -/
theorem v43_at : r_v43 A (ix3 h t κ) = (w A h t κ : EReal) := by
  pointwise [r_v43, r_v42, r_v41, r_v40]
  rw [v22_at H, v30_at H]
  exact exp_msc A h t κ

/-- Their sum. -/
theorem v44_at : r_v44 A (ix2 h t) = (Z A h t : EReal) := by
  pointwise [r_v44, r_k_9]
  simp only [v43_at H, Z, coe_sum]

end Cert.Proof.ReferenceIdeal
-- ==== Proof.Ref.Grads.lean ====
/-
  The reference's four results over real arguments.
-/
module

public import proofs.«01_k».proof.Proof.Ref.Scores

@[expose] public section

set_option maxRecDepth 16384

noncomputable section

namespace Cert.Proof.ReferenceIdeal

open Cert.Proof Cert.ReferenceIdeal Cert.ReferenceIdeal.Gen Idealize.ShloMosaic

variable {A : Args} (H : A.Finite) (h : Fin 8) (t κ : Fin 8192) (d : Fin 64)
include H

/-- The softmax. -/
theorem v47_at : r_v47 A (ix3 h t κ) = (pr A h t κ : EReal) := by
  pointwise [r_v47, r_v46, r_v45]
  rw [v43_at H, v44_at H]
  exact div_real _ (Z_pos A h t).ne'

/-- The gradient with respect to a value. -/
theorem v57_at : r_v57 A (ix3 h κ d) = (dvR A h κ d : EReal) := by
  pointwise [r_v57, r_v56]
  simp only [v55_at H, v47_at H, dvR, EReal.coe_mul, coe_sum]

/-- The gradient with respect to a probability. -/
theorem v58_at : r_v58 A (ix3 h t κ) = (dP A h t κ : EReal) := by
  pointwise [r_v58]
  simp only [v55_at H, v5_at H, dP, EReal.coe_mul, coe_sum]

theorem v50_at : r_v50 A (ix3 h t 0) = ((1 / (Z A h t * Z A h t) : ℝ) : EReal) := by
  pointwise [r_v50, r_v49, r_v48, r_v45, r_k_10]
  rw [v44_at H, ← EReal.coe_mul, ← EReal.coe_one]
  exact div_real _ (mul_pos (Z_pos A h t) (Z_pos A h t)).ne'

theorem v62_at : r_v62 A (ix2 h t)
    = ((∑ κ, dP A h t κ * (1 / (Z A h t * Z A h t)) * w A h t κ : ℝ) : EReal) := by
  pointwise [r_v62, r_k_11, r_v61, r_v60, r_v59]
  simp only [v58_at H, v50_at H, v43_at H, EReal.coe_mul, coe_sum]

theorem v67_at : r_v67 A (ix2 h t)
    = ((-(∑ κ, dP A h t κ * (1 / (Z A h t * Z A h t)) * w A h t κ) : ℝ) : EReal) := by
  pointwise [r_v67, r_k_12, r_v64, r_v63]
  rw [Fin.sum_univ_one, v62_at H, EReal.coe_neg]

/-- The gradient with respect to a score. -/
theorem v71_at : r_v71 A (ix3 h t κ) = (ds A h t κ : EReal) := by
  pointwise [r_v71, r_v22_1, r_v21, r_v20, r_v19, r_v18, r_v17, r_v16, r_c1v0, r_c1k, r_v70, r_v69, r_v68, r_v66, r_v65, r_v45]
  rw [mask_select, v58_at H, v44_at H, v67_at H, v43_at H, div_real _ (Z_pos A h t).ne', ← EReal.coe_add, ← EReal.coe_mul,
    ← ds_quot]
  split
  · rfl
  · exact EReal.coe_zero.symm

/-- The gradient with respect to a gate. -/
theorem v79_at : r_v79 A (ix2 h κ) = (dfR A h κ : EReal) := by
  pointwise [r_v79, r_v78, r_k_16, r_v77, r_v76, r_k_15, r_v75, r_k_14, r_v74, r_v73, r_k_13, r_v72]
  simp only [Fin.sum_univ_one, v71_at H, dfR, EReal.coe_add, EReal.coe_neg, coe_sum]

/-- The gradient with respect to a key. -/
theorem v82_at : r_v82 A (ix3 h κ d) = (dkR A h κ d : EReal) := by
  pointwise [r_v82, r_v81, r_v80, r_k_17]
  simp only [v71_at H, v1_at H, ofBits_eighth, dkR, EReal.coe_mul, coe_sum]

/-- The gradient with respect to a query. -/
theorem v83_at : r_v83 A (ix3 h t d) = (dqR A h t d : EReal) := by
  pointwise [r_v83, r_v81, r_v80, r_k_17]
  simp only [v71_at H, v3_at H, ofBits_eighth, dqR, EReal.coe_mul, coe_sum]

/-! ## The results -/

theorem v84_at : r_v84 A (ix2 t h) = (dfR A h t : EReal) := by
  pointwise [r_v84]
  exact v79_at H h t
theorem v86_at (l : Fin 512) : r_v86 A (ix2 t l) = (dvR A ⟨l.val / 64, by omega⟩ t ⟨l.val % 64, by omega⟩ : EReal) := by
  pointwise [r_v86, r_v85]
  exact v57_at H _ _ _
theorem v88_at (l : Fin 512) : r_v88 A (ix2 t l) = (dkR A ⟨l.val / 64, by omega⟩ t ⟨l.val % 64, by omega⟩ : EReal) := by
  pointwise [r_v88, r_v87]
  exact v82_at H _ _ _
theorem v90_at (l : Fin 512) : r_v90 A (ix2 t l) = (dqR A ⟨l.val / 64, by omega⟩ t ⟨l.val % 64, by omega⟩ : EReal) := by
  pointwise [r_v90, r_v89]
  exact v83_at H _ _ _

end Cert.Proof.ReferenceIdeal
-- ==== Proof.Ref.Outs.lean ====
/-
  The reference's four results are the arrays of Outs.lean.
-/
module

public import proofs.«01_k».proof.Proof.Outs
public import proofs.«01_k».proof.Proof.Ref.Result
public import proofs.«01_k».proof.Proof.Ref.Grads

@[expose] public section

noncomputable section

namespace Cert.Proof.ReferenceIdeal

open Cert.Proof Cert.ReferenceIdeal Cert.ReferenceIdeal.Gen Idealize.ShloMosaic Idealize.ShloMosaic.TcCoe

variable (m : (ℓ : Loc nD τ sig) → Buf (Elt Ideal) ℓ) (c : Dev nD) (H : (argsOf m c).Finite)
include H

theorem res_q : Cert.ReferenceIdeal.Value.res_main_v90 m c = outQ (argsOf m c) := by
  rw [res_v90]
  funext i
  idx_vars i
  exact v90_at H _ _
theorem res_k : Cert.ReferenceIdeal.Value.res_main_v88 m c = outK (argsOf m c) := by
  rw [res_v88]
  funext i
  idx_vars i
  exact v88_at H _ _
theorem res_v : Cert.ReferenceIdeal.Value.res_main_v86 m c = outV (argsOf m c) := by
  rw [res_v86]
  funext i
  idx_vars i
  exact v86_at H _ _
theorem res_f : Cert.ReferenceIdeal.Value.res_main_v84 m c = outF (argsOf m c) := by
  rw [res_v84]
  funext i
  idx_vars i
  exact v84_at H _ _

end Cert.Proof.ReferenceIdeal
-- ==== Proof.Ref2.Terms.lean ====
/-
  The values of the second reference's operations, one definition per operation, named after the buffer each writes.
-/
module

public import proofs.«01_k».proof.Proof.Args2
public import proofs.«01_k».proof.Proof.Gen.Reference2Ideal

@[expose] public section

noncomputable section

namespace Cert.Proof.Reference2Ideal

open Cert.Proof Cert.Reference2Ideal Cert.Reference2Ideal.Gen Idealize.ShloMosaic Idealize.ShloMosaic.TcCoe

def r_v0 (a : Args2) : FVec Ideal S8192x8x96 .f32 := shapeCast S8192x8x96 a.q shapeCasts_S8192x768_S8192x8x96
def r_v1 (a : Args2) : FVec Ideal S8x8192x96 .f32 := transpose S8x8192x96 [1, 0, 2] (r_v0 a) transposes_S8192x8x96_S8x8192x96_1_0_2
def r_v2 (a : Args2) : FVec Ideal S8192x8x96 .f32 := shapeCast S8192x8x96 a.k shapeCasts_S8192x768_S8192x8x96
def r_v3 (a : Args2) : FVec Ideal S8x8192x96 .f32 := transpose S8x8192x96 [1, 0, 2] (r_v2 a) transposes_S8192x8x96_S8x8192x96_1_0_2
def r_v4 (a : Args2) : FVec Ideal S8192x8x64 .f32 := shapeCast S8192x8x64 a.v shapeCasts_S8192x512_S8192x8x64
def r_v5 (a : Args2) : FVec Ideal S8x8192x64 .f32 := transpose S8x8192x64 [1, 0, 2] (r_v4 a) transposes_S8192x8x64_S8x8192x64_1_0_2
def r_v6 (a : Args2) : FVec Ideal S8x8192x8192 .f32 := Host.dotGeneral dot_S8x8192x96_S8x8192x96_S8x8192x8192_2_2_1_1_0_0 none (r_v1 a) (r_v3 a)
def r_k (a : Args2) : FVec Ideal S_ .f32 := constant S_ .f32 0x3DD105EC#32
def r_v7 (a : Args2) : FVec Ideal S8x8192x8192 .f32 := broadcastInDim S8x8192x8192 ![] bcast_S_S8x8192x8192 (r_k a)
def r_v8 (a : Args2) : FVec Ideal S8x8192x8192 .f32 := mulf (r_v6 a) (r_v7 a)
def r_v9 (a : Args2) : IVec S8192 32 := iotaInDim S8192 32 0
def r_v10 (a : Args2) : IVec S1x8192 32 := broadcastInDim S1x8192 ![1] bcast_S8192_S1x8192_1 (r_v9 a)
def r_v11 (a : Args2) : IVec S8192x1 32 := broadcastInDim S8192x1 ![0] bcast_S8192_S8192x1_0 (r_v9 a)
def r_v12 (a : Args2) : IVec S8192x8192 32 := broadcastInDim S8192x8192 ![0, 1] bcast_S1x8192_S8192x8192_0_1 (r_v10 a)
def r_v13 (a : Args2) : IVec S8192x8192 32 := broadcastInDim S8192x8192 ![0, 1] bcast_S8192x1_S8192x8192_0_1 (r_v11 a)
def r_v14 (a : Args2) : IVec S8192x8192 1 := cmpi .sle (r_v12 a) (r_v13 a)
def r_k_0 (a : Args2) : FVec Ideal S_ .f32 := constant S_ .f32 0xFF800000#32
def r_c0v0 (a : Args2) : FVec Ideal S_ .f32 := (r_k_0 a)
def r_v15_1 (a : Args2) : IVec S8x8192x8192 1 := broadcastInDim S8x8192x8192 ![1, 2] bcast_S8192x8192_S8x8192x8192_1_2 (r_v14 a)
def r_c0v2 (a : Args2) : FVec Ideal S8x8192x8192 .f32 := broadcastInDim S8x8192x8192 ![] bcast_S_S8x8192x8192 (r_c0v0 a)
def r_v15_0 (a : Args2) : FVec Ideal S8x8192x8192 .f32 := select (r_v15_1 a) (r_v8 a) (r_c0v2 a)
def r_k_1 (a : Args2) : FVec Ideal S_ .f32 := constant S_ .f32 0xFF800000#32
def r_v16 (a : Args2) : FVec Ideal S8x8192 .f32 := Host.reduce FloatOps.maximumf (r_v15_0 a) (r_k_1 a) reducesTo_S8x8192x8192_S8x8192_d2 h_S_
def r_k_3 (a : Args2) : FVec Ideal S_ .f32 := constant S_ .f32 0xFF800000#32
def r_v22 (a : Args2) : FVec Ideal S8x8192 .f32 := broadcastInDim S8x8192 ![] bcast_S_S8x8192 (r_k_3 a)
def r_v23 (a : Args2) : FVec Ideal S8x8192 .f32 := maximumf (r_v22 a) (r_v16 a)
def r_v33 (a : Args2) : FVec Ideal S8x8192x1 .f32 := broadcastInDim S8x8192x1 ![0, 1] bcast_S8x8192_S8x8192x1_0_1 (r_v23 a)
def r_v34 (a : Args2) : FVec Ideal S8x8192x8192 .f32 := broadcastInDim S8x8192x8192 ![0, 1, 2] bcast_S8x8192x1_S8x8192x8192_0_1_2 (r_v33 a)
def r_v35 (a : Args2) : FVec Ideal S8x8192x8192 .f32 := subf (r_v15_0 a) (r_v34 a)
def r_v36 (a : Args2) : FVec Ideal S8x8192x8192 .f32 := Host.exp (r_v35 a)
def r_k_9 (a : Args2) : FVec Ideal S_ .f32 := constant S_ .f32 0x00000000#32
def r_v37 (a : Args2) : FVec Ideal S8x8192 .f32 := Host.reduceAdd (r_v36 a) (r_k_9 a) reducesTo_S8x8192x8192_S8x8192_d2 h_S_
def r_v38 (a : Args2) : FVec Ideal S8x8192x1 .f32 := broadcastInDim S8x8192x1 ![0, 1] bcast_S8x8192_S8x8192x1_0_1 (r_v37 a)
def r_v39 (a : Args2) : FVec Ideal S8x8192x8192 .f32 := broadcastInDim S8x8192x8192 ![0, 1, 2] bcast_S8x8192x1_S8x8192x8192_0_1_2 (r_v38 a)
def r_v40 (a : Args2) : FVec Ideal S8x8192x8192 .f32 := Host.divf (r_v36 a) (r_v39 a)
def r_v41 (a : Args2) : FVec Ideal S8x8192x1 .f32 := mulf (r_v38 a) (r_v38 a)
def r_k_10 (a : Args2) : FVec Ideal S_ .f32 := constant S_ .f32 0x3F800000#32
def r_v42 (a : Args2) : FVec Ideal S8x8192x1 .f32 := broadcastInDim S8x8192x1 ![] bcast_S_S8x8192x1 (r_k_10 a)
def r_v43 (a : Args2) : FVec Ideal S8x8192x1 .f32 := Host.divf (r_v42 a) (r_v41 a)
def r_v47 (a : Args2) : FVec Ideal S8192x8x64 .f32 := shapeCast S8192x8x64 a.ct shapeCasts_S8192x512_S8192x8x64
def r_v48 (a : Args2) : FVec Ideal S8x8192x64 .f32 := transpose S8x8192x64 [1, 0, 2] (r_v47 a) transposes_S8192x8x64_S8x8192x64_1_0_2
def r_v49 (a : Args2) : FVec Ideal S8x64x8192 .f32 := Host.dotGeneral dot_S8x8192x64_S8x8192x8192_S8x64x8192_1_1_2_2_0_0 none (r_v48 a) (r_v40 a)
def r_v50 (a : Args2) : FVec Ideal S8x8192x64 .f32 := transpose S8x8192x64 [0, 2, 1] (r_v49 a) transposes_S8x64x8192_S8x8192x64_0_2_1
def r_v51 (a : Args2) : FVec Ideal S8x8192x8192 .f32 := Host.dotGeneral dot_S8x8192x64_S8x8192x64_S8x8192x8192_2_2_1_1_0_0 none (r_v48 a) (r_v5 a)
def r_v52 (a : Args2) : FVec Ideal S8x8192x8192 .f32 := broadcastInDim S8x8192x8192 ![0, 1, 2] bcast_S8x8192x1_S8x8192x8192_0_1_2 (r_v43 a)
def r_v53 (a : Args2) : FVec Ideal S8x8192x8192 .f32 := mulf (r_v51 a) (r_v52 a)
def r_v54 (a : Args2) : FVec Ideal S8x8192x8192 .f32 := mulf (r_v53 a) (r_v36 a)
def r_k_11 (a : Args2) : FVec Ideal S_ .f32 := constant S_ .f32 0x00000000#32
def r_v55 (a : Args2) : FVec Ideal S8x8192 .f32 := Host.reduceAdd (r_v54 a) (r_k_11 a) reducesTo_S8x8192x8192_S8x8192_d2 h_S_
def r_v56 (a : Args2) : FVec Ideal S8x8192x1 .f32 := shapeCast S8x8192x1 (r_v55 a) shapeCasts_S8x8192_S8x8192x1
def r_v57 (a : Args2) : FVec Ideal S8x8192x1 .f32 := Host.negf (r_v56 a)
def r_v58 (a : Args2) : FVec Ideal S8x8192x8192 .f32 := broadcastInDim S8x8192x8192 ![0, 1, 2] bcast_S8x8192x1_S8x8192x8192_0_1_2 (r_v38 a)
def r_v59 (a : Args2) : FVec Ideal S8x8192x8192 .f32 := Host.divf (r_v51 a) (r_v58 a)
def r_k_12 (a : Args2) : FVec Ideal S_ .f32 := constant S_ .f32 0x00000000#32
def r_v60 (a : Args2) : FVec Ideal S8x8192 .f32 := Host.reduceAdd (r_v57 a) (r_k_12 a) reducesTo_S8x8192x1_S8x8192_d2 h_S_
def r_v61 (a : Args2) : FVec Ideal S8x8192x8192 .f32 := broadcastInDim S8x8192x8192 ![0, 1] bcast_S8x8192_S8x8192x8192_0_1 (r_v60 a)
def r_v62 (a : Args2) : FVec Ideal S8x8192x8192 .f32 := addf (r_v59 a) (r_v61 a)
def r_v63 (a : Args2) : FVec Ideal S8x8192x8192 .f32 := mulf (r_v62 a) (r_v36 a)
def r_c1k (a : Args2) : FVec Ideal S_ .f32 := constant S_ .f32 0x00000000#32
def r_c1v0 (a : Args2) : FVec Ideal S8x8192x8192 .f32 := broadcastInDim S8x8192x8192 ![] bcast_S_S8x8192x8192 (r_c1k a)
def r_v64 (a : Args2) : FVec Ideal S8x8192x8192 .f32 := select (r_v15_1 a) (r_v63 a) (r_c1v0 a)
def r_k_13 (a : Args2) : FVec Ideal S_ .f32 := constant S_ .f32 0x3DD105EC#32
def r_v65 (a : Args2) : FVec Ideal S8x8192x8192 .f32 := broadcastInDim S8x8192x8192 ![] bcast_S_S8x8192x8192 (r_k_13 a)
def r_v66 (a : Args2) : FVec Ideal S8x8192x8192 .f32 := mulf (r_v64 a) (r_v65 a)
def r_v67 (a : Args2) : FVec Ideal S8x8192x96 .f32 := Host.dotGeneral dot_S8x8192x8192_S8x8192x96_S8x8192x96_1_1_2_2_0_0 none (r_v66 a) (r_v1 a)
def r_v68 (a : Args2) : FVec Ideal S8x8192x96 .f32 := Host.dotGeneral dot_S8x8192x8192_S8x8192x96_S8x8192x96_2_1_1_2_0_0 none (r_v66 a) (r_v3 a)
def r_v69 (a : Args2) : FVec Ideal S8192x8x64 .f32 := transpose S8192x8x64 [1, 0, 2] (r_v50 a) transposes_S8x8192x64_S8192x8x64_1_0_2
def r_v70 (a : Args2) : FVec Ideal S8192x512 .f32 := shapeCast S8192x512 (r_v69 a) shapeCasts_S8192x8x64_S8192x512
def r_v71 (a : Args2) : FVec Ideal S8192x8x96 .f32 := transpose S8192x8x96 [1, 0, 2] (r_v67 a) transposes_S8x8192x96_S8192x8x96_1_0_2
def r_v72 (a : Args2) : FVec Ideal S8192x768 .f32 := shapeCast S8192x768 (r_v71 a) shapeCasts_S8192x8x96_S8192x768
def r_v73 (a : Args2) : FVec Ideal S8192x8x96 .f32 := transpose S8192x8x96 [1, 0, 2] (r_v68 a) transposes_S8x8192x96_S8192x8x96_1_0_2
def r_v74 (a : Args2) : FVec Ideal S8192x768 .f32 := shapeCast S8192x768 (r_v73 a) shapeCasts_S8192x8x96_S8192x768

end Cert.Proof.Reference2Ideal
-- ==== Proof.Ref2.Result.lean ====
/-
  The three results of the reference are the terms of Terms.lean at the launch's arguments.
-/
module

public import proofs.«01_k».proof.Proof.Ref2.Terms
public import proofs.«01_k».proof.Proof.Gen.Reference2Ideal.Run

@[expose] public section

set_option maxRecDepth 8192

noncomputable section

namespace Cert.Proof.Reference2Ideal

open Cert.Proof Cert.Reference2Ideal Cert.Reference2Ideal.Gen Idealize.ShloMosaic Idealize.ShloMosaic.TcCoe Idealize.SL.Sem

/-- The arguments of one device. -/
def argsOf (m : (ℓ : Loc nD τ sig) → Buf (Elt Ideal) ℓ) (c : Dev nD) : Args2 where
  q := m ((c.tc : Thread nD τ).loc main_arg0)
  k := m ((c.tc : Thread nD τ).loc main_arg1)
  v := m ((c.tc : Thread nD τ).loc main_arg2)
  ct := m ((c.tc : Thread nD τ).loc main_arg3)

variable (m : (ℓ : Loc nD τ sig) → Buf (Elt Ideal) ℓ) (c : Dev nD)

theorem res_v70 : Cert.Reference2Ideal.Value.res_main_v70 m c = r_v70 (argsOf m c) := rfl
theorem res_v72 : Cert.Reference2Ideal.Value.res_main_v72 m c = r_v72 (argsOf m c) := rfl
theorem res_v74 : Cert.Reference2Ideal.Value.res_main_v74 m c = r_v74 (argsOf m c) := rfl

end Cert.Proof.Reference2Ideal
-- ==== Proof.Ref2.Scores.lean ====
/-
  The second reference's scores, weights and their sums over real arguments.
-/
module

public import proofs.«01_k».proof.Proof.Ref2.Terms
public import proofs.«01_k».proof.Proof.Model2

@[expose] public section

set_option maxRecDepth 16384

noncomputable section

namespace Cert.Proof.Reference2Ideal

open Cert.Proof Cert.Reference2Ideal Cert.Reference2Ideal.Gen Idealize.ShloMosaic

variable {A : Args2} (H : A.Finite) (h : Fin 8) (t κ : Fin 8192) (d : Fin 64) (e : Fin 96)
include H

theorem v1_at : r_v1 A (ix3 h t e) = (qR2 A h t e : EReal) := by
  pointwise [r_v1, r_v0]
  exact H.q_at h t e
theorem v3_at : r_v3 A (ix3 h t e) = (kR2 A h t e : EReal) := by
  pointwise [r_v3, r_v2]
  exact H.k_at h t e
theorem v5_at : r_v5 A (ix3 h t d) = (vR2 A h t d : EReal) := by
  pointwise [r_v5, r_v4]
  exact H.v_at h t d
theorem v48_at : r_v48 A (ix3 h t d) = (gR2 A h t d : EReal) := by
  pointwise [r_v48, r_v47]
  exact H.g_at h t d

/-- The scores. -/
theorem v8_at : r_v8 A (ix3 h t κ) = (sc2 A h t κ : EReal) := by
  pointwise [r_v8, r_v7, r_k, r_v6]
  simp only [v1_at H, v3_at H, ofBits_scale, sc2, EReal.coe_mul, coe_sum]

/-- The scores under the mask. -/
theorem v15_at : r_v15_0 A (ix3 h t κ) = msc2 A h t κ := by
  pointwise [r_v15_0, r_v15_1, r_v14, r_v13, r_v12, r_v11, r_v10, r_v9, r_c0v2, r_c0v0, r_k_0]
  rw [mask_select, v8_at H, ofBits_bot]
  rfl

/-- The greatest score. -/
theorem v16_at : r_v16 A (ix2 h t) = (mx2 A h t : EReal) := by
  pointwise [r_v16, r_k_1]
  simp only [v15_at H, ofBits_bot]
  exact mxE_eq2 A h t
omit H in
theorem maximum_at {s : Shape} (a b : FVec Ideal s .f32) (i : s.Idx) : maximumf a b i = max (a i) (b i) := rfl
omit H in
theorem v22_at : r_v22 A (ix2 h t) = ⊥ := by
  pointwise [r_v22, r_k_3]
  exact ofBits_bot
theorem v23_at : r_v23 A (ix2 h t) = (mx2 A h t : EReal) := by
  unfold r_v23
  rw [maximum_at, v22_at, v16_at H]
  exact max_eq_right bot_le

/-- The weights. -/
theorem v36_at : r_v36 A (ix3 h t κ) = (w2 A h t κ : EReal) := by
  pointwise [r_v36, r_v35, r_v34, r_v33]
  rw [v15_at H, v23_at H]
  exact exp_msc2 A h t κ

/-- Their sum. -/
theorem v37_at : r_v37 A (ix2 h t) = (Z2 A h t : EReal) := by
  pointwise [r_v37, r_k_9]
  simp only [v36_at H, Z2, coe_sum]

end Cert.Proof.Reference2Ideal
-- ==== Proof.Ref2.Grads.lean ====
/-
  The second reference's three results over real arguments.
-/
module

public import proofs.«01_k».proof.Proof.Ref2.Scores

@[expose] public section

set_option maxRecDepth 16384

noncomputable section

namespace Cert.Proof.Reference2Ideal

open Cert.Proof Cert.Reference2Ideal Cert.Reference2Ideal.Gen Idealize.ShloMosaic

variable {A : Args2} (H : A.Finite) (h : Fin 8) (t κ : Fin 8192) (d : Fin 64) (e : Fin 96)
include H

/-- The softmax. -/
theorem v40_at : r_v40 A (ix3 h t κ) = (pr2 A h t κ : EReal) := by
  pointwise [r_v40, r_v39, r_v38]
  rw [v36_at H, v37_at H]
  exact div_real _ (Z_pos2 A h t).ne'

/-- The gradient with respect to a value. -/
theorem v50_at : r_v50 A (ix3 h κ d) = (dvR2 A h κ d : EReal) := by
  pointwise [r_v50, r_v49]
  simp only [v48_at H, v40_at H, dvR2, EReal.coe_mul, coe_sum]

/-- The gradient with respect to a probability. -/
theorem v51_at : r_v51 A (ix3 h t κ) = (dP2 A h t κ : EReal) := by
  pointwise [r_v51]
  simp only [v48_at H, v5_at H, dP2, EReal.coe_mul, coe_sum]

theorem v43_at : r_v43 A (ix3 h t 0) = ((1 / (Z2 A h t * Z2 A h t) : ℝ) : EReal) := by
  pointwise [r_v43, r_v42, r_v41, r_v38, r_k_10]
  rw [v37_at H, ← EReal.coe_mul, ← EReal.coe_one]
  exact div_real _ (mul_pos (Z_pos2 A h t) (Z_pos2 A h t)).ne'

theorem v55_at : r_v55 A (ix2 h t)
    = ((∑ κ, dP2 A h t κ * (1 / (Z2 A h t * Z2 A h t)) * w2 A h t κ : ℝ) : EReal) := by
  pointwise [r_v55, r_k_11, r_v54, r_v53, r_v52]
  simp only [v51_at H, v43_at H, v36_at H, EReal.coe_mul, coe_sum]

theorem v60_at : r_v60 A (ix2 h t)
    = ((-(∑ κ, dP2 A h t κ * (1 / (Z2 A h t * Z2 A h t)) * w2 A h t κ) : ℝ) : EReal) := by
  pointwise [r_v60, r_k_12, r_v57, r_v56]
  rw [Fin.sum_univ_one, v55_at H, EReal.coe_neg]

/-- The gradient with respect to a score. -/
theorem v64_at : r_v64 A (ix3 h t κ) = (ds2 A h t κ : EReal) := by
  pointwise [r_v64, r_v15_1, r_v14, r_v13, r_v12, r_v11, r_v10, r_v9, r_c1v0, r_c1k, r_v63, r_v62, r_v61, r_v59, r_v58, r_v38]
  rw [mask_select, v51_at H, v37_at H, v60_at H, v36_at H, div_real _ (Z_pos2 A h t).ne', ← EReal.coe_add, ← EReal.coe_mul,
    ← ds_quot2]
  split
  · rfl
  · exact EReal.coe_zero.symm

/-- The gradient with respect to a key. -/
theorem v67_at : r_v67 A (ix3 h κ e) = (dkR2 A h κ e : EReal) := by
  pointwise [r_v67, r_v66, r_v65, r_k_13]
  simp only [v64_at H, v1_at H, ofBits_scale, dkR2, EReal.coe_mul, coe_sum]

/-- The gradient with respect to a query. -/
theorem v68_at : r_v68 A (ix3 h t e) = (dqR2 A h t e : EReal) := by
  pointwise [r_v68, r_v66, r_v65, r_k_13]
  simp only [v64_at H, v3_at H, ofBits_scale, dqR2, EReal.coe_mul, coe_sum]

/-! ## The results -/

theorem v70_at (l : Fin 512) : r_v70 A (ix2 t l) = (dvR2 A ⟨l.val / 64, by omega⟩ t ⟨l.val % 64, by omega⟩ : EReal) := by
  pointwise [r_v70, r_v69]
  exact v50_at H _ _ _
theorem v72_at (l : Fin 768) : r_v72 A (ix2 t l) = (dkR2 A ⟨l.val / 96, by omega⟩ t ⟨l.val % 96, by omega⟩ : EReal) := by
  pointwise [r_v72, r_v71]
  exact v67_at H _ _ _
theorem v74_at (l : Fin 768) : r_v74 A (ix2 t l) = (dqR2 A ⟨l.val / 96, by omega⟩ t ⟨l.val % 96, by omega⟩ : EReal) := by
  pointwise [r_v74, r_v73]
  exact v68_at H _ _ _

end Cert.Proof.Reference2Ideal
-- ==== Proof.Ref2.Outs.lean ====
/-
  The second reference's three results are the arrays of Outs2.lean.
-/
module

public import proofs.«01_k».proof.Proof.Outs2
public import proofs.«01_k».proof.Proof.Ref2.Result
public import proofs.«01_k».proof.Proof.Ref2.Grads

@[expose] public section

noncomputable section

namespace Cert.Proof.Reference2Ideal

open Cert.Proof Cert.Reference2Ideal Cert.Reference2Ideal.Gen Idealize.ShloMosaic Idealize.ShloMosaic.TcCoe

variable (m : (ℓ : Loc nD τ sig) → Buf (Elt Ideal) ℓ) (c : Dev nD) (H : (argsOf m c).Finite)
include H

theorem res_q : Cert.Reference2Ideal.Value.res_main_v74 m c = outQ2 (argsOf m c) := by
  rw [res_v74]
  funext i
  idx_vars i
  exact v74_at H _ _
theorem res_k : Cert.Reference2Ideal.Value.res_main_v72 m c = outK2 (argsOf m c) := by
  rw [res_v72]
  funext i
  idx_vars i
  exact v72_at H _ _
theorem res_v : Cert.Reference2Ideal.Value.res_main_v70 m c = outV2 (argsOf m c) := by
  rw [res_v70]
  funext i
  idx_vars i
  exact v70_at H _ _

end Cert.Proof.Reference2Ideal
-- ==== Proof.Finite.lean ====
/-
  The precondition: every element of the arguments is a real number.
-/
module

public import proofs.«01_k».proof.Pre_finite
public import proofs.«01_k».proof.Proof.Model
public import Idealize.ShloMosaic.PureOps.Ideal
public import Idealize.ShloMosaic.Lib.Pointwise

@[expose] public section

noncomputable section

namespace Cert.Proof

open Idealize.ShloMosaic

/-- The shapes the precondition's operations take agree. -/
theorem preFacts : Cert.Pre_finite.Facts where
  bcast_S_S8192x512 := by decide
  bcast_S_S8192x8 := by decide

theorem ofBits_top : Ideal.ofBits .f32 2139095040#32 = ⊤ := by
  simp [Ideal.ofBits, Ideal.ieee]

/-- An element whose absolute value lies below infinity is a real number. -/
theorem finite_of_abs (x : EReal) (h : Ideal.cmp .olt (max x (-x)) ⊤ = 1#1) : x ≠ ⊤ ∧ x ≠ ⊥ := by
  have e : ∀ y : EReal, Ideal.cmp .olt y ⊤ = BitVec.ofBool (decide (y < ⊤)) := fun _ => rfl
  rw [e] at h
  have hlt : max x (-x) < ⊤ := by
    by_contra hn
    rw [decide_eq_false hn] at h
    exact absurd h (by decide)
  constructor
  · rintro rfl
    exact absurd hlt (by simp)
  · rintro rfl
    exact absurd hlt (by simp)

theorem finite_wide (x : FVec Ideal Cert.Pre_finite.S8192x512 .f32) (hb : Cert.Pre_finite.S_.BroadcastsInDim Cert.Pre_finite.S8192x512 ![])
    (h : cmpf .olt (Host.absf x) (broadcastInDim Cert.Pre_finite.S8192x512 ![] hb (constant Cert.Pre_finite.S_ .f32 0x7F800000#32))
      = fun _ => 1#1) (i : Cert.Pre_finite.S8192x512.Idx) : x i ≠ ⊤ ∧ x i ≠ ⊥ := by
  refine finite_of_abs _ ((congrArg _ ?_).trans (congrFun h i))
  exact ofBits_top.symm

theorem finite_narrow (x : FVec Ideal Cert.Pre_finite.S8192x8 .f32) (hb : Cert.Pre_finite.S_.BroadcastsInDim Cert.Pre_finite.S8192x8 ![])
    (h : cmpf .olt (Host.absf x) (broadcastInDim Cert.Pre_finite.S8192x8 ![] hb (constant Cert.Pre_finite.S_ .f32 0x7F800000#32))
      = fun _ => 1#1) (i : Cert.Pre_finite.S8192x8.Idx) : x i ≠ ⊤ ∧ x i ≠ ⊥ := by
  refine finite_of_abs _ ((congrArg _ ?_).trans (congrFun h i))
  exact ofBits_top.symm

/-- What the precondition says of the arguments. -/
theorem finite_of_pre [Cert.Pre_finite.Facts] (A : Args)
    (h0 : (Cert.Pre_finite.fn (F := Ideal) A.fq A.fk A.fv A.fcum A.ct).1 = fun _ => 1#1)
    (h1 : (Cert.Pre_finite.fn (F := Ideal) A.fq A.fk A.fv A.fcum A.ct).2.1 = fun _ => 1#1)
    (h2 : (Cert.Pre_finite.fn (F := Ideal) A.fq A.fk A.fv A.fcum A.ct).2.2.1 = fun _ => 1#1)
    (h3 : (Cert.Pre_finite.fn (F := Ideal) A.fq A.fk A.fv A.fcum A.ct).2.2.2.1 = fun _ => 1#1)
    (h4 : (Cert.Pre_finite.fn (F := Ideal) A.fq A.fk A.fv A.fcum A.ct).2.2.2.2 = fun _ => 1#1) : A.Finite where
  fq := finite_wide _ _ h0
  fk := finite_wide _ _ h1
  fv := finite_wide _ _ h2
  fcum := finite_narrow _ _ h3
  ct := finite_wide _ _ h4

end Cert.Proof
-- ==== Proof.Finite2.lean ====
/-
  The second precondition: every element of the latent attention's arguments is a real number.
-/
module

public import proofs.«01_k».proof.Pre_finite2
public import proofs.«01_k».proof.Proof.Model2
public import proofs.«01_k».proof.Proof.Finite

@[expose] public section

noncomputable section

namespace Cert.Proof

open Idealize.ShloMosaic

/-- The shapes the precondition's operations take agree. -/
theorem preFacts2 : Cert.Pre_finite2.Facts where
  bcast_S_S8192x768 := by decide
  bcast_S_S8192x512 := by decide

theorem finite2_wide (x : FVec Ideal Cert.Pre_finite2.S8192x768 .f32) (hb : Cert.Pre_finite2.S_.BroadcastsInDim Cert.Pre_finite2.S8192x768 ![])
    (h : cmpf .olt (Host.absf x) (broadcastInDim Cert.Pre_finite2.S8192x768 ![] hb (constant Cert.Pre_finite2.S_ .f32 0x7F800000#32))
      = fun _ => 1#1) (i : Cert.Pre_finite2.S8192x768.Idx) : x i ≠ ⊤ ∧ x i ≠ ⊥ := by
  refine finite_of_abs _ ((congrArg _ ?_).trans (congrFun h i))
  exact ofBits_top.symm

/-- What the precondition says of the arguments. -/
theorem finite_of_pre2 [Cert.Pre_finite2.Facts] (A : Args2)
    (h0 : (Cert.Pre_finite2.fn (F := Ideal) A.q A.k A.v A.ct).1 = fun _ => 1#1)
    (h1 : (Cert.Pre_finite2.fn (F := Ideal) A.q A.k A.v A.ct).2.1 = fun _ => 1#1)
    (h2 : (Cert.Pre_finite2.fn (F := Ideal) A.q A.k A.v A.ct).2.2.1 = fun _ => 1#1)
    (h3 : (Cert.Pre_finite2.fn (F := Ideal) A.q A.k A.v A.ct).2.2.2 = fun _ => 1#1) : A.Finite where
  q := finite2_wide _ _ h0
  k := finite2_wide _ _ h1
  v := finite_wide _ _ h2
  ct := finite_wide _ _ h3

end Cert.Proof
-- ==== Proof.Mlp.Mats.lean ====
/-
  Products of matrices over the reals extended by the two infinities, in the three orders the programs use.
-/
module

public import Idealize.ShloMosaic.PureOps
public import Idealize.ShloMosaic.Lib.Pointwise

@[expose] public section

noncomputable section

namespace Cert.Proof.Mlp

open Idealize.ShloMosaic

/-- A matrix of `m` rows and `n` columns. -/
abbrev Mat (m n : ℕ) : Type := (⟨2, ![m, n]⟩ : Shape).Idx → EReal

variable {m n k : ℕ}

/-- The product of two matrices. -/
def mul (A : Mat m k) (B : Mat k n) : Mat m n := fun i => ∑ x : Fin k, A (ix2 (i 0) x) * B (ix2 x (i 1))
/-- The product of a matrix and a transposed matrix. -/
def mulT (A : Mat m k) (B : Mat n k) : Mat m n := fun i => ∑ x : Fin k, A (ix2 (i 0) x) * B (ix2 (i 1) x)
/-- The product of a transposed matrix and a matrix. -/
def tMul (A : Mat k m) (B : Mat k n) : Mat m n := fun i => ∑ x : Fin k, A (ix2 x (i 0)) * B (ix2 x (i 1))
/-- The activation: the square of the positive part, element by element. -/
def act (A : Mat m n) : Mat m n := fun i => max (A i) 0 * max (A i) 0
/-- A gradient before the activation, from the gradient after it. -/
def actBack (G U : Mat m n) : Mat m n := fun i => G i * (2 * max (U i) 0)

theorem mul_at (A : Mat m k) (B : Mat k n) (i : (⟨2, ![m, n]⟩ : Shape).Idx) (f g : Fin k → EReal)
    (hf : ∀ x, f x = A (ix2 (i 0) x)) (hg : ∀ x, g x = B (ix2 x (i 1))) : ∑ x, f x * g x = mul A B i :=
  Finset.sum_congr rfl fun x _ => by rw [hf, hg]
theorem mulT_at (A : Mat m k) (B : Mat n k) (i : (⟨2, ![m, n]⟩ : Shape).Idx) (f g : Fin k → EReal)
    (hf : ∀ x, f x = A (ix2 (i 0) x)) (hg : ∀ x, g x = B (ix2 (i 1) x)) : ∑ x, f x * g x = mulT A B i :=
  Finset.sum_congr rfl fun x _ => by rw [hf, hg]
theorem act_at (A : Mat m n) (i : (⟨2, ![m, n]⟩ : Shape).Idx) (x : EReal) (h : x = A i) : max x 0 * max x 0 = act A i := by
  rw [h]
  rfl
theorem actBack_at (G U : Mat m n) (i : (⟨2, ![m, n]⟩ : Shape).Idx) (x u : EReal) (h : x = G i) (h' : u = U i) :
    x * (2 * max u 0) = actBack G U i := by
  rw [h, h']
  rfl

/-- A sum over 1024 more numbers. -/
theorem sum_more (f : ℕ → EReal) (j : ℕ) (g : Fin 1024 → EReal) (h : ∀ x : Fin 1024, g x = f (1024 * j + x.val)) :
    ∑ n ∈ Finset.range (1024 * j), f n + ∑ x, g x = ∑ n ∈ Finset.range (1024 * (j + 1)), f n := by
  rw [show 1024 * (j + 1) = 1024 * j + 1024 by ring, Finset.sum_range_add, Finset.sum_range (fun x => f (1024 * j + x))]
  exact congrArg _ (Finset.sum_congr rfl fun x _ => h x)

/-- The product of a transposed matrix and a matrix, summed over the numbers below 8192. -/
theorem tMul_at (A : Mat 8192 m) (B : Mat 8192 n) (i : (⟨2, ![m, n]⟩ : Shape).Idx) (r : Fin m) (l : Fin n) (hr : r = i 0)
    (hl : l = i 1) : ∑ x ∈ Finset.range (1024 * 8), A (ix2 (Fin.ofNat 8192 x) r) * B (ix2 (Fin.ofNat 8192 x) l) = tMul A B i := by
  rw [Finset.sum_range, hr, hl]
  unfold tMul
  exact Finset.sum_congr rfl fun x _ => by rw [show Fin.ofNat 8192 x.val = x from Fin.ext (Nat.mod_eq_of_lt x.isLt)]

end Cert.Proof.Mlp
-- ==== Proof.Mlp.FF2Back.lean ====
/-
  The first layer's result's gradient: the kernel's array is the product with the transposed weights, times the slope of the
  activation.
-/
module

public import proofs.«01_k».proof.Proof.Mlp.Mats
public import proofs.«01_k».proof.Proof.Gen.Kernel3Ideal.Value
public import Idealize.ShloMosaic.Lib.Pipeline.ValueKit
public import Idealize.ShloMosaic.Lib.StableHlo.Run

@[expose] public section

set_option maxRecDepth 16384

noncomputable section

namespace Cert.Proof.Kernel3Ideal

open Cert.Proof.Mlp Cert.Kernel3Ideal Cert.Kernel3Ideal.Gen Idealize.ShloMosaic Idealize.ShloMosaic.TcCoe
open Idealize.SL.Sem Idealize.ShloMosaic.StableHlo
open Idealize.ShloMosaic.Pipeline (Dat)

theorem two_bf16 : Ideal.ofBits .bf16 16384#16 = 2 := by
  simp [Ideal.ofBits, Ideal.ieee, -EReal.coe_mul]
  norm_num
  rfl

theorem pay1_at (a : FVec Ideal S2048x1024 .bf16) (b : FVec Ideal S512x1024 .bf16) (u : FVec Ideal S2048x512 .bf16)
    (r : Fin 2048) (l : Fin 512) : k0_pay1 (F := Ideal) a b u (ix2 r l)
      = (∑ x : Fin 1024, a (ix2 r x) * b (ix2 l x)) * (2 * max (u (ix2 r l)) 0) := by
  pointwise [k0_pay1]
  rw [two_bf16]

theorem out_at (a : FVec Ideal S2048x1024 .bf16) (b : FVec Ideal S512x1024 .bf16) (u : FVec Ideal S2048x512 .bf16)
    (r : Fin 2048) (l : Fin 512) : out0_3 (F := Ideal) a b u (ix2 r l)
      = (∑ x : Fin 1024, a (ix2 r x) * b (ix2 l x)) * (2 * max (u (ix2 r l)) 0) := by
  unfold out0_3
  rw [View.canon_cons_unit_lit, View.ld_unit_lit, View.ld_unit_lit, View.ld_unit_lit]
  · exact pay1_at a b u r l
  all_goals decide

variable (m : (ℓ : Loc nD τ sig) → Buf (Elt Ideal) ℓ) (c : Dev nD)

theorem entry_v0 : V m c main_v0 = m ((c.tc : Thread nD τ).loc main_arg0) := by
  show after hostOps0 (fun b => m (c, b)) _ = _
  after_results_simp
  rfl
theorem entry_v1 : V m c main_v1 = m ((c.tc : Thread nD τ).loc main_arg1) := by
  show after hostOps0 (fun b => m (c, b)) _ = _
  after_results_simp
  rfl
theorem entry_v2 : V m c main_v2 = m ((c.tc : Thread nD τ).loc main_arg2) := by
  show after hostOps0 (fun b => m (c, b)) _ = _
  after_results_simp
  rfl

theorem idx : ∀ t : Fin cfg0.N, win0_0.index t = ![t.val / 8, 0] ∧ win0_1.index t = ![t.val % 8, 0]
    ∧ win0_2.index t = ![t.val / 8, t.val % 8] ∧ win0_3.index t = ![t.val / 8, t.val % 8] ∧ t.val / 8 < 4 :=
  (by decide +kernel : ∀ t : Fin grid0.N, _)

theorem array : (dats m 0 c).arrAt 3 cfg0.N = actBack (mulT (V m c main_v0 : Mat 8192 1024) (V m c main_v1 : Mat 4096 1024))
    (V m c main_v2 : Mat 8192 4096) := by
  refine (dats m 0 c).arrAt_eq_of_covers 3 _ (by decide +kernel) fun t hf y => ?_
  blk_simp
  rw [after0_3]
  idx_vars y
  refine (out_at _ _ _ _ _).trans (actBack_at _ _ _ _ _ (mulT_at _ _ _ _ _ (fun x => ?_) (fun x => ?_)) ?_)
  · blk_ext [iblk, idx t]
  · blk_ext [iblk, idx t]
  · blk_ext [iblk, idx t]

/-- The program ends with that array, its arguments as launched. -/
theorem value (ρ : Dev nD → PrngReg) :
    θ_run defs (onTc (τ := τ) (main (F := Ideal))) ⟨m, fun _ => 0, ρ⟩ (fun r => ∀ c : Dev nD,
      r.2.mem ((c.tc : Thread nD τ).loc main_v3)
        = actBack (mulT (m ((c.tc : Thread nD τ).loc main_arg0) : Mat 8192 1024) (m ((c.tc : Thread nD τ).loc main_arg1) : Mat 4096 1024))
          (m ((c.tc : Thread nD τ).loc main_arg2) : Mat 8192 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans ((array m c).trans (by rw [entry_v0, entry_v1, entry_v2])), (h c).2⟩)
    (Cert.Kernel3Ideal.Value.run_blocks (F := Ideal) m ρ)

end Cert.Proof.Kernel3Ideal
-- ==== Proof.Mlp.FF2BackRef.lean ====
/-
  The first layer's result's gradient: the reference's array is the same.
-/
module

public import proofs.«01_k».proof.Proof.Mlp.Mats
public import proofs.«01_k».proof.Proof.Gen.Reference3Ideal.Run
public import Idealize.ShloMosaic.Lib.IdealHost
public import Idealize.ShloMosaic.Lib.WordCmp

@[expose] public section

set_option maxRecDepth 16384

noncomputable section

namespace Cert.Proof.Reference3Ideal

open Cert.Proof.Mlp Cert.Reference3Ideal Cert.Reference3Ideal.Gen Idealize.ShloMosaic Idealize.ShloMosaic.TcCoe

theorem two_f32 : Ideal.ofBits .f32 1073741824#32 = 2 := by
  simp [Ideal.ofBits, Ideal.ieee, -EReal.coe_mul]
  norm_num
  rfl

theorem result (a : FVec Ideal S8192x1024 .f32) (b : FVec Ideal S4096x1024 .f32) (u : FVec Ideal S8192x4096 .f32) :
    truncf .bf16 (select (cmpf .ogt u (broadcastInDim S8192x4096 ![] bcast_S_S8192x4096 (constant S_ .f32 0x00000000#32)))
      (mulf (Host.dotGeneral dot_S8192x1024_S4096x1024_S8192x4096_1_1_0_0_n_n none a b)
        (mulf (broadcastInDim S8192x4096 ![] bcast_S_S8192x4096 (constant S_ .f32 0x40000000#32))
          (maximumf u (broadcastInDim S8192x4096 ![] bcast_S_S8192x4096 (constant S_ .f32 0x00000000#32)))))
      (broadcastInDim S8192x4096 ![] bcast_S_S8192x4096 (constant S_ .f32 0x00000000#32))) bitsLt_bf16_f32
      = actBack (mulT (a : Mat 8192 1024) (b : Mat 4096 1024)) (u : Mat 8192 4096) := by
  funext i
  idx_vars i
  unfold actBack mulT
  pointwise
  rw [two_f32]
  split
  · rfl
  · next h => rw [max_eq_right (not_lt.mp h), mul_zero, mul_zero]

end Cert.Proof.Reference3Ideal
-- ==== Proof.Mlp.GradFF2.lean ====
/-
  The second layer's weights' gradient: the kernel adds the products of blocks of 1024 rows, so that its array is the product of
  the transposed activations and the gradient.
-/
module

public import proofs.«01_k».proof.Proof.Mlp.Mats
public import proofs.«01_k».proof.Proof.Gen.Kernel4Ideal.Value
public import Idealize.ShloMosaic.Lib.Pipeline.ValueKit
public import Idealize.ShloMosaic.Lib.StableHlo.Run
public import Idealize.ShloMosaic.Lib.WholeRead

@[expose] public section

set_option maxRecDepth 16384

noncomputable section

namespace Cert.Proof.Kernel4Ideal

open Cert.Proof.Mlp Cert.Kernel4Ideal Cert.Kernel4Ideal.Gen Idealize.ShloMosaic Idealize.ShloMosaic.TcCoe
open Idealize.SL.Sem Idealize.ShloMosaic.StableHlo
open Idealize.ShloMosaic.Pipeline (Dat)

section Pieces

variable (c : Dev nD) (i : grid0.Coords) (a3 : Memref sig .tc .vmem S1024x1024 .bf16) (h3 : a3.IsWhole) (a4 : Memref sig .tc .vmem S1024x1024 .bf16)
  (h4 : a4.IsWhole) (a5 : Memref sig .tc .vmem S1024x1024 .bf16) (h5 : a5.IsWhole) (a6 : Memref sig .tc .vmem S1024x1024 .f32) (h6 : a6.IsWhole)
  (x0 x1 : Vec Ideal S1024x1024 .bf16) (xs : Vec Ideal S1024x1024 .f32)

theorem read_whole {M N : ℕ} {e : EltTy} (a : Memref sig .tc .vmem ⟨2, ![M, N]⟩ e) (h : a.IsWhole)
    (inb : ∀ k, (![0, 0] : Fin 2 → ℕ) k + (![M, N] : Fin 2 → ℕ) k ≤ (![M, N] : Fin 2 → ℕ) k) (X : Vec Ideal ⟨2, ![M, N]⟩ e) :
    View.readAt (Elt Ideal) a.view (Rect.unit (s := ⟨2, ![M, N]⟩) ![0, 0] ![M, N] inb).toLoadRect (h.unread X) = X := by
  funext x
  rw [h.readAt_unread]
  exact congrFun (View.ld_unit_lit (S := ⟨2, ![M, N]⟩) inb X fun a => by fin_cases a <;> rfl) x

theorem sout_A (hc0 : cond0_0 i) (hc1 : ¬cond0_1 i) :
    sout0_A_0 (F := Ideal) c i a3 h3 a4 h4 a5 h5 a6 h6 hc0 hc1 x0 x1 = k0_pay2 (F := Ideal) (k0_pay1 (F := Ideal)) x0 x1 := by
  unfold sout0_A_0
  rw [View.read_writes_eq_canon]
  · unfold kernelRun0_A
    dsimp only
    rw [View.canon_cons_unit_lit]
    · sl_unfold_run_names
      rw [View.readCov_unit_lit, read_whole, read_whole]
      decide
    · decide
  · exact scover0_A_0 c i a3 h3 a4 h4 a5 h5 a6 h6 hc0 hc1 x0 x1

theorem sout_B (hc0 : ¬cond0_0 i) (hc1 : ¬cond0_1 i) :
    sout0_B_0 (F := Ideal) c i a3 h3 a4 h4 a5 h5 a6 h6 hc0 hc1 x0 x1 xs = k0_pay2 (F := Ideal) xs x0 x1 := by
  unfold sout0_B_0
  rw [View.read_writes_eq_canon]
  · unfold kernelRun0_B
    dsimp only
    rw [View.canon_cons_unit_lit]
    · sl_unfold_run_names
      rw [read_whole, read_whole, read_whole]
    · decide
  · exact scover0_B_0 c i a3 h3 a4 h4 a5 h5 a6 h6 hc0 hc1 x0 x1 xs

theorem out_C (hc0 : ¬cond0_0 i) (hc1 : cond0_1 i) :
    out0_C_2 (F := Ideal) c i a3 h3 a4 h4 a5 h5 a6 h6 hc0 hc1 x0 x1 xs = truncf .bf16 (k0_pay2 (F := Ideal) xs x0 x1) bitsLt_bf16_f32 := by
  unfold out0_C_2
  rw [View.read_writes_eq_canon]
  · unfold kernelRun0_C
    dsimp only
    rw [View.canon_cons_unit_lit]
    · sl_unfold_run_names
      rw [View.readCov_unit_lit, read_whole, read_whole, read_whole]
      · rfl
      · decide
    · decide
  · exact cover0_C_2 c i a3 h3 a4 h4 a5 h5 a6 h6 hc0 hc1 x0 x1 xs

end Pieces

theorem pay2_at (v : FVec Ideal S1024x1024 .f32) (a b : FVec Ideal S1024x1024 .bf16) (r l : Fin 1024) :
    k0_pay2 (F := Ideal) v a b (ix2 r l) = v (ix2 r l) + ∑ x : Fin 1024, a (ix2 x r) * b (ix2 x l) := by
  pointwise [k0_pay2]
theorem pay1_at (r l : Fin 1024) : k0_pay1 (F := Ideal) (ix2 r l) = 0 := by
  pointwise [k0_pay1]

variable (m : (ℓ : Loc nD τ sig) → Buf (Elt Ideal) ℓ) (c : Dev nD)

theorem entry_v2 : V m c main_v2 = act (m ((c.tc : Thread nD τ).loc main_arg0) : Mat 8192 4096) := by
  show after (hostOps0 ++ hostOps0_1) (fun b => m (c, b)) _ = _
  simp only [hostOps0, hostOps0_1, List.cons_append, List.nil_append, TRef.nullary, TRef.unary, TRef.binary, TRef.toBuf,
    TRef.ofBuf, cast_eq]
  after_results_simp
  funext i
  pointwise [act]
theorem entry_v3 : V m c main_v3 = m ((c.tc : Thread nD τ).loc main_arg1) := by
  show after (hostOps0 ++ hostOps0_1) (fun b => m (c, b)) _ = _
  simp only [hostOps0, hostOps0_1, List.cons_append, List.nil_append, TRef.nullary, TRef.unary, TRef.binary, TRef.toBuf,
    TRef.ofBuf, cast_eq]
  after_results_simp
  rfl

theorem idx : ∀ t : Fin cfg0.N, win0_0.index t = ![t.val % 8, t.val / 8] ∧ win0_1.index t = ![t.val % 8, 0]
    ∧ win0_2.index t = ![t.val / 8, 0] ∧ t.val / 8 < 4 ∧ 8 * (t.val / 8) + 7 < cfg0.N :=
  (by decide +kernel : ∀ t : Fin grid0.N, _)

/-- The two staged arrays. -/
abbrev aArr : Mat 8192 4096 := V m c main_v2
abbrev bArr : Mat 8192 1024 := V m c main_v3

/-- The number's term of an element of the block of rows `q`. -/
def term (q : ℕ) (r l : Fin 1024) (n : ℕ) : EReal :=
  aArr m c (ix2 (Fin.ofNat 8192 n) (Fin.ofNat 4096 (1024 * q + r.val))) * bArr m c (ix2 (Fin.ofNat 8192 n) l)

/-- The blocks of a point. -/
abbrev aAt (t : Fin cfg0.N) : FVec Ideal S1024x1024 .bf16 := iblk m c 0 t
abbrev bAt (t : Fin cfg0.N) : FVec Ideal S1024x1024 .bf16 := iblk m c 1 t

theorem term_at (q j : ℕ) (hj : j < 8) (h : 8 * q + j < cfg0.N) (r l x : Fin 1024) :
    aAt m c ⟨8 * q + j, h⟩ (ix2 x r) * bAt m c ⟨8 * q + j, h⟩ (ix2 x l) = term m c q r l (1024 * j + x.val) := by
  have i := idx ⟨8 * q + j, h⟩
  dsimp only at i
  rw [show (8 * q + j) / 8 = q by omega, show (8 * q + j) % 8 = j by omega] at i
  have hq := i.2.2.2.1
  have e0 : (Fin.ofNat 8192 (1024 * j + x.val)).val = 1024 * j + x.val := Nat.mod_eq_of_lt (by omega)
  have e1 : (Fin.ofNat 4096 (1024 * q + r.val)).val = 1024 * q + r.val := Nat.mod_eq_of_lt (by omega)
  unfold term
  congr 1
  · blk_ext [iblk, i]
  · blk_ext [iblk, i]

/-- The scratch after a point but the last of its block of the result. -/
theorem scratch (q : ℕ) (r l : Fin 1024) (j : ℕ) (hj : j < 7) (h : 8 * q + j < cfg0.N) :
    (outsAt0 m c (8 * q + j) h).2 (ix2 r l) = ∑ n ∈ Finset.range (1024 * (j + 1)), term m c q r l n := by
  induction j with
  | zero =>
    rw [outsAt0_A m c ⟨8 * q + 0, h⟩ (by dsimp only; omega) (by dsimp only; omega)]
    dsimp only
    rw [sout_A, pay2_at, pay1_at]
    exact sum_more _ 0 _ fun x => term_at m c q 0 (by omega) h r l x
  | succ j ih =>
    rw [outsAt0_B m c ⟨8 * q + (j + 1), h⟩ (by dsimp only; omega) (by dsimp only; omega)]
    dsimp only
    rw [sout_B, pay2_at]
    refine Eq.trans (congrArg (· + _) ?_) (sum_more _ (j + 1) _ fun x => term_at m c q (j + 1) (by omega) h r l x)
    exact ih (by omega) (by omega)

/-- The last point of a block of the result. -/
theorem last (q : ℕ) (r l : Fin 1024) (h : 8 * q + 7 < cfg0.N) :
    (outsAt0 m c (8 * q + 7) h).1 (ix2 r l) = ∑ n ∈ Finset.range (1024 * 8), term m c q r l n := by
  rw [outsAt0_C m c ⟨8 * q + 7, h⟩ (by dsimp only; omega) (by dsimp only; omega)]
  dsimp only
  rw [out_C]
  refine (pay2_at _ _ _ r l).trans ?_
  refine Eq.trans (congrArg (· + _) ?_) (sum_more _ 7 _ fun x => term_at m c q 7 (by omega) h r l x)
  exact scratch m c q r l 6 (by omega) (by omega)

theorem outs_congr {a b : ℕ} (e : a = b) (ha : a < cfg0.N) (hb : b < cfg0.N) : outsAt0 m c a ha = outsAt0 m c b hb := by
  subst e
  rfl

theorem array : (dats m 0 c).arrAt 2 cfg0.N = tMul (aArr m c) (bArr m c) := by
  refine (dats m 0 c).arrAt_eq_of_covers 2 _ (by decide +kernel) fun t hf y => ?_
  blk_simp
  have i := idx t
  have h7 := (flush0_2 t).mp hf
  rw [after0_2]
  idx_vars y
  have e1 : (Fin.ofNat 4096 (1024 * (t.val / 8) + y0.val)).val = 1024 * (t.val / 8) + y0.val := Nat.mod_eq_of_lt (by omega)
  refine Eq.trans ?_ (tMul_at _ _ _ (Fin.ofNat 4096 (1024 * (t.val / 8) + y0.val)) y1 ?_ ?_)
  · refine Eq.trans ?_ (last m c (t.val / 8) y0 y1 i.2.2.2.2)
    exact congrFun (congrArg Prod.fst (outs_congr m c (by omega) t.isLt i.2.2.2.2)) _
  · refine Fin.ext (e1.trans ?_)
    blk_simp [i]
    omega
  · refine Fin.ext ?_
    blk_simp [i]

/-- The program ends with that product, its arguments as launched. -/
theorem value (ρ : Dev nD → PrngReg) :
    θ_run defs (onTc (τ := τ) (main (F := Ideal))) ⟨m, fun _ => 0, ρ⟩ (fun r => ∀ c : Dev nD,
      r.2.mem ((c.tc : Thread nD τ).loc main_v4)
        = tMul (act (m ((c.tc : Thread nD τ).loc main_arg0) : Mat 8192 4096)) (m ((c.tc : Thread nD τ).loc main_arg1) : Mat 8192 1024)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans ((array m c).trans (by rw [aArr, bArr, entry_v2, entry_v3])), (h c).2⟩)
    (Cert.Kernel4Ideal.Value.run_blocks (F := Ideal) m ρ)

end Cert.Proof.Kernel4Ideal
-- ==== Proof.Mlp.GradFF2Ref.lean ====
/-
  The second layer's weights' gradient: the reference's array is the same product.
-/
module

public import proofs.«01_k».proof.Proof.Mlp.Mats
public import proofs.«01_k».proof.Proof.Gen.Reference4Ideal.Run
public import Idealize.ShloMosaic.Lib.IdealHost
public import Idealize.ShloMosaic.Lib.WordCmp

@[expose] public section

set_option maxRecDepth 16384

noncomputable section

namespace Cert.Proof.Reference4Ideal

open Cert.Proof.Mlp Cert.Reference4Ideal Cert.Reference4Ideal.Gen Idealize.ShloMosaic Idealize.ShloMosaic.TcCoe

theorem result (a : FVec Ideal S8192x4096 .f32) (b : FVec Ideal S8192x1024 .f32) :
    truncf .bf16 (transpose S4096x1024 [1, 0] (Host.dotGeneral dot_S8192x1024_S8192x4096_S1024x4096_0_0_1_1_n_n none b
      (mulf (maximumf a (broadcastInDim S8192x4096 ![] bcast_S_S8192x4096 (constant S_ .f32 0x00000000#32)))
        (maximumf a (broadcastInDim S8192x4096 ![] bcast_S_S8192x4096 (constant S_ .f32 0x00000000#32)))))
      transposes_S1024x4096_S4096x1024_1_0) bitsLt_bf16_f32 = tMul (act (a : Mat 8192 4096)) (b : Mat 8192 1024) := by
  funext i
  idx_vars i
  unfold tMul act
  pointwise
  exact Finset.sum_congr rfl fun x _ => mul_comm _ _

end Cert.Proof.Reference4Ideal
-- ==== Proof.Mlp.GradFF1.lean ====
/-
  The first layer's weights' gradient: the kernel adds the products of blocks of 1024 rows, so that its array is the product of
  the transposed input and the gradient.
-/
module

public import proofs.«01_k».proof.Proof.Mlp.Mats
public import proofs.«01_k».proof.Proof.Gen.Kernel5Ideal.Value
public import Idealize.ShloMosaic.Lib.Pipeline.ValueKit
public import Idealize.ShloMosaic.Lib.StableHlo.Run
public import Idealize.ShloMosaic.Lib.WholeRead

@[expose] public section

set_option maxRecDepth 16384

noncomputable section

namespace Cert.Proof.Kernel5Ideal

open Cert.Proof.Mlp Cert.Kernel5Ideal Cert.Kernel5Ideal.Gen Idealize.ShloMosaic Idealize.ShloMosaic.TcCoe
open Idealize.SL.Sem Idealize.ShloMosaic.StableHlo
open Idealize.ShloMosaic.Pipeline (Dat)

section Pieces

variable (c : Dev nD) (i : grid0.Coords) (a3 : Memref sig .tc .vmem S1024x1024 .bf16) (h3 : a3.IsWhole) (a4 : Memref sig .tc .vmem S1024x2048 .bf16)
  (h4 : a4.IsWhole) (a5 : Memref sig .tc .vmem S1024x2048 .bf16) (h5 : a5.IsWhole) (a6 : Memref sig .tc .vmem S1024x2048 .f32) (h6 : a6.IsWhole)
  (x0 : Vec Ideal S1024x1024 .bf16) (x1 : Vec Ideal S1024x2048 .bf16) (xs : Vec Ideal S1024x2048 .f32)

theorem read_whole {M N : ℕ} {e : EltTy} (a : Memref sig .tc .vmem ⟨2, ![M, N]⟩ e) (h : a.IsWhole)
    (inb : ∀ k, (![0, 0] : Fin 2 → ℕ) k + (![M, N] : Fin 2 → ℕ) k ≤ (![M, N] : Fin 2 → ℕ) k) (X : Vec Ideal ⟨2, ![M, N]⟩ e) :
    View.readAt (Elt Ideal) a.view (Rect.unit (s := ⟨2, ![M, N]⟩) ![0, 0] ![M, N] inb).toLoadRect (h.unread X) = X := by
  funext x
  rw [h.readAt_unread]
  exact congrFun (View.ld_unit_lit (S := ⟨2, ![M, N]⟩) inb X fun a => by fin_cases a <;> rfl) x

theorem sout_A (hc0 : cond0_0 i) (hc1 : ¬cond0_1 i) :
    sout0_A_0 (F := Ideal) c i a3 h3 a4 h4 a5 h5 a6 h6 hc0 hc1 x0 x1 = k0_pay2 (F := Ideal) (k0_pay1 (F := Ideal)) x0 x1 := by
  unfold sout0_A_0
  rw [View.read_writes_eq_canon]
  · unfold kernelRun0_A
    dsimp only
    rw [View.canon_cons_unit_lit]
    · sl_unfold_run_names
      rw [View.readCov_unit_lit, read_whole, read_whole]
      decide
    · decide
  · exact scover0_A_0 c i a3 h3 a4 h4 a5 h5 a6 h6 hc0 hc1 x0 x1

theorem sout_B (hc0 : ¬cond0_0 i) (hc1 : ¬cond0_1 i) :
    sout0_B_0 (F := Ideal) c i a3 h3 a4 h4 a5 h5 a6 h6 hc0 hc1 x0 x1 xs = k0_pay2 (F := Ideal) xs x0 x1 := by
  unfold sout0_B_0
  rw [View.read_writes_eq_canon]
  · unfold kernelRun0_B
    dsimp only
    rw [View.canon_cons_unit_lit]
    · sl_unfold_run_names
      rw [read_whole, read_whole, read_whole]
    · decide
  · exact scover0_B_0 c i a3 h3 a4 h4 a5 h5 a6 h6 hc0 hc1 x0 x1 xs

theorem out_C (hc0 : ¬cond0_0 i) (hc1 : cond0_1 i) :
    out0_C_2 (F := Ideal) c i a3 h3 a4 h4 a5 h5 a6 h6 hc0 hc1 x0 x1 xs = truncf .bf16 (k0_pay2 (F := Ideal) xs x0 x1) bitsLt_bf16_f32 := by
  unfold out0_C_2
  rw [View.read_writes_eq_canon]
  · unfold kernelRun0_C
    dsimp only
    rw [View.canon_cons_unit_lit]
    · sl_unfold_run_names
      rw [View.readCov_unit_lit, read_whole, read_whole, read_whole]
      · rfl
      · decide
    · decide
  · exact cover0_C_2 c i a3 h3 a4 h4 a5 h5 a6 h6 hc0 hc1 x0 x1 xs

end Pieces

theorem pay2_at (v : FVec Ideal S1024x2048 .f32) (a : FVec Ideal S1024x1024 .bf16) (b : FVec Ideal S1024x2048 .bf16) (r : Fin 1024)
    (l : Fin 2048) :
    k0_pay2 (F := Ideal) v a b (ix2 r l) = v (ix2 r l) + ∑ x : Fin 1024, a (ix2 x r) * b (ix2 x l) := by
  pointwise [k0_pay2]
theorem pay1_at (r : Fin 1024) (l : Fin 2048) : k0_pay1 (F := Ideal) (ix2 r l) = 0 := by
  pointwise [k0_pay1]

variable (m : (ℓ : Loc nD τ sig) → Buf (Elt Ideal) ℓ) (c : Dev nD)

theorem entry_v0 : V m c main_v0 = m ((c.tc : Thread nD τ).loc main_arg0) := by
  show after hostOps0 (fun b => m (c, b)) _ = _
  after_results_simp
  rfl
theorem entry_v1 : V m c main_v1 = m ((c.tc : Thread nD τ).loc main_arg1) := by
  show after hostOps0 (fun b => m (c, b)) _ = _
  after_results_simp
  rfl

theorem idx : ∀ t : Fin cfg0.N, win0_0.index t = ![t.val % 8, 0] ∧ win0_1.index t = ![t.val % 8, t.val / 8]
    ∧ win0_2.index t = ![0, t.val / 8] ∧ t.val / 8 < 2 ∧ 8 * (t.val / 8) + 7 < cfg0.N :=
  (by decide +kernel : ∀ t : Fin grid0.N, _)

/-- The two staged arrays. -/
abbrev aArr : Mat 8192 1024 := V m c main_v0
abbrev bArr : Mat 8192 4096 := V m c main_v1

/-- The number's term of an element of the block of columns `q`. -/
def term (q : ℕ) (r : Fin 1024) (l : Fin 2048) (n : ℕ) : EReal :=
  aArr m c (ix2 (Fin.ofNat 8192 n) r) * bArr m c (ix2 (Fin.ofNat 8192 n) (Fin.ofNat 4096 (2048 * q + l.val)))

/-- The blocks of a point. -/
abbrev aAt (t : Fin cfg0.N) : FVec Ideal S1024x1024 .bf16 := iblk m c 0 t
abbrev bAt (t : Fin cfg0.N) : FVec Ideal S1024x2048 .bf16 := iblk m c 1 t

theorem term_at (q j : ℕ) (hj : j < 8) (h : 8 * q + j < cfg0.N) (r x : Fin 1024) (l : Fin 2048) :
    aAt m c ⟨8 * q + j, h⟩ (ix2 x r) * bAt m c ⟨8 * q + j, h⟩ (ix2 x l) = term m c q r l (1024 * j + x.val) := by
  have i := idx ⟨8 * q + j, h⟩
  dsimp only at i
  rw [show (8 * q + j) / 8 = q by omega, show (8 * q + j) % 8 = j by omega] at i
  have hq := i.2.2.2.1
  have e0 : (Fin.ofNat 8192 (1024 * j + x.val)).val = 1024 * j + x.val := Nat.mod_eq_of_lt (by omega)
  have e1 : (Fin.ofNat 4096 (2048 * q + l.val)).val = 2048 * q + l.val := Nat.mod_eq_of_lt (by omega)
  unfold term
  congr 1
  · blk_ext [iblk, i]
  · blk_ext [iblk, i]

/-- The scratch after a point but the last of its block of the result. -/
theorem scratch (q : ℕ) (r : Fin 1024) (l : Fin 2048) (j : ℕ) (hj : j < 7) (h : 8 * q + j < cfg0.N) :
    (outsAt0 m c (8 * q + j) h).2 (ix2 r l) = ∑ n ∈ Finset.range (1024 * (j + 1)), term m c q r l n := by
  induction j with
  | zero =>
    rw [outsAt0_A m c ⟨8 * q + 0, h⟩ (by dsimp only; omega) (by dsimp only; omega)]
    dsimp only
    rw [sout_A, pay2_at, pay1_at]
    exact sum_more _ 0 _ fun x => term_at m c q 0 (by omega) h r x l
  | succ j ih =>
    rw [outsAt0_B m c ⟨8 * q + (j + 1), h⟩ (by dsimp only; omega) (by dsimp only; omega)]
    dsimp only
    rw [sout_B, pay2_at]
    refine Eq.trans (congrArg (· + _) ?_) (sum_more _ (j + 1) _ fun x => term_at m c q (j + 1) (by omega) h r x l)
    exact ih (by omega) (by omega)

/-- The last point of a block of the result. -/
theorem last (q : ℕ) (r : Fin 1024) (l : Fin 2048) (h : 8 * q + 7 < cfg0.N) :
    (outsAt0 m c (8 * q + 7) h).1 (ix2 r l) = ∑ n ∈ Finset.range (1024 * 8), term m c q r l n := by
  rw [outsAt0_C m c ⟨8 * q + 7, h⟩ (by dsimp only; omega) (by dsimp only; omega)]
  dsimp only
  rw [out_C]
  refine (pay2_at _ _ _ r l).trans ?_
  refine Eq.trans (congrArg (· + _) ?_) (sum_more _ 7 _ fun x => term_at m c q 7 (by omega) h r x l)
  exact scratch m c q r l 6 (by omega) (by omega)

theorem outs_congr {a b : ℕ} (e : a = b) (ha : a < cfg0.N) (hb : b < cfg0.N) : outsAt0 m c a ha = outsAt0 m c b hb := by
  subst e
  rfl

theorem array : (dats m 0 c).arrAt 2 cfg0.N = tMul (aArr m c) (bArr m c) := by
  refine (dats m 0 c).arrAt_eq_of_covers 2 _ (by decide +kernel) fun t hf y => ?_
  blk_simp
  have i := idx t
  have h7 := (flush0_2 t).mp hf
  rw [after0_2]
  idx_vars y
  have e1 : (Fin.ofNat 4096 (2048 * (t.val / 8) + y1.val)).val = 2048 * (t.val / 8) + y1.val := Nat.mod_eq_of_lt (by omega)
  refine Eq.trans ?_ (tMul_at _ _ _ y0 (Fin.ofNat 4096 (2048 * (t.val / 8) + y1.val)) ?_ ?_)
  · refine Eq.trans ?_ (last m c (t.val / 8) y0 y1 i.2.2.2.2)
    exact congrFun (congrArg Prod.fst (outs_congr m c (by omega) t.isLt i.2.2.2.2)) _
  · refine Fin.ext ?_
    blk_simp [i]
  · refine Fin.ext (e1.trans ?_)
    blk_simp [i]
    omega

/-- The program ends with that product, its arguments as launched. -/
theorem value (ρ : Dev nD → PrngReg) :
    θ_run defs (onTc (τ := τ) (main (F := Ideal))) ⟨m, fun _ => 0, ρ⟩ (fun r => ∀ c : Dev nD,
      r.2.mem ((c.tc : Thread nD τ).loc main_v2)
        = tMul (m ((c.tc : Thread nD τ).loc main_arg0) : Mat 8192 1024) (m ((c.tc : Thread nD τ).loc main_arg1) : Mat 8192 4096)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans ((array m c).trans (by rw [aArr, bArr, entry_v0, entry_v1])), (h c).2⟩)
    (Cert.Kernel5Ideal.Value.run_blocks (F := Ideal) m ρ)

end Cert.Proof.Kernel5Ideal
-- ==== Proof.Mlp.GradFF1Ref.lean ====
/-
  The first layer's weights' gradient: the reference's array is the same product.
-/
module

public import proofs.«01_k».proof.Proof.Mlp.Mats
public import proofs.«01_k».proof.Proof.Gen.Reference5Ideal.Run
public import Idealize.ShloMosaic.Lib.IdealHost
public import Idealize.ShloMosaic.Lib.WordCmp

@[expose] public section

set_option maxRecDepth 16384

noncomputable section

namespace Cert.Proof.Reference5Ideal

open Cert.Proof.Mlp Cert.Reference5Ideal Cert.Reference5Ideal.Gen Idealize.ShloMosaic Idealize.ShloMosaic.TcCoe

theorem result (a : FVec Ideal S8192x1024 .f32) (b : FVec Ideal S8192x4096 .f32) :
    truncf .bf16 (transpose S1024x4096 [1, 0] (Host.dotGeneral dot_S8192x4096_S8192x1024_S4096x1024_0_0_1_1_n_n none b a)
      transposes_S4096x1024_S1024x4096_1_0) bitsLt_bf16_f32 = tMul (a : Mat 8192 1024) (b : Mat 8192 4096) := by
  funext i
  idx_vars i
  unfold tMul
  pointwise
  exact Finset.sum_congr rfl fun x _ => mul_comm _ _

end Cert.Proof.Reference5Ideal
-- ==== Proof.Mlp.FF1Back.lean ====
/-
  The input's gradient of the first layer: the kernel's array is the product with the transposed weights.
-/
module

public import proofs.«01_k».proof.Proof.Mlp.Mats
public import proofs.«01_k».proof.Proof.Gen.Kernel6Ideal.Value
public import Idealize.ShloMosaic.Lib.Pipeline.ValueKit
public import Idealize.ShloMosaic.Lib.StableHlo.Run

@[expose] public section

set_option maxRecDepth 16384

noncomputable section

namespace Cert.Proof.Kernel6Ideal

open Cert.Proof.Mlp Cert.Kernel6Ideal Cert.Kernel6Ideal.Gen Idealize.ShloMosaic Idealize.ShloMosaic.TcCoe
open Idealize.SL.Sem Idealize.ShloMosaic.StableHlo
open Idealize.ShloMosaic.Pipeline (Dat)

theorem pay1_at (a : FVec Ideal S1024x4096 .bf16) (b : FVec Ideal S512x4096 .bf16) (r : Fin 1024) (l : Fin 512) :
    k0_pay1 (F := Ideal) a b (ix2 r l) = ∑ x : Fin 4096, a (ix2 r x) * b (ix2 l x) := by
  pointwise [k0_pay1]

theorem out_at (a : FVec Ideal S1024x4096 .bf16) (b : FVec Ideal S512x4096 .bf16) (r : Fin 1024) (l : Fin 512) :
    out0_2 (F := Ideal) a b (ix2 r l) = ∑ x : Fin 4096, a (ix2 r x) * b (ix2 l x) := by
  unfold out0_2
  rw [View.canon_cons_unit_lit, View.ld_unit_lit, View.ld_unit_lit]
  · exact pay1_at a b r l
  all_goals decide

variable (m : (ℓ : Loc nD τ sig) → Buf (Elt Ideal) ℓ) (c : Dev nD)

theorem entry_v0 : V m c main_v0 = m ((c.tc : Thread nD τ).loc main_arg0) := by
  show after hostOps0 (fun b => m (c, b)) _ = _
  after_results_simp
  rfl
theorem entry_v1 : V m c main_v1 = m ((c.tc : Thread nD τ).loc main_arg1) := by
  show after hostOps0 (fun b => m (c, b)) _ = _
  after_results_simp
  rfl

theorem idx : ∀ t : Fin cfg0.N, win0_0.index t = ![t.val / 2, 0] ∧ win0_1.index t = ![t.val % 2, 0]
    ∧ win0_2.index t = ![t.val / 2, t.val % 2] ∧ t.val / 2 < 8 :=
  (by decide +kernel : ∀ t : Fin grid0.N, _)

theorem array : (dats m 0 c).arrAt 2 cfg0.N = mulT (V m c main_v0 : Mat 8192 4096) (V m c main_v1 : Mat 1024 4096) := by
  refine (dats m 0 c).arrAt_eq_of_covers 2 _ (by decide +kernel) fun t hf y => ?_
  blk_simp
  rw [after0_2]
  idx_vars y
  refine (out_at _ _ _ _).trans (mulT_at _ _ _ _ _ (fun x => ?_) (fun x => ?_))
  · blk_ext [iblk, idx t]
  · blk_ext [iblk, idx t]

/-- The program ends with that product, its arguments as launched. -/
theorem value (ρ : Dev nD → PrngReg) :
    θ_run defs (onTc (τ := τ) (main (F := Ideal))) ⟨m, fun _ => 0, ρ⟩ (fun r => ∀ c : Dev nD,
      r.2.mem ((c.tc : Thread nD τ).loc main_v2)
        = mulT (m ((c.tc : Thread nD τ).loc main_arg0) : Mat 8192 4096) (m ((c.tc : Thread nD τ).loc main_arg1) : Mat 1024 4096)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans ((array m c).trans (by rw [entry_v0, entry_v1])), (h c).2⟩)
    (Cert.Kernel6Ideal.Value.run_blocks (F := Ideal) m ρ)

end Cert.Proof.Kernel6Ideal
-- ==== Proof.Mlp.FF1BackRef.lean ====
/-
  The input's gradient of the first layer: the reference's array is the same product.
-/
module

public import proofs.«01_k».proof.Proof.Mlp.Mats
public import proofs.«01_k».proof.Proof.Gen.Reference6Ideal.Run
public import Idealize.ShloMosaic.Lib.IdealHost

@[expose] public section

set_option maxRecDepth 16384

noncomputable section

namespace Cert.Proof.Reference6Ideal

open Cert.Proof.Mlp Cert.Reference6Ideal Cert.Reference6Ideal.Gen Idealize.ShloMosaic Idealize.ShloMosaic.TcCoe

theorem result (a : FVec Ideal S8192x4096 .f32) (b : FVec Ideal S1024x4096 .f32) :
    Host.dotGeneral dot_S8192x4096_S1024x4096_S8192x1024_1_1_0_0_n_n none a b = mulT (a : Mat 8192 4096) (b : Mat 1024 4096) := by
  funext i
  idx_vars i
  unfold mulT
  pointwise

end Cert.Proof.Reference6Ideal
-- ==== Proof.Mlp.FF1.lean ====
/-
  The first layer: the kernel's two arrays are the product of the input and the weights, and its activation.
-/
module

public import proofs.«01_k».proof.Proof.Mlp.Mats
public import proofs.«01_k».proof.Proof.Gen.Kernel7Ideal.Value
public import Idealize.ShloMosaic.Lib.Pipeline.ValueKit
public import Idealize.ShloMosaic.Lib.StableHlo.Run

@[expose] public section

set_option maxRecDepth 16384

noncomputable section

namespace Cert.Proof.Kernel7Ideal

open Cert.Proof.Mlp Cert.Kernel7Ideal Cert.Kernel7Ideal.Gen Idealize.ShloMosaic Idealize.ShloMosaic.TcCoe
open Idealize.SL.Sem Idealize.ShloMosaic.StableHlo
open Idealize.ShloMosaic.Pipeline (Dat)

theorem pay1_at (a : FVec Ideal S2048x1024 .bf16) (b : FVec Ideal S1024x1024 .bf16) (r : Fin 2048) (l : Fin 1024) :
    k0_pay1 (F := Ideal) a b (ix2 r l) = ∑ x : Fin 1024, a (ix2 r x) * b (ix2 x l) := by
  pointwise [k0_pay1]

theorem out2_at (a : FVec Ideal S2048x1024 .bf16) (b : FVec Ideal S1024x1024 .bf16) (r : Fin 2048) (l : Fin 1024) :
    out0_2 (F := Ideal) a b (ix2 r l) = ∑ x : Fin 1024, a (ix2 r x) * b (ix2 x l) := by
  unfold out0_2
  rw [View.canon_cons_unit_lit, View.ld_unit_lit, View.ld_unit_lit]
  · exact pay1_at a b r l
  all_goals decide

theorem pay3_at (a : FVec Ideal S2048x1024 .bf16) (b : FVec Ideal S1024x1024 .bf16) (r : Fin 2048) (l : Fin 1024) :
    k0_pay3 (F := Ideal) a b (ix2 r l)
      = max (∑ x : Fin 1024, a (ix2 r x) * b (ix2 x l)) 0 * max (∑ x : Fin 1024, a (ix2 r x) * b (ix2 x l)) 0 := by
  pointwise [k0_pay3, pay1_at]

theorem out3_at (a : FVec Ideal S2048x1024 .bf16) (b : FVec Ideal S1024x1024 .bf16) (r : Fin 2048) (l : Fin 1024) :
    out0_3 (F := Ideal) a b (ix2 r l)
      = max (∑ x : Fin 1024, a (ix2 r x) * b (ix2 x l)) 0 * max (∑ x : Fin 1024, a (ix2 r x) * b (ix2 x l)) 0 := by
  unfold out0_3
  rw [View.canon_cons_unit_lit, View.ld_unit_lit, View.ld_unit_lit]
  · exact pay3_at a b r l
  all_goals decide

variable (m : (ℓ : Loc nD τ sig) → Buf (Elt Ideal) ℓ) (c : Dev nD)

theorem entry_v0 : V m c main_v0 = m ((c.tc : Thread nD τ).loc main_arg0) := by
  show after hostOps0 (fun b => m (c, b)) _ = _
  after_results_simp
  rfl
theorem entry_v1 : V m c main_v1 = m ((c.tc : Thread nD τ).loc main_arg1) := by
  show after hostOps0 (fun b => m (c, b)) _ = _
  after_results_simp
  rfl

theorem idx : ∀ t : Fin cfg0.N, win0_0.index t = ![t.val / 4, 0] ∧ win0_1.index t = ![0, t.val % 4]
    ∧ win0_2.index t = ![t.val / 4, t.val % 4] ∧ win0_3.index t = ![t.val / 4, t.val % 4] ∧ t.val / 4 < 4 :=
  (by decide +kernel : ∀ t : Fin grid0.N, _)

theorem array2 : (dats m 0 c).arrAt 2 cfg0.N = mul (V m c main_v0 : Mat 8192 1024) (V m c main_v1 : Mat 1024 4096) := by
  refine (dats m 0 c).arrAt_eq_of_covers 2 _ (by decide +kernel) fun t hf y => ?_
  blk_simp
  rw [after0_2]
  idx_vars y
  refine (out2_at _ _ _ _).trans (mul_at _ _ _ _ _ (fun x => ?_) (fun x => ?_))
  · blk_ext [iblk, idx t]
  · blk_ext [iblk, idx t]

theorem array3 : (dats m 0 c).arrAt 3 cfg0.N = act (mul (V m c main_v0 : Mat 8192 1024) (V m c main_v1 : Mat 1024 4096)) := by
  refine (dats m 0 c).arrAt_eq_of_covers 3 _ (by decide +kernel) fun t hf y => ?_
  blk_simp
  rw [after0_3]
  idx_vars y
  refine (out3_at _ _ _ _).trans (act_at _ _ _ (mul_at _ _ _ _ _ (fun x => ?_) (fun x => ?_)))
  · blk_ext [iblk, idx t]
  · blk_ext [iblk, idx t]

/-- The program ends with those two arrays, its arguments as launched. -/
theorem value (ρ : Dev nD → PrngReg) :
    θ_run defs (onTc (τ := τ) (main (F := Ideal))) ⟨m, fun _ => 0, ρ⟩ (fun r => ∀ c : Dev nD,
      r.2.mem ((c.tc : Thread nD τ).loc main_v2_0)
        = mul (m ((c.tc : Thread nD τ).loc main_arg0) : Mat 8192 1024) (m ((c.tc : Thread nD τ).loc main_arg1) : Mat 1024 4096)
      ∧ r.2.mem ((c.tc : Thread nD τ).loc main_v2_1)
        = act (mul (m ((c.tc : Thread nD τ).loc main_arg0) : Mat 8192 1024) (m ((c.tc : Thread nD τ).loc main_arg1) : Mat 1024 4096))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans ((array2 m c).trans (by rw [entry_v0, entry_v1])),
      (h c).2.1.trans ((array3 m c).trans (by rw [entry_v0, entry_v1])), (h c).2.2⟩)
    (Cert.Kernel7Ideal.Value.run_blocks (F := Ideal) m ρ)

end Cert.Proof.Kernel7Ideal
-- ==== Proof.Mlp.FF1Ref.lean ====
/-
  The first layer: the reference's two arrays are the same product and its activation.
-/
module

public import proofs.«01_k».proof.Proof.Mlp.Mats
public import proofs.«01_k».proof.Proof.Gen.Reference7Ideal.Run
public import Idealize.ShloMosaic.Lib.IdealHost
public import Idealize.ShloMosaic.Lib.WordCmp

@[expose] public section

set_option maxRecDepth 16384

noncomputable section

namespace Cert.Proof.Reference7Ideal

open Cert.Proof.Mlp Cert.Reference7Ideal Cert.Reference7Ideal.Gen Idealize.ShloMosaic Idealize.ShloMosaic.TcCoe

theorem result0 (a : FVec Ideal S8192x1024 .f32) (b : FVec Ideal S1024x4096 .f32) :
    truncf .bf16 (Host.dotGeneral dot_S8192x1024_S1024x4096_S8192x4096_1_0_0_1_n_n none a b) bitsLt_bf16_f32 = mul (a : Mat 8192 1024) (b : Mat 1024 4096) := by
  funext i
  idx_vars i
  unfold mul
  pointwise

theorem result1 (a : FVec Ideal S8192x1024 .f32) (b : FVec Ideal S1024x4096 .f32) :
    truncf .bf16 (mulf (maximumf (Host.dotGeneral dot_S8192x1024_S1024x4096_S8192x4096_1_0_0_1_n_n none a b) (broadcastInDim S8192x4096 ![] bcast_S_S8192x4096 (constant S_ .f32 0x00000000#32)))
      (maximumf (Host.dotGeneral dot_S8192x1024_S1024x4096_S8192x4096_1_0_0_1_n_n none a b) (broadcastInDim S8192x4096 ![] bcast_S_S8192x4096 (constant S_ .f32 0x00000000#32)))) bitsLt_bf16_f32
      = act (mul (a : Mat 8192 1024) (b : Mat 1024 4096)) := by
  funext i
  idx_vars i
  unfold act mul
  pointwise

end Cert.Proof.Reference7Ideal
-- ==== Proof.Mlp.FF2.lean ====
/-
  The second layer: the kernel's array is the product of the activations and the weights.
-/
module

public import proofs.«01_k».proof.Proof.Mlp.Mats
public import proofs.«01_k».proof.Proof.Gen.Kernel8Ideal.Value
public import Idealize.ShloMosaic.Lib.Pipeline.ValueKit
public import Idealize.ShloMosaic.Lib.StableHlo.Run

@[expose] public section

set_option maxRecDepth 16384

noncomputable section

namespace Cert.Proof.Kernel8Ideal

open Cert.Proof.Mlp Cert.Kernel8Ideal Cert.Kernel8Ideal.Gen Idealize.ShloMosaic Idealize.ShloMosaic.TcCoe
open Idealize.SL.Sem Idealize.ShloMosaic.StableHlo
open Idealize.ShloMosaic.Pipeline (Dat)

theorem pay1_at (a : FVec Ideal S1024x4096 .bf16) (b : FVec Ideal S4096x512 .bf16) (r : Fin 1024) (l : Fin 512) :
    k0_pay1 (F := Ideal) a b (ix2 r l) = ∑ x : Fin 4096, a (ix2 r x) * b (ix2 x l) := by
  pointwise [k0_pay1]

theorem out_at (a : FVec Ideal S1024x4096 .bf16) (b : FVec Ideal S4096x512 .bf16) (r : Fin 1024) (l : Fin 512) :
    out0_2 (F := Ideal) a b (ix2 r l) = ∑ x : Fin 4096, a (ix2 r x) * b (ix2 x l) := by
  unfold out0_2
  rw [View.canon_cons_unit_lit, View.ld_unit_lit, View.ld_unit_lit]
  · exact pay1_at a b r l
  all_goals decide

variable (m : (ℓ : Loc nD τ sig) → Buf (Elt Ideal) ℓ) (c : Dev nD)

theorem entry_v0 : V m c main_v0 = m ((c.tc : Thread nD τ).loc main_arg0) := by
  show after hostOps0 (fun b => m (c, b)) _ = _
  after_results_simp
  rfl
theorem entry_v1 : V m c main_v1 = m ((c.tc : Thread nD τ).loc main_arg1) := by
  show after hostOps0 (fun b => m (c, b)) _ = _
  after_results_simp
  rfl

theorem idx : ∀ t : Fin cfg0.N, win0_0.index t = ![t.val / 2, 0] ∧ win0_1.index t = ![0, t.val % 2]
    ∧ win0_2.index t = ![t.val / 2, t.val % 2] ∧ t.val / 2 < 8 :=
  (by decide +kernel : ∀ t : Fin grid0.N, _)

theorem array : (dats m 0 c).arrAt 2 cfg0.N = mul (V m c main_v0 : Mat 8192 4096) (V m c main_v1 : Mat 4096 1024) := by
  refine (dats m 0 c).arrAt_eq_of_covers 2 _ (by decide +kernel) fun t hf y => ?_
  blk_simp
  rw [after0_2]
  idx_vars y
  refine (out_at _ _ _ _).trans (mul_at _ _ _ _ _ (fun x => ?_) (fun x => ?_))
  · blk_ext [iblk, idx t]
  · blk_ext [iblk, idx t]

/-- The program ends with that product, its arguments as launched. -/
theorem value (ρ : Dev nD → PrngReg) :
    θ_run defs (onTc (τ := τ) (main (F := Ideal))) ⟨m, fun _ => 0, ρ⟩ (fun r => ∀ c : Dev nD,
      r.2.mem ((c.tc : Thread nD τ).loc main_v2)
        = mul (m ((c.tc : Thread nD τ).loc main_arg0) : Mat 8192 4096) (m ((c.tc : Thread nD τ).loc main_arg1) : Mat 4096 1024)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans ((array m c).trans (by rw [entry_v0, entry_v1])), (h c).2⟩)
    (Cert.Kernel8Ideal.Value.run_blocks (F := Ideal) m ρ)

end Cert.Proof.Kernel8Ideal
-- ==== Proof.Mlp.FF2Ref.lean ====
/-
  The second layer: the reference's array is the same product.
-/
module

public import proofs.«01_k».proof.Proof.Mlp.Mats
public import proofs.«01_k».proof.Proof.Gen.Reference8Ideal.Run
public import Idealize.ShloMosaic.Lib.IdealHost
public import Idealize.ShloMosaic.Lib.WordCmp

@[expose] public section

set_option maxRecDepth 16384

noncomputable section

namespace Cert.Proof.Reference8Ideal

open Cert.Proof.Mlp Cert.Reference8Ideal Cert.Reference8Ideal.Gen Idealize.ShloMosaic Idealize.ShloMosaic.TcCoe

theorem result (a : FVec Ideal S8192x4096 .f32) (b : FVec Ideal S4096x1024 .f32) :
    Host.dotGeneral dot_S8192x4096_S4096x1024_S8192x1024_1_0_0_1_n_n none a b = mul (a : Mat 8192 4096) (b : Mat 4096 1024) := by
  funext i
  idx_vars i
  unfold mul
  pointwise

end Cert.Proof.Reference8Ideal
-- ==== Proof.Mlp.Claims.lean ====
/-
  What is claimed of the MLP's six programs.
-/
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Mlp.FF2Back
public import proofs.«01_k».proof.Proof.Mlp.FF2BackRef
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Mlp.GradFF2
public import proofs.«01_k».proof.Proof.Mlp.GradFF2Ref
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Mlp.GradFF1
public import proofs.«01_k».proof.Proof.Mlp.GradFF1Ref
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Mlp.FF1Back
public import proofs.«01_k».proof.Proof.Mlp.FF1BackRef
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Mlp.FF1
public import proofs.«01_k».proof.Proof.Mlp.FF1Ref
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Mlp.FF2
public import proofs.«01_k».proof.Proof.Mlp.FF2Ref

@[expose] public section

noncomputable section

namespace Cert.Proof.Mlp

open Idealize.ShloMosaic Idealize.SL.Sem

/-! ## The backward pass of the second layer and of the activation -/

/-- The printed program: it ends, its arguments unchanged, every counter at zero. -/
theorem frame_kernel3 : Cert.quiescent_Kernel3 (hKernel3 := Cert.Kernel3.Gen.facts) :=
  fun m ρ _ => Cert.Kernel3.Gen.frame (F := Bits) m ρ

/-- The same of the program read over the extended reals. -/
theorem frame_kernel3Ideal : Cert.quiescent_Kernel3Ideal (hKernel3Ideal := Cert.Kernel3Ideal.Gen.facts) :=
  fun m ρ _ => Cert.Kernel3Ideal.Gen.frame (F := Ideal) m ρ

/-- The same of the reference. -/
theorem frame_reference3 : Cert.quiescent_Reference3Ideal (hReference3Ideal := Cert.Reference3Ideal.Gen.facts) :=
  fun m ρ _ => (θ_run _ _ _).mono (fun r h => ⟨fun c => (h c).2, sem_eq_zero_of_no_sems (by decide) r.2⟩)
    (Cert.Reference3Ideal.Value.run (F := Ideal) m ρ)

/-- The kernel and the reference end with the same array. -/
theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => actBack (mulT (m ((c.tc : Thread Cert.Kernel3Ideal.nD Cert.Kernel3Ideal.τ).loc Cert.Kernel3Ideal.main_arg0) : Mat 8192 1024) (m ((c.tc : Thread Cert.Kernel3Ideal.nD Cert.Kernel3Ideal.τ).loc Cert.Kernel3Ideal.main_arg1) : Mat 4096 1024)) (m ((c.tc : Thread Cert.Kernel3Ideal.nD Cert.Kernel3Ideal.τ).loc Cert.Kernel3Ideal.main_arg2) : Mat 8192 4096),
    Kernel3Ideal.value m g, ?_⟩
  refine (θ_run _ _ _).mono (fun r h c => ?_) (Cert.Reference3Ideal.Value.run (F := Ideal) m' g')
  obtain ⟨h0, h1, h2⟩ := hargs c
  obtain ⟨r0, h⟩ := h c
  rw [h0, h1, h2] at r0
  exact ⟨r0.trans (Reference3Ideal.result _ _ _), h⟩

/-! ## The gradient of the second layer's weights -/

/-- The printed program: it ends, its arguments unchanged, every counter at zero. -/
theorem frame_kernel4 : Cert.quiescent_Kernel4 (hKernel4 := Cert.Kernel4.Gen.facts) :=
  fun m ρ _ => Cert.Kernel4.Gen.frame (F := Bits) m ρ

/-- The same of the program read over the extended reals. -/
theorem frame_kernel4Ideal : Cert.quiescent_Kernel4Ideal (hKernel4Ideal := Cert.Kernel4Ideal.Gen.facts) :=
  fun m ρ _ => Cert.Kernel4Ideal.Gen.frame (F := Ideal) m ρ

/-- The same of the reference. -/
theorem frame_reference4 : Cert.quiescent_Reference4Ideal (hReference4Ideal := Cert.Reference4Ideal.Gen.facts) :=
  fun m ρ _ => (θ_run _ _ _).mono (fun r h => ⟨fun c => (h c).2, sem_eq_zero_of_no_sems (by decide) r.2⟩)
    (Cert.Reference4Ideal.Value.run (F := Ideal) m ρ)

/-- The kernel and the reference end with the same array. -/
theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => tMul (act (m ((c.tc : Thread Cert.Kernel4Ideal.nD Cert.Kernel4Ideal.τ).loc Cert.Kernel4Ideal.main_arg0) : Mat 8192 4096)) (m ((c.tc : Thread Cert.Kernel4Ideal.nD Cert.Kernel4Ideal.τ).loc Cert.Kernel4Ideal.main_arg1) : Mat 8192 1024),
    Kernel4Ideal.value m g, ?_⟩
  refine (θ_run _ _ _).mono (fun r h c => ?_) (Cert.Reference4Ideal.Value.run (F := Ideal) m' g')
  obtain ⟨h0, h1⟩ := hargs c
  obtain ⟨r0, h⟩ := h c
  rw [h0, h1] at r0
  exact ⟨r0.trans (Reference4Ideal.result _ _), h⟩

/-! ## The gradient of the first layer's weights -/

/-- The printed program: it ends, its arguments unchanged, every counter at zero. -/
theorem frame_kernel5 : Cert.quiescent_Kernel5 (hKernel5 := Cert.Kernel5.Gen.facts) :=
  fun m ρ _ => Cert.Kernel5.Gen.frame (F := Bits) m ρ

/-- The same of the program read over the extended reals. -/
theorem frame_kernel5Ideal : Cert.quiescent_Kernel5Ideal (hKernel5Ideal := Cert.Kernel5Ideal.Gen.facts) :=
  fun m ρ _ => Cert.Kernel5Ideal.Gen.frame (F := Ideal) m ρ

/-- The same of the reference. -/
theorem frame_reference5 : Cert.quiescent_Reference5Ideal (hReference5Ideal := Cert.Reference5Ideal.Gen.facts) :=
  fun m ρ _ => (θ_run _ _ _).mono (fun r h => ⟨fun c => (h c).2, sem_eq_zero_of_no_sems (by decide) r.2⟩)
    (Cert.Reference5Ideal.Value.run (F := Ideal) m ρ)

/-- The kernel and the reference end with the same array. -/
theorem algebraic5 : Cert.algebraic_Kernel5Ideal_Reference5Ideal (hKernel5Ideal := Cert.Kernel5Ideal.Gen.facts)
    (hReference5Ideal := Cert.Reference5Ideal.Gen.facts) := by
  intro m g m' g' _ hargs
  refine ⟨fun c => tMul (m ((c.tc : Thread Cert.Kernel5Ideal.nD Cert.Kernel5Ideal.τ).loc Cert.Kernel5Ideal.main_arg0) : Mat 8192 1024) (m ((c.tc : Thread Cert.Kernel5Ideal.nD Cert.Kernel5Ideal.τ).loc Cert.Kernel5Ideal.main_arg1) : Mat 8192 4096),
    Kernel5Ideal.value m g, ?_⟩
  refine (θ_run _ _ _).mono (fun r h c => ?_) (Cert.Reference5Ideal.Value.run (F := Ideal) m' g')
  obtain ⟨h0, h1⟩ := hargs c
  obtain ⟨r0, h⟩ := h c
  rw [h0, h1] at r0
  exact ⟨r0.trans (Reference5Ideal.result _ _), h⟩

/-! ## The backward pass of the first layer -/

/-- The printed program: it ends, its arguments unchanged, every counter at zero. -/
theorem frame_kernel6 : Cert.quiescent_Kernel6 (hKernel6 := Cert.Kernel6.Gen.facts) :=
  fun m ρ _ => Cert.Kernel6.Gen.frame (F := Bits) m ρ

/-- The same of the program read over the extended reals. -/
theorem frame_kernel6Ideal : Cert.quiescent_Kernel6Ideal (hKernel6Ideal := Cert.Kernel6Ideal.Gen.facts) :=
  fun m ρ _ => Cert.Kernel6Ideal.Gen.frame (F := Ideal) m ρ

/-- The same of the reference. -/
theorem frame_reference6 : Cert.quiescent_Reference6Ideal (hReference6Ideal := Cert.Reference6Ideal.Gen.facts) :=
  fun m ρ _ => (θ_run _ _ _).mono (fun r h => ⟨fun c => (h c).2, sem_eq_zero_of_no_sems (by decide) r.2⟩)
    (Cert.Reference6Ideal.Value.run (F := Ideal) m ρ)

/-- The kernel and the reference end with the same array. -/
theorem algebraic6 : Cert.algebraic_Kernel6Ideal_Reference6Ideal (hKernel6Ideal := Cert.Kernel6Ideal.Gen.facts)
    (hReference6Ideal := Cert.Reference6Ideal.Gen.facts) := by
  intro m g m' g' _ hargs
  refine ⟨fun c => mulT (m ((c.tc : Thread Cert.Kernel6Ideal.nD Cert.Kernel6Ideal.τ).loc Cert.Kernel6Ideal.main_arg0) : Mat 8192 4096) (m ((c.tc : Thread Cert.Kernel6Ideal.nD Cert.Kernel6Ideal.τ).loc Cert.Kernel6Ideal.main_arg1) : Mat 1024 4096),
    Kernel6Ideal.value m g, ?_⟩
  refine (θ_run _ _ _).mono (fun r h c => ?_) (Cert.Reference6Ideal.Value.run (F := Ideal) m' g')
  obtain ⟨h0, h1⟩ := hargs c
  obtain ⟨r0, h⟩ := h c
  rw [h0, h1] at r0
  exact ⟨r0.trans (Reference6Ideal.result _ _), h⟩

/-! ## The first layer and the activation -/

/-- The printed program: it ends, its arguments unchanged, every counter at zero. -/
theorem frame_kernel7 : Cert.quiescent_Kernel7 (hKernel7 := Cert.Kernel7.Gen.facts) :=
  fun m ρ _ => Cert.Kernel7.Gen.frame (F := Bits) m ρ

/-- The same of the program read over the extended reals. -/
theorem frame_kernel7Ideal : Cert.quiescent_Kernel7Ideal (hKernel7Ideal := Cert.Kernel7Ideal.Gen.facts) :=
  fun m ρ _ => Cert.Kernel7Ideal.Gen.frame (F := Ideal) m ρ

/-- The same of the reference. -/
theorem frame_reference7 : Cert.quiescent_Reference7Ideal (hReference7Ideal := Cert.Reference7Ideal.Gen.facts) :=
  fun m ρ _ => (θ_run _ _ _).mono (fun r h => ⟨fun c => (h c).2.2, sem_eq_zero_of_no_sems (by decide) r.2⟩)
    (Cert.Reference7Ideal.Value.run (F := Ideal) m ρ)

/-- The kernel and the reference end with the same two arrays. -/
theorem algebraic7 : Cert.algebraic_Kernel7Ideal_Reference7Ideal (hKernel7Ideal := Cert.Kernel7Ideal.Gen.facts)
    (hReference7Ideal := Cert.Reference7Ideal.Gen.facts) := by
  intro m g m' g' _ hargs
  refine ⟨fun c => mul (m ((c.tc : Thread Cert.Kernel7Ideal.nD Cert.Kernel7Ideal.τ).loc Cert.Kernel7Ideal.main_arg0) : Mat 8192 1024) (m ((c.tc : Thread Cert.Kernel7Ideal.nD Cert.Kernel7Ideal.τ).loc Cert.Kernel7Ideal.main_arg1) : Mat 1024 4096), fun c => act (mul (m ((c.tc : Thread Cert.Kernel7Ideal.nD Cert.Kernel7Ideal.τ).loc Cert.Kernel7Ideal.main_arg0) : Mat 8192 1024) (m ((c.tc : Thread Cert.Kernel7Ideal.nD Cert.Kernel7Ideal.τ).loc Cert.Kernel7Ideal.main_arg1) : Mat 1024 4096)),
    Kernel7Ideal.value m g, ?_⟩
  refine (θ_run _ _ _).mono (fun r h c => ?_) (Cert.Reference7Ideal.Value.run (F := Ideal) m' g')
  obtain ⟨h0, h1⟩ := hargs c
  obtain ⟨r0, r1, h⟩ := h c
  rw [h0, h1] at r0 r1
  exact ⟨r0.trans (Reference7Ideal.result0 _ _), r1.trans (Reference7Ideal.result1 _ _), h⟩

/-! ## The second layer -/

/-- The printed program: it ends, its arguments unchanged, every counter at zero. -/
theorem frame_kernel8 : Cert.quiescent_Kernel8 (hKernel8 := Cert.Kernel8.Gen.facts) :=
  fun m ρ _ => Cert.Kernel8.Gen.frame (F := Bits) m ρ

/-- The same of the program read over the extended reals. -/
theorem frame_kernel8Ideal : Cert.quiescent_Kernel8Ideal (hKernel8Ideal := Cert.Kernel8Ideal.Gen.facts) :=
  fun m ρ _ => Cert.Kernel8Ideal.Gen.frame (F := Ideal) m ρ

/-- The same of the reference. -/
theorem frame_reference8 : Cert.quiescent_Reference8Ideal (hReference8Ideal := Cert.Reference8Ideal.Gen.facts) :=
  fun m ρ _ => (θ_run _ _ _).mono (fun r h => ⟨fun c => (h c).2, sem_eq_zero_of_no_sems (by decide) r.2⟩)
    (Cert.Reference8Ideal.Value.run (F := Ideal) m ρ)

/-- The kernel and the reference end with the same array. -/
theorem algebraic8 : Cert.algebraic_Kernel8Ideal_Reference8Ideal (hKernel8Ideal := Cert.Kernel8Ideal.Gen.facts)
    (hReference8Ideal := Cert.Reference8Ideal.Gen.facts) := by
  intro m g m' g' _ hargs
  refine ⟨fun c => mul (m ((c.tc : Thread Cert.Kernel8Ideal.nD Cert.Kernel8Ideal.τ).loc Cert.Kernel8Ideal.main_arg0) : Mat 8192 4096) (m ((c.tc : Thread Cert.Kernel8Ideal.nD Cert.Kernel8Ideal.τ).loc Cert.Kernel8Ideal.main_arg1) : Mat 4096 1024),
    Kernel8Ideal.value m g, ?_⟩
  refine (θ_run _ _ _).mono (fun r h c => ?_) (Cert.Reference8Ideal.Value.run (F := Ideal) m' g')
  obtain ⟨h0, h1⟩ := hargs c
  obtain ⟨r0, h⟩ := h c
  rw [h0, h1] at r0
  exact ⟨r0.trans (Reference8Ideal.result _ _), h⟩

end Cert.Proof.Mlp

end
-- ==== Proof.Proj.GradIn.lean ====
/-
  The input projection's weights' gradient: the kernel adds the products of blocks of 1024 rows, so that its array is the product of
  the transposed input and the gradient.
-/
module

public import proofs.«01_k».proof.Proof.Mlp.Mats
public import proofs.«01_k».proof.Proof.Gen.Kernel9Ideal.Value
public import Idealize.ShloMosaic.Lib.Pipeline.ValueKit
public import Idealize.ShloMosaic.Lib.StableHlo.Run
public import Idealize.ShloMosaic.Lib.WholeRead

@[expose] public section

set_option maxRecDepth 16384

noncomputable section

namespace Cert.Proof.Kernel9Ideal

open Cert.Proof.Mlp Cert.Kernel9Ideal Cert.Kernel9Ideal.Gen Idealize.ShloMosaic Idealize.ShloMosaic.TcCoe
open Idealize.SL.Sem Idealize.ShloMosaic.StableHlo
open Idealize.ShloMosaic.Pipeline (Dat)

section Pieces

variable (c : Dev nD) (i : grid0.Coords) (a3 : Memref sig .tc .vmem S1024x1024 .bf16) (h3 : a3.IsWhole) (a4 : Memref sig .tc .vmem S1024x1408 .bf16)
  (h4 : a4.IsWhole) (a5 : Memref sig .tc .vmem S1024x1408 .bf16) (h5 : a5.IsWhole) (a6 : Memref sig .tc .vmem S1024x1408 .f32) (h6 : a6.IsWhole)
  (x0 : Vec Ideal S1024x1024 .bf16) (x1 : Vec Ideal S1024x1408 .bf16) (xs : Vec Ideal S1024x1408 .f32)

theorem read_whole {M N : ℕ} {e : EltTy} (a : Memref sig .tc .vmem ⟨2, ![M, N]⟩ e) (h : a.IsWhole)
    (inb : ∀ k, (![0, 0] : Fin 2 → ℕ) k + (![M, N] : Fin 2 → ℕ) k ≤ (![M, N] : Fin 2 → ℕ) k) (X : Vec Ideal ⟨2, ![M, N]⟩ e) :
    View.readAt (Elt Ideal) a.view (Rect.unit (s := ⟨2, ![M, N]⟩) ![0, 0] ![M, N] inb).toLoadRect (h.unread X) = X := by
  funext x
  rw [h.readAt_unread]
  exact congrFun (View.ld_unit_lit (S := ⟨2, ![M, N]⟩) inb X fun a => by fin_cases a <;> rfl) x

theorem sout_A (hc0 : cond0_0 i) (hc1 : ¬cond0_1 i) :
    sout0_A_0 (F := Ideal) c i a3 h3 a4 h4 a5 h5 a6 h6 hc0 hc1 x0 x1 = k0_pay2 (F := Ideal) (k0_pay1 (F := Ideal)) x0 x1 := by
  unfold sout0_A_0
  rw [View.read_writes_eq_canon]
  · unfold kernelRun0_A
    dsimp only
    rw [View.canon_cons_unit_lit]
    · sl_unfold_run_names
      rw [View.readCov_unit_lit, read_whole, read_whole]
      decide
    · decide
  · exact scover0_A_0 c i a3 h3 a4 h4 a5 h5 a6 h6 hc0 hc1 x0 x1

theorem sout_B (hc0 : ¬cond0_0 i) (hc1 : ¬cond0_1 i) :
    sout0_B_0 (F := Ideal) c i a3 h3 a4 h4 a5 h5 a6 h6 hc0 hc1 x0 x1 xs = k0_pay2 (F := Ideal) xs x0 x1 := by
  unfold sout0_B_0
  rw [View.read_writes_eq_canon]
  · unfold kernelRun0_B
    dsimp only
    rw [View.canon_cons_unit_lit]
    · sl_unfold_run_names
      rw [read_whole, read_whole, read_whole]
    · decide
  · exact scover0_B_0 c i a3 h3 a4 h4 a5 h5 a6 h6 hc0 hc1 x0 x1 xs

theorem out_C (hc0 : ¬cond0_0 i) (hc1 : cond0_1 i) :
    out0_C_2 (F := Ideal) c i a3 h3 a4 h4 a5 h5 a6 h6 hc0 hc1 x0 x1 xs = truncf .bf16 (k0_pay2 (F := Ideal) xs x0 x1) bitsLt_bf16_f32 := by
  unfold out0_C_2
  rw [View.read_writes_eq_canon]
  · unfold kernelRun0_C
    dsimp only
    rw [View.canon_cons_unit_lit]
    · sl_unfold_run_names
      rw [View.readCov_unit_lit, read_whole, read_whole, read_whole]
      · rfl
      · decide
    · decide
  · exact cover0_C_2 c i a3 h3 a4 h4 a5 h5 a6 h6 hc0 hc1 x0 x1 xs

end Pieces

theorem pay2_at (v : FVec Ideal S1024x1408 .f32) (a : FVec Ideal S1024x1024 .bf16) (b : FVec Ideal S1024x1408 .bf16) (r : Fin 1024)
    (l : Fin 1408) :
    k0_pay2 (F := Ideal) v a b (ix2 r l) = v (ix2 r l) + ∑ x : Fin 1024, a (ix2 x r) * b (ix2 x l) := by
  pointwise [k0_pay2]
theorem pay1_at (r : Fin 1024) (l : Fin 1408) : k0_pay1 (F := Ideal) (ix2 r l) = 0 := by
  pointwise [k0_pay1]

variable (m : (ℓ : Loc nD τ sig) → Buf (Elt Ideal) ℓ) (c : Dev nD)

theorem entry_v0 : V m c main_v0 = m ((c.tc : Thread nD τ).loc main_arg0) := by
  show after hostOps0 (fun b => m (c, b)) _ = _
  after_results_simp
  rfl
theorem entry_v1 : V m c main_v1 = m ((c.tc : Thread nD τ).loc main_arg1) := by
  show after hostOps0 (fun b => m (c, b)) _ = _
  after_results_simp
  rfl

theorem idx : ∀ t : Fin cfg0.N, win0_0.index t = ![t.val % 8, 0] ∧ win0_1.index t = ![t.val % 8, t.val / 8]
    ∧ win0_2.index t = ![0, t.val / 8] ∧ t.val / 8 < 3 ∧ 8 * (t.val / 8) + 7 < cfg0.N :=
  (by decide +kernel : ∀ t : Fin grid0.N, _)

/-- The two staged arrays. -/
abbrev aArr : Mat 8192 1024 := V m c main_v0
abbrev bArr : Mat 8192 4224 := V m c main_v1

/-- The number's term of an element of the block of columns `q`. -/
def term (q : ℕ) (r : Fin 1024) (l : Fin 1408) (n : ℕ) : EReal :=
  aArr m c (ix2 (Fin.ofNat 8192 n) r) * bArr m c (ix2 (Fin.ofNat 8192 n) (Fin.ofNat 4224 (1408 * q + l.val)))

/-- The blocks of a point. -/
abbrev aAt (t : Fin cfg0.N) : FVec Ideal S1024x1024 .bf16 := iblk m c 0 t
abbrev bAt (t : Fin cfg0.N) : FVec Ideal S1024x1408 .bf16 := iblk m c 1 t

theorem term_at (q j : ℕ) (hj : j < 8) (h : 8 * q + j < cfg0.N) (r x : Fin 1024) (l : Fin 1408) :
    aAt m c ⟨8 * q + j, h⟩ (ix2 x r) * bAt m c ⟨8 * q + j, h⟩ (ix2 x l) = term m c q r l (1024 * j + x.val) := by
  have i := idx ⟨8 * q + j, h⟩
  dsimp only at i
  rw [show (8 * q + j) / 8 = q by omega, show (8 * q + j) % 8 = j by omega] at i
  have hq := i.2.2.2.1
  have e0 : (Fin.ofNat 8192 (1024 * j + x.val)).val = 1024 * j + x.val := Nat.mod_eq_of_lt (by omega)
  have e1 : (Fin.ofNat 4224 (1408 * q + l.val)).val = 1408 * q + l.val := Nat.mod_eq_of_lt (by omega)
  unfold term
  congr 1
  · blk_ext [iblk, i]
  · blk_ext [iblk, i]

/-- The scratch after a point but the last of its block of the result. -/
theorem scratch (q : ℕ) (r : Fin 1024) (l : Fin 1408) (j : ℕ) (hj : j < 7) (h : 8 * q + j < cfg0.N) :
    (outsAt0 m c (8 * q + j) h).2 (ix2 r l) = ∑ n ∈ Finset.range (1024 * (j + 1)), term m c q r l n := by
  induction j with
  | zero =>
    rw [outsAt0_A m c ⟨8 * q + 0, h⟩ (by dsimp only; omega) (by dsimp only; omega)]
    dsimp only
    rw [sout_A, pay2_at, pay1_at]
    exact sum_more _ 0 _ fun x => term_at m c q 0 (by omega) h r x l
  | succ j ih =>
    rw [outsAt0_B m c ⟨8 * q + (j + 1), h⟩ (by dsimp only; omega) (by dsimp only; omega)]
    dsimp only
    rw [sout_B, pay2_at]
    refine Eq.trans (congrArg (· + _) ?_) (sum_more _ (j + 1) _ fun x => term_at m c q (j + 1) (by omega) h r x l)
    exact ih (by omega) (by omega)

/-- The last point of a block of the result. -/
theorem last (q : ℕ) (r : Fin 1024) (l : Fin 1408) (h : 8 * q + 7 < cfg0.N) :
    (outsAt0 m c (8 * q + 7) h).1 (ix2 r l) = ∑ n ∈ Finset.range (1024 * 8), term m c q r l n := by
  rw [outsAt0_C m c ⟨8 * q + 7, h⟩ (by dsimp only; omega) (by dsimp only; omega)]
  dsimp only
  rw [out_C]
  refine (pay2_at _ _ _ r l).trans ?_
  refine Eq.trans (congrArg (· + _) ?_) (sum_more _ 7 _ fun x => term_at m c q 7 (by omega) h r x l)
  exact scratch m c q r l 6 (by omega) (by omega)

theorem outs_congr {a b : ℕ} (e : a = b) (ha : a < cfg0.N) (hb : b < cfg0.N) : outsAt0 m c a ha = outsAt0 m c b hb := by
  subst e
  rfl

theorem array : (dats m 0 c).arrAt 2 cfg0.N = tMul (aArr m c) (bArr m c) := by
  refine (dats m 0 c).arrAt_eq_of_covers 2 _ (by decide +kernel) fun t hf y => ?_
  blk_simp
  have i := idx t
  have h7 := (flush0_2 t).mp hf
  rw [after0_2]
  idx_vars y
  have e1 : (Fin.ofNat 4224 (1408 * (t.val / 8) + y1.val)).val = 1408 * (t.val / 8) + y1.val := Nat.mod_eq_of_lt (by omega)
  refine Eq.trans ?_ (tMul_at _ _ _ y0 (Fin.ofNat 4224 (1408 * (t.val / 8) + y1.val)) ?_ ?_)
  · refine Eq.trans ?_ (last m c (t.val / 8) y0 y1 i.2.2.2.2)
    exact congrFun (congrArg Prod.fst (outs_congr m c (by omega) t.isLt i.2.2.2.2)) _
  · refine Fin.ext ?_
    blk_simp [i]
  · refine Fin.ext (e1.trans ?_)
    blk_simp [i]
    omega

/-- The program ends with that product, its arguments as launched. -/
theorem value (ρ : Dev nD → PrngReg) :
    θ_run defs (onTc (τ := τ) (main (F := Ideal))) ⟨m, fun _ => 0, ρ⟩ (fun r => ∀ c : Dev nD,
      r.2.mem ((c.tc : Thread nD τ).loc main_v2)
        = tMul (m ((c.tc : Thread nD τ).loc main_arg0) : Mat 8192 1024) (m ((c.tc : Thread nD τ).loc main_arg1) : Mat 8192 4224)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans ((array m c).trans (by rw [aArr, bArr, entry_v0, entry_v1])), (h c).2⟩)
    (Cert.Kernel9Ideal.Value.run_blocks (F := Ideal) m ρ)

end Cert.Proof.Kernel9Ideal
-- ==== Proof.Proj.GradInRef.lean ====
/-
  The gradient of the input projection's weights: the reference's array is the same product.
-/
module

public import proofs.«01_k».proof.Proof.Mlp.Mats
public import proofs.«01_k».proof.Proof.Gen.Reference9Ideal.Run
public import Idealize.ShloMosaic.Lib.IdealHost
public import Idealize.ShloMosaic.Lib.WordCmp

@[expose] public section

set_option maxRecDepth 16384

noncomputable section

namespace Cert.Proof.Reference9Ideal

open Cert.Proof.Mlp Cert.Reference9Ideal Cert.Reference9Ideal.Gen Idealize.ShloMosaic Idealize.ShloMosaic.TcCoe

theorem result (a : FVec Ideal S8192x1024 .f32) (b : FVec Ideal S8192x4224 .f32) :
    truncf .bf16 (transpose S1024x4224 [1, 0] (Host.dotGeneral dot_S8192x4224_S8192x1024_S4224x1024_0_0_1_1_n_n none b a)
      transposes_S4224x1024_S1024x4224_1_0) bitsLt_bf16_f32 = tMul (a : Mat 8192 1024) (b : Mat 8192 4224) := by
  funext i
  idx_vars i
  unfold tMul
  pointwise
  exact Finset.sum_congr rfl fun x _ => mul_comm _ _

end Cert.Proof.Reference9Ideal
-- ==== Proof.Proj.Rows.lean ====
/-
  A row added to every row of a matrix.
-/
module

public import proofs.«01_k».proof.Proof.Mlp.Mats

@[expose] public section

noncomputable section

namespace Cert.Proof.Mlp

open Idealize.ShloMosaic

variable {m n : ℕ}

/-- A matrix and a row, added to each of its rows. -/
def plusRow (A : Mat m n) (u : Mat 1 n) : Mat m n := fun i => A i + u (ix2 0 (i 1))

theorem plusRow_at (A : Mat m n) (u : Mat 1 n) (i : (⟨2, ![m, n]⟩ : Shape).Idx) (x y : EReal) (h : x = A i) (h' : y = u (ix2 0 (i 1))) :
    x + y = plusRow A u i := by
  rw [h, h']
  rfl

end Cert.Proof.Mlp
-- ==== Proof.Proj.InBack.lean ====
/-
  The input's gradient of the input projection: the kernel's array is the product with the transposed weights; its bias is zero.
-/
module

public import proofs.«01_k».proof.Proof.Proj.Rows
public import proofs.«01_k».proof.Proof.Gen.Kernel10Ideal.Value
public import Idealize.ShloMosaic.Lib.Pipeline.ValueKit
public import Idealize.ShloMosaic.Lib.StableHlo.Run

@[expose] public section

set_option maxRecDepth 16384

noncomputable section

namespace Cert.Proof.Kernel10Ideal

open Cert.Proof.Mlp Cert.Kernel10Ideal Cert.Kernel10Ideal.Gen Idealize.ShloMosaic Idealize.ShloMosaic.TcCoe
open Idealize.SL.Sem Idealize.ShloMosaic.StableHlo
open Idealize.ShloMosaic.Pipeline (Dat)

theorem pay1_at (a : FVec Ideal S1024x4224 .bf16) (b : FVec Ideal S512x4224 .bf16) (u : FVec Ideal S1x512 .f32) (r : Fin 1024) (l : Fin 512) :
    k0_pay1 (F := Ideal) a b u (ix2 r l) = ∑ x : Fin 4224, a (ix2 r x) * b (ix2 l x) + u (ix2 0 l) := by
  pointwise [k0_pay1]

theorem out_at (a : FVec Ideal S1024x4224 .bf16) (b : FVec Ideal S512x4224 .bf16) (u : FVec Ideal S1x512 .f32) (r : Fin 1024) (l : Fin 512) :
    out0_3 (F := Ideal) a b u (ix2 r l) = ∑ x : Fin 4224, a (ix2 r x) * b (ix2 l x) + u (ix2 0 l) := by
  unfold out0_3
  rw [View.canon_cons_unit_lit, View.ld_unit_lit, View.ld_unit_lit, View.ld_unit_lit]
  · exact pay1_at a b u r l
  all_goals decide

variable (m : (ℓ : Loc nD τ sig) → Buf (Elt Ideal) ℓ) (c : Dev nD)

theorem entry_v0 : V m c main_v0 = m ((c.tc : Thread nD τ).loc main_arg0) := by
  show after hostOps0 (fun b => m (c, b)) _ = _
  after_results_simp
  rfl
theorem entry_v1 : V m c main_v1 = m ((c.tc : Thread nD τ).loc main_arg1) := by
  show after hostOps0 (fun b => m (c, b)) _ = _
  after_results_simp
  rfl

theorem entry_v2 : (V m c main_v2 : Mat 1 1024) = (fun _ => (0 : EReal) : Mat 1 1024) := by
  have h : V m c main_v2 = broadcastInDim S1x1024 ![] bcast_S_S1x1024 (constant (F := Ideal) S_ .f32 0x00000000#32) := by
    show after hostOps0 (fun b => m (c, b)) _ = _
    after_results_simp
  refine h.trans (funext fun i => ?_)
  idx_vars i
  pointwise

theorem idx : ∀ t : Fin cfg0.N, win0_0.index t = ![t.val / 2, 0] ∧ win0_1.index t = ![t.val % 2, 0]
    ∧ win0_2.index t = ![0, t.val % 2]
    ∧ win0_3.index t = ![t.val / 2, t.val % 2] ∧ t.val / 2 < 8 :=
  (by decide +kernel : ∀ t : Fin grid0.N, _)

theorem array : (dats m 0 c).arrAt 3 cfg0.N = mulT (V m c main_v0 : Mat 8192 4224) (V m c main_v1 : Mat 1024 4224) := by
  refine (dats m 0 c).arrAt_eq_of_covers 3 _ (by decide +kernel) fun t hf y => ?_
  blk_simp
  rw [after0_3]
  idx_vars y
  refine (out_at _ _ _ _ _).trans (Eq.trans (congrArg (_ + ·) (congrFun (entry_v2 m c) _)) ((add_zero _).trans (mulT_at _ _ _ _ _ (fun x => ?_) (fun x => ?_))))
  · blk_ext [iblk, idx t]
  · blk_ext [iblk, idx t]

/-- The program ends with that product, its arguments as launched. -/
theorem value (ρ : Dev nD → PrngReg) :
    θ_run defs (onTc (τ := τ) (main (F := Ideal))) ⟨m, fun _ => 0, ρ⟩ (fun r => ∀ c : Dev nD,
      r.2.mem ((c.tc : Thread nD τ).loc main_v3)
        = mulT (m ((c.tc : Thread nD τ).loc main_arg0) : Mat 8192 4224) (m ((c.tc : Thread nD τ).loc main_arg1) : Mat 1024 4224)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans ((array m c).trans (by rw [entry_v0, entry_v1])), (h c).2⟩)
    (Cert.Kernel10Ideal.Value.run_blocks (F := Ideal) m ρ)

end Cert.Proof.Kernel10Ideal
-- ==== Proof.Proj.InBackRef.lean ====
/-
  The input's gradient of the input projection: the reference's array is the same product.
-/
module

public import proofs.«01_k».proof.Proof.Mlp.Mats
public import proofs.«01_k».proof.Proof.Gen.Reference10Ideal.Run
public import Idealize.ShloMosaic.Lib.IdealHost

@[expose] public section

set_option maxRecDepth 16384

noncomputable section

namespace Cert.Proof.Reference10Ideal

open Cert.Proof.Mlp Cert.Reference10Ideal Cert.Reference10Ideal.Gen Idealize.ShloMosaic Idealize.ShloMosaic.TcCoe

theorem result (a : FVec Ideal S8192x4224 .f32) (b : FVec Ideal S1024x4224 .f32) :
    Host.dotGeneral dot_S8192x4224_S1024x4224_S8192x1024_1_1_0_0_n_n none a b = mulT (a : Mat 8192 4224) (b : Mat 1024 4224) := by
  funext i
  idx_vars i
  unfold mulT
  pointwise

end Cert.Proof.Reference10Ideal
-- ==== Proof.Proj.InLo.lean ====
/-
  A part of the input projection: the kernel's array is the product and a row of biases.
-/
module

public import proofs.«01_k».proof.Proof.Proj.Rows
public import proofs.«01_k».proof.Proof.Gen.Kernel11Ideal.Value
public import Idealize.ShloMosaic.Lib.Pipeline.ValueKit
public import Idealize.ShloMosaic.Lib.StableHlo.Run

@[expose] public section

set_option maxRecDepth 16384

noncomputable section

namespace Cert.Proof.Kernel11Ideal

open Cert.Proof.Mlp Cert.Kernel11Ideal Cert.Kernel11Ideal.Gen Idealize.ShloMosaic Idealize.ShloMosaic.TcCoe
open Idealize.SL.Sem Idealize.ShloMosaic.StableHlo
open Idealize.ShloMosaic.Pipeline (Dat)

theorem pay1_at (a : FVec Ideal S1024x1024 .bf16) (b : FVec Ideal S1024x1792 .bf16) (u : FVec Ideal S1x1792 .f32) (r : Fin 1024) (l : Fin 1792) :
    k0_pay1 (F := Ideal) a b u (ix2 r l) = ∑ x : Fin 1024, a (ix2 r x) * b (ix2 x l) + u (ix2 0 l) := by
  pointwise [k0_pay1]

theorem out_at (a : FVec Ideal S1024x1024 .bf16) (b : FVec Ideal S1024x1792 .bf16) (u : FVec Ideal S1x1792 .f32) (r : Fin 1024) (l : Fin 1792) :
    out0_3 (F := Ideal) a b u (ix2 r l) = ∑ x : Fin 1024, a (ix2 r x) * b (ix2 x l) + u (ix2 0 l) := by
  unfold out0_3
  rw [View.canon_cons_unit_lit, View.ld_unit_lit, View.ld_unit_lit, View.ld_unit_lit]
  · exact pay1_at a b u r l
  all_goals decide

variable (m : (ℓ : Loc nD τ sig) → Buf (Elt Ideal) ℓ) (c : Dev nD)

theorem entry_v0 : V m c main_v0 = m ((c.tc : Thread nD τ).loc main_arg0) := by
  show after hostOps0 (fun b => m (c, b)) _ = _
  after_results_simp
  rfl
theorem entry_v1 : V m c main_v1 = m ((c.tc : Thread nD τ).loc main_arg1) := by
  show after hostOps0 (fun b => m (c, b)) _ = _
  after_results_simp
  rfl
theorem entry_arg2 : V m c main_arg2 = m ((c.tc : Thread nD τ).loc main_arg2) := by
  show after hostOps0 (fun b => m (c, b)) _ = _
  after_results_simp

theorem idx : ∀ t : Fin cfg0.N, win0_0.index t = ![t.val / 2, 0] ∧ win0_1.index t = ![0, t.val % 2] ∧ win0_2.index t = ![0, t.val % 2]
    ∧ win0_3.index t = ![t.val / 2, t.val % 2] ∧ t.val / 2 < 8 :=
  (by decide +kernel : ∀ t : Fin grid0.N, _)

theorem array : (dats m 0 c).arrAt 3 cfg0.N
    = plusRow (mul (V m c main_v0 : Mat 8192 1024) (V m c main_v1 : Mat 1024 3584)) (V m c main_arg2 : Mat 1 3584) := by
  refine (dats m 0 c).arrAt_eq_of_covers 3 _ (by decide +kernel) fun t hf y => ?_
  blk_simp
  rw [after0_3]
  idx_vars y
  refine (out_at _ _ _ _ _).trans (plusRow_at _ _ _ _ _ (mul_at _ _ _ _ _ (fun x => ?_) (fun x => ?_)) ?_)
  · blk_ext [iblk, idx t]
  · blk_ext [iblk, idx t]
  · blk_ext [iblk, idx t]

/-- The program ends with that array, its arguments as launched. -/
theorem value (ρ : Dev nD → PrngReg) :
    θ_run defs (onTc (τ := τ) (main (F := Ideal))) ⟨m, fun _ => 0, ρ⟩ (fun r => ∀ c : Dev nD,
      r.2.mem ((c.tc : Thread nD τ).loc main_v2)
        = plusRow (mul (m ((c.tc : Thread nD τ).loc main_arg0) : Mat 8192 1024) (m ((c.tc : Thread nD τ).loc main_arg1) : Mat 1024 3584))
            (m ((c.tc : Thread nD τ).loc main_arg2) : Mat 1 3584)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans ((array m c).trans (by rw [entry_v0, entry_v1, entry_arg2])), (h c).2⟩)
    (Cert.Kernel11Ideal.Value.run_blocks (F := Ideal) m ρ)

end Cert.Proof.Kernel11Ideal
-- ==== Proof.Proj.InLoRef.lean ====
/-
  A part of the input projection: the reference's array is the same product and row.
-/
module

public import proofs.«01_k».proof.Proof.Proj.Rows
public import proofs.«01_k».proof.Proof.Gen.Reference11Ideal.Run
public import Idealize.ShloMosaic.Lib.IdealHost
public import Idealize.ShloMosaic.Lib.WordCmp

@[expose] public section

set_option maxRecDepth 16384

noncomputable section

namespace Cert.Proof.Reference11Ideal

open Cert.Proof.Mlp Cert.Reference11Ideal Cert.Reference11Ideal.Gen Idealize.ShloMosaic Idealize.ShloMosaic.TcCoe

theorem result (a : FVec Ideal S8192x1024 .f32) (b : FVec Ideal S1024x3584 .f32) (u : FVec Ideal S1x3584 .f32) :
    truncf .bf16 (addf (Host.dotGeneral dot_S8192x1024_S1024x3584_S8192x3584_1_0_0_1_n_n none a b) (broadcastInDim S8192x3584 ![0, 1] bcast_S1x3584_S8192x3584_0_1
      (broadcastInDim S1x3584 ![1] bcast_S3584_S1x3584_1 (shapeCast _ u shapeCasts_S1x3584_S3584)))) bitsLt_bf16_f32
      = plusRow (mul (a : Mat 8192 1024) (b : Mat 1024 3584)) (u : Mat 1 3584) := by
  funext i
  idx_vars i
  unfold plusRow mul
  pointwise

end Cert.Proof.Reference11Ideal
-- ==== Proof.Proj.InHi.lean ====
/-
  A part of the input projection: the kernel's array is the product and a row of biases.
-/
module

public import proofs.«01_k».proof.Proof.Proj.Rows
public import proofs.«01_k».proof.Proof.Gen.Kernel12Ideal.Value
public import Idealize.ShloMosaic.Lib.Pipeline.ValueKit
public import Idealize.ShloMosaic.Lib.StableHlo.Run

@[expose] public section

set_option maxRecDepth 16384

noncomputable section

namespace Cert.Proof.Kernel12Ideal

open Cert.Proof.Mlp Cert.Kernel12Ideal Cert.Kernel12Ideal.Gen Idealize.ShloMosaic Idealize.ShloMosaic.TcCoe
open Idealize.SL.Sem Idealize.ShloMosaic.StableHlo
open Idealize.ShloMosaic.Pipeline (Dat)

theorem pay1_at (a : FVec Ideal S2048x1024 .bf16) (b : FVec Ideal S1024x640 .bf16) (u : FVec Ideal S1x640 .f32) (r : Fin 2048) (l : Fin 640) :
    k0_pay1 (F := Ideal) a b u (ix2 r l) = ∑ x : Fin 1024, a (ix2 r x) * b (ix2 x l) + u (ix2 0 l) := by
  pointwise [k0_pay1]

theorem out_at (a : FVec Ideal S2048x1024 .bf16) (b : FVec Ideal S1024x640 .bf16) (u : FVec Ideal S1x640 .f32) (r : Fin 2048) (l : Fin 640) :
    out0_3 (F := Ideal) a b u (ix2 r l) = ∑ x : Fin 1024, a (ix2 r x) * b (ix2 x l) + u (ix2 0 l) := by
  unfold out0_3
  rw [View.canon_cons_unit_lit, View.ld_unit_lit, View.ld_unit_lit, View.ld_unit_lit]
  · exact pay1_at a b u r l
  all_goals decide

variable (m : (ℓ : Loc nD τ sig) → Buf (Elt Ideal) ℓ) (c : Dev nD)

theorem entry_v0 : V m c main_v0 = m ((c.tc : Thread nD τ).loc main_arg0) := by
  show after hostOps0 (fun b => m (c, b)) _ = _
  after_results_simp
  rfl
theorem entry_v1 : V m c main_v1 = m ((c.tc : Thread nD τ).loc main_arg1) := by
  show after hostOps0 (fun b => m (c, b)) _ = _
  after_results_simp
  rfl
theorem entry_arg2 : V m c main_arg2 = m ((c.tc : Thread nD τ).loc main_arg2) := by
  show after hostOps0 (fun b => m (c, b)) _ = _
  after_results_simp

theorem idx : ∀ t : Fin cfg0.N, win0_0.index t = ![t.val, 0] ∧ win0_1.index t = ![0, 0] ∧ win0_2.index t = ![0, 0]
    ∧ win0_3.index t = ![t.val, 0] ∧ t.val < 4 :=
  (by decide +kernel : ∀ t : Fin grid0.N, _)

theorem array : (dats m 0 c).arrAt 3 cfg0.N
    = plusRow (mul (V m c main_v0 : Mat 8192 1024) (V m c main_v1 : Mat 1024 640)) (V m c main_arg2 : Mat 1 640) := by
  refine (dats m 0 c).arrAt_eq_of_covers 3 _ (by decide +kernel) fun t hf y => ?_
  blk_simp
  rw [after0_3]
  idx_vars y
  refine (out_at _ _ _ _ _).trans (plusRow_at _ _ _ _ _ (mul_at _ _ _ _ _ (fun x => ?_) (fun x => ?_)) ?_)
  · blk_ext [iblk, idx t]
  · blk_ext [iblk, idx t]
  · blk_ext [iblk, idx t]

/-- The program ends with that array, its arguments as launched. -/
theorem value (ρ : Dev nD → PrngReg) :
    θ_run defs (onTc (τ := τ) (main (F := Ideal))) ⟨m, fun _ => 0, ρ⟩ (fun r => ∀ c : Dev nD,
      r.2.mem ((c.tc : Thread nD τ).loc main_v2)
        = plusRow (mul (m ((c.tc : Thread nD τ).loc main_arg0) : Mat 8192 1024) (m ((c.tc : Thread nD τ).loc main_arg1) : Mat 1024 640))
            (m ((c.tc : Thread nD τ).loc main_arg2) : Mat 1 640)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans ((array m c).trans (by rw [entry_v0, entry_v1, entry_arg2])), (h c).2⟩)
    (Cert.Kernel12Ideal.Value.run_blocks (F := Ideal) m ρ)

end Cert.Proof.Kernel12Ideal
-- ==== Proof.Proj.InHiRef.lean ====
/-
  A part of the input projection: the reference's array is the same product and row.
-/
module

public import proofs.«01_k».proof.Proof.Proj.Rows
public import proofs.«01_k».proof.Proof.Gen.Reference12Ideal.Run
public import Idealize.ShloMosaic.Lib.IdealHost
public import Idealize.ShloMosaic.Lib.WordCmp

@[expose] public section

set_option maxRecDepth 16384

noncomputable section

namespace Cert.Proof.Reference12Ideal

open Cert.Proof.Mlp Cert.Reference12Ideal Cert.Reference12Ideal.Gen Idealize.ShloMosaic Idealize.ShloMosaic.TcCoe

theorem result (a : FVec Ideal S8192x1024 .f32) (b : FVec Ideal S1024x640 .f32) (u : FVec Ideal S1x640 .f32) :
    addf (Host.dotGeneral dot_S8192x1024_S1024x640_S8192x640_1_0_0_1_n_n none a b) (broadcastInDim S8192x640 ![0, 1] bcast_S1x640_S8192x640_0_1
      (broadcastInDim S1x640 ![1] bcast_S640_S1x640_1 (shapeCast _ u shapeCasts_S1x640_S640)))
      = plusRow (mul (a : Mat 8192 1024) (b : Mat 1024 640)) (u : Mat 1 640) := by
  funext i
  idx_vars i
  unfold plusRow mul
  pointwise

end Cert.Proof.Reference12Ideal
-- ==== Proof.Proj.GradOut.lean ====
/-
  The output projection's weights' gradient: the kernel adds the products of blocks of 1024 rows, so that its array is the product of
  the transposed input and the gradient.
-/
module

public import proofs.«01_k».proof.Proof.Mlp.Mats
public import proofs.«01_k».proof.Proof.Gen.Kernel13Ideal.Value
public import Idealize.ShloMosaic.Lib.Pipeline.ValueKit
public import Idealize.ShloMosaic.Lib.StableHlo.Run
public import Idealize.ShloMosaic.Lib.WholeRead

@[expose] public section

set_option maxRecDepth 16384

noncomputable section

namespace Cert.Proof.Kernel13Ideal

open Cert.Proof.Mlp Cert.Kernel13Ideal Cert.Kernel13Ideal.Gen Idealize.ShloMosaic Idealize.ShloMosaic.TcCoe
open Idealize.SL.Sem Idealize.ShloMosaic.StableHlo
open Idealize.ShloMosaic.Pipeline (Dat)

section Pieces

variable (c : Dev nD) (i : grid0.Coords) (a3 : Memref sig .tc .vmem S1024x1024 .bf16) (h3 : a3.IsWhole) (a4 : Memref sig .tc .vmem S1024x1024 .bf16)
  (h4 : a4.IsWhole) (a5 : Memref sig .tc .vmem S1024x1024 .bf16) (h5 : a5.IsWhole) (a6 : Memref sig .tc .vmem S1024x1024 .f32) (h6 : a6.IsWhole)
  (x0 : Vec Ideal S1024x1024 .bf16) (x1 : Vec Ideal S1024x1024 .bf16) (xs : Vec Ideal S1024x1024 .f32)

theorem read_whole {M N : ℕ} {e : EltTy} (a : Memref sig .tc .vmem ⟨2, ![M, N]⟩ e) (h : a.IsWhole)
    (inb : ∀ k, (![0, 0] : Fin 2 → ℕ) k + (![M, N] : Fin 2 → ℕ) k ≤ (![M, N] : Fin 2 → ℕ) k) (X : Vec Ideal ⟨2, ![M, N]⟩ e) :
    View.readAt (Elt Ideal) a.view (Rect.unit (s := ⟨2, ![M, N]⟩) ![0, 0] ![M, N] inb).toLoadRect (h.unread X) = X := by
  funext x
  rw [h.readAt_unread]
  exact congrFun (View.ld_unit_lit (S := ⟨2, ![M, N]⟩) inb X fun a => by fin_cases a <;> rfl) x

theorem sout_A (hc0 : cond0_0 i) (hc1 : ¬cond0_1 i) :
    sout0_A_0 (F := Ideal) c i a3 h3 a4 h4 a5 h5 a6 h6 hc0 hc1 x0 x1 = k0_pay2 (F := Ideal) (k0_pay1 (F := Ideal)) x0 x1 := by
  unfold sout0_A_0
  rw [View.read_writes_eq_canon]
  · unfold kernelRun0_A
    dsimp only
    rw [View.canon_cons_unit_lit]
    · sl_unfold_run_names
      rw [View.readCov_unit_lit, read_whole, read_whole]
      decide
    · decide
  · exact scover0_A_0 c i a3 h3 a4 h4 a5 h5 a6 h6 hc0 hc1 x0 x1

theorem sout_B (hc0 : ¬cond0_0 i) (hc1 : ¬cond0_1 i) :
    sout0_B_0 (F := Ideal) c i a3 h3 a4 h4 a5 h5 a6 h6 hc0 hc1 x0 x1 xs = k0_pay2 (F := Ideal) xs x0 x1 := by
  unfold sout0_B_0
  rw [View.read_writes_eq_canon]
  · unfold kernelRun0_B
    dsimp only
    rw [View.canon_cons_unit_lit]
    · sl_unfold_run_names
      rw [read_whole, read_whole, read_whole]
    · decide
  · exact scover0_B_0 c i a3 h3 a4 h4 a5 h5 a6 h6 hc0 hc1 x0 x1 xs

theorem out_C (hc0 : ¬cond0_0 i) (hc1 : cond0_1 i) :
    out0_C_2 (F := Ideal) c i a3 h3 a4 h4 a5 h5 a6 h6 hc0 hc1 x0 x1 xs = truncf .bf16 (k0_pay2 (F := Ideal) xs x0 x1) bitsLt_bf16_f32 := by
  unfold out0_C_2
  rw [View.read_writes_eq_canon]
  · unfold kernelRun0_C
    dsimp only
    rw [View.canon_cons_unit_lit]
    · sl_unfold_run_names
      rw [View.readCov_unit_lit, read_whole, read_whole, read_whole]
      · rfl
      · decide
    · decide
  · exact cover0_C_2 c i a3 h3 a4 h4 a5 h5 a6 h6 hc0 hc1 x0 x1 xs

end Pieces

theorem pay2_at (v : FVec Ideal S1024x1024 .f32) (a : FVec Ideal S1024x1024 .bf16) (b : FVec Ideal S1024x1024 .bf16) (r : Fin 1024)
    (l : Fin 1024) :
    k0_pay2 (F := Ideal) v a b (ix2 r l) = v (ix2 r l) + ∑ x : Fin 1024, a (ix2 x r) * b (ix2 x l) := by
  pointwise [k0_pay2]
theorem pay1_at (r : Fin 1024) (l : Fin 1024) : k0_pay1 (F := Ideal) (ix2 r l) = 0 := by
  pointwise [k0_pay1]

variable (m : (ℓ : Loc nD τ sig) → Buf (Elt Ideal) ℓ) (c : Dev nD)

theorem entry_v0 : V m c main_v0 = m ((c.tc : Thread nD τ).loc main_arg0) := by
  show after hostOps0 (fun b => m (c, b)) _ = _
  after_results_simp
  rfl
theorem entry_v1 : V m c main_v1 = m ((c.tc : Thread nD τ).loc main_arg1) := by
  show after hostOps0 (fun b => m (c, b)) _ = _
  after_results_simp
  rfl

theorem idx : ∀ t : Fin cfg0.N, win0_0.index t = ![t.val % 8, 0] ∧ win0_1.index t = ![t.val % 8, t.val / 8]
    ∧ win0_2.index t = ![0, t.val / 8] ∧ t.val / 8 < 1 ∧ 8 * (t.val / 8) + 7 < cfg0.N :=
  (by decide +kernel : ∀ t : Fin grid0.N, _)

/-- The two staged arrays. -/
abbrev aArr : Mat 8192 1024 := V m c main_v0
abbrev bArr : Mat 8192 1024 := V m c main_v1

/-- The number's term of an element of the block of columns `q`. -/
def term (q : ℕ) (r : Fin 1024) (l : Fin 1024) (n : ℕ) : EReal :=
  aArr m c (ix2 (Fin.ofNat 8192 n) r) * bArr m c (ix2 (Fin.ofNat 8192 n) (Fin.ofNat 1024 (1024 * q + l.val)))

/-- The blocks of a point. -/
abbrev aAt (t : Fin cfg0.N) : FVec Ideal S1024x1024 .bf16 := iblk m c 0 t
abbrev bAt (t : Fin cfg0.N) : FVec Ideal S1024x1024 .bf16 := iblk m c 1 t

theorem term_at (q j : ℕ) (hj : j < 8) (h : 8 * q + j < cfg0.N) (r x : Fin 1024) (l : Fin 1024) :
    aAt m c ⟨8 * q + j, h⟩ (ix2 x r) * bAt m c ⟨8 * q + j, h⟩ (ix2 x l) = term m c q r l (1024 * j + x.val) := by
  have i := idx ⟨8 * q + j, h⟩
  dsimp only at i
  rw [show (8 * q + j) / 8 = q by omega, show (8 * q + j) % 8 = j by omega] at i
  have hq := i.2.2.2.1
  have e0 : (Fin.ofNat 8192 (1024 * j + x.val)).val = 1024 * j + x.val := Nat.mod_eq_of_lt (by omega)
  have e1 : (Fin.ofNat 1024 (1024 * q + l.val)).val = 1024 * q + l.val := Nat.mod_eq_of_lt (by omega)
  unfold term
  congr 1
  · blk_ext [iblk, i]
  · blk_ext [iblk, i]

/-- The scratch after a point but the last of its block of the result. -/
theorem scratch (q : ℕ) (r : Fin 1024) (l : Fin 1024) (j : ℕ) (hj : j < 7) (h : 8 * q + j < cfg0.N) :
    (outsAt0 m c (8 * q + j) h).2 (ix2 r l) = ∑ n ∈ Finset.range (1024 * (j + 1)), term m c q r l n := by
  induction j with
  | zero =>
    rw [outsAt0_A m c ⟨8 * q + 0, h⟩ (by dsimp only; omega) (by dsimp only; omega)]
    dsimp only
    rw [sout_A, pay2_at, pay1_at]
    exact sum_more _ 0 _ fun x => term_at m c q 0 (by omega) h r x l
  | succ j ih =>
    rw [outsAt0_B m c ⟨8 * q + (j + 1), h⟩ (by dsimp only; omega) (by dsimp only; omega)]
    dsimp only
    rw [sout_B, pay2_at]
    refine Eq.trans (congrArg (· + _) ?_) (sum_more _ (j + 1) _ fun x => term_at m c q (j + 1) (by omega) h r x l)
    exact ih (by omega) (by omega)

/-- The last point of a block of the result. -/
theorem last (q : ℕ) (r : Fin 1024) (l : Fin 1024) (h : 8 * q + 7 < cfg0.N) :
    (outsAt0 m c (8 * q + 7) h).1 (ix2 r l) = ∑ n ∈ Finset.range (1024 * 8), term m c q r l n := by
  rw [outsAt0_C m c ⟨8 * q + 7, h⟩ (by dsimp only; omega) (by dsimp only; omega)]
  dsimp only
  rw [out_C]
  refine (pay2_at _ _ _ r l).trans ?_
  refine Eq.trans (congrArg (· + _) ?_) (sum_more _ 7 _ fun x => term_at m c q 7 (by omega) h r x l)
  exact scratch m c q r l 6 (by omega) (by omega)

theorem outs_congr {a b : ℕ} (e : a = b) (ha : a < cfg0.N) (hb : b < cfg0.N) : outsAt0 m c a ha = outsAt0 m c b hb := by
  subst e
  rfl

theorem array : (dats m 0 c).arrAt 2 cfg0.N = tMul (aArr m c) (bArr m c) := by
  refine (dats m 0 c).arrAt_eq_of_covers 2 _ (by decide +kernel) fun t hf y => ?_
  blk_simp
  have i := idx t
  have h7 := (flush0_2 t).mp hf
  rw [after0_2]
  idx_vars y
  have e1 : (Fin.ofNat 1024 (1024 * (t.val / 8) + y1.val)).val = 1024 * (t.val / 8) + y1.val := Nat.mod_eq_of_lt (by omega)
  refine Eq.trans ?_ (tMul_at _ _ _ y0 (Fin.ofNat 1024 (1024 * (t.val / 8) + y1.val)) ?_ ?_)
  · refine Eq.trans ?_ (last m c (t.val / 8) y0 y1 i.2.2.2.2)
    exact congrFun (congrArg Prod.fst (outs_congr m c (by omega) t.isLt i.2.2.2.2)) _
  · refine Fin.ext ?_
    blk_simp [i]
  · refine Fin.ext (e1.trans ?_)
    blk_simp [i]
    omega

/-- The program ends with that product, its arguments as launched. -/
theorem value (ρ : Dev nD → PrngReg) :
    θ_run defs (onTc (τ := τ) (main (F := Ideal))) ⟨m, fun _ => 0, ρ⟩ (fun r => ∀ c : Dev nD,
      r.2.mem ((c.tc : Thread nD τ).loc main_v2)
        = tMul (m ((c.tc : Thread nD τ).loc main_arg0) : Mat 8192 1024) (m ((c.tc : Thread nD τ).loc main_arg1) : Mat 8192 1024)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans ((array m c).trans (by rw [aArr, bArr, entry_v0, entry_v1])), (h c).2⟩)
    (Cert.Kernel13Ideal.Value.run_blocks (F := Ideal) m ρ)

end Cert.Proof.Kernel13Ideal
-- ==== Proof.Proj.GradOutRef.lean ====
/-
  The gradient of the output projection's weights: the reference's array is the same product.
-/
module

public import proofs.«01_k».proof.Proof.Mlp.Mats
public import proofs.«01_k».proof.Proof.Gen.Reference13Ideal.Run
public import Idealize.ShloMosaic.Lib.IdealHost
public import Idealize.ShloMosaic.Lib.WordCmp

@[expose] public section

set_option maxRecDepth 16384

noncomputable section

namespace Cert.Proof.Reference13Ideal

open Cert.Proof.Mlp Cert.Reference13Ideal Cert.Reference13Ideal.Gen Idealize.ShloMosaic Idealize.ShloMosaic.TcCoe

theorem result (a : FVec Ideal S8192x1024 .f32) (b : FVec Ideal S8192x1024 .f32) :
    truncf .bf16 (transpose S1024x1024 [1, 0] (Host.dotGeneral dot_S8192x1024_S8192x1024_S1024x1024_0_0_1_1_n_n none b a)
      transposes_S1024x1024_S1024x1024_1_0) bitsLt_bf16_f32 = tMul (a : Mat 8192 1024) (b : Mat 8192 1024) := by
  funext i
  idx_vars i
  unfold tMul
  pointwise
  exact Finset.sum_congr rfl fun x _ => mul_comm _ _

end Cert.Proof.Reference13Ideal
-- ==== Proof.Proj.OMla.lean ====
/-
  The latent attention's output projection: the kernel's array is the product.
-/
module

public import proofs.«01_k».proof.Proof.Mlp.Mats
public import proofs.«01_k».proof.Proof.Gen.Kernel14Ideal.Value
public import Idealize.ShloMosaic.Lib.Pipeline.ValueKit
public import Idealize.ShloMosaic.Lib.StableHlo.Run

@[expose] public section

set_option maxRecDepth 16384

noncomputable section

namespace Cert.Proof.Kernel14Ideal

open Cert.Proof.Mlp Cert.Kernel14Ideal Cert.Kernel14Ideal.Gen Idealize.ShloMosaic Idealize.ShloMosaic.TcCoe
open Idealize.SL.Sem Idealize.ShloMosaic.StableHlo
open Idealize.ShloMosaic.Pipeline (Dat)

theorem pay1_at (a : FVec Ideal S2048x1024 .bf16) (b : FVec Ideal S1024x1024 .bf16) (r : Fin 2048) (l : Fin 1024) :
    k0_pay1 (F := Ideal) a b (ix2 r l) = ∑ x : Fin 1024, a (ix2 r x) * b (ix2 x l) := by
  pointwise [k0_pay1]

theorem out_at (a : FVec Ideal S2048x1024 .bf16) (b : FVec Ideal S1024x1024 .bf16) (r : Fin 2048) (l : Fin 1024) :
    out0_2 (F := Ideal) a b (ix2 r l) = ∑ x : Fin 1024, a (ix2 r x) * b (ix2 x l) := by
  unfold out0_2
  rw [View.canon_cons_unit_lit, View.ld_unit_lit, View.ld_unit_lit]
  · exact pay1_at a b r l
  all_goals decide

variable (m : (ℓ : Loc nD τ sig) → Buf (Elt Ideal) ℓ) (c : Dev nD)

theorem entry_v0 : V m c main_v0 = m ((c.tc : Thread nD τ).loc main_arg0) := by
  show after hostOps0 (fun b => m (c, b)) _ = _
  after_results_simp
  rfl
theorem entry_v1 : V m c main_v1 = m ((c.tc : Thread nD τ).loc main_arg1) := by
  show after hostOps0 (fun b => m (c, b)) _ = _
  after_results_simp
  rfl

theorem idx : ∀ t : Fin cfg0.N, win0_0.index t = ![t.val, 0] ∧ win0_1.index t = ![0, 0]
    ∧ win0_2.index t = ![t.val, 0] ∧ t.val < 4 :=
  (by decide +kernel : ∀ t : Fin grid0.N, _)

theorem array : (dats m 0 c).arrAt 2 cfg0.N = mul (V m c main_v0 : Mat 8192 1024) (V m c main_v1 : Mat 1024 1024) := by
  refine (dats m 0 c).arrAt_eq_of_covers 2 _ (by decide +kernel) fun t hf y => ?_
  blk_simp
  rw [after0_2]
  idx_vars y
  refine (out_at _ _ _ _).trans (mul_at _ _ _ _ _ (fun x => ?_) (fun x => ?_))
  · blk_ext [iblk, idx t]
  · blk_ext [iblk, idx t]

/-- The program ends with that product, its arguments as launched. -/
theorem value (ρ : Dev nD → PrngReg) :
    θ_run defs (onTc (τ := τ) (main (F := Ideal))) ⟨m, fun _ => 0, ρ⟩ (fun r => ∀ c : Dev nD,
      r.2.mem ((c.tc : Thread nD τ).loc main_v2)
        = mul (m ((c.tc : Thread nD τ).loc main_arg0) : Mat 8192 1024) (m ((c.tc : Thread nD τ).loc main_arg1) : Mat 1024 1024)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans ((array m c).trans (by rw [entry_v0, entry_v1])), (h c).2⟩)
    (Cert.Kernel14Ideal.Value.run_blocks (F := Ideal) m ρ)

end Cert.Proof.Kernel14Ideal
-- ==== Proof.Proj.OMlaRef.lean ====
/-
  The latent attention's output projection: the reference's array is the same product.
-/
module

public import proofs.«01_k».proof.Proof.Mlp.Mats
public import proofs.«01_k».proof.Proof.Gen.Reference14Ideal.Run
public import Idealize.ShloMosaic.Lib.IdealHost
public import Idealize.ShloMosaic.Lib.WordCmp

@[expose] public section

set_option maxRecDepth 16384

noncomputable section

namespace Cert.Proof.Reference14Ideal

open Cert.Proof.Mlp Cert.Reference14Ideal Cert.Reference14Ideal.Gen Idealize.ShloMosaic Idealize.ShloMosaic.TcCoe

theorem result (a : FVec Ideal S8192x1024 .f32) (b : FVec Ideal S1024x1024 .f32) :
    truncf .bf16 (Host.dotGeneral dot_S8192x1024_S1024x1024_S8192x1024_1_0_0_1_n_n none a b) bitsLt_bf16_f32 = mul (a : Mat 8192 1024) (b : Mat 1024 1024) := by
  funext i
  idx_vars i
  unfold mul
  pointwise

end Cert.Proof.Reference14Ideal
-- ==== Proof.Proj.Claims.lean ====
/-
  What is claimed of the projections' six programs.
-/
module

public import proofs.«01_k».proof.Defs
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Proj.GradIn
public import proofs.«01_k».proof.Proof.Proj.GradInRef
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Proj.InBack
public import proofs.«01_k».proof.Proof.Proj.InBackRef
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Proj.InLo
public import proofs.«01_k».proof.Proof.Proj.InLoRef
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Proj.InHi
public import proofs.«01_k».proof.Proof.Proj.InHiRef
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Proj.GradOut
public import proofs.«01_k».proof.Proof.Proj.GradOutRef
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Proj.OMla
public import proofs.«01_k».proof.Proof.Proj.OMlaRef

@[expose] public section

noncomputable section

namespace Cert.Proof.Mlp

open Idealize.ShloMosaic Idealize.SL.Sem

/-! ## The gradient of the input projection's weights -/

/-- The printed program: it ends, its arguments unchanged, every counter at zero. -/
theorem frame_kernel9 : Cert.quiescent_Kernel9 (hKernel9 := Cert.Kernel9.Gen.facts) :=
  fun m ρ _ => Cert.Kernel9.Gen.frame (F := Bits) m ρ

/-- The same of the program read over the extended reals. -/
theorem frame_kernel9Ideal : Cert.quiescent_Kernel9Ideal (hKernel9Ideal := Cert.Kernel9Ideal.Gen.facts) :=
  fun m ρ _ => Cert.Kernel9Ideal.Gen.frame (F := Ideal) m ρ

/-- The same of the reference. -/
theorem frame_reference9 : Cert.quiescent_Reference9Ideal (hReference9Ideal := Cert.Reference9Ideal.Gen.facts) :=
  fun m ρ _ => (θ_run _ _ _).mono (fun r h => ⟨fun c => (h c).2, sem_eq_zero_of_no_sems (by decide) r.2⟩)
    (Cert.Reference9Ideal.Value.run (F := Ideal) m ρ)

/-- The kernel and the reference end with the same array. -/
theorem algebraic9 : Cert.algebraic_Kernel9Ideal_Reference9Ideal (hKernel9Ideal := Cert.Kernel9Ideal.Gen.facts)
    (hReference9Ideal := Cert.Reference9Ideal.Gen.facts) := by
  intro m g m' g' _ hargs
  refine ⟨fun c => tMul (m ((c.tc : Thread Cert.Kernel9Ideal.nD Cert.Kernel9Ideal.τ).loc Cert.Kernel9Ideal.main_arg0) : Mat 8192 1024) (m ((c.tc : Thread Cert.Kernel9Ideal.nD Cert.Kernel9Ideal.τ).loc Cert.Kernel9Ideal.main_arg1) : Mat 8192 4224),
    Kernel9Ideal.value m g, ?_⟩
  refine (θ_run _ _ _).mono (fun r h c => ?_) (Cert.Reference9Ideal.Value.run (F := Ideal) m' g')
  obtain ⟨h0, h1⟩ := hargs c
  obtain ⟨r0, h⟩ := h c
  rw [h0, h1] at r0
  exact ⟨r0.trans (Reference9Ideal.result _ _), h⟩

/-! ## The backward pass of the input projection -/

/-- The printed program: it ends, its arguments unchanged, every counter at zero. -/
theorem frame_kernel10 : Cert.quiescent_Kernel10 (hKernel10 := Cert.Kernel10.Gen.facts) :=
  fun m ρ _ => Cert.Kernel10.Gen.frame (F := Bits) m ρ

/-- The same of the program read over the extended reals. -/
theorem frame_kernel10Ideal : Cert.quiescent_Kernel10Ideal (hKernel10Ideal := Cert.Kernel10Ideal.Gen.facts) :=
  fun m ρ _ => Cert.Kernel10Ideal.Gen.frame (F := Ideal) m ρ

/-- The same of the reference. -/
theorem frame_reference10 : Cert.quiescent_Reference10Ideal (hReference10Ideal := Cert.Reference10Ideal.Gen.facts) :=
  fun m ρ _ => (θ_run _ _ _).mono (fun r h => ⟨fun c => (h c).2, sem_eq_zero_of_no_sems (by decide) r.2⟩)
    (Cert.Reference10Ideal.Value.run (F := Ideal) m ρ)

/-- The kernel and the reference end with the same array. -/
theorem algebraic10 : Cert.algebraic_Kernel10Ideal_Reference10Ideal (hKernel10Ideal := Cert.Kernel10Ideal.Gen.facts)
    (hReference10Ideal := Cert.Reference10Ideal.Gen.facts) := by
  intro m g m' g' _ hargs
  refine ⟨fun c => mulT (m ((c.tc : Thread Cert.Kernel10Ideal.nD Cert.Kernel10Ideal.τ).loc Cert.Kernel10Ideal.main_arg0) : Mat 8192 4224) (m ((c.tc : Thread Cert.Kernel10Ideal.nD Cert.Kernel10Ideal.τ).loc Cert.Kernel10Ideal.main_arg1) : Mat 1024 4224),
    Kernel10Ideal.value m g, ?_⟩
  refine (θ_run _ _ _).mono (fun r h c => ?_) (Cert.Reference10Ideal.Value.run (F := Ideal) m' g')
  obtain ⟨h0, h1⟩ := hargs c
  obtain ⟨r0, h⟩ := h c
  rw [h0, h1] at r0
  exact ⟨r0.trans (Reference10Ideal.result _ _), h⟩

/-! ## The input projection's first part -/

/-- The printed program: it ends, its arguments unchanged, every counter at zero. -/
theorem frame_kernel11 : Cert.quiescent_Kernel11 (hKernel11 := Cert.Kernel11.Gen.facts) :=
  fun m ρ _ => Cert.Kernel11.Gen.frame (F := Bits) m ρ

/-- The same of the program read over the extended reals. -/
theorem frame_kernel11Ideal : Cert.quiescent_Kernel11Ideal (hKernel11Ideal := Cert.Kernel11Ideal.Gen.facts) :=
  fun m ρ _ => Cert.Kernel11Ideal.Gen.frame (F := Ideal) m ρ

/-- The same of the reference. -/
theorem frame_reference11 : Cert.quiescent_Reference11Ideal (hReference11Ideal := Cert.Reference11Ideal.Gen.facts) :=
  fun m ρ _ => (θ_run _ _ _).mono (fun r h => ⟨fun c => (h c).2, sem_eq_zero_of_no_sems (by decide) r.2⟩)
    (Cert.Reference11Ideal.Value.run (F := Ideal) m ρ)

/-- The kernel and the reference end with the same array. -/
theorem algebraic11 : Cert.algebraic_Kernel11Ideal_Reference11Ideal (hKernel11Ideal := Cert.Kernel11Ideal.Gen.facts)
    (hReference11Ideal := Cert.Reference11Ideal.Gen.facts) := by
  intro m g m' g' _ hargs
  refine ⟨fun c => plusRow (mul (m ((c.tc : Thread Cert.Kernel11Ideal.nD Cert.Kernel11Ideal.τ).loc Cert.Kernel11Ideal.main_arg0) : Mat 8192 1024) (m ((c.tc : Thread Cert.Kernel11Ideal.nD Cert.Kernel11Ideal.τ).loc Cert.Kernel11Ideal.main_arg1) : Mat 1024 3584)) (m ((c.tc : Thread Cert.Kernel11Ideal.nD Cert.Kernel11Ideal.τ).loc Cert.Kernel11Ideal.main_arg2) : Mat 1 3584),
    Kernel11Ideal.value m g, ?_⟩
  refine (θ_run _ _ _).mono (fun r h c => ?_) (Cert.Reference11Ideal.Value.run (F := Ideal) m' g')
  obtain ⟨h0, h1, h2⟩ := hargs c
  obtain ⟨r0, h⟩ := h c
  rw [h0, h1, h2] at r0
  exact ⟨r0.trans (Reference11Ideal.result _ _ _), h⟩

/-! ## The input projection's second part -/

/-- The printed program: it ends, its arguments unchanged, every counter at zero. -/
theorem frame_kernel12 : Cert.quiescent_Kernel12 (hKernel12 := Cert.Kernel12.Gen.facts) :=
  fun m ρ _ => Cert.Kernel12.Gen.frame (F := Bits) m ρ

/-- The same of the program read over the extended reals. -/
theorem frame_kernel12Ideal : Cert.quiescent_Kernel12Ideal (hKernel12Ideal := Cert.Kernel12Ideal.Gen.facts) :=
  fun m ρ _ => Cert.Kernel12Ideal.Gen.frame (F := Ideal) m ρ

/-- The same of the reference. -/
theorem frame_reference12 : Cert.quiescent_Reference12Ideal (hReference12Ideal := Cert.Reference12Ideal.Gen.facts) :=
  fun m ρ _ => (θ_run _ _ _).mono (fun r h => ⟨fun c => (h c).2, sem_eq_zero_of_no_sems (by decide) r.2⟩)
    (Cert.Reference12Ideal.Value.run (F := Ideal) m ρ)

/-- The kernel and the reference end with the same array. -/
theorem algebraic12 : Cert.algebraic_Kernel12Ideal_Reference12Ideal (hKernel12Ideal := Cert.Kernel12Ideal.Gen.facts)
    (hReference12Ideal := Cert.Reference12Ideal.Gen.facts) := by
  intro m g m' g' _ hargs
  refine ⟨fun c => plusRow (mul (m ((c.tc : Thread Cert.Kernel12Ideal.nD Cert.Kernel12Ideal.τ).loc Cert.Kernel12Ideal.main_arg0) : Mat 8192 1024) (m ((c.tc : Thread Cert.Kernel12Ideal.nD Cert.Kernel12Ideal.τ).loc Cert.Kernel12Ideal.main_arg1) : Mat 1024 640)) (m ((c.tc : Thread Cert.Kernel12Ideal.nD Cert.Kernel12Ideal.τ).loc Cert.Kernel12Ideal.main_arg2) : Mat 1 640),
    Kernel12Ideal.value m g, ?_⟩
  refine (θ_run _ _ _).mono (fun r h c => ?_) (Cert.Reference12Ideal.Value.run (F := Ideal) m' g')
  obtain ⟨h0, h1, h2⟩ := hargs c
  obtain ⟨r0, h⟩ := h c
  rw [h0, h1, h2] at r0
  exact ⟨r0.trans (Reference12Ideal.result _ _ _), h⟩

/-! ## The gradient of the output projection's weights -/

/-- The printed program: it ends, its arguments unchanged, every counter at zero. -/
theorem frame_kernel13 : Cert.quiescent_Kernel13 (hKernel13 := Cert.Kernel13.Gen.facts) :=
  fun m ρ _ => Cert.Kernel13.Gen.frame (F := Bits) m ρ

/-- The same of the program read over the extended reals. -/
theorem frame_kernel13Ideal : Cert.quiescent_Kernel13Ideal (hKernel13Ideal := Cert.Kernel13Ideal.Gen.facts) :=
  fun m ρ _ => Cert.Kernel13Ideal.Gen.frame (F := Ideal) m ρ

/-- The same of the reference. -/
theorem frame_reference13 : Cert.quiescent_Reference13Ideal (hReference13Ideal := Cert.Reference13Ideal.Gen.facts) :=
  fun m ρ _ => (θ_run _ _ _).mono (fun r h => ⟨fun c => (h c).2, sem_eq_zero_of_no_sems (by decide) r.2⟩)
    (Cert.Reference13Ideal.Value.run (F := Ideal) m ρ)

/-- The kernel and the reference end with the same array. -/
theorem algebraic13 : Cert.algebraic_Kernel13Ideal_Reference13Ideal (hKernel13Ideal := Cert.Kernel13Ideal.Gen.facts)
    (hReference13Ideal := Cert.Reference13Ideal.Gen.facts) := by
  intro m g m' g' _ hargs
  refine ⟨fun c => tMul (m ((c.tc : Thread Cert.Kernel13Ideal.nD Cert.Kernel13Ideal.τ).loc Cert.Kernel13Ideal.main_arg0) : Mat 8192 1024) (m ((c.tc : Thread Cert.Kernel13Ideal.nD Cert.Kernel13Ideal.τ).loc Cert.Kernel13Ideal.main_arg1) : Mat 8192 1024),
    Kernel13Ideal.value m g, ?_⟩
  refine (θ_run _ _ _).mono (fun r h c => ?_) (Cert.Reference13Ideal.Value.run (F := Ideal) m' g')
  obtain ⟨h0, h1⟩ := hargs c
  obtain ⟨r0, h⟩ := h c
  rw [h0, h1] at r0
  exact ⟨r0.trans (Reference13Ideal.result _ _), h⟩

/-! ## The latent attention's output projection -/

/-- The printed program: it ends, its arguments unchanged, every counter at zero. -/
theorem frame_kernel14 : Cert.quiescent_Kernel14 (hKernel14 := Cert.Kernel14.Gen.facts) :=
  fun m ρ _ => Cert.Kernel14.Gen.frame (F := Bits) m ρ

/-- The same of the program read over the extended reals. -/
theorem frame_kernel14Ideal : Cert.quiescent_Kernel14Ideal (hKernel14Ideal := Cert.Kernel14Ideal.Gen.facts) :=
  fun m ρ _ => Cert.Kernel14Ideal.Gen.frame (F := Ideal) m ρ

/-- The same of the reference. -/
theorem frame_reference14 : Cert.quiescent_Reference14Ideal (hReference14Ideal := Cert.Reference14Ideal.Gen.facts) :=
  fun m ρ _ => (θ_run _ _ _).mono (fun r h => ⟨fun c => (h c).2, sem_eq_zero_of_no_sems (by decide) r.2⟩)
    (Cert.Reference14Ideal.Value.run (F := Ideal) m ρ)

/-- The kernel and the reference end with the same array. -/
theorem algebraic14 : Cert.algebraic_Kernel14Ideal_Reference14Ideal (hKernel14Ideal := Cert.Kernel14Ideal.Gen.facts)
    (hReference14Ideal := Cert.Reference14Ideal.Gen.facts) := by
  intro m g m' g' _ hargs
  refine ⟨fun c => mul (m ((c.tc : Thread Cert.Kernel14Ideal.nD Cert.Kernel14Ideal.τ).loc Cert.Kernel14Ideal.main_arg0) : Mat 8192 1024) (m ((c.tc : Thread Cert.Kernel14Ideal.nD Cert.Kernel14Ideal.τ).loc Cert.Kernel14Ideal.main_arg1) : Mat 1024 1024),
    Kernel14Ideal.value m g, ?_⟩
  refine (θ_run _ _ _).mono (fun r h c => ?_) (Cert.Reference14Ideal.Value.run (F := Ideal) m' g')
  obtain ⟨h0, h1⟩ := hargs c
  obtain ⟨r0, h⟩ := h c
  rw [h0, h1] at r0
  exact ⟨r0.trans (Reference14Ideal.result _ _), h⟩

end Cert.Proof.Mlp

end
-- ==== Proof.Fwd.Model.lean ====
/-
  One row of the latent attention's forward pass over the real numbers: the running greatest score and the running sums of a
  row, block of keys by block of keys, and the quotient they end in.
-/
module

public import proofs.«01_k».proof.Proof.Model2

@[expose] public section

noncomputable section

namespace Cert.Proof.Fwd

open Idealize.ShloMosaic Cert.Proof

/-- The weight of a score, before the greatest score is taken off. -/
def ep (x : ℝ) : ℝ := Real.exp (x * (3424635 / 33554432))

/-- The factor in the exponent: the scale of the scores, in the base of two. -/
def cst : EReal := (((3424635 / 33554432) * (Real.log 2)⁻¹ : ℝ) : EReal)

theorem ep_pos (x : ℝ) : 0 < ep x := Real.exp_pos _
theorem ep_sub (x y : ℝ) : ep (x - y) = ep (-y) * ep x := by
  unfold ep
  rw [← Real.exp_add]
  congr 1
  ring

theorem exp2_real (x : ℝ) : Ideal.exp2 ((x : EReal) * cst) = (ep x : EReal) := by
  unfold cst
  rw [← EReal.coe_mul]
  show ((Real.rpow 2 _ : ℝ) : EReal) = _
  refine congrArg _ ?_
  have h2 : Real.log 2 ≠ 0 := (Real.log_pos (by norm_num)).ne'
  refine (Real.rpow_def_of_pos (by norm_num) _).trans ?_
  unfold ep
  congr 1
  field_simp

theorem exp2_bot : Ideal.exp2 (⊥ * cst) = 0 := by
  have h : (0 : ℝ) < (3424635 / 33554432) * (Real.log 2)⁻¹ := by
    have := Real.log_pos (by norm_num : (1 : ℝ) < 2)
    positivity
  unfold cst
  rw [EReal.bot_mul_coe_of_pos h]
  rfl

/-- A factor that is no less than zero goes into a sum. -/
theorem mul_sum_real {ι : Type} (u : Finset ι) {r : ℝ} (hr : 0 ≤ r) (f : ι → EReal) : (r : EReal) * ∑ x ∈ u, f x = ∑ x ∈ u, (r : EReal) * f x := by
  classical
  induction u using Finset.induction_on with
  | empty => rw [Finset.sum_empty, Finset.sum_empty, mul_zero]
  | insert a u ha ih =>
    rw [Finset.sum_insert ha, Finset.sum_insert ha, ← ih,
      EReal.left_distrib_of_nonneg_of_ne_top (EReal.coe_nonneg.2 hr) (EReal.coe_ne_top r)]

/-- What a row holds when the weighted sums of the keys so far are `S`: nothing yet, or the sums less a common factor. -/
def Good (S : Fin 128 → EReal) (m : EReal) (acc : Fin 128 → EReal) : Prop :=
  (m = ⊥ ∧ (∀ l, acc l = 0) ∧ ∀ l, S l = 0) ∨ ∃ μ : ℝ, m = (μ : EReal) ∧ ∀ l, acc l = (ep (-μ) : EReal) * S l

/-- The greatest of a block's scores joined to the greatest so far. -/
def mx' (m : EReal) (s : Fin 1024 → EReal) : EReal := max m (Finset.univ.fold max ⊥ s)

variable {S : Fin 128 → EReal} {m : EReal} {acc : Fin 128 → EReal} {s : Fin 1024 → EReal} {σ : Fin 1024 → ℝ} {p : Fin 1024 → Prop}
  [DecidablePred p]

theorem mx_real (h : Good S m acc) (hs : ∀ x, s x = if p x then (σ x : EReal) else ⊥) (x₀ : Fin 1024) (hx : p x₀) :
    ∃ μ : ℝ, mx' m s = (μ : EReal) := by
  have hM : Finset.univ.fold max ⊥ s = ((Finset.univ.fold max ⊥ s).toReal : EReal) := by
    refine (EReal.coe_toReal (ne_of_lt ?_) (ne_of_gt ?_)).symm
    · refine (Finset.fold_max_lt _).2 ⟨bot_lt_top, fun x _ => ?_⟩
      rw [hs]
      split
      · exact EReal.coe_lt_top _
      · exact bot_lt_top
    · refine (Finset.lt_fold_max _).2 (Or.inr ⟨x₀, Finset.mem_univ _, ?_⟩)
      rw [hs, if_pos hx]
      exact EReal.bot_lt_coe _
  unfold mx'
  generalize (Finset.univ.fold max ⊥ s).toReal = M at hM
  rw [hM]
  rcases h with ⟨rfl, -, -⟩ | ⟨μ, rfl, -⟩
  · exact ⟨M, max_eq_right bot_le⟩
  · rcases le_total μ M with hl | hl
    · exact ⟨M, max_eq_right (EReal.coe_le_coe_iff.2 hl)⟩
    · exact ⟨μ, max_eq_left (EReal.coe_le_coe_iff.2 hl)⟩

/-- A block of keys is taken in. -/
theorem Good.step (h : Good S m acc) (hs : ∀ x, s x = if p x then (σ x : EReal) else ⊥) (x₀ : Fin 1024) (hx : p x₀)
    (V : Fin 1024 → Fin 128 → EReal) {acc' : Fin 128 → EReal}
    (hacc : ∀ l, acc' l = Ideal.exp2 ((m - mx' m s) * cst) * acc l + ∑ x, Ideal.exp2 ((s x - mx' m s) * cst) * V x l) :
    Good (fun l => S l + ∑ x, if p x then (ep (σ x) : EReal) * V x l else 0) (mx' m s) acc' := by
  obtain ⟨μ', hμ⟩ := mx_real h hs x₀ hx
  refine Or.inr ⟨μ', hμ, fun l => ?_⟩
  rw [hacc l, hμ]
  have h2 : (∑ x, Ideal.exp2 ((s x - (μ' : EReal)) * cst) * V x l)
      = (ep (-μ') : EReal) * ∑ x, (if p x then (ep (σ x) : EReal) * V x l else 0) := by
    rw [mul_sum_real _ (ep_pos _).le]
    refine Finset.sum_congr rfl fun x _ => ?_
    rw [hs]
    split
    · rw [← EReal.coe_sub, exp2_real, ep_sub, EReal.coe_mul, mul_assoc]
    · rw [EReal.bot_sub, exp2_bot, zero_mul, mul_zero]
  rw [h2]
  rcases h with ⟨rfl, ha, hS⟩ | ⟨μ, rfl, ha⟩
  · show _ = (ep (-μ') : EReal) * (S l + ∑ x, if p x then (ep (σ x) : EReal) * V x l else 0)
    rw [ha, hS, mul_zero, zero_add, zero_add]
  · show _ = (ep (-μ') : EReal) * (S l + ∑ x, if p x then (ep (σ x) : EReal) * V x l else 0)
    have e : ep (μ - μ') * ep (-μ) = ep (-μ') := by
      unfold ep
      rw [← Real.exp_add]
      congr 1
      ring
    rw [ha, ← EReal.coe_sub, exp2_real, ← mul_assoc, ← EReal.coe_mul, e,
      EReal.left_distrib_of_nonneg_of_ne_top (EReal.coe_nonneg.2 (ep_pos _).le) (EReal.coe_ne_top _)]

/-- The quotient a row ends in. -/
theorem Good.quot (h : Good S m acc) (l₁ : Fin 128) {z : ℝ} (hz : S l₁ = (z : EReal)) (hp : 0 < z) (l : Fin 128) :
    Ideal.div (acc l) (acc l₁) = S l * ((z⁻¹ : ℝ) : EReal) := by
  rcases h with ⟨-, -, hS⟩ | ⟨μ, -, ha⟩
  · exact absurd (EReal.coe_eq_zero.1 (hz.symm.trans (hS l₁))) hp.ne'
  · have he := (ep_pos (-μ)).ne'
    have hn : ((ep (-μ) * z : ℝ) : EReal) ≠ 0 := fun h0 => mul_ne_zero he hp.ne' (EReal.coe_eq_zero.1 h0)
    rw [ha, ha, hz, ← EReal.coe_mul]
    unfold Ideal.div
    rw [if_neg hn, ← EReal.coe_inv, mul_comm (ep (-μ) : EReal) (S l), mul_assoc, ← EReal.coe_mul]
    congr 2
    field_simp

/-- The sum over the keys up to a query: whole blocks, then the part of the block the query lies in. -/
theorem sum_upto (f : ℕ → EReal) {i : ℕ} (hi : i < 8) (r : Fin 1024) :
    (∑ n ∈ Finset.range (1024 * i), f n) + (∑ x : Fin 1024, if x.val ≤ r.val then f (1024 * i + x.val) else 0)
      = ∑ κ : Fin 8192, if κ.val ≤ 1024 * i + r.val then f κ.val else 0 := by
  rw [Fin.sum_univ_eq_sum_range (fun n => if n ≤ 1024 * i + r.val then f n else 0) 8192,
    Fin.sum_univ_eq_sum_range (fun n => if n ≤ r.val then f (1024 * i + n) else 0) 1024,
    show 8192 = 1024 * i + 1024 + (8192 - (1024 * i + 1024)) by omega, Finset.sum_range_add, Finset.sum_range_add]
  have h3 : ∑ x ∈ Finset.range (8192 - (1024 * i + 1024)),
      (if 1024 * i + 1024 + x ≤ 1024 * i + r.val then f (1024 * i + 1024 + x) else 0) = 0 :=
    Finset.sum_eq_zero fun x _ => if_neg (by omega)
  rw [h3, add_zero]
  refine congrArg₂ _ (Finset.sum_congr rfl fun x hx => (if_pos ?_).symm) (Finset.sum_congr rfl fun x hx => ?_)
  · have := Finset.mem_range.1 hx
    omega
  · simp only [Nat.add_le_add_iff_left]

end Cert.Proof.Fwd
-- ==== Proof.Fwd.Pay.lean ====
/-
  The forward kernel's payloads over the reals, each at an index, and the closed forms of the words it computes.
-/
module

public import proofs.«01_k».proof.Proof.Gen.Kernel15Ideal.Loops
public import proofs.«01_k».proof.Proof.Fwd.Model
public import proofs.«01_k».proof.Proof.Rows
public import Idealize.ShloMosaic.Lib.Pointwise
public import Idealize.ShloMosaic.Lib.WordCmp
public import Idealize.ShloMosaic.Lib.IdealHost

@[expose] public section

set_option maxRecDepth 16384

noncomputable section

namespace Cert.Proof.Kernel15Ideal

open Cert.Proof Cert.Proof.Fwd Cert.Kernel15Ideal Cert.Kernel15Ideal.Gen Idealize.ShloMosaic

/-- The product of a row of queries and a row of keys. -/
def dt (q : Rows 1024 EReal) (k : Rows 1024 EReal) (r x : Fin 1024) : EReal := ∑ l, q (ix2 r l) * k (ix2 x l)

variable (q : FVec Ideal S1024x128 .bf16) (m m₂ : FVec Ideal S1024x1 .f32) (a : FVec Ideal S1024x128 .f32) (k v : Vec Ideal S1024x128 .bf16)
  (s s' : FVec Ideal S1024x1024 .f32)

theorem pay5_at (r x : Fin 1024) : k0_pay5 (F := Ideal) q k (ix2 r x) = dt q k r x := by
  pointwise [k0_pay5]
  rfl
theorem pay3_at (r : Fin 1024) (z : Fin 1) : k0_pay3 (F := Ideal) q m k (ix2 r z) = mx' (m (ix2 r 0)) (dt q k r) := by
  obtain rfl : z = 0 := Subsingleton.elim _ _
  pointwise [k0_pay3, k0_pay2]
  rw [ofBits_bot]
  rfl
theorem pay20_at (r : Fin 1024) (z : Fin 1) : k0_pay20 (F := Ideal) q m k (ix2 r z) = mx' (m (ix2 r 0)) (dt q k r) := by
  obtain rfl : z = 0 := Subsingleton.elim _ _
  pointwise [k0_pay20, k0_pay19, k0_pay12]
  rw [ofBits_bot]
  rfl
theorem pay15_at (r : Fin 1024) (z : Fin 1) :
    k0_pay15 (F := Ideal) m (k0_pay6 (F := Ideal) q k) (ix2 r z) = mx' (m (ix2 r 0)) (dt q k r) := by
  obtain rfl : z = 0 := Subsingleton.elim _ _
  pointwise [k0_pay15, k0_pay6, k0_pay5]
  rw [ofBits_bot]
  rfl

/-- The running sums after a block whose scores are `s`. -/
def acc' (m : EReal) (s : Fin 1024 → EReal) (a : EReal) (v : Fin 1024 → EReal) : EReal :=
  Ideal.exp2 ((m - mx' m s) * cst) * a + ∑ x, Ideal.exp2 ((s x - mx' m s) * cst) * v x

/-- The scores of the block of a query: none where the key lies after the query. -/
def dm (r x : Fin 1024) : EReal := if x.val ≤ r.val then dt q k r x else ⊥

theorem pay4_at (r : Fin 1024) (l : Fin 128) :
    k0_pay4 (F := Ideal) q m a k v (ix2 r l) = acc' (m (ix2 r 0)) (dt q k r) (a (ix2 r l)) fun x => v (ix2 x l) := by
  pointwise [k0_pay4]
  simp only [pay3_at]
  pointwise [k0_pay2]
  rfl
theorem pay21_at (r : Fin 1024) (l : Fin 128) :
    k0_pay21 (F := Ideal) q m a k v (ix2 r l) = acc' (m (ix2 r 0)) (dt q k r) (a (ix2 r l)) fun x => v (ix2 x l) := by
  pointwise [k0_pay21]
  simp only [pay20_at]
  pointwise [k0_pay19, k0_pay12]
  rfl
theorem pay16_at (r : Fin 1024) (l : Fin 128) : k0_pay16 (F := Ideal) m a (k0_pay5 (F := Ideal) q k) (k0_pay6 (F := Ideal) q k) v (ix2 r l)
    = acc' (m (ix2 r 0)) (dt q k r) (a (ix2 r l)) fun x => v (ix2 x l) := by
  pointwise [k0_pay16]
  simp only [pay15_at, pay5_at]
  rfl

theorem pay25_at (r x : Fin 1024) : k0_pay25 (F := Ideal) q k (ix2 r x) = dm q k r x := by
  pointwise [k0_pay25, k0_pay12]
  rw [WordCmp.cmpi_sle_ofNat (by omega) (by omega), select_ofBool]
  rfl
theorem pay26_at (r : Fin 1024) (z : Fin 1) : k0_pay26 (F := Ideal) q m k (ix2 r z) = mx' (m (ix2 r 0)) (dm q k r) := by
  obtain rfl : z = 0 := Subsingleton.elim _ _
  pointwise [k0_pay26]
  simp only [pay25_at]
  rw [ofBits_bot]
  rfl
theorem pay27_at (r x : Fin 1024) : k0_pay27 (F := Ideal) q m k (ix2 r x) = dm q k r x - mx' (m (ix2 r 0)) (dm q k r) := by
  pointwise [k0_pay27]
  simp only [pay25_at, pay26_at]
theorem pay29_at (r : Fin 1024) (l : Fin 128) :
    k0_pay29 (F := Ideal) m a (k0_pay26 (F := Ideal) q m k) (k0_pay27 (F := Ideal) q m k) (k0_pay28 (F := Ideal)) v (ix2 r l)
      = acc' (m (ix2 r 0)) (dm q k r) (a (ix2 r l)) fun x => v (ix2 x l) := by
  pointwise [k0_pay29, k0_pay28]
  simp only [pay26_at, pay27_at]
  rfl
theorem pay30_at (r : Fin 1024) (z : Fin 1) :
    k0_pay30 (F := Ideal) m a (k0_pay26 (F := Ideal) q m k) (k0_pay27 (F := Ideal) q m k) (k0_pay28 (F := Ideal)) v (ix2 r z)
      = acc' (m (ix2 r 0)) (dm q k r) (a (ix2 r 64)) fun x => v (ix2 x 64) := by
  pointwise [k0_pay30]
  simp only [pay29_at]
  refine (Finset.sum_eq_single (64 : Fin 128) (fun l _ hl => ?_) fun h => absurd (Finset.mem_univ _) h).trans ?_
  · rw [WordCmp.cmpi_eq_ofNat (by omega) (by omega), select_ofBool, if_neg]
    exact fun h => hl (Fin.ext h)
  · rfl
theorem pay31_at (r : Fin 1024) (l : Fin 128) :
    k0_pay31 (F := Ideal) m a (k0_pay26 (F := Ideal) q m k) (k0_pay27 (F := Ideal) q m k) (k0_pay28 (F := Ideal)) v (ix2 r l)
      = Ideal.div (acc' (m (ix2 r 0)) (dm q k r) (a (ix2 r l)) fun x => v (ix2 x l))
          (acc' (m (ix2 r 0)) (dm q k r) (a (ix2 r 64)) fun x => v (ix2 x 64)) := by
  pointwise [k0_pay31]
  simp only [pay29_at, pay30_at]

theorem pay13_at (r : Fin 1024) (z : Fin 1) : k0_pay13 (F := Ideal) (ix2 r z) = ⊥ := by
  pointwise [k0_pay13]
  rfl
theorem pay14_at (r : Fin 1024) (l : Fin 128) : k0_pay14 (F := Ideal) (ix2 r l) = 0 := by
  pointwise [k0_pay14]
theorem pay12_eq : k0_pay12 (F := Ideal) q = q := by
  funext x
  idx_vars x
  pointwise [k0_pay12]

/-- The first loop makes one trip for every two whole blocks of keys before the queries' block, the third one for the block left. -/
theorem t1_trips : ∀ i : grid0.Coords, (k0_t1_loop i).trips = (i 1).val / 2 := by decide +kernel
theorem t2_trips : ∀ i : grid0.Coords, (k0_t2_loop i).trips = 0 := by decide +kernel
theorem t3_trips : ∀ i : grid0.Coords, (k0_t3_loop i).trips = (i 1).val % 2 := by decide +kernel
theorem t4_trips : ∀ i : grid0.Coords, (k0_t4_loop i).trips = 0 := by decide +kernel
theorem off1_eq0 : ∀ (i : grid0.Coords) (t : Fin (k0_t1_loop i).trips), k0_off1 i t 0#32 = ![1024 * (2 * t.val), 0] := by decide +kernel
theorem off1_eq1 : ∀ (i : grid0.Coords) (t : Fin (k0_t1_loop i).trips), k0_off1 i t 1#32 = ![1024 * (2 * t.val + 1), 0] := by
  decide +kernel
theorem off3_eq : ∀ (i : grid0.Coords) (t : Fin (k0_t3_loop i).trips),
    k0_off3 i t = ![1024 * (2 * ((i 1).val / 2) + t.val), 0] := by decide +kernel
theorem off5_eq : ∀ i : grid0.Coords, k0_off5 i = ![1024 * (i 1).val, 0] := by decide +kernel

end Cert.Proof.Kernel15Ideal
-- ==== Proof.Fwd.Loops.lean ====
/-
  The loops of the forward kernel over the reals: each trip takes in the next whole blocks of keys.
-/
module

public import proofs.«01_k».proof.Proof.Fwd.Pay
public import proofs.«01_k».proof.Proof.Gen.Kernel15Ideal.Frame

@[expose] public section

set_option maxRecDepth 16384

noncomputable section

namespace Cert.Proof.Kernel15Ideal

open Cert.Proof Cert.Proof.Fwd Cert.Kernel15Ideal Cert.Kernel15Ideal.Gen Idealize.ShloMosaic Idealize.ShloMosaic.TcCoe Idealize.ShloMosaic.Tactic

/-- A block of queries and the keys are these real numbers, the values these real or infinite ones. -/
structure Real3 (q : Rows 1024 EReal) (K V : Rows 8192 EReal) (qR : Fin 1024 → Fin 128 → ℝ) (kR : Fin 8192 → Fin 128 → ℝ) (vR : Fin 8192 → Fin 128 → EReal) : Prop where
  q : ∀ r l, q (ix2 r l) = (qR r l : EReal)
  k : ∀ κ l, K (ix2 κ l) = (kR κ l : EReal)
  v : ∀ κ l, V (ix2 κ l) = vR κ l

variable {q : Rows 1024 EReal} {K V : Rows 8192 EReal} {qR : Fin 1024 → Fin 128 → ℝ} {kR : Fin 8192 → Fin 128 → ℝ} {vR : Fin 8192 → Fin 128 → EReal}

/-- The score of a query of the block and a key, before the scale. -/
def sg (qR : Fin 1024 → Fin 128 → ℝ) (kR : Fin 8192 → Fin 128 → ℝ) (n : ℕ) (r : Fin 1024) : ℝ := ∑ l, qR r l * kR (Fin.ofNat 8192 n) l
/-- The key's term of a weighted sum. -/
def tm (qR : Fin 1024 → Fin 128 → ℝ) (kR : Fin 8192 → Fin 128 → ℝ) (vR : Fin 8192 → Fin 128 → EReal) (r : Fin 1024) (l : Fin 128) (n : ℕ) : EReal :=
  (ep (sg qR kR n r) : EReal) * vR (Fin.ofNat 8192 n) l

/-- The rows hold the sums over the first `n` blocks of keys. -/
def GoodAt (qR : Fin 1024 → Fin 128 → ℝ) (kR : Fin 8192 → Fin 128 → ℝ) (vR : Fin 8192 → Fin 128 → EReal) (n : ℕ) (ma : FVec Ideal S1024x1 .f32 × FVec Ideal S1024x128 .f32) :
    Prop :=
  ∀ r, Good (fun l => ∑ x ∈ Finset.range (1024 * n), tm qR kR vR r l x) (ma.1 (ix2 r 0)) (fun l => ma.2 (ix2 r l))

theorem dt_real (H : Real3 q K V qR kR vR) (n : ℕ) (r x : Fin 1024) :
    dt q (getRows 1024 (1024 * n) K) r x = (sg qR kR (1024 * n + x.val) r : EReal) := by
  unfold dt sg
  rw [coe_sum]
  refine Finset.sum_congr rfl fun l _ => ?_
  rw [EReal.coe_mul, ← H.q, ← H.k]
  rfl

theorem acc_real (H : Real3 q K V qR kR vR) (n : ℕ) (m : EReal) (s : Fin 1024 → EReal) (a : EReal) (l : Fin 128) :
    acc' m s a (fun x => getRows 1024 (1024 * n) V (ix2 x l))
      = Ideal.exp2 ((m - mx' m s) * cst) * a
        + ∑ x : Fin 1024, Ideal.exp2 ((s x - mx' m s) * cst) * vR (Fin.ofNat 8192 (1024 * n + x.val)) l := by
  unfold acc'
  refine congrArg _ (Finset.sum_congr rfl fun x _ => ?_)
  rw [← H.v]
  rfl

/-- A whole block is taken in. -/
theorem next (H : Real3 q K V qR kR vR) (n : ℕ) {m m' : FVec Ideal S1024x1 .f32} {a a' : FVec Ideal S1024x128 .f32}
    (h : GoodAt qR kR vR n (m, a))
    (hm : ∀ r (z : Fin 1), m' (ix2 r z) = mx' (m (ix2 r 0)) (dt q (getRows 1024 (1024 * n) K) r))
    (ha : ∀ r l, a' (ix2 r l) = acc' (m (ix2 r 0)) (dt q (getRows 1024 (1024 * n) K) r) (a (ix2 r l))
      fun x => getRows 1024 (1024 * n) V (ix2 x l)) : GoodAt qR kR vR (n + 1) (m', a') := by
  intro r
  have g := (h r).step (s := dt q (getRows 1024 (1024 * n) K) r) (σ := fun x => sg qR kR (1024 * n + x.val) r) (p := fun _ => True)
    (fun x => by rw [if_pos trivial]; exact dt_real H n r x) 0 trivial (fun x l => vR (Fin.ofNat 8192 (1024 * n + x.val)) l)
    (acc' := fun l => a' (ix2 r l)) (fun l => (ha r l).trans (acc_real H n _ _ _ l))
  have e : (fun l => ∑ x ∈ Finset.range (1024 * (n + 1)), tm qR kR vR r l x) = fun l =>
      (∑ x ∈ Finset.range (1024 * n), tm qR kR vR r l x)
        + ∑ x : Fin 1024, if True then (ep (sg qR kR (1024 * n + x.val) r) : EReal) * vR (Fin.ofNat 8192 (1024 * n + x.val)) l else 0 := by
    funext l
    rw [mul_add, mul_one, Finset.sum_range_add, Finset.sum_range (n := 1024)]
    refine congrArg _ (Finset.sum_congr rfl fun x _ => ?_)
    rw [if_pos trivial]
    rfl
  show Good _ (m' (ix2 r 0)) (fun l => a' (ix2 r l))
  rw [hm, e]
  exact g

variable (𝒱 : Variants) (c : Dev nD) (bd : Option 𝒱.V) (i : grid0.Coords) (a2 : Memref sig .tc .vmem S1024x128 .bf16) (h2 : a2.IsWhole)
  (a3 : Memref sig .tc .vmem S8192x128 .bf16) (h3 : a3.IsWhole) (a4 : Memref sig .tc .vmem S8192x128 .bf16) (h4 : a4.IsWhole)
  (a5 : Memref sig .tc .vmem S1024x128 .bf16) (h5 : a5.IsWhole) (a6 : Memref sig .tc .vmem S1024x128 .bf16) (h6 : a6.IsWhole)

theorem trip1 (k : Fin (k0_t1_loop i).trips) (ma : FVec Ideal S1024x1 .f32 × FVec Ideal S1024x128 .f32) :
    tripR_k0_t1 (F := Ideal) 𝒱 c bd i a2 h2 a3 h3 a4 h4 a5 h5 a6 h6 q (h3.unread K) (h4.unread V) k ma
      = (k0_pay15 (F := Ideal) (k0_pay3 (F := Ideal) q ma.1 (getRows 1024 (1024 * (2 * k.val)) K))
          (k0_pay6 (F := Ideal) q (getRows 1024 (1024 * (2 * k.val + 1)) K)),
        k0_pay16 (F := Ideal) (k0_pay3 (F := Ideal) q ma.1 (getRows 1024 (1024 * (2 * k.val)) K))
          (k0_pay4 (F := Ideal) q ma.1 ma.2 (getRows 1024 (1024 * (2 * k.val)) K) (getRows 1024 (1024 * (2 * k.val)) V))
          (k0_pay5 (F := Ideal) q (getRows 1024 (1024 * (2 * k.val + 1)) K))
          (k0_pay6 (F := Ideal) q (getRows 1024 (1024 * (2 * k.val + 1)) K)) (getRows 1024 (1024 * (2 * k.val + 1)) V)) := by
  unfold tripR_k0_t1 trip_k0_t1
  dsimp only
  sl_unfold_run_names
  simp only [pay12_eq]
  have e1 : getRows 1024 (1024 * (2 * k.val)) K = View.readAt (Elt Ideal) a3.view
      (Rect.unit (s := S8192x128) (k0_off1 i k 0#32) S1024x128.size (k0_off1_inb i k 0)).toLoadRect (h3.unread K) := (readAt_rows (Val := Elt Ideal) (e := .bf16) h3 K (off1_eq0 i k) _).symm
  have e2 : getRows 1024 (1024 * (2 * k.val)) V = View.readAt (Elt Ideal) a4.view
      (Rect.unit (s := S8192x128) (k0_off1 i k 0#32) S1024x128.size (k0_off1_inb i k 0)).toLoadRect (h4.unread V) := (readAt_rows (Val := Elt Ideal) (e := .bf16) h4 V (off1_eq0 i k) _).symm
  have e3 : getRows 1024 (1024 * (2 * k.val + 1)) K = View.readAt (Elt Ideal) a3.view
      (Rect.unit (s := S8192x128) (k0_off1 i k 1#32) S1024x128.size (k0_off1_inb i k 1)).toLoadRect (h3.unread K) := (readAt_rows (Val := Elt Ideal) (e := .bf16) h3 K (off1_eq1 i k) _).symm
  have e4 : getRows 1024 (1024 * (2 * k.val + 1)) V = View.readAt (Elt Ideal) a4.view
      (Rect.unit (s := S8192x128) (k0_off1 i k 1#32) S1024x128.size (k0_off1_inb i k 1)).toLoadRect (h4.unread V) := (readAt_rows (Val := Elt Ideal) (e := .bf16) h4 V (off1_eq1 i k) _).symm
  rw [e1, e2, e3, e4]

theorem trip3 (k : Fin (k0_t3_loop i).trips) (ma : FVec Ideal S1024x1 .f32 × FVec Ideal S1024x128 .f32) :
    tripR_k0_t3 (F := Ideal) 𝒱 c bd i a2 h2 a3 h3 a4 h4 a5 h5 a6 h6 q (h3.unread K) (h4.unread V) k ma
      = (k0_pay20 (F := Ideal) q ma.1 (getRows 1024 (1024 * (2 * ((i 1).val / 2) + k.val)) K),
        k0_pay21 (F := Ideal) q ma.1 ma.2 (getRows 1024 (1024 * (2 * ((i 1).val / 2) + k.val)) K)
          (getRows 1024 (1024 * (2 * ((i 1).val / 2) + k.val)) V)) := by
  unfold tripR_k0_t3 trip_k0_t3
  dsimp only
  sl_unfold_run_names
  have e1 : getRows 1024 (1024 * (2 * ((i 1).val / 2) + k.val)) K = View.readAt (Elt Ideal) a3.view
      (Rect.unit (s := S8192x128) (k0_off3 i k) S1024x128.size (k0_off3_inb i k)).toLoadRect (h3.unread K) := (readAt_rows (Val := Elt Ideal) (e := .bf16) h3 K (off3_eq i k) _).symm
  have e2 : getRows 1024 (1024 * (2 * ((i 1).val / 2) + k.val)) V = View.readAt (Elt Ideal) a4.view
      (Rect.unit (s := S8192x128) (k0_off3 i k) S1024x128.size (k0_off3_inb i k)).toLoadRect (h4.unread V) := (readAt_rows (Val := Elt Ideal) (e := .bf16) h4 V (off3_eq i k) _).symm
  rw [e1, e2]

theorem st1_good (H : Real3 q K V qR kR vR) (init : FVec Ideal S1024x1 .f32 × FVec Ideal S1024x128 .f32) (h0 : GoodAt qR kR vR 0 init) :
    ∀ n, n ≤ (k0_t1_loop i).trips → GoodAt qR kR vR (2 * n)
      (st_k0_t1 (F := Ideal) 𝒱 c bd i a2 h2 a3 h3 a4 h4 a5 h5 a6 h6 q (h3.unread K) (h4.unread V) init n) := by
  intro n
  induction n with
  | zero => intro _; exact h0
  | succ n ih =>
    intro hn
    have g := ih (Nat.le_of_succ_le hn)
    rw [st_k0_t1_succ (F := Ideal) 𝒱 c bd i a2 h2 a3 h3 a4 h4 a5 h5 a6 h6 q (h3.unread K) (h4.unread V) init ⟨n, hn⟩, trip1]
    generalize st_k0_t1 (F := Ideal) 𝒱 c bd i a2 h2 a3 h3 a4 h4 a5 h5 a6 h6 q (h3.unread K) (h4.unread V) init n = ma at g ⊢
    have g1 := next H (2 * n) g (pay3_at _ _ _) (pay4_at _ _ _ _ _)
    exact next H (2 * n + 1) g1 (pay15_at _ _ _) (pay16_at _ _ _ _ _)

theorem st3_good (H : Real3 q K V qR kR vR) (init : FVec Ideal S1024x1 .f32 × FVec Ideal S1024x128 .f32)
    (h0 : GoodAt qR kR vR (2 * ((i 1).val / 2)) init) :
    ∀ n, n ≤ (k0_t3_loop i).trips → GoodAt qR kR vR (2 * ((i 1).val / 2) + n)
      (st_k0_t3 (F := Ideal) 𝒱 c bd i a2 h2 a3 h3 a4 h4 a5 h5 a6 h6 q (h3.unread K) (h4.unread V) init n) := by
  intro n
  induction n with
  | zero => intro _; exact h0
  | succ n ih =>
    intro hn
    have g := ih (Nat.le_of_succ_le hn)
    rw [st_k0_t3_succ (F := Ideal) 𝒱 c bd i a2 h2 a3 h3 a4 h4 a5 h5 a6 h6 q (h3.unread K) (h4.unread V) init ⟨n, hn⟩, trip3]
    generalize st_k0_t3 (F := Ideal) 𝒱 c bd i a2 h2 a3 h3 a4 h4 a5 h5 a6 h6 q (h3.unread K) (h4.unread V) init n = ma at g ⊢
    exact next H (2 * ((i 1).val / 2) + n) g (pay20_at _ _ _) (pay21_at _ _ _ _ _)

theorem start_good : GoodAt qR kR vR 0 (k0_pay13 (F := Ideal), k0_pay14 (F := Ideal)) := fun r =>
  Or.inl ⟨pay13_at r 0, fun l => pay14_at r l, fun _ => Finset.sum_range_zero _⟩

/-- The rows after the block the queries lie in, and the quotient stored. -/
theorem last_good (H : Real3 q K V qR kR vR) {n : ℕ} (hn : n < 8) {m : FVec Ideal S1024x1 .f32} {a : FVec Ideal S1024x128 .f32}
    (h : GoodAt qR kR vR n (m, a)) (hp : ∀ κ, vR κ 64 = 1) (r : Fin 1024) (l : Fin 128) :
    k0_pay31 (F := Ideal) m a (k0_pay26 (F := Ideal) q m (getRows 1024 (1024 * n) K)) (k0_pay27 (F := Ideal) q m (getRows 1024 (1024 * n) K))
        (k0_pay28 (F := Ideal)) (getRows 1024 (1024 * n) V) (ix2 r l)
      = (∑ κ : Fin 8192, if κ.val ≤ 1024 * n + r.val then tm qR kR vR r l κ.val else 0)
          * (((∑ κ : Fin 8192, if κ.val ≤ 1024 * n + r.val then ep (sg qR kR κ.val r) else 0)⁻¹ : ℝ) : EReal) := by
  have g := (h r).step (s := dm q (getRows 1024 (1024 * n) K) r) (σ := fun x => sg qR kR (1024 * n + x.val) r) (p := fun x => x.val ≤ r.val)
    (fun x => by unfold dm; rw [dt_real H]) r (le_refl _) (fun x l => vR (Fin.ofNat 8192 (1024 * n + x.val)) l)
    (acc' := fun l => acc' (m (ix2 r 0)) (dm q (getRows 1024 (1024 * n) K) r) (a (ix2 r l)) fun x => getRows 1024 (1024 * n) V (ix2 x l))
    (fun l => acc_real H n _ _ _ l)
  have e := fun l => sum_upto (tm qR kR vR r l) hn r
  have one : (∑ κ : Fin 8192, if κ.val ≤ 1024 * n + r.val then tm qR kR vR r 64 κ.val else 0)
      = ((∑ κ : Fin 8192, if κ.val ≤ 1024 * n + r.val then ep (sg qR kR κ.val r) else 0 : ℝ) : EReal) := by
    rw [coe_sum]
    refine Finset.sum_congr rfl fun κ _ => ?_
    unfold tm
    rw [hp, mul_one]
    split
    · rfl
    · exact EReal.coe_zero.symm
  have pos : 0 < ∑ κ : Fin 8192, if κ.val ≤ 1024 * n + r.val then ep (sg qR kR κ.val r) else 0 := by
    refine Finset.sum_pos' (fun κ _ => ?_) ⟨⟨1024 * n + r.val, by omega⟩, Finset.mem_univ _, ?_⟩
    · split
      · exact (ep_pos _).le
      · exact le_refl _
    · rw [if_pos (le_refl _)]
      exact ep_pos _
  rw [pay31_at, ← e l]
  exact g.quot 64 ((e 64).trans one) pos l

end Cert.Proof.Kernel15Ideal
-- ==== Proof.Fwd.Body.lean ====
/-
  The block the forward kernel stores at a grid point, over real numbers.
-/
module

public import proofs.«01_k».proof.Proof.Fwd.Loops
public import Idealize.ShloMosaic.Lib.Pipeline.ValueKit

@[expose] public section

set_option maxRecDepth 16384

noncomputable section

namespace Cert.Proof.Kernel15Ideal

open Cert.Proof Cert.Proof.Fwd Cert.Kernel15Ideal Cert.Kernel15Ideal.Gen Idealize.ShloMosaic Idealize.ShloMosaic.TcCoe Idealize.ShloMosaic.Tactic

variable {q : Rows 1024 EReal} {K V : Rows 8192 EReal} {qR : Fin 1024 → Fin 128 → ℝ} {kR : Fin 8192 → Fin 128 → ℝ} {vR : Fin 8192 → Fin 128 → EReal}
variable (c : Dev nD) (i : grid0.Coords) (a2 : Memref sig .tc .vmem S1024x128 .bf16) (h2 : a2.IsWhole)
  (a3 : Memref sig .tc .vmem S8192x128 .bf16) (h3 : a3.IsWhole) (a4 : Memref sig .tc .vmem S8192x128 .bf16) (h4 : a4.IsWhole)
  (a5 : Memref sig .tc .vmem S1024x128 .bf16) (h5 : a5.IsWhole) (a6 : Memref sig .tc .vmem S1024x128 .bf16) (h6 : a6.IsWhole)

/-- The block stored, as the one piece written. -/
theorem out_canon (q : FVec Ideal S1024x128 .bf16) (K V : FVec Ideal S8192x128 .bf16) : out0_A_3 (F := Ideal) c i a2 h2 a3 h3 a4 h4 a5 h5 a6 h6 q K V
    = View.canon (kernelRun0_A (F := Ideal) c i a2 h2 a3 h3 a4 h4 a5 h5 a6 h6 q K V).1 := by
  unfold out0_A_3
  exact View.read_writes_eq_canon _ _ _ (cover0_A_3 (F := Ideal) c i a2 h2 a3 h3 a4 h4 a5 h5 a6 h6 q K V)

set_option maxHeartbeats 3200000 in
/-- The piece written, over real numbers. -/
theorem canon_val (H : Real3 q K V qR kR vR) (hp : ∀ κ, vR κ 64 = 1) (r : Fin 1024) (l : Fin 128) :
    View.canon (kernelRun0_A (F := Ideal) c i a2 h2 a3 h3 a4 h4 a5 h5 a6 h6 q K V).1 (ix2 r l)
      = (∑ κ : Fin 8192, if κ.val ≤ 1024 * (i 1).val + r.val then tm qR kR vR r l κ.val else 0)
          * (((∑ κ : Fin 8192, if κ.val ≤ 1024 * (i 1).val + r.val then ep (sg qR kR κ.val r) else 0)⁻¹ : ℝ) : EReal) := by
  unfold kernelRun0_A
  dsimp only
  rw [View.canon_cons_unit_lit]
  · sl_unfold_run_names
    have eq : View.readAt (Elt Ideal) a2.view (Rect.unit (s := S1024x128) ![0, 0] S1024x128.size inb_S1024x128_S1024x128_0_0).toLoadRect
        (h2.unread q) = q := readAt_all (Val := Elt Ideal) (e := .bf16) h2 q _
    have e1 : View.readAt (Elt Ideal) a3.view (Rect.unit (s := S8192x128) (k0_off5 i) S1024x128.size (k0_off5_inb i)).toLoadRect
        (h3.unread K) = getRows 1024 (1024 * (i 1).val) K := readAt_rows (Val := Elt Ideal) (e := .bf16) h3 K (off5_eq i) _
    have e2 : View.readAt (Elt Ideal) a4.view (Rect.unit (s := S8192x128) (k0_off5 i) S1024x128.size (k0_off5_inb i)).toLoadRect
        (h4.unread V) = getRows 1024 (1024 * (i 1).val) V := readAt_rows (Val := Elt Ideal) (e := .bf16) h4 V (off5_eq i) _
    rw [eq, e1, e2]
    have t2 : Scf.trips (k0_t2_loop i).lb (k0_t2_loop i).ub (k0_t2_loop i).st = 0 := t2_trips i
    have t4 : Scf.trips (k0_t4_loop i).lb (k0_t4_loop i).ub (k0_t4_loop i).st = 0 := t4_trips i
    have z2 : ∀ w s, st_k0_t2 (F := Ideal) Variants.none c none i a2 h2 a3 h3 a4 h4 a5 h5 a6 h6 q w (h3.unread K) (h4.unread V) s 0 = s :=
      fun _ _ => rfl
    have z4 : ∀ s, st_k0_t4 (F := Ideal) Variants.none c none i a2 h2 a3 h3 a4 h4 a5 h5 a6 h6 q (h3.unread K) (h4.unread V) s 0 = s :=
      fun _ => rfl
    simp only [t2, t4, z2, z4]
    have g1 : GoodAt qR kR vR (2 * Scf.trips (k0_t1_loop i).lb (k0_t1_loop i).ub (k0_t1_loop i).st)
        (st_k0_t1 (F := Ideal) Variants.none c none i a2 h2 a3 h3 a4 h4 a5 h5 a6 h6 q (h3.unread K) (h4.unread V)
          (k0_pay13 (F := Ideal), k0_pay14 (F := Ideal)) (Scf.trips (k0_t1_loop i).lb (k0_t1_loop i).ub (k0_t1_loop i).st)) :=
      st1_good Variants.none c none i a2 h2 a3 h3 a4 h4 a5 h5 a6 h6 H _ start_good _ (le_refl _)
    have t1 : Scf.trips (k0_t1_loop i).lb (k0_t1_loop i).ub (k0_t1_loop i).st = (i 1).val / 2 := t1_trips i
    generalize st_k0_t1 (F := Ideal) Variants.none c none i a2 h2 a3 h3 a4 h4 a5 h5 a6 h6 q (h3.unread K) (h4.unread V)
      (k0_pay13 (F := Ideal), k0_pay14 (F := Ideal)) (Scf.trips (k0_t1_loop i).lb (k0_t1_loop i).ub (k0_t1_loop i).st) = s1 at g1 ⊢
    rw [t1] at g1
    have g3 : GoodAt qR kR vR (2 * ((i 1).val / 2) + Scf.trips (k0_t3_loop i).lb (k0_t3_loop i).ub (k0_t3_loop i).st)
        (st_k0_t3 (F := Ideal) Variants.none c none i a2 h2 a3 h3 a4 h4 a5 h5 a6 h6 q (h3.unread K) (h4.unread V)
          (s1.1, s1.2) (Scf.trips (k0_t3_loop i).lb (k0_t3_loop i).ub (k0_t3_loop i).st)) :=
      st3_good Variants.none c none i a2 h2 a3 h3 a4 h4 a5 h5 a6 h6 H _ g1 _ (le_refl _)
    have t3 : Scf.trips (k0_t3_loop i).lb (k0_t3_loop i).ub (k0_t3_loop i).st = (i 1).val % 2 := t3_trips i
    generalize st_k0_t3 (F := Ideal) Variants.none c none i a2 h2 a3 h3 a4 h4 a5 h5 a6 h6 q (h3.unread K) (h4.unread V)
      (s1.1, s1.2) (Scf.trips (k0_t3_loop i).lb (k0_t3_loop i).ub (k0_t3_loop i).st) = s3 at g3 ⊢
    rw [t3, Nat.div_add_mod] at g3
    exact last_good H (i 1).isLt g3 hp r l
  · decide

/-- The block stored, over real numbers. -/
theorem out_val (H : Real3 q K V qR kR vR) (hp : ∀ κ, vR κ 64 = 1) (r : Fin 1024) (l : Fin 128) :
    out0_A_3 (F := Ideal) c i a2 h2 a3 h3 a4 h4 a5 h5 a6 h6 q K V (ix2 r l)
      = (∑ κ : Fin 8192, if κ.val ≤ 1024 * (i 1).val + r.val then tm qR kR vR r l κ.val else 0)
          * (((∑ κ : Fin 8192, if κ.val ≤ 1024 * (i 1).val + r.val then ep (sg qR kR κ.val r) else 0)⁻¹ : ℝ) : EReal) :=
  (congrFun (out_canon c i a2 h2 a3 h3 a4 h4 a5 h5 a6 h6 q K V) _).trans (canon_val c i a2 h2 a3 h3 a4 h4 a5 h5 a6 h6 H hp r l)

end Cert.Proof.Kernel15Ideal
-- ==== Proof.Fwd.Arrays.lean ====
/-
  The result array of the forward kernel, over real queries and keys: each row the weighted mean of the values of its head.
-/
module

public import proofs.«01_k».proof.Proof.Fwd.Body

@[expose] public section

noncomputable section

namespace Cert.Proof.Kernel15Ideal

open Cert.Proof Cert.Proof.Fwd Cert.Kernel15Ideal Cert.Kernel15Ideal.Gen Idealize.ShloMosaic Idealize.ShloMosaic.TcCoe
open Idealize.SL Idealize.SL.RA
open Idealize.ShloMosaic.Pipeline (Dat)

/-- Arrays of 8 heads side by side, 128 columns each. -/
abbrev Wide : Type := S8192x1024.Idx → EReal

/-- The columns of head `h`. -/
def hd (h : ℕ) (X : Wide) : Rows 8192 EReal := fun i => X (ix2 (i 0) (Fin.ofNat 1024 (h * 128 + (i 1).val)))

/-- Heads put side by side. -/
def ofHeads (f : ℕ → Rows 8192 EReal) : Wide :=
  fun i => f ((i 1).val / 128) (ix2 (i 0) ⟨(i 1).val % 128, Nat.mod_lt _ (by decide)⟩)

/-- The weight of a key for a query: the exponential of their scaled product, none where the key lies after the query. -/
def wF (Q K : Fin 8192 → Fin 128 → ℝ) (t κ : Fin 8192) : ℝ := if κ.val ≤ t.val then ep (∑ l, Q t l * K κ l) else 0
/-- A head's result: the values' sum under the weights over the weights' sum. -/
def oF (Q K : Fin 8192 → Fin 128 → ℝ) (V : Fin 8192 → Fin 128 → EReal) : Rows 8192 EReal := fun i =>
  (∑ κ, (wF Q K (i 0) κ : EReal) * V κ (i 1)) * (((∑ κ, wF Q K (i 0) κ)⁻¹ : ℝ) : EReal)

variable (m : (ℓ : Loc nD τ sig) → Buf (Elt Ideal) ℓ) (c : Dev nD)

/-- The staged arrays: queries, keys, values. -/
abbrev qArr : Wide := V m c main_v5
abbrev kArr : Wide := V m c main_v13
abbrev vArr : Wide := V m c main_v21

theorem idx : ∀ t : Fin cfg0.N, win0_0.index t = ![t.val % 8, t.val / 8] ∧ win0_1.index t = ![0, t.val / 8]
    ∧ win0_2.index t = ![0, t.val / 8] ∧ win0_3.index t = ![t.val % 8, t.val / 8] ∧ (grid0.coords t 1).val = t.val % 8 ∧ t.val / 8 < 8 :=
  (by decide +kernel : ∀ t : Fin grid0.N, _)

theorem val_col {h i : ℕ} (hh : h < 8) (hi : i < 128) : (Fin.ofNat 1024 (h * 128 + i)).val = h * 128 + i :=
  Nat.mod_eq_of_lt (by omega)
theorem val_row {j i : ℕ} (hj : j < 8) (hi : i < 1024) : (Fin.ofNat 8192 (1024 * j + i)).val = 1024 * j + i :=
  Nat.mod_eq_of_lt (by omega)

/-- The staged blocks, as parts of the staged arrays. -/
theorem qAt_eq (t : Fin cfg0.N) : (iblk m c 0 t : Rows 1024 EReal) = getRows 1024 (1024 * (t.val % 8)) (hd (t.val / 8) (qArr m c)) := by
  funext i
  idx_vars i
  unfold hd getRows
  have h := (idx t).2.2.2.2.2
  blk_ext [iblk, idx t]
  · rw [val_row (by omega) (by omega)]; omega
  · rw [val_col h (by omega)]
theorem kAt_eq (t : Fin cfg0.N) : (iblk m c 1 t : Rows 8192 EReal) = hd (t.val / 8) (kArr m c) := by
  funext i
  idx_vars i
  unfold hd
  have h := (idx t).2.2.2.2.2
  blk_ext [iblk, idx t]
  rw [val_col h (by omega)]
theorem vAt_eq (t : Fin cfg0.N) : (iblk m c 2 t : Rows 8192 EReal) = hd (t.val / 8) (vArr m c) := by
  funext i
  idx_vars i
  unfold hd
  have h := (idx t).2.2.2.2.2
  blk_ext [iblk, idx t]
  rw [val_col h (by omega)]

theorem ofHeads_at (f : ℕ → Rows 8192 EReal) (i : S8192x1024.Idx) (h : ℕ) (r : Fin 8192) (l : Fin 128)
    (e0 : (i 0).val = r.val) (e1 : (i 1).val = h * 128 + l.val) : ofHeads f i = f h (ix2 r l) := by
  have h0 : (i 0) = r := Fin.ext e0
  have h1 : (i 1).val / 128 = h := by rw [e1]; omega
  have h2 : (⟨(i 1).val % 128, Nat.mod_lt _ (by decide)⟩ : Fin 128) = l := Fin.ext (by dsimp only; rw [e1]; omega)
  unfold ofHeads
  rw [h0, h1, h2]

/-- The staged queries and keys hold real numbers, the values ones in lane 64. -/
structure RealArrays (QR KR : ℕ → Fin 8192 → Fin 128 → ℝ) (VR : ℕ → Fin 8192 → Fin 128 → EReal) : Prop where
  q : ∀ h, h < 8 → ∀ t l, hd h (qArr m c) (ix2 t l) = (QR h t l : EReal)
  k : ∀ h, h < 8 → ∀ t l, hd h (kArr m c) (ix2 t l) = (KR h t l : EReal)
  v : ∀ h, h < 8 → ∀ t l, hd h (vArr m c) (ix2 t l) = VR h t l
  one : ∀ h, h < 8 → ∀ t, VR h t 64 = 1

/-- A block's sum over the keys up to a query's row is the sum under the weights. -/
theorem sum_wF (Q K : Fin 8192 → Fin 128 → ℝ) (W : Fin 8192 → Fin 128 → EReal) {n : ℕ} (hn : n < 8) (r : Fin 1024) (l : Fin 128) :
    (∑ κ : Fin 8192, if κ.val ≤ 1024 * n + r.val then tm (fun x => Q (Fin.ofNat 8192 (1024 * n + x.val))) K W r l κ.val else 0)
      = ∑ κ, (wF Q K (Fin.ofNat 8192 (1024 * n + r.val)) κ : EReal) * W κ l := by
  refine Finset.sum_congr rfl fun κ _ => ?_
  unfold wF
  rw [val_row hn r.isLt]
  split
  · unfold tm sg
    rw [show Fin.ofNat 8192 κ.val = κ from Fin.ext (Nat.mod_eq_of_lt κ.isLt)]
  · rw [EReal.coe_zero, zero_mul]

/-- The same of the sum of the weights. -/
theorem sum_ep (Q K : Fin 8192 → Fin 128 → ℝ) {n : ℕ} (hn : n < 8) (r : Fin 1024) :
    (∑ κ : Fin 8192, if κ.val ≤ 1024 * n + r.val then ep (sg (fun x => Q (Fin.ofNat 8192 (1024 * n + x.val))) K κ.val r) else 0)
      = ∑ κ, wF Q K (Fin.ofNat 8192 (1024 * n + r.val)) κ := by
  refine Finset.sum_congr rfl fun κ _ => ?_
  unfold wF sg
  rw [val_row hn r.isLt, show Fin.ofNat 8192 κ.val = κ from Fin.ext (Nat.mod_eq_of_lt κ.isLt)]

variable {QR KR : ℕ → Fin 8192 → Fin 128 → ℝ} {VR : ℕ → Fin 8192 → Fin 128 → EReal}

/-- The array of the results. -/
theorem o_array (H : RealArrays m c QR KR VR) :
    (dats m 0 c).arrAt 3 cfg0.N = ofHeads (fun h => oF (QR h) (KR h) (VR h)) := by
  refine (dats m 0 c).arrAt_eq_of_covers 3 _ (by decide +kernel) fun t hf y => ?_
  have h8 := (idx t).2.2.2.2.2
  have hc := (idx t).2.2.2.2.1
  blk_simp
  rw [after0_3]
  unfold outsAt0
  dsimp only
  idx_vars y
  have R : Real3 (iblk m c 0 t : Rows 1024 EReal) (iblk m c 1 t : Rows 8192 EReal) (iblk m c 2 t : Rows 8192 EReal)
      (fun x => QR (t.val / 8) (Fin.ofNat 8192 (1024 * (t.val % 8) + x.val))) (KR (t.val / 8)) (VR (t.val / 8)) :=
    ⟨fun r l => (congrFun (qAt_eq m c t) _).trans (H.q _ h8 _ _), fun κ l => (congrFun (kAt_eq m c t) _).trans (H.k _ h8 _ _),
      fun κ l => (congrFun (vAt_eq m c t) _).trans (H.v _ h8 _ _)⟩
  refine Eq.trans ?_ (ofHeads_at _ _ (t.val / 8) (Fin.ofNat 8192 (1024 * (t.val % 8) + y0.val)) y1 ?_ ?_).symm
  · refine (out_val c (grid0.coords t) _ _ _ _ _ _ _ _ _ _ R (H.one _ h8) y0 y1).trans ?_
    rw [hc, sum_wF _ _ _ (by omega), sum_ep _ _ (by omega)]
    rfl
  · have e : (Fin.ofNat 8192 (1024 * (t.val % 8) + y0.val)).val = t.val % 8 * 1024 + y0.val := by
      rw [val_row (by omega) (by omega), Nat.mul_comm]
    refine Eq.trans ?_ e.symm
    blk_simp [idx t]
  · blk_simp [idx t]

end Cert.Proof.Kernel15Ideal
end
-- ==== Proof.Fwd.Target.lean ====
/-
  The result of the latent attention as an array: the softmax's mean of the values, the heads side by side.
-/
module

public import proofs.«01_k».proof.Proof.Outs2

@[expose] public section

noncomputable section

namespace Cert.Proof

open Idealize.ShloMosaic

variable (A : Args2)

/-- The arguments with zeros for the values and the cotangent: what is asked to be real of a forward pass is asked of these. -/
def Args2.scores : Args2 := ⟨A.q, A.k, fun _ => 0, fun _ => 0⟩

/-- The mean of a head's values under a query's softmax. -/
def oE2 (h : Fin 8) (t : Fin 8192) (d : Fin 64) : EReal := ∑ κ, (pr2 A h t κ : EReal) * A.v (ix2 κ (col h d))

def outO2 : (⟨2, ![8192, 512]⟩ : Shape).Idx → EReal := fun i => oE2 A (headOf (i 1)) (i 0) (laneOf (i 1))

end Cert.Proof
-- ==== Proof.Fwd.Host.lean ====
/-
  The three arrays the forward kernel is launched on, as terms of the launch's arguments and lane by lane.
-/
module

public import proofs.«01_k».proof.Proof.Fwd.Target
public import proofs.«01_k».proof.Proof.Gen.Kernel15Ideal.Frame
public import proofs.«01_k».proof.Proof.Model2
public import Idealize.ShloMosaic.Lib.StableHlo.Run

@[expose] public section

set_option maxRecDepth 16384

noncomputable section

namespace Cert.Proof.Kernel15Ideal

open Cert.Proof Cert.Kernel15Ideal Cert.Kernel15Ideal.Gen Idealize.ShloMosaic Idealize.ShloMosaic.TcCoe Idealize.SL.Sem Idealize.ShloMosaic.StableHlo

/-- The arguments of one device, without a cotangent. -/
def argsOf (m : (ℓ : Loc nD τ sig) → Buf (Elt Ideal) ℓ) (c : Dev nD) : Args2 where
  q := m ((c.tc : Thread nD τ).loc main_arg0)
  k := m ((c.tc : Thread nD τ).loc main_arg1)
  v := m ((c.tc : Thread nD τ).loc main_arg2)
  ct := fun _ => 0

/-- The ones beside keys and values. -/
def ones : FVec Ideal S8192x8 .f32 := broadcastInDim S8192x8 ![] bcast_S_S8192x8 (constant S_ .f32 0x3F800000#32)

/-- The queries, the keys and the values, their lanes joined and the heads side by side. -/
def qCat (a : Args2) : FVec Ideal S8192x8x128 .f32 := concatenate S8192x8x128 2 [⟨S8192x8x96, shapeCast S8192x8x96 a.q shapeCasts_S8192x768_S8192x8x96⟩,
  ⟨S8192x8x32, broadcastInDim S8192x8x32 ![] bcast_S_S8192x8x32 (constant (F := Ideal) S_ .f32 0x00000000#32)⟩] concatenates_S8192x8x96_S8192x8x32_S8192x8x128_d2
def kCat (a : Args2) : FVec Ideal S8192x8x128 .f32 := concatenate S8192x8x128 2 [⟨S8192x8x96, shapeCast S8192x8x96 a.k shapeCasts_S8192x768_S8192x8x96⟩,
  ⟨S8192x8x1, broadcastInDim S8192x8x1 ![0, 1] bcast_S8192x8_S8192x8x1_0_1 ones⟩, ⟨S8192x8x1, broadcastInDim S8192x8x1 ![0, 1] bcast_S8192x8_S8192x8x1_0_1 ones⟩,
  ⟨S8192x8x1, broadcastInDim S8192x8x1 ![0, 1] bcast_S8192x8_S8192x8x1_0_1 ones⟩,
  ⟨S8192x8x29, broadcastInDim S8192x8x29 ![] bcast_S_S8192x8x29 (constant (F := Ideal) S_ .f32 0x00000000#32)⟩]
  concatenates_S8192x8x96_S8192x8x1_S8192x8x1_S8192x8x1_S8192x8x29_S8192x8x128_d2
def vCat (a : Args2) : FVec Ideal S8192x8x128 .f32 := concatenate S8192x8x128 2 [⟨S8192x8x64, shapeCast S8192x8x64 a.v shapeCasts_S8192x512_S8192x8x64⟩,
  ⟨S8192x8x1, broadcastInDim S8192x8x1 ![0, 1] bcast_S8192x8_S8192x8x1_0_1 ones⟩, ⟨S8192x8x1, broadcastInDim S8192x8x1 ![0, 1] bcast_S8192x8_S8192x8x1_0_1 ones⟩,
  ⟨S8192x8x1, broadcastInDim S8192x8x1 ![0, 1] bcast_S8192x8_S8192x8x1_0_1 ones⟩,
  ⟨S8192x8x61, broadcastInDim S8192x8x61 ![] bcast_S_S8192x8x61 (constant (F := Ideal) S_ .f32 0x00000000#32)⟩]
  concatenates_S8192x8x64_S8192x8x1_S8192x8x1_S8192x8x1_S8192x8x61_S8192x8x128_d2
def flat (x : FVec Ideal S8192x8x128 .f32) : FVec Ideal S8192x1024 .bf16 :=
  truncf (F := Ideal) .bf16 (shapeCast S8192x1024 x shapeCasts_S8192x8x128_S8192x1024) bitsLt_bf16_f32

variable (m : (ℓ : Loc nD τ sig) → Buf (Elt Ideal) ℓ) (c : Dev nD)

/-- A row of lanes from equal pieces. -/
theorem pieces96 {x0 y0 : FVec Ideal S8192x8x96 .f32} {x1 y1 : FVec Ideal S8192x8x1 .f32} {x2 y2 : FVec Ideal S8192x8x1 .f32} {x3 y3 : FVec Ideal S8192x8x1 .f32} {x4 y4 : FVec Ideal S8192x8x29 .f32}
    (e0 : x0 = y0) (e1 : x1 = y1) (e2 : x2 = y2) (e3 : x3 = y3) (e4 : x4 = y4) :
    concatenate (α := Elt Ideal .f32) S8192x8x128 2 [⟨S8192x8x96, x0⟩, ⟨S8192x8x1, x1⟩, ⟨S8192x8x1, x2⟩, ⟨S8192x8x1, x3⟩, ⟨S8192x8x29, x4⟩] concatenates_S8192x8x96_S8192x8x1_S8192x8x1_S8192x8x1_S8192x8x29_S8192x8x128_d2
      = concatenate (α := Elt Ideal .f32) S8192x8x128 2 [⟨S8192x8x96, y0⟩, ⟨S8192x8x1, y1⟩, ⟨S8192x8x1, y2⟩, ⟨S8192x8x1, y3⟩, ⟨S8192x8x29, y4⟩] concatenates_S8192x8x96_S8192x8x1_S8192x8x1_S8192x8x1_S8192x8x29_S8192x8x128_d2 := by
  subst e0 e1 e2 e3 e4
  rfl
theorem pieces64 {x0 y0 : FVec Ideal S8192x8x64 .f32} {x1 y1 : FVec Ideal S8192x8x1 .f32} {x2 y2 : FVec Ideal S8192x8x1 .f32} {x3 y3 : FVec Ideal S8192x8x1 .f32} {x4 y4 : FVec Ideal S8192x8x61 .f32}
    (e0 : x0 = y0) (e1 : x1 = y1) (e2 : x2 = y2) (e3 : x3 = y3) (e4 : x4 = y4) :
    concatenate (α := Elt Ideal .f32) S8192x8x128 2 [⟨S8192x8x64, x0⟩, ⟨S8192x8x1, x1⟩, ⟨S8192x8x1, x2⟩, ⟨S8192x8x1, x3⟩, ⟨S8192x8x61, x4⟩] concatenates_S8192x8x64_S8192x8x1_S8192x8x1_S8192x8x1_S8192x8x61_S8192x8x128_d2
      = concatenate (α := Elt Ideal .f32) S8192x8x128 2 [⟨S8192x8x64, y0⟩, ⟨S8192x8x1, y1⟩, ⟨S8192x8x1, y2⟩, ⟨S8192x8x1, y3⟩, ⟨S8192x8x61, y4⟩] concatenates_S8192x8x64_S8192x8x1_S8192x8x1_S8192x8x1_S8192x8x61_S8192x8x128_d2 := by
  subst e0 e1 e2 e3 e4
  rfl

theorem entry_v5 : V m c main_v5 = flat (qCat (argsOf m c)) := by
  show after hostOps0 (fun b => m (c, b)) (Proc.devRef .tc main_v5) = _
  simp only [hostOps0]
  after_results_simp
  rfl

theorem entry_v13 : V m c main_v13 = flat (kCat (argsOf m c)) := by
  show after hostOps0 (fun b => m (c, b)) (Proc.devRef .tc main_v13) = _
  simp only [hostOps0]
  after_results_simp
  refine congrArg flat (pieces96 ?_ ?_ ?_ ?_ ?_)
  all_goals dsimp only [Matrix.cons_val]
  all_goals after_results_simp
  all_goals rfl

theorem entry_v21 : V m c main_v21 = flat (vCat (argsOf m c)) := by
  show after hostOps0 (fun b => m (c, b)) (Proc.devRef .tc main_v21) = _
  simp only [hostOps0]
  after_results_simp
  refine congrArg flat (pieces64 ?_ ?_ ?_ ?_ ?_)
  all_goals dsimp only [Matrix.cons_val]
  all_goals after_results_simp
  all_goals rfl

variable (h : Fin 8) (t : Fin 8192) (l : Fin 128)

/-- The heads side by side, read at a lane of a head. -/
theorem flat_at (X : FVec Ideal S8192x8x128 .f32) (c : Fin 1024) (hc : c.val = h.val * 128 + l.val) : flat X (ix2 t c) = X (ix3 t h l) := by
  unfold flat
  pointwise
  refine congrArg X ((ix3_inj ..).2 ⟨rfl, Fin.ext ?_, Fin.ext ?_⟩)
  · show c.val / 128 = h.val
    omega
  · show c.val % 128 = l.val
    omega

theorem one_at : ones (ix2 t h) = 1 := by
  pointwise [ones]

/-- The lanes of a query: the query and zeros. -/
def qF (A : Args2) (h : Fin 8) (t : Fin 8192) (l : Fin 128) : ℝ := if hl : l.val < 96 then qR2 A h t ⟨l.val, hl⟩ else 0

theorem q_form (x : FVec Ideal S8192x8x96 .f32) :
    concatenate (α := Elt Ideal .f32) S8192x8x128 2 [⟨S8192x8x96, x⟩,
      ⟨S8192x8x32, broadcastInDim S8192x8x32 ![] bcast_S_S8192x8x32 (constant (F := Ideal) S_ .f32 0x00000000#32)⟩]
      concatenates_S8192x8x96_S8192x8x32_S8192x8x128_d2 (ix3 t h l)
    = if hl : l.val < 96 then x (ix3 t h ⟨l.val, hl⟩) else 0 := by
  pointwise

theorem k_form (x : FVec Ideal S8192x8x96 .f32) (a b c : FVec Ideal S8192x8 .f32) :
    concatenate (α := Elt Ideal .f32) S8192x8x128 2 [⟨S8192x8x96, x⟩,
      ⟨S8192x8x1, broadcastInDim S8192x8x1 ![0, 1] bcast_S8192x8_S8192x8x1_0_1 a⟩,
      ⟨S8192x8x1, broadcastInDim S8192x8x1 ![0, 1] bcast_S8192x8_S8192x8x1_0_1 b⟩,
      ⟨S8192x8x1, broadcastInDim S8192x8x1 ![0, 1] bcast_S8192x8_S8192x8x1_0_1 c⟩,
      ⟨S8192x8x29, broadcastInDim S8192x8x29 ![] bcast_S_S8192x8x29 (constant (F := Ideal) S_ .f32 0x00000000#32)⟩]
      concatenates_S8192x8x96_S8192x8x1_S8192x8x1_S8192x8x1_S8192x8x29_S8192x8x128_d2
      (ix3 t h l)
    = if hl : l.val < 96 then x (ix3 t h ⟨l.val, hl⟩) else if l.val = 96 then a (ix2 t h) else if l.val = 97 then b (ix2 t h)
      else if l.val = 98 then c (ix2 t h) else 0 := by
  pointwise
  split_ifs <;> first | rfl | omega

theorem v_form (x : FVec Ideal S8192x8x64 .f32) (a b c : FVec Ideal S8192x8 .f32) :
    concatenate (α := Elt Ideal .f32) S8192x8x128 2 [⟨S8192x8x64, x⟩,
      ⟨S8192x8x1, broadcastInDim S8192x8x1 ![0, 1] bcast_S8192x8_S8192x8x1_0_1 a⟩,
      ⟨S8192x8x1, broadcastInDim S8192x8x1 ![0, 1] bcast_S8192x8_S8192x8x1_0_1 b⟩,
      ⟨S8192x8x1, broadcastInDim S8192x8x1 ![0, 1] bcast_S8192x8_S8192x8x1_0_1 c⟩,
      ⟨S8192x8x61, broadcastInDim S8192x8x61 ![] bcast_S_S8192x8x61 (constant (F := Ideal) S_ .f32 0x00000000#32)⟩]
      concatenates_S8192x8x64_S8192x8x1_S8192x8x1_S8192x8x1_S8192x8x61_S8192x8x128_d2
      (ix3 t h l)
    = if hl : l.val < 64 then x (ix3 t h ⟨l.val, hl⟩) else if l.val = 64 then a (ix2 t h) else if l.val = 65 then b (ix2 t h)
      else if l.val = 66 then c (ix2 t h) else 0 := by
  pointwise
  split_ifs <;> first | rfl | omega

/-- The lanes of a value: the value, three ones and zeros. -/
def vF (A : Args2) (h : Fin 8) (t : Fin 8192) (l : Fin 128) : EReal :=
  if hl : l.val < 64 then A.v (ix2 t (col h ⟨l.val, hl⟩)) else if l.val < 67 then 1 else 0

variable {A : Args2} (H : A.scores.Finite)
include H

theorem q_src (d : Fin 96) : shapeCast S8192x8x96 (A.q : FVec Ideal S8192x768 .f32) shapeCasts_S8192x768_S8192x8x96 (ix3 t h d) = (qR2 A h t d : EReal) := by
  pointwise
  exact H.q_at h t d
theorem k_src (d : Fin 96) : shapeCast S8192x8x96 (A.k : FVec Ideal S8192x768 .f32) shapeCasts_S8192x768_S8192x8x96 (ix3 t h d) = (kR2 A h t d : EReal) := by
  pointwise
  exact H.k_at h t d
omit H in
theorem v_src (d : Fin 64) : shapeCast S8192x8x64 (A.v : FVec Ideal S8192x512 .f32) shapeCasts_S8192x512_S8192x8x64 (ix3 t h d) = A.v (ix2 t (col h d)) := by
  pointwise
  rfl

theorem q_lanes (c : Fin 1024) (hc : c.val = h.val * 128 + l.val) : flat (qCat A) (ix2 t c) = (qF A h t l : EReal) := by
  rw [flat_at h t l _ c hc]
  unfold qCat
  rw [q_form]
  simp only [q_src h t H]
  unfold qF
  split_ifs <;> rfl

theorem k_lanes (c : Fin 1024) (hc : c.val = h.val * 128 + l.val) : flat (kCat A) (ix2 t c) = (kL2 A h t l : EReal) := by
  rw [flat_at h t l _ c hc]
  unfold kCat
  rw [k_form, one_at]
  simp only [k_src h t H]
  unfold kL2
  split_ifs <;> first | rfl | omega

omit H in
theorem v_lanes (c : Fin 1024) (hc : c.val = h.val * 128 + l.val) : flat (vCat A) (ix2 t c) = vF A h t l := by
  rw [flat_at h t l _ c hc]
  unfold vCat
  rw [v_form, one_at]
  simp only [v_src h t]
  unfold vF
  split_ifs <;> first | rfl | omega

end Cert.Proof.Kernel15Ideal
-- ==== Proof.Fwd.Outs.lean ====
/-
  The forward kernel program's result is the softmax's mean of the values, the heads side by side.
-/
module

public import proofs.«01_k».proof.Proof.Fwd.Arrays
public import proofs.«01_k».proof.Proof.Fwd.Host
public import proofs.«01_k».proof.Proof.Fwd.Target

@[expose] public section

set_option maxRecDepth 8192

noncomputable section

namespace Cert.Proof.Kernel15Ideal

open Cert.Proof Cert.Proof.Fwd Cert.Kernel15Ideal Cert.Kernel15Ideal.Gen Idealize.ShloMosaic Idealize.ShloMosaic.TcCoe Idealize.SL.Sem Idealize.ShloMosaic.StableHlo

/-- The first 64 lanes of every head, side by side. -/
def lanes (X : FVec Ideal S8192x1024 .bf16) : FVec Ideal S8192x512 .bf16 :=
  shapeCast S8192x512 (extractStridedSlice S8192x8x64 ![0, 0, 0] (shapeCast S8192x8x128 X shapeCasts_S8192x1024_S8192x8x128)
    slices_S8192x8x128_S8192x8x64_0_0_0) shapeCasts_S8192x8x64_S8192x512

theorem lanes_at (f : ℕ → Rows 8192 EReal) (t : Fin 8192) (l : Fin 512) :
    lanes (ofHeads f) (ix2 t l) = f (l.val / 64) (ix2 t ⟨l.val % 64, by omega⟩) := by
  unfold lanes
  pointwise
  refine ofHeads_at f _ (l.val / 64) t ⟨l.val % 64, by omega⟩ ?_ ?_
  · rfl
  · rfl

variable (m : (ℓ : Loc nD τ sig) → Buf (Elt Ideal) ℓ) (c : Dev nD)

/-- The contents the kernel leaves. -/
def W : Valuation τ sig (Elt Ideal) :=
  Pipeline.withArrays (cfgs 0).spec c (V0 m c) fun w => (dats m 0 c).arrAt w (cfgs 0).N

theorem arr_inj : Function.Injective (Pipeline.arrRef (cfgs 0).spec) := by decide

theorem W_o : W m c (Proc.devRef .tc main_v22_0) = (dats m 0 c).arrAt 3 cfg0.N :=
  Pipeline.withArrays_arr (cfgs 0).spec arr_inj c (V0 m c) _ 3

theorem tail_eq (b : Ref sig .tc) :
    Pipeline.afterTail₀ cfgs (dats m) 0 (V0 m) [hostOps1] c b = after hostOps1 (W m c) (Proc.devRef .tc b) := rfl

theorem tail_v25 : Pipeline.afterTail₀ cfgs (dats m) 0 (V0 m) [hostOps1] c main_v25
    = lanes (W m c (Proc.devRef .tc main_v22_0)) := by
  rw [tail_eq]
  generalize W m c = w
  after_results_simp
  rfl

/-- Head `n` as one of the eight. -/
def hN (n : ℕ) : Fin 8 := Fin.ofNat 8 n
theorem hN_val {n : ℕ} (hn : n < 8) : (hN n).val = n := Nat.mod_eq_of_lt hn

section Real

variable (A : Args2) (h : Fin 8) (t κ : Fin 8192)

theorem score_lanes : ∑ l, qF A h t l * kL2 A h κ l = ∑ d, qR2 A h t d * kR2 A h κ d := by
  rw [sum_lanes2]
  have h2 : ∀ d : Fin 32, qF A h t ⟨96 + d.val, by omega⟩ * kL2 A h κ ⟨96 + d.val, by omega⟩ = 0 := by
    intro d
    unfold qF
    rw [dif_neg (by dsimp only; omega), zero_mul]
  have h1 : ∀ d : Fin 96, qF A h t ⟨d.val, by omega⟩ * kL2 A h κ ⟨d.val, by omega⟩ = qR2 A h t d * kR2 A h κ d := by
    intro d
    simp only [kL2, qF, d.isLt, dif_pos]
  simp only [h1, h2, Finset.sum_const_zero, add_zero]

/-- The kernel's weight is the reference's times the exponential of the greatest score. -/
theorem wF_eq : wF (qF A h) (kL2 A h) t κ = Real.exp (mx2 A h t) * w2 A h t κ := by
  unfold wF w2
  rw [score_lanes]
  split
  · rw [← Real.exp_add]
    unfold ep sc2
    congr 1
    ring
  · rw [mul_zero]

theorem one_lane : vF A h κ 64 = 1 := by
  have e : (64 : Fin 128).val = 64 := rfl
  unfold vF
  rw [dif_neg (by omega), if_pos (by omega)]

theorem val_lane (d : Fin 64) : vF A h κ ⟨d.val, by omega⟩ = A.v (ix2 κ (col h d)) := by
  unfold vF
  rw [dif_pos d.isLt]

theorem sum_weights : ∑ κ, wF (qF A h) (kL2 A h) t κ = Real.exp (mx2 A h t) * Z2 A h t := by
  simp only [wF_eq]
  exact (Finset.mul_sum _ _ _).symm

theorem oF_eq (d : Fin 64) : oF (qF A h) (kL2 A h) (vF A h) (ix2 t ⟨d.val, by omega⟩) = oE2 A h t d := by
  show (∑ κ, (wF (qF A h) (kL2 A h) t κ : EReal) * vF A h κ ⟨d.val, by omega⟩)
    * (((∑ κ, wF (qF A h) (kL2 A h) t κ)⁻¹ : ℝ) : EReal) = _
  have hz := Z_pos2 A h t
  have he := Real.exp_pos (mx2 A h t)
  rw [sum_weights, mul_comm, mul_sum_real _ (inv_nonneg.2 (mul_pos he hz).le)]
  unfold oE2 pr2
  refine Finset.sum_congr rfl fun κ _ => ?_
  rw [val_lane, wF_eq, ← mul_assoc, ← EReal.coe_mul]
  refine congrArg (fun x : ℝ => (x : EReal) * _) ?_
  have hz' := hz.ne'
  have he' := he.ne'
  field_simp

end Real

variable (H : (argsOf m c).scores.Finite)
include H

theorem real_arrays : RealArrays m c (fun n => qF (argsOf m c) (hN n)) (fun n => kL2 (argsOf m c) (hN n)) (fun n => vF (argsOf m c) (hN n)) where
  q := fun n hn t l => (congrFun (entry_v5 m c) _).trans (q_lanes (hN n) t l H _ (by rw [hN_val hn]; exact val_col hn l.isLt))
  k := fun n hn t l => (congrFun (entry_v13 m c) _).trans (k_lanes (hN n) t l H _ (by rw [hN_val hn]; exact val_col hn l.isLt))
  v := fun n hn t l => (congrFun (entry_v21 m c) _).trans (v_lanes (hN n) t l _ (by rw [hN_val hn]; exact val_col hn l.isLt))
  one := fun n hn t => one_lane _ _ _

theorem res_o : Pipeline.afterTail₀ cfgs (dats m) 0 (V0 m) [hostOps1] c main_v25 = outO2 (argsOf m c) := by
  rw [tail_v25, W_o, o_array m c (real_arrays m c H)]
  funext i
  idx_vars i
  refine (lanes_at _ _ _).trans ?_
  rw [show hN (i1.val / 64) = headOf i1 from Fin.ext (hN_val (by omega))]
  exact oF_eq (argsOf m c) (headOf i1) i0 (laneOf i1)

omit H in
/-- The program ends with that result, the arguments as launched. -/
theorem value (ρ : Dev nD → PrngReg) (H : ∀ c, (argsOf m c).scores.Finite) :
    θ_run defs (onTc (τ := τ) (main (F := Ideal))) ⟨m, fun _ => 0, ρ⟩ (fun r => ∀ c : Dev nD,
      r.2.mem ((c.tc : Thread nD τ).loc main_v25) = outO2 (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v25 (Pipeline.mem_restRefs_of main_v25 (by decide) (by decide))).trans (res_o m c (H c)),
      ((h c).2 main_arg0 (Pipeline.mem_restRefs_of main_arg0 (by decide) (by decide))).trans (W_main_arg0 m _ c),
      ((h c).2 main_arg1 (Pipeline.mem_restRefs_of main_arg1 (by decide) (by decide))).trans (W_main_arg1 m _ c),
      ((h c).2 main_arg2 (Pipeline.mem_restRefs_of main_arg2 (by decide) (by decide))).trans (W_main_arg2 m _ c)⟩)
    (run_main (F := Ideal) m ρ)

end Cert.Proof.Kernel15Ideal
-- ==== Proof.FwdRef.Terms.lean ====
/-
  The values of the forward reference's operations, one definition per operation, named after the buffer each writes.
-/
module

public import proofs.«01_k».proof.Proof.Args2
public import proofs.«01_k».proof.Proof.Gen.Reference15Ideal

@[expose] public section

noncomputable section

namespace Cert.Proof.Reference15Ideal

open Cert.Proof Cert.Reference15Ideal Cert.Reference15Ideal.Gen Idealize.ShloMosaic Idealize.ShloMosaic.TcCoe

def r_v0 (a : Args2) : FVec Ideal S8192x8x96 .f32 := shapeCast S8192x8x96 a.q shapeCasts_S8192x768_S8192x8x96
def r_v1 (a : Args2) : FVec Ideal S8x8192x96 .f32 := transpose S8x8192x96 [1, 0, 2] (r_v0 a) transposes_S8192x8x96_S8x8192x96_1_0_2
def r_v2 (a : Args2) : FVec Ideal S8192x8x96 .f32 := shapeCast S8192x8x96 a.k shapeCasts_S8192x768_S8192x8x96
def r_v3 (a : Args2) : FVec Ideal S8x8192x96 .f32 := transpose S8x8192x96 [1, 0, 2] (r_v2 a) transposes_S8192x8x96_S8x8192x96_1_0_2
def r_v4 (a : Args2) : FVec Ideal S8192x8x64 .f32 := shapeCast S8192x8x64 a.v shapeCasts_S8192x512_S8192x8x64
def r_v5 (a : Args2) : FVec Ideal S8x8192x64 .f32 := transpose S8x8192x64 [1, 0, 2] (r_v4 a) transposes_S8192x8x64_S8x8192x64_1_0_2
def r_v6 (a : Args2) : FVec Ideal S8x8192x8192 .f32 := Host.dotGeneral dot_S8x8192x96_S8x8192x96_S8x8192x8192_2_2_1_1_0_0 none (r_v1 a) (r_v3 a)
def r_k (a : Args2) : FVec Ideal S_ .f32 := constant S_ .f32 0x3DD105EC#32
def r_v7 (a : Args2) : FVec Ideal S8x8192x8192 .f32 := broadcastInDim S8x8192x8192 ![] bcast_S_S8x8192x8192 (r_k a)
def r_v8 (a : Args2) : FVec Ideal S8x8192x8192 .f32 := mulf (r_v6 a) (r_v7 a)
def r_v9 (a : Args2) : IVec S8192 32 := iotaInDim S8192 32 0
def r_v10 (a : Args2) : IVec S1x8192 32 := broadcastInDim S1x8192 ![1] bcast_S8192_S1x8192_1 (r_v9 a)
def r_v11 (a : Args2) : IVec S8192x1 32 := broadcastInDim S8192x1 ![0] bcast_S8192_S8192x1_0 (r_v9 a)
def r_v12 (a : Args2) : IVec S8192x8192 32 := broadcastInDim S8192x8192 ![0, 1] bcast_S1x8192_S8192x8192_0_1 (r_v10 a)
def r_v13 (a : Args2) : IVec S8192x8192 32 := broadcastInDim S8192x8192 ![0, 1] bcast_S8192x1_S8192x8192_0_1 (r_v11 a)
def r_v14 (a : Args2) : IVec S8192x8192 1 := cmpi .sle (r_v12 a) (r_v13 a)
def r_k_0 (a : Args2) : FVec Ideal S_ .f32 := constant S_ .f32 0xFF800000#32
def r_c0v0 (a : Args2) : FVec Ideal S_ .f32 := (r_k_0 a)
def r_mask (a : Args2) : IVec S8x8192x8192 1 := broadcastInDim S8x8192x8192 ![1, 2] bcast_S8192x8192_S8x8192x8192_1_2 (r_v14 a)
def r_c0v2 (a : Args2) : FVec Ideal S8x8192x8192 .f32 := broadcastInDim S8x8192x8192 ![] bcast_S_S8x8192x8192 (r_c0v0 a)
def r_v15 (a : Args2) : FVec Ideal S8x8192x8192 .f32 := select (r_mask a) (r_v8 a) (r_c0v2 a)
def r_k_1 (a : Args2) : FVec Ideal S_ .f32 := constant S_ .f32 0xFF800000#32
def r_v16 (a : Args2) : FVec Ideal S8x8192 .f32 := Host.reduce FloatOps.maximumf (r_v15 a) (r_k_1 a) reducesTo_S8x8192x8192_S8x8192_d2 h_S_
def r_k_2 (a : Args2) : FVec Ideal S_ .f32 := constant S_ .f32 0xFF800000#32
def r_v17 (a : Args2) : FVec Ideal S8x8192 .f32 := broadcastInDim S8x8192 ![] bcast_S_S8x8192 (r_k_2 a)
def r_v18 (a : Args2) : FVec Ideal S8x8192 .f32 := maximumf (r_v17 a) (r_v16 a)
def r_v19 (a : Args2) : FVec Ideal S8x8192x1 .f32 := broadcastInDim S8x8192x1 ![0, 1] bcast_S8x8192_S8x8192x1_0_1 (r_v18 a)
def r_v20 (a : Args2) : FVec Ideal S8x8192x8192 .f32 := broadcastInDim S8x8192x8192 ![0, 1, 2] bcast_S8x8192x1_S8x8192x8192_0_1_2 (r_v19 a)
def r_v21 (a : Args2) : FVec Ideal S8x8192x8192 .f32 := subf (r_v15 a) (r_v20 a)
def r_v22 (a : Args2) : FVec Ideal S8x8192x8192 .f32 := Host.exp (r_v21 a)
def r_k_3 (a : Args2) : FVec Ideal S_ .f32 := constant S_ .f32 0x00000000#32
def r_v23 (a : Args2) : FVec Ideal S8x8192 .f32 := Host.reduceAdd (r_v22 a) (r_k_3 a) reducesTo_S8x8192x8192_S8x8192_d2 h_S_
def r_v24 (a : Args2) : FVec Ideal S8x8192x1 .f32 := broadcastInDim S8x8192x1 ![0, 1] bcast_S8x8192_S8x8192x1_0_1 (r_v23 a)
def r_v25 (a : Args2) : FVec Ideal S8x8192x8192 .f32 := broadcastInDim S8x8192x8192 ![0, 1, 2] bcast_S8x8192x1_S8x8192x8192_0_1_2 (r_v24 a)
def r_v26 (a : Args2) : FVec Ideal S8x8192x8192 .f32 := Host.divf (r_v22 a) (r_v25 a)
def r_v27 (a : Args2) : FVec Ideal S8x8192x64 .f32 := Host.dotGeneral dot_S8x8192x8192_S8x8192x64_S8x8192x64_2_1_1_2_0_0 none (r_v26 a) (r_v5 a)
def r_v28 (a : Args2) : FVec Ideal S8192x8x64 .f32 := transpose S8192x8x64 [1, 0, 2] (r_v27 a) transposes_S8x8192x64_S8192x8x64_1_0_2
def r_v29 (a : Args2) : FVec Ideal S8192x512 .f32 := shapeCast S8192x512 (r_v28 a) shapeCasts_S8192x8x64_S8192x512
def r_v30 (a : Args2) : FVec Ideal S8192x512 .bf16 := truncf .bf16 (r_v29 a) bitsLt_bf16_f32

end Cert.Proof.Reference15Ideal
-- ==== Proof.FwdRef.Scores.lean ====
/-
  The forward reference's scores, weights and their sums over real queries and keys.
-/
module

public import proofs.«01_k».proof.Proof.FwdRef.Terms
public import proofs.«01_k».proof.Proof.Fwd.Target

@[expose] public section

set_option maxRecDepth 16384

noncomputable section

namespace Cert.Proof.Reference15Ideal

open Cert.Proof Cert.Reference15Ideal Cert.Reference15Ideal.Gen Idealize.ShloMosaic

variable {A : Args2} (H : A.scores.Finite) (h : Fin 8) (t κ : Fin 8192) (d : Fin 64) (e : Fin 96)
include H

theorem v1_at : r_v1 A (ix3 h t e) = (qR2 A h t e : EReal) := by
  pointwise [r_v1, r_v0]
  exact H.q_at h t e
theorem v3_at : r_v3 A (ix3 h t e) = (kR2 A h t e : EReal) := by
  pointwise [r_v3, r_v2]
  exact H.k_at h t e
omit H in
theorem v5_at : r_v5 A (ix3 h t d) = A.v (ix2 t (col h d)) := by
  pointwise [r_v5, r_v4]
  rfl
/-- The scores. -/
theorem v8_at : r_v8 A (ix3 h t κ) = (sc2 A h t κ : EReal) := by
  pointwise [r_v8, r_v7, r_k, r_v6]
  simp only [v1_at H, v3_at H, ofBits_scale, sc2, EReal.coe_mul, coe_sum]

/-- The scores under the mask. -/
theorem v15_at : r_v15 A (ix3 h t κ) = msc2 A h t κ := by
  pointwise [r_v15, r_mask, r_v14, r_v13, r_v12, r_v11, r_v10, r_v9, r_c0v2, r_c0v0, r_k_0]
  rw [mask_select, v8_at H, ofBits_bot]
  rfl

/-- The greatest score. -/
theorem v16_at : r_v16 A (ix2 h t) = (mx2 A h t : EReal) := by
  pointwise [r_v16, r_k_1]
  simp only [v15_at H, ofBits_bot]
  exact mxE_eq2 A h t
omit H in
theorem maximum_at {s : Shape} (a b : FVec Ideal s .f32) (i : s.Idx) : maximumf a b i = max (a i) (b i) := rfl
omit H in
theorem v17_at : r_v17 A (ix2 h t) = ⊥ := by
  pointwise [r_v17, r_k_2]
  exact ofBits_bot
theorem v18_at : r_v18 A (ix2 h t) = (mx2 A h t : EReal) := by
  unfold r_v18
  rw [maximum_at, v17_at, v16_at H]
  exact max_eq_right bot_le

/-- The weights. -/
theorem v22_at : r_v22 A (ix3 h t κ) = (w2 A h t κ : EReal) := by
  pointwise [r_v22, r_v21, r_v20, r_v19]
  rw [v15_at H, v18_at H]
  exact exp_msc2 A h t κ

/-- Their sum. -/
theorem v23_at : r_v23 A (ix2 h t) = (Z2 A h t : EReal) := by
  pointwise [r_v23, r_k_3]
  simp only [v22_at H, Z2, coe_sum]

/-- The softmax. -/
theorem v26_at : r_v26 A (ix3 h t κ) = (pr2 A h t κ : EReal) := by
  pointwise [r_v26, r_v25, r_v24]
  rw [v22_at H, v23_at H]
  exact div_real _ (Z_pos2 A h t).ne'

/-- The mean of the values. -/
theorem v27_at : r_v27 A (ix3 h t d) = oE2 A h t d := by
  pointwise [r_v27]
  simp only [v26_at H, v5_at, oE2]

/-- The result. -/
theorem v30_at (l : Fin 512) : r_v30 A (ix2 t l) = oE2 A (headOf l) t (laneOf l) := by
  pointwise [r_v30, r_v29, r_v28]
  exact v27_at H (headOf l) t (laneOf l)

end Cert.Proof.Reference15Ideal
-- ==== Proof.FwdRef.Result.lean ====
/-
  The result of the forward reference is the last term of Terms.lean at the launch's arguments.
-/
module

public import proofs.«01_k».proof.Proof.FwdRef.Scores
public import proofs.«01_k».proof.Proof.Gen.Reference15Ideal.Run

@[expose] public section

set_option maxRecDepth 8192

noncomputable section

namespace Cert.Proof.Reference15Ideal

open Cert.Proof Cert.Reference15Ideal Cert.Reference15Ideal.Gen Idealize.ShloMosaic Idealize.ShloMosaic.TcCoe Idealize.SL.Sem

/-- The arguments of one device, without a cotangent. -/
def argsOf (m : (ℓ : Loc nD τ sig) → Buf (Elt Ideal) ℓ) (c : Dev nD) : Args2 where
  q := m ((c.tc : Thread nD τ).loc main_arg0)
  k := m ((c.tc : Thread nD τ).loc main_arg1)
  v := m ((c.tc : Thread nD τ).loc main_arg2)
  ct := fun _ => 0

variable (m : (ℓ : Loc nD τ sig) → Buf (Elt Ideal) ℓ) (c : Dev nD)

theorem res_v30 : Cert.Reference15Ideal.Value.res_main_v30 m c = r_v30 (argsOf m c) := rfl

theorem res_o (H : (argsOf m c).scores.Finite) : Cert.Reference15Ideal.Value.res_main_v30 m c = outO2 (argsOf m c) := by
  rw [res_v30]
  funext i
  idx_vars i
  exact v30_at H _ _

end Cert.Proof.Reference15Ideal
-- ==== Proof.Finite15.lean ====
/-
  The forward pass's precondition: every element of the latent attention's queries and keys is a real number.
-/
module

public import proofs.«01_k».proof.Proof.Fwd.Target
public import proofs.«01_k».proof.Pre_finite15
public import proofs.«01_k».proof.Proof.Model2
public import proofs.«01_k».proof.Proof.Finite

@[expose] public section

noncomputable section

namespace Cert.Proof

open Idealize.ShloMosaic

/-- The shapes the precondition's operations take agree. -/
theorem preFacts15 : Cert.Pre_finite15.Facts where
  bcast_S_S8192x768 := by decide

theorem finite15_wide (x : FVec Ideal Cert.Pre_finite15.S8192x768 .f32) (hb : Cert.Pre_finite15.S_.BroadcastsInDim Cert.Pre_finite15.S8192x768 ![])
    (h : cmpf .olt (Host.absf x) (broadcastInDim Cert.Pre_finite15.S8192x768 ![] hb (constant Cert.Pre_finite15.S_ .f32 0x7F800000#32))
      = fun _ => 1#1) (i : Cert.Pre_finite15.S8192x768.Idx) : x i ≠ ⊤ ∧ x i ≠ ⊥ := by
  refine finite_of_abs _ ((congrArg _ ?_).trans (congrFun h i))
  exact ofBits_top.symm

/-- What the precondition says of the arguments. -/
theorem finite_of_pre15 [Cert.Pre_finite15.Facts] (A : Args2)
    (h0 : (Cert.Pre_finite15.fn (F := Ideal) A.q A.k A.v).1 = fun _ => 1#1)
    (h1 : (Cert.Pre_finite15.fn (F := Ideal) A.q A.k A.v).2 = fun _ => 1#1) : A.scores.Finite where
  q := finite15_wide _ _ h0
  k := finite15_wide _ _ h1
  v := fun _ => ⟨EReal.zero_ne_top, EReal.zero_ne_bot⟩
  ct := fun _ => ⟨EReal.zero_ne_top, EReal.zero_ne_bot⟩

end Cert.Proof
-- ==== Proof.Fwd.Claims.lean ====
/-
  What is claimed of the latent attention's forward pass.
-/
module

public import proofs.«01_k».proof.Defs
public import proofs.«01_k».proof.Proof.Gen.Kernel15
public import proofs.«01_k».proof.Proof.Gen.Kernel15.Frame
public import proofs.«01_k».proof.Proof.Gen.Kernel15Ideal
public import proofs.«01_k».proof.Proof.Gen.Reference15Ideal
public import proofs.«01_k».proof.Proof.Gen.Reference15Ideal.Run
public import proofs.«01_k».proof.Proof.Fwd.Outs
public import proofs.«01_k».proof.Proof.FwdRef.Result
public import proofs.«01_k».proof.Proof.Finite15

@[expose] public section

noncomputable section

namespace Cert.Proof.Fwd

open Cert.Proof Idealize.ShloMosaic Idealize.SL.Sem

/-- The printed forward program: it ends, its arguments unchanged, every counter at zero. -/
theorem frame_kernel15 : Cert.quiescent_Kernel15 (hKernel15 := Cert.Kernel15.Gen.facts) :=
  fun m ρ _ => Cert.Kernel15.Gen.frame (F := Bits) m ρ

/-- The same of the program read over the extended reals. -/
theorem frame_kernel15Ideal : Cert.quiescent_Kernel15Ideal (hKernel15Ideal := Cert.Kernel15Ideal.Gen.facts) :=
  fun m ρ _ => Cert.Kernel15Ideal.Gen.frame (F := Ideal) m ρ

/-- The same of the forward reference. -/
theorem frame_reference15 : Cert.quiescent_Reference15Ideal (hReference15Ideal := Cert.Reference15Ideal.Gen.facts) :=
  fun m ρ _ => (θ_run _ _ _).mono (fun r h => ⟨fun c => (h c).2, sem_eq_zero_of_no_sems (by decide) r.2⟩)
    (Cert.Reference15Ideal.Value.run (F := Ideal) m ρ)

/-- The two named constants are the table's. -/
theorem preserves15 : Cert.preserves_Kernel15_Kernel15Ideal :=
  ⟨IdealRules.named_const.statement _ _ _ _ _ rfl, IdealRules.named_const.statement _ _ _ _ _ rfl⟩

/-- The precondition makes the queries and the keys of the forward kernel program real. -/
theorem finite_args15 (m : (ℓ : Loc Cert.Kernel15Ideal.nD Cert.Kernel15Ideal.τ Cert.Kernel15Ideal.sig) → Buf (Elt Ideal) ℓ)
    (hm : Cert.Pre_Kernel15Ideal_finite15 (hPre_finite15 := preFacts15) m) (c : Dev Cert.Kernel15Ideal.nD) :
    (Kernel15Ideal.argsOf m c).scores.Finite :=
  haveI := preFacts15
  finite_of_pre15 (Kernel15Ideal.argsOf m c) (hm c).1 (hm c).2

/-- The forward kernel and the forward reference end with the same result. -/
theorem algebraic15 : Cert.algebraic_Kernel15Ideal_Reference15Ideal_pre_finite15 (hKernel15Ideal := Cert.Kernel15Ideal.Gen.facts)
    (hReference15Ideal := Cert.Reference15Ideal.Gen.facts) (hPre_finite15 := preFacts15) := by
  intro m g m' g' hm hargs
  have H := finite_args15 m hm
  have e : ∀ c, Reference15Ideal.argsOf m' c = Kernel15Ideal.argsOf m c := fun c => by
    obtain ⟨h0, h1, h2⟩ := hargs c
    unfold Reference15Ideal.argsOf Kernel15Ideal.argsOf
    rw [h0, h1, h2]
  refine ⟨fun c => outO2 (Kernel15Ideal.argsOf m c), Kernel15Ideal.value m g H, ?_⟩
  refine (θ_run _ _ _).mono (fun r h c => ?_) (Cert.Reference15Ideal.Value.run (F := Ideal) m' g')
  obtain ⟨ho, h⟩ := h c
  have H' : (Reference15Ideal.argsOf m' c).scores.Finite := (e c).symm ▸ H c
  exact ⟨ho.trans ((Reference15Ideal.res_o m' c H').trans (congrArg outO2 (e c))), h⟩

end Cert.Proof.Fwd
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.K.Run
public import proofs.«01_k».proof.Proof.KI.Outs
public import proofs.«01_k».proof.Proof.K2.Run
public import proofs.«01_k».proof.Proof.KI2.Outs
public import proofs.«01_k».proof.Proof.Ref.Outs
public import proofs.«01_k».proof.Proof.Ref2.Outs
public import proofs.«01_k».proof.Proof.Finite2
public import proofs.«01_k».proof.Proof.Mlp.Claims
public import proofs.«01_k».proof.Proof.Proj.Claims
public import proofs.«01_k».proof.Proof.Fwd.Claims

@[expose] public section

noncomputable section

namespace Cert.Proof

open Idealize.ShloMosaic Idealize.SL.Sem Cert.Kernel

/-- The printed program: it ends, its arguments unchanged, every counter at zero. -/
theorem frame_kernel : Cert.quiescent_Kernel (hKernel := Cert.Kernel.Gen.facts) :=
  fun m ρ _ => Cert.Proof.Kernel.frame_main (F := Bits) m ρ

/-- The same of the program read over the extended reals. -/
theorem frame_kernelIdeal : Cert.quiescent_KernelIdeal (hKernelIdeal := Cert.KernelIdeal.Gen.facts) :=
  fun m ρ _ => Cert.Proof.KernelIdeal.frame_main (F := Ideal) m ρ

/-- The same of the reference. -/
theorem frame_reference : Cert.quiescent_ReferenceIdeal (hReferenceIdeal := Cert.ReferenceIdeal.Gen.facts) :=
  fun m ρ _ => (θ_run _ _ _).mono (fun r h => ⟨fun c => (h c).2.2.2.2, sem_eq_zero_of_no_sems (by decide) r.2⟩)
    (Cert.ReferenceIdeal.Value.run (F := Ideal) m ρ)

/-- The two named constants are the table's. -/
theorem preserves : Cert.preserves_Kernel_KernelIdeal :=
  ⟨IdealRules.named_const.statement _ _ _ _ _ rfl, IdealRules.named_const.statement _ _ _ _ _ rfl⟩

/-- The precondition makes every argument of the kernel program real. -/
theorem finite_args (m : (ℓ : Loc Cert.KernelIdeal.nD Cert.KernelIdeal.τ Cert.KernelIdeal.sig) → Buf (Elt Ideal) ℓ)
    (hm : Cert.Pre_KernelIdeal_finite (hPre_finite := preFacts) m) (c : Dev Cert.KernelIdeal.nD) : (KernelIdeal.argsOf m c).Finite :=
  haveI := preFacts
  finite_of_pre (KernelIdeal.argsOf m c) (hm c).1 (hm c).2.1 (hm c).2.2.1 (hm c).2.2.2.1 (hm c).2.2.2.2

/-- The kernel and the reference end with the same four gradients. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hm hargs
  have H := finite_args m hm
  have e : ∀ c, ReferenceIdeal.argsOf m' c = KernelIdeal.argsOf m c := fun c => by
    obtain ⟨h0, h1, h2, h3, h4⟩ := hargs c
    unfold ReferenceIdeal.argsOf KernelIdeal.argsOf
    rw [h0, h1, h2, h3, h4]
  refine ⟨fun c => outQ (KernelIdeal.argsOf m c), fun c => outK (KernelIdeal.argsOf m c), fun c => outV (KernelIdeal.argsOf m c),
    fun c => outF (KernelIdeal.argsOf m c), KernelIdeal.value m g H, ?_⟩
  refine (θ_run _ _ _).mono (fun r h c => ?_) (Cert.ReferenceIdeal.Value.run (F := Ideal) m' g')
  obtain ⟨hq, hk, hv, hf, h⟩ := h c
  have H' : (ReferenceIdeal.argsOf m' c).Finite := (e c).symm ▸ H c
  refine ⟨hq.trans ?_, hk.trans ?_, hv.trans ?_, hf.trans ?_, h⟩
  · exact (ReferenceIdeal.res_q m' c H').trans (congrArg outQ (e c))
  · exact (ReferenceIdeal.res_k m' c H').trans (congrArg outK (e c))
  · exact (ReferenceIdeal.res_v m' c H').trans (congrArg outV (e c))
  · exact (ReferenceIdeal.res_f m' c H').trans (congrArg outF (e c))

/-! ## The latent attention's programs -/

/-- The second printed program: it ends, its arguments unchanged, every counter at zero. -/
theorem frame_kernel2 : Cert.quiescent_Kernel2 (hKernel2 := Cert.Kernel2.Gen.facts) :=
  fun m ρ _ => Cert.Proof.Kernel2.frame_main (F := Bits) m ρ

/-- The same of the program read over the extended reals. -/
theorem frame_kernel2Ideal : Cert.quiescent_Kernel2Ideal (hKernel2Ideal := Cert.Kernel2Ideal.Gen.facts) :=
  fun m ρ _ => Cert.Proof.Kernel2Ideal.frame_main (F := Ideal) m ρ

/-- The same of the second reference. -/
theorem frame_reference2 : Cert.quiescent_Reference2Ideal (hReference2Ideal := Cert.Reference2Ideal.Gen.facts) :=
  fun m ρ _ => (θ_run _ _ _).mono (fun r h => ⟨fun c => (h c).2.2.2, sem_eq_zero_of_no_sems (by decide) r.2⟩)
    (Cert.Reference2Ideal.Value.run (F := Ideal) m ρ)

/-- The two named constants are the second table's. -/
theorem preserves2 : Cert.preserves_Kernel2_Kernel2Ideal :=
  ⟨IdealRules.named_const.statement _ _ _ _ _ rfl, IdealRules.named_const.statement _ _ _ _ _ rfl⟩

/-- The precondition makes every argument of the second kernel program real. -/
theorem finite_args2 (m : (ℓ : Loc Cert.Kernel2Ideal.nD Cert.Kernel2Ideal.τ Cert.Kernel2Ideal.sig) → Buf (Elt Ideal) ℓ)
    (hm : Cert.Pre_Kernel2Ideal_finite2 (hPre_finite2 := preFacts2) m) (c : Dev Cert.Kernel2Ideal.nD) :
    (Kernel2Ideal.argsOf m c).Finite :=
  haveI := preFacts2
  finite_of_pre2 (Kernel2Ideal.argsOf m c) (hm c).1 (hm c).2.1 (hm c).2.2.1 (hm c).2.2.2

/-- The second kernel and the second reference end with the same three gradients. -/
theorem algebraic2 : Cert.algebraic_Kernel2Ideal_Reference2Ideal_pre_finite2 (hKernel2Ideal := Cert.Kernel2Ideal.Gen.facts)
    (hReference2Ideal := Cert.Reference2Ideal.Gen.facts) (hPre_finite2 := preFacts2) := by
  intro m g m' g' hm hargs
  have H := finite_args2 m hm
  have e : ∀ c, Reference2Ideal.argsOf m' c = Kernel2Ideal.argsOf m c := fun c => by
    obtain ⟨h0, h1, h2, h3⟩ := hargs c
    unfold Reference2Ideal.argsOf Kernel2Ideal.argsOf
    rw [h0, h1, h2, h3]
  refine ⟨fun c => outQ2 (Kernel2Ideal.argsOf m c), fun c => outK2 (Kernel2Ideal.argsOf m c),
    fun c => outV2 (Kernel2Ideal.argsOf m c), Kernel2Ideal.value m g H, ?_⟩
  refine (θ_run _ _ _).mono (fun r h c => ?_) (Cert.Reference2Ideal.Value.run (F := Ideal) m' g')
  obtain ⟨hq, hk, hv, h⟩ := h c
  have H' : (Reference2Ideal.argsOf m' c).Finite := (e c).symm ▸ H c
  refine ⟨hq.trans ?_, hk.trans ?_, hv.trans ?_, h⟩
  · exact (Reference2Ideal.res_q m' c H').trans (congrArg outQ2 (e c))
  · exact (Reference2Ideal.res_k m' c H').trans (congrArg outK2 (e c))
  · exact (Reference2Ideal.res_v m' c H').trans (congrArg outV2 (e c))

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    preFacts, preFacts2, preFacts15, frame_kernel, frame_kernelIdeal,
    fun m g _ => frame_kernelIdeal m g trivial, frame_reference, fun m g _ => frame_reference m g trivial,
    frame_kernel2, frame_kernel2Ideal, fun m g _ => frame_kernel2Ideal m g trivial, frame_reference2,
    fun m g _ => frame_reference2 m g trivial,
    Mlp.frame_kernel3, Mlp.frame_kernel3Ideal, Mlp.frame_reference3,
    Mlp.frame_kernel4, Mlp.frame_kernel4Ideal, Mlp.frame_reference4,
    Mlp.frame_kernel5, Mlp.frame_kernel5Ideal, Mlp.frame_reference5,
    Mlp.frame_kernel6, Mlp.frame_kernel6Ideal, Mlp.frame_reference6,
    Mlp.frame_kernel7, Mlp.frame_kernel7Ideal, Mlp.frame_reference7,
    Mlp.frame_kernel8, Mlp.frame_kernel8Ideal, Mlp.frame_reference8,
    Mlp.frame_kernel9, Mlp.frame_kernel9Ideal, Mlp.frame_reference9,
    Mlp.frame_kernel10, Mlp.frame_kernel10Ideal, Mlp.frame_reference10,
    Mlp.frame_kernel11, Mlp.frame_kernel11Ideal, Mlp.frame_reference11,
    Mlp.frame_kernel12, Mlp.frame_kernel12Ideal, Mlp.frame_reference12,
    Mlp.frame_kernel13, Mlp.frame_kernel13Ideal, Mlp.frame_reference13,
    Mlp.frame_kernel14, Mlp.frame_kernel14Ideal, Mlp.frame_reference14,
    Fwd.frame_kernel15, Fwd.frame_kernel15Ideal, fun m g _ => Fwd.frame_kernel15Ideal m g trivial, Fwd.frame_reference15,
    fun m g _ => Fwd.frame_reference15 m g trivial,
    preserves, algebraic, preserves2, algebraic2,
    trivial, Mlp.algebraic3, trivial, Mlp.algebraic4, trivial, Mlp.algebraic5, trivial, Mlp.algebraic6, trivial, Mlp.algebraic7, trivial, Mlp.algebraic8,
    trivial, Mlp.algebraic9, trivial, Mlp.algebraic10, trivial, Mlp.algebraic11, trivial, Mlp.algebraic12, trivial, Mlp.algebraic13, trivial, Mlp.algebraic14,
    Fwd.preserves15, Fwd.algebraic15⟩

end Cert.Proof

end
